-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvIdeal_finite_arguments [hPre_finite_arguments : Cert.Pre_finite_arguments.Facts] (m : (ℓ : Loc Cert.WkvIdeal.nD Cert.WkvIdeal.τ Cert.WkvIdeal.sig) → Buf (Elt Ideal) ℓ) : Prop :=
  ∀ c : Dev Cert.WkvIdeal.nD,
    (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.2.2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.2.2.2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.2.2.2.2.1 = (fun _ => 1#1)
    ∧ (Cert.Pre_finite_arguments.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7))).2.2.2.2.2.2.2 = (fun _ => 1#1)

def Pre_WkvRefIdeal (m : (ℓ : Loc Cert.WkvRefIdeal.nD Cert.WkvRefIdeal.τ Cert.WkvRefIdeal.sig) → Buf (Elt Ideal) ℓ) : Prop :=
  True

def Pre_WkvRefIdeal_finite_arguments [hPre_finite_arguments : Cert.Pre_finite_arguments.Facts] (m : (ℓ : Loc Cert.WkvRefIdeal.nD Cert.WkvRefIdeal.τ Cert.WkvRefIdeal.sig) → Buf (Elt Ideal) ℓ) : Prop :=
  ∀ c : Dev Cert.WkvRefIdeal.nD,
    (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.2.2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.2.2.2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.2.2.2.2.1 = (fun _ => 1#1)
    ∧ (Cert.Pre_finite_arguments.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7))).2.2.2.2.2.2.2 = (fun _ => 1#1)

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSRefIdeal (m : (ℓ : Loc Cert.MoeSRefIdeal.nD Cert.MoeSRefIdeal.τ Cert.MoeSRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_ModuIdeal_finite_conditions [hPre_finite_conditions : Cert.Pre_finite_conditions.Facts] (m : (ℓ : Loc Cert.ModuIdeal.nD Cert.ModuIdeal.τ Cert.ModuIdeal.sig) → Buf (Elt Ideal) ℓ) : Prop :=
  ∀ c : Dev Cert.ModuIdeal.nD,
    (Cert.Pre_finite_conditions.fn (F := Ideal) (m ((c.tc : Thread Cert.ModuIdeal.nD Cert.ModuIdeal.τ).loc Cert.ModuIdeal.main_arg0)) (m ((c.tc : Thread Cert.ModuIdeal.nD Cert.ModuIdeal.τ).loc Cert.ModuIdeal.main_arg1)) (m ((c.tc : Thread Cert.ModuIdeal.nD Cert.ModuIdeal.τ).loc Cert.ModuIdeal.main_arg2)) (m ((c.tc : Thread Cert.ModuIdeal.nD Cert.ModuIdeal.τ).loc Cert.ModuIdeal.main_arg3))).1 = (fun _ => 1#1)
    ∧ (Cert.Pre_finite_conditions.fn (F := Ideal) (m ((c.tc : Thread Cert.ModuIdeal.nD Cert.ModuIdeal.τ).loc Cert.ModuIdeal.main_arg0)) (m ((c.tc : Thread Cert.ModuIdeal.nD Cert.ModuIdeal.τ).loc Cert.ModuIdeal.main_arg1)) (m ((c.tc : Thread Cert.ModuIdeal.nD Cert.ModuIdeal.τ).loc Cert.ModuIdeal.main_arg2)) (m ((c.tc : Thread Cert.ModuIdeal.nD Cert.ModuIdeal.τ).loc Cert.ModuIdeal.main_arg3))).2.1 = (fun _ => 1#1)
    ∧ (Cert.Pre_finite_conditions.fn (F := Ideal) (m ((c.tc : Thread Cert.ModuIdeal.nD Cert.ModuIdeal.τ).loc Cert.ModuIdeal.main_arg0)) (m ((c.tc : Thread Cert.ModuIdeal.nD Cert.ModuIdeal.τ).loc Cert.ModuIdeal.main_arg1)) (m ((c.tc : Thread Cert.ModuIdeal.nD Cert.ModuIdeal.τ).loc Cert.ModuIdeal.main_arg2)) (m ((c.tc : Thread Cert.ModuIdeal.nD Cert.ModuIdeal.τ).loc Cert.ModuIdeal.main_arg3))).2.2 = (fun _ => 1#1)

def Pre_ModuRefIdeal (m : (ℓ : Loc Cert.ModuRefIdeal.nD Cert.ModuRefIdeal.τ Cert.ModuRefIdeal.sig) → Buf (Elt Ideal) ℓ) : Prop :=
  True

def Pre_ModuRefIdeal_finite_conditions [hPre_finite_conditions : Cert.Pre_finite_conditions.Facts] (m : (ℓ : Loc Cert.ModuRefIdeal.nD Cert.ModuRefIdeal.τ Cert.ModuRefIdeal.sig) → Buf (Elt Ideal) ℓ) : Prop :=
  ∀ c : Dev Cert.ModuRefIdeal.nD,
    (Cert.Pre_finite_conditions.fn (F := Ideal) (m ((c.tc : Thread Cert.ModuRefIdeal.nD Cert.ModuRefIdeal.τ).loc Cert.ModuRefIdeal.main_arg0)) (m ((c.tc : Thread Cert.ModuRefIdeal.nD Cert.ModuRefIdeal.τ).loc Cert.ModuRefIdeal.main_arg1)) (m ((c.tc : Thread Cert.ModuRefIdeal.nD Cert.ModuRefIdeal.τ).loc Cert.ModuRefIdeal.main_arg2)) (m ((c.tc : Thread Cert.ModuRefIdeal.nD Cert.ModuRefIdeal.τ).loc Cert.ModuRefIdeal.main_arg3))).1 = (fun _ => 1#1)
    ∧ (Cert.Pre_finite_conditions.fn (F := Ideal) (m ((c.tc : Thread Cert.ModuRefIdeal.nD Cert.ModuRefIdeal.τ).loc Cert.ModuRefIdeal.main_arg0)) (m ((c.tc : Thread Cert.ModuRefIdeal.nD Cert.ModuRefIdeal.τ).loc Cert.ModuRefIdeal.main_arg1)) (m ((c.tc : Thread Cert.ModuRefIdeal.nD Cert.ModuRefIdeal.τ).loc Cert.ModuRefIdeal.main_arg2)) (m ((c.tc : Thread Cert.ModuRefIdeal.nD Cert.ModuRefIdeal.τ).loc Cert.ModuRefIdeal.main_arg3))).2.1 = (fun _ => 1#1)
    ∧ (Cert.Pre_finite_conditions.fn (F := Ideal) (m ((c.tc : Thread Cert.ModuRefIdeal.nD Cert.ModuRefIdeal.τ).loc Cert.ModuRefIdeal.main_arg0)) (m ((c.tc : Thread Cert.ModuRefIdeal.nD Cert.ModuRefIdeal.τ).loc Cert.ModuRefIdeal.main_arg1)) (m ((c.tc : Thread Cert.ModuRefIdeal.nD Cert.ModuRefIdeal.τ).loc Cert.ModuRefIdeal.main_arg2)) (m ((c.tc : Thread Cert.ModuRefIdeal.nD Cert.ModuRefIdeal.τ).loc Cert.ModuRefIdeal.main_arg3))).2.2 = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_ShiftS (m : (ℓ : Loc Cert.ShiftS.nD Cert.ShiftS.τ Cert.ShiftS.sig) → Buf (Elt Bits) ℓ) : Prop :=
  True

def Pre_ShiftSIdeal (m : (ℓ : Loc Cert.ShiftSIdeal.nD Cert.ShiftSIdeal.τ Cert.ShiftSIdeal.sig) → Buf (Elt Ideal) ℓ) : Prop :=
  True

def Pre_ShiftSRefIdeal (m : (ℓ : Loc Cert.ShiftSRefIdeal.nD Cert.ShiftSRefIdeal.τ Cert.ShiftSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4)
      ∧ r.2.mem ((c.tc : Thread Cert.Wkv.nD Cert.Wkv.τ).loc Cert.Wkv.main_arg5) = m ((c.tc : Thread Cert.Wkv.nD Cert.Wkv.τ).loc Cert.Wkv.main_arg5)
      ∧ r.2.mem ((c.tc : Thread Cert.Wkv.nD Cert.Wkv.τ).loc Cert.Wkv.main_arg6) = m ((c.tc : Thread Cert.Wkv.nD Cert.Wkv.τ).loc Cert.Wkv.main_arg6)
      ∧ r.2.mem ((c.tc : Thread Cert.Wkv.nD Cert.Wkv.τ).loc Cert.Wkv.main_arg7) = m ((c.tc : Thread Cert.Wkv.nD Cert.Wkv.τ).loc Cert.Wkv.main_arg7))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7))
      ∧ r.2.sem = fun _ => 0)

def quiescent_WkvIdeal_pre_finite_arguments [hWkvIdeal : Cert.WkvIdeal.Facts] [hPre_finite_arguments : Cert.Pre_finite_arguments.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal_finite_arguments m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4)
      ∧ r.2.mem ((c.tc : Thread Cert.WkvRefIdeal.nD Cert.WkvRefIdeal.τ).loc Cert.WkvRefIdeal.main_arg5) = m ((c.tc : Thread Cert.WkvRefIdeal.nD Cert.WkvRefIdeal.τ).loc Cert.WkvRefIdeal.main_arg5)
      ∧ r.2.mem ((c.tc : Thread Cert.WkvRefIdeal.nD Cert.WkvRefIdeal.τ).loc Cert.WkvRefIdeal.main_arg6) = m ((c.tc : Thread Cert.WkvRefIdeal.nD Cert.WkvRefIdeal.τ).loc Cert.WkvRefIdeal.main_arg6)
      ∧ r.2.mem ((c.tc : Thread Cert.WkvRefIdeal.nD Cert.WkvRefIdeal.τ).loc Cert.WkvRefIdeal.main_arg7) = m ((c.tc : Thread Cert.WkvRefIdeal.nD Cert.WkvRefIdeal.τ).loc Cert.WkvRefIdeal.main_arg7))
      ∧ r.2.sem = fun _ => 0)

def quiescent_WkvRefIdeal_pre_finite_arguments [hWkvRefIdeal : Cert.WkvRefIdeal.Facts] [hPre_finite_arguments : Cert.Pre_finite_arguments.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal_finite_arguments m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4)
      ∧ r.2.mem ((c.tc : Thread Cert.WkvRefIdeal.nD Cert.WkvRefIdeal.τ).loc Cert.WkvRefIdeal.main_arg5) = m ((c.tc : Thread Cert.WkvRefIdeal.nD Cert.WkvRefIdeal.τ).loc Cert.WkvRefIdeal.main_arg5)
      ∧ r.2.mem ((c.tc : Thread Cert.WkvRefIdeal.nD Cert.WkvRefIdeal.τ).loc Cert.WkvRefIdeal.main_arg6) = m ((c.tc : Thread Cert.WkvRefIdeal.nD Cert.WkvRefIdeal.τ).loc Cert.WkvRefIdeal.main_arg6)
      ∧ r.2.mem ((c.tc : Thread Cert.WkvRefIdeal.nD Cert.WkvRefIdeal.τ).loc Cert.WkvRefIdeal.main_arg7) = m ((c.tc : Thread Cert.WkvRefIdeal.nD Cert.WkvRefIdeal.τ).loc Cert.WkvRefIdeal.main_arg7))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6)
      ∧ r.2.mem ((c.tc : Thread Cert.MoeS.nD Cert.MoeS.τ).loc Cert.MoeS.main_arg7) = m ((c.tc : Thread Cert.MoeS.nD Cert.MoeS.τ).loc Cert.MoeS.main_arg7)
      ∧ r.2.mem ((c.tc : Thread Cert.MoeS.nD Cert.MoeS.τ).loc Cert.MoeS.main_arg8) = m ((c.tc : Thread Cert.MoeS.nD Cert.MoeS.τ).loc Cert.MoeS.main_arg8))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
      ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
      ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8))
      ∧ r.2.sem = fun _ => 0)

def quiescent_MoeSRefIdeal [hMoeSRefIdeal : Cert.MoeSRefIdeal.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6)
      ∧ r.2.mem ((c.tc : Thread Cert.MoeSRefIdeal.nD Cert.MoeSRefIdeal.τ).loc Cert.MoeSRefIdeal.main_arg7) = m ((c.tc : Thread Cert.MoeSRefIdeal.nD Cert.MoeSRefIdeal.τ).loc Cert.MoeSRefIdeal.main_arg7)
      ∧ r.2.mem ((c.tc : Thread Cert.MoeSRefIdeal.nD Cert.MoeSRefIdeal.τ).loc Cert.MoeSRefIdeal.main_arg8) = m ((c.tc : Thread Cert.MoeSRefIdeal.nD Cert.MoeSRefIdeal.τ).loc Cert.MoeSRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1)
      ∧ r.2.mem ((c.tc : Thread Cert.Modu.nD Cert.Modu.τ).loc Cert.Modu.main_arg2) = m ((c.tc : Thread Cert.Modu.nD Cert.Modu.τ).loc Cert.Modu.main_arg2)
      ∧ r.2.mem ((c.tc : Thread Cert.Modu.nD Cert.Modu.τ).loc Cert.Modu.main_arg3) = m ((c.tc : Thread Cert.Modu.nD Cert.Modu.τ).loc Cert.Modu.main_arg3))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
      ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ r.2.sem = fun _ => 0)

def quiescent_ModuIdeal_pre_finite_conditions [hModuIdeal : Cert.ModuIdeal.Facts] [hPre_finite_conditions : Cert.Pre_finite_conditions.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal_finite_conditions m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
      ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2)
      ∧ r.2.mem ((c.tc : Thread Cert.ModuRefIdeal.nD Cert.ModuRefIdeal.τ).loc Cert.ModuRefIdeal.main_arg3) = m ((c.tc : Thread Cert.ModuRefIdeal.nD Cert.ModuRefIdeal.τ).loc Cert.ModuRefIdeal.main_arg3))
      ∧ r.2.sem = fun _ => 0)

def quiescent_ModuRefIdeal_pre_finite_conditions [hModuRefIdeal : Cert.ModuRefIdeal.Facts] [hPre_finite_conditions : Cert.Pre_finite_conditions.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal_finite_conditions m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2)
      ∧ r.2.mem ((c.tc : Thread Cert.ModuRefIdeal.nD Cert.ModuRefIdeal.τ).loc Cert.ModuRefIdeal.main_arg3) = m ((c.tc : Thread Cert.ModuRefIdeal.nD Cert.ModuRefIdeal.τ).loc Cert.ModuRefIdeal.main_arg3))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1))
      ∧ r.2.sem = fun _ => 0)

def quiescent_ShiftS [hShiftS : Cert.ShiftS.Facts] : Prop :=
  ∀ (m : (ℓ : Loc Cert.ShiftS.nD Cert.ShiftS.τ Cert.ShiftS.sig) → Buf (Elt Bits) ℓ) (g : Dev Cert.ShiftS.nD → PrngReg), Pre_ShiftS m →
    θ_run (Cert.ShiftS.defs (F := Bits)) (onTc (τ := Cert.ShiftS.τ) (Cert.ShiftS.main (F := Bits))) ⟨m, fun _ => 0, g⟩ (fun r => (∀ c : Dev Cert.ShiftS.nD,
      r.2.mem ((c.tc : Thread Cert.ShiftS.nD Cert.ShiftS.τ).loc Cert.ShiftS.main_arg0) = m ((c.tc : Thread Cert.ShiftS.nD Cert.ShiftS.τ).loc Cert.ShiftS.main_arg0)
      ∧ r.2.mem ((c.tc : Thread Cert.ShiftS.nD Cert.ShiftS.τ).loc Cert.ShiftS.main_arg1) = m ((c.tc : Thread Cert.ShiftS.nD Cert.ShiftS.τ).loc Cert.ShiftS.main_arg1))
      ∧ r.2.sem = fun _ => 0)

def quiescent_ShiftSIdeal [hShiftSIdeal : Cert.ShiftSIdeal.Facts] : Prop :=
  ∀ (m : (ℓ : Loc Cert.ShiftSIdeal.nD Cert.ShiftSIdeal.τ Cert.ShiftSIdeal.sig) → Buf (Elt Ideal) ℓ) (g : Dev Cert.ShiftSIdeal.nD → PrngReg), Pre_ShiftSIdeal m →
    θ_run (Cert.ShiftSIdeal.defs (F := Ideal)) (onTc (τ := Cert.ShiftSIdeal.τ) (Cert.ShiftSIdeal.main (F := Ideal))) ⟨m, fun _ => 0, g⟩ (fun r => (∀ c : Dev Cert.ShiftSIdeal.nD,
      r.2.mem ((c.tc : Thread Cert.ShiftSIdeal.nD Cert.ShiftSIdeal.τ).loc Cert.ShiftSIdeal.main_arg0) = m ((c.tc : Thread Cert.ShiftSIdeal.nD Cert.ShiftSIdeal.τ).loc Cert.ShiftSIdeal.main_arg0)
      ∧ r.2.mem ((c.tc : Thread Cert.ShiftSIdeal.nD Cert.ShiftSIdeal.τ).loc Cert.ShiftSIdeal.main_arg1) = m ((c.tc : Thread Cert.ShiftSIdeal.nD Cert.ShiftSIdeal.τ).loc Cert.ShiftSIdeal.main_arg1))
      ∧ r.2.sem = fun _ => 0)

def quiescent_ShiftSRefIdeal [hShiftSRefIdeal : Cert.ShiftSRefIdeal.Facts] : Prop :=
  ∀ (m : (ℓ : Loc Cert.ShiftSRefIdeal.nD Cert.ShiftSRefIdeal.τ Cert.ShiftSRefIdeal.sig) → Buf (Elt Ideal) ℓ) (g : Dev Cert.ShiftSRefIdeal.nD → PrngReg), Pre_ShiftSRefIdeal m →
    θ_run (Cert.ShiftSRefIdeal.defs (F := Ideal)) (onTc (τ := Cert.ShiftSRefIdeal.τ) (Cert.ShiftSRefIdeal.main (F := Ideal))) ⟨m, fun _ => 0, g⟩ (fun r => (∀ c : Dev Cert.ShiftSRefIdeal.nD,
      r.2.mem ((c.tc : Thread Cert.ShiftSRefIdeal.nD Cert.ShiftSRefIdeal.τ).loc Cert.ShiftSRefIdeal.main_arg0) = m ((c.tc : Thread Cert.ShiftSRefIdeal.nD Cert.ShiftSRefIdeal.τ).loc Cert.ShiftSRefIdeal.main_arg0)
      ∧ r.2.mem ((c.tc : Thread Cert.ShiftSRefIdeal.nD Cert.ShiftSRefIdeal.τ).loc Cert.ShiftSRefIdeal.main_arg1) = m ((c.tc : Thread Cert.ShiftSRefIdeal.nD Cert.ShiftSRefIdeal.τ).loc Cert.ShiftSRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Wkv_WkvIdeal : Prop :=
  True

def algebraic_WkvIdeal_WkvRefIdeal_pre_finite_arguments [hWkvIdeal : Cert.WkvIdeal.Facts] [hWkvRefIdeal : Cert.WkvRefIdeal.Facts] [hPre_finite_arguments : Cert.Pre_finite_arguments.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal_finite_arguments m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)
      ∧ m' ((c.tc : Thread Cert.WkvRefIdeal.nD Cert.WkvRefIdeal.τ).loc Cert.WkvRefIdeal.main_arg2) = m ((c.tc : Thread Cert.WkvIdeal.nD Cert.WkvIdeal.τ).loc Cert.WkvIdeal.main_arg2)
      ∧ m' ((c.tc : Thread Cert.WkvRefIdeal.nD Cert.WkvRefIdeal.τ).loc Cert.WkvRefIdeal.main_arg3) = m ((c.tc : Thread Cert.WkvIdeal.nD Cert.WkvIdeal.τ).loc Cert.WkvIdeal.main_arg3)
      ∧ m' ((c.tc : Thread Cert.WkvRefIdeal.nD Cert.WkvRefIdeal.τ).loc Cert.WkvRefIdeal.main_arg4) = m ((c.tc : Thread Cert.WkvIdeal.nD Cert.WkvIdeal.τ).loc Cert.WkvIdeal.main_arg4)
      ∧ m' ((c.tc : Thread Cert.WkvRefIdeal.nD Cert.WkvRefIdeal.τ).loc Cert.WkvRefIdeal.main_arg5) = m ((c.tc : Thread Cert.WkvIdeal.nD Cert.WkvIdeal.τ).loc Cert.WkvIdeal.main_arg5)
      ∧ m' ((c.tc : Thread Cert.WkvRefIdeal.nD Cert.WkvRefIdeal.τ).loc Cert.WkvRefIdeal.main_arg6) = m ((c.tc : Thread Cert.WkvIdeal.nD Cert.WkvIdeal.τ).loc Cert.WkvIdeal.main_arg6)
      ∧ m' ((c.tc : Thread Cert.WkvRefIdeal.nD Cert.WkvRefIdeal.τ).loc Cert.WkvRefIdeal.main_arg7) = m ((c.tc : Thread Cert.WkvIdeal.nD Cert.WkvIdeal.τ).loc Cert.WkvIdeal.main_arg7)) →
    ∃ (v0 : (c : Dev Cert.WkvIdeal.nD) → Buf (Elt Ideal) ((c.tc : Thread Cert.WkvIdeal.nD Cert.WkvIdeal.τ).loc Cert.WkvIdeal.main_v11_0)) (v1 : (c : Dev Cert.WkvIdeal.nD) → Buf (Elt Ideal) ((c.tc : Thread Cert.WkvIdeal.nD Cert.WkvIdeal.τ).loc Cert.WkvIdeal.main_v11_1)) (v2 : (c : Dev Cert.WkvIdeal.nD) → Buf (Elt Ideal) ((c.tc : Thread Cert.WkvIdeal.nD Cert.WkvIdeal.τ).loc Cert.WkvIdeal.main_v11_2)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v11_0) = v0 c
          ∧ r.2.mem ((c.tc : Thread Cert.WkvIdeal.nD Cert.WkvIdeal.τ).loc Cert.WkvIdeal.main_v11_1) = v1 c
          ∧ r.2.mem ((c.tc : Thread Cert.WkvIdeal.nD Cert.WkvIdeal.τ).loc Cert.WkvIdeal.main_v11_2) = v2 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
          ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
          ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
          ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
          ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
          ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v149) = v0 c
          ∧ r.2.mem ((c.tc : Thread Cert.WkvRefIdeal.nD Cert.WkvRefIdeal.τ).loc Cert.WkvRefIdeal.main_v153) = v1 c
          ∧ r.2.mem ((c.tc : Thread Cert.WkvRefIdeal.nD Cert.WkvRefIdeal.τ).loc Cert.WkvRefIdeal.main_v154) = v2 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1)
          ∧ r.2.mem ((c.tc : Thread Cert.WkvRefIdeal.nD Cert.WkvRefIdeal.τ).loc Cert.WkvRefIdeal.main_arg2) = m' ((c.tc : Thread Cert.WkvRefIdeal.nD Cert.WkvRefIdeal.τ).loc Cert.WkvRefIdeal.main_arg2)
          ∧ r.2.mem ((c.tc : Thread Cert.WkvRefIdeal.nD Cert.WkvRefIdeal.τ).loc Cert.WkvRefIdeal.main_arg3) = m' ((c.tc : Thread Cert.WkvRefIdeal.nD Cert.WkvRefIdeal.τ).loc Cert.WkvRefIdeal.main_arg3)
          ∧ r.2.mem ((c.tc : Thread Cert.WkvRefIdeal.nD Cert.WkvRefIdeal.τ).loc Cert.WkvRefIdeal.main_arg4) = m' ((c.tc : Thread Cert.WkvRefIdeal.nD Cert.WkvRefIdeal.τ).loc Cert.WkvRefIdeal.main_arg4)
          ∧ r.2.mem ((c.tc : Thread Cert.WkvRefIdeal.nD Cert.WkvRefIdeal.τ).loc Cert.WkvRefIdeal.main_arg5) = m' ((c.tc : Thread Cert.WkvRefIdeal.nD Cert.WkvRefIdeal.τ).loc Cert.WkvRefIdeal.main_arg5)
          ∧ r.2.mem ((c.tc : Thread Cert.WkvRefIdeal.nD Cert.WkvRefIdeal.τ).loc Cert.WkvRefIdeal.main_arg6) = m' ((c.tc : Thread Cert.WkvRefIdeal.nD Cert.WkvRefIdeal.τ).loc Cert.WkvRefIdeal.main_arg6)
          ∧ r.2.mem ((c.tc : Thread Cert.WkvRefIdeal.nD Cert.WkvRefIdeal.τ).loc Cert.WkvRefIdeal.main_arg7) = m' ((c.tc : Thread Cert.WkvRefIdeal.nD Cert.WkvRefIdeal.τ).loc Cert.WkvRefIdeal.main_arg7))

def preserves_MoeS_MoeSIdeal : Prop :=
  True

def algebraic_MoeSIdeal_MoeSRefIdeal [hMoeSIdeal : Cert.MoeSIdeal.Facts] [hMoeSRefIdeal : Cert.MoeSRefIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSRefIdeal.nD Cert.MoeSRefIdeal.τ Cert.MoeSRefIdeal.sig) → Buf (Elt Ideal) ℓ) (g' : Dev Cert.MoeSRefIdeal.nD → PrngReg), Pre_MoeSIdeal m →
    (∀ c : Dev Cert.MoeSIdeal.nD,
      m' ((c.tc : Thread Cert.MoeSRefIdeal.nD Cert.MoeSRefIdeal.τ).loc Cert.MoeSRefIdeal.main_arg0) = m ((c.tc : Thread Cert.MoeSIdeal.nD Cert.MoeSIdeal.τ).loc Cert.MoeSIdeal.main_arg0)
      ∧ m' ((c.tc : Thread Cert.MoeSRefIdeal.nD Cert.MoeSRefIdeal.τ).loc Cert.MoeSRefIdeal.main_arg1) = m ((c.tc : Thread Cert.MoeSIdeal.nD Cert.MoeSIdeal.τ).loc Cert.MoeSIdeal.main_arg1)
      ∧ m' ((c.tc : Thread Cert.MoeSRefIdeal.nD Cert.MoeSRefIdeal.τ).loc Cert.MoeSRefIdeal.main_arg2) = m ((c.tc : Thread Cert.MoeSIdeal.nD Cert.MoeSIdeal.τ).loc Cert.MoeSIdeal.main_arg2)
      ∧ m' ((c.tc : Thread Cert.MoeSRefIdeal.nD Cert.MoeSRefIdeal.τ).loc Cert.MoeSRefIdeal.main_arg3) = m ((c.tc : Thread Cert.MoeSIdeal.nD Cert.MoeSIdeal.τ).loc Cert.MoeSIdeal.main_arg3)
      ∧ m' ((c.tc : Thread Cert.MoeSRefIdeal.nD Cert.MoeSRefIdeal.τ).loc Cert.MoeSRefIdeal.main_arg4) = m ((c.tc : Thread Cert.MoeSIdeal.nD Cert.MoeSIdeal.τ).loc Cert.MoeSIdeal.main_arg4)
      ∧ m' ((c.tc : Thread Cert.MoeSRefIdeal.nD Cert.MoeSRefIdeal.τ).loc Cert.MoeSRefIdeal.main_arg5) = m ((c.tc : Thread Cert.MoeSIdeal.nD Cert.MoeSIdeal.τ).loc Cert.MoeSIdeal.main_arg5)
      ∧ m' ((c.tc : Thread Cert.MoeSRefIdeal.nD Cert.MoeSRefIdeal.τ).loc Cert.MoeSRefIdeal.main_arg6) = m ((c.tc : Thread Cert.MoeSIdeal.nD Cert.MoeSIdeal.τ).loc Cert.MoeSIdeal.main_arg6)
      ∧ m' ((c.tc : Thread Cert.MoeSRefIdeal.nD Cert.MoeSRefIdeal.τ).loc Cert.MoeSRefIdeal.main_arg7) = m ((c.tc : Thread Cert.MoeSIdeal.nD Cert.MoeSIdeal.τ).loc Cert.MoeSIdeal.main_arg7)
      ∧ m' ((c.tc : Thread Cert.MoeSRefIdeal.nD Cert.MoeSRefIdeal.τ).loc Cert.MoeSRefIdeal.main_arg8) = m ((c.tc : Thread Cert.MoeSIdeal.nD Cert.MoeSIdeal.τ).loc Cert.MoeSIdeal.main_arg8)) →
    ∃ (v0 : (c : Dev Cert.MoeSIdeal.nD) → Buf (Elt Ideal) ((c.tc : Thread Cert.MoeSIdeal.nD Cert.MoeSIdeal.τ).loc Cert.MoeSIdeal.main_v9)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v9) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
          ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
          ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8))
      ∧ θ_run (Cert.MoeSRefIdeal.defs (F := Ideal)) (onTc (τ := Cert.MoeSRefIdeal.τ) (Cert.MoeSRefIdeal.main (F := Ideal))) ⟨m', fun _ => 0, g'⟩ (fun r => ∀ c : Dev Cert.MoeSRefIdeal.nD,
          r.2.mem ((c.tc : Thread Cert.MoeSRefIdeal.nD Cert.MoeSRefIdeal.τ).loc Cert.MoeSRefIdeal.main_v55) = v0 c
          ∧ r.2.mem ((c.tc : Thread Cert.MoeSRefIdeal.nD Cert.MoeSRefIdeal.τ).loc Cert.MoeSRefIdeal.main_arg0) = m' ((c.tc : Thread Cert.MoeSRefIdeal.nD Cert.MoeSRefIdeal.τ).loc Cert.MoeSRefIdeal.main_arg0)
          ∧ r.2.mem ((c.tc : Thread Cert.MoeSRefIdeal.nD Cert.MoeSRefIdeal.τ).loc Cert.MoeSRefIdeal.main_arg1) = m' ((c.tc : Thread Cert.MoeSRefIdeal.nD Cert.MoeSRefIdeal.τ).loc Cert.MoeSRefIdeal.main_arg1)
          ∧ r.2.mem ((c.tc : Thread Cert.MoeSRefIdeal.nD Cert.MoeSRefIdeal.τ).loc Cert.MoeSRefIdeal.main_arg2) = m' ((c.tc : Thread Cert.MoeSRefIdeal.nD Cert.MoeSRefIdeal.τ).loc Cert.MoeSRefIdeal.main_arg2)
          ∧ r.2.mem ((c.tc : Thread Cert.MoeSRefIdeal.nD Cert.MoeSRefIdeal.τ).loc Cert.MoeSRefIdeal.main_arg3) = m' ((c.tc : Thread Cert.MoeSRefIdeal.nD Cert.MoeSRefIdeal.τ).loc Cert.MoeSRefIdeal.main_arg3)
          ∧ r.2.mem ((c.tc : Thread Cert.MoeSRefIdeal.nD Cert.MoeSRefIdeal.τ).loc Cert.MoeSRefIdeal.main_arg4) = m' ((c.tc : Thread Cert.MoeSRefIdeal.nD Cert.MoeSRefIdeal.τ).loc Cert.MoeSRefIdeal.main_arg4)
          ∧ r.2.mem ((c.tc : Thread Cert.MoeSRefIdeal.nD Cert.MoeSRefIdeal.τ).loc Cert.MoeSRefIdeal.main_arg5) = m' ((c.tc : Thread Cert.MoeSRefIdeal.nD Cert.MoeSRefIdeal.τ).loc Cert.MoeSRefIdeal.main_arg5)
          ∧ r.2.mem ((c.tc : Thread Cert.MoeSRefIdeal.nD Cert.MoeSRefIdeal.τ).loc Cert.MoeSRefIdeal.main_arg6) = m' ((c.tc : Thread Cert.MoeSRefIdeal.nD Cert.MoeSRefIdeal.τ).loc Cert.MoeSRefIdeal.main_arg6)
          ∧ r.2.mem ((c.tc : Thread Cert.MoeSRefIdeal.nD Cert.MoeSRefIdeal.τ).loc Cert.MoeSRefIdeal.main_arg7) = m' ((c.tc : Thread Cert.MoeSRefIdeal.nD Cert.MoeSRefIdeal.τ).loc Cert.MoeSRefIdeal.main_arg7)
          ∧ r.2.mem ((c.tc : Thread Cert.MoeSRefIdeal.nD Cert.MoeSRefIdeal.τ).loc Cert.MoeSRefIdeal.main_arg8) = m' ((c.tc : Thread Cert.MoeSRefIdeal.nD Cert.MoeSRefIdeal.τ).loc Cert.MoeSRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Modu_ModuIdeal : Prop :=
  True

def algebraic_ModuIdeal_ModuRefIdeal_pre_finite_conditions [hModuIdeal : Cert.ModuIdeal.Facts] [hModuRefIdeal : Cert.ModuRefIdeal.Facts] [hPre_finite_conditions : Cert.Pre_finite_conditions.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuIdeal_finite_conditions m →
    (∀ c : Dev Cert.ModuIdeal.nD,
      m' ((c.tc : Thread Cert.ModuRefIdeal.nD Cert.ModuRefIdeal.τ).loc Cert.ModuRefIdeal.main_arg0) = m ((c.tc : Thread Cert.ModuIdeal.nD Cert.ModuIdeal.τ).loc Cert.ModuIdeal.main_arg0)
      ∧ m' ((c.tc : Thread Cert.ModuRefIdeal.nD Cert.ModuRefIdeal.τ).loc Cert.ModuRefIdeal.main_arg1) = m ((c.tc : Thread Cert.ModuIdeal.nD Cert.ModuIdeal.τ).loc Cert.ModuIdeal.main_arg1)
      ∧ m' ((c.tc : Thread Cert.ModuRefIdeal.nD Cert.ModuRefIdeal.τ).loc Cert.ModuRefIdeal.main_arg2) = m ((c.tc : Thread Cert.ModuIdeal.nD Cert.ModuIdeal.τ).loc Cert.ModuIdeal.main_arg2)
      ∧ m' ((c.tc : Thread Cert.ModuRefIdeal.nD Cert.ModuRefIdeal.τ).loc Cert.ModuRefIdeal.main_arg3) = m ((c.tc : Thread Cert.ModuIdeal.nD Cert.ModuIdeal.τ).loc Cert.ModuIdeal.main_arg3)) →
    ∃ (v0 : (c : Dev Cert.ModuIdeal.nD) → Buf (Elt Ideal) ((c.tc : Thread Cert.ModuIdeal.nD Cert.ModuIdeal.τ).loc Cert.ModuIdeal.main_v6)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v6) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
          ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
          ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v9) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1)
          ∧ r.2.mem ((c.tc : Thread Cert.ModuRefIdeal.nD Cert.ModuRefIdeal.τ).loc Cert.ModuRefIdeal.main_arg2) = m' ((c.tc : Thread Cert.ModuRefIdeal.nD Cert.ModuRefIdeal.τ).loc Cert.ModuRefIdeal.main_arg2)
          ∧ r.2.mem ((c.tc : Thread Cert.ModuRefIdeal.nD Cert.ModuRefIdeal.τ).loc Cert.ModuRefIdeal.main_arg3) = m' ((c.tc : Thread Cert.ModuRefIdeal.nD Cert.ModuRefIdeal.τ).loc Cert.ModuRefIdeal.main_arg3))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)) →
    ∃ (v0 : (c : Dev Cert.ShiftIdeal.nD) → Buf (Elt Ideal) ((c.tc : Thread Cert.ShiftIdeal.nD Cert.ShiftIdeal.τ).loc Cert.ShiftIdeal.main_v10)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v10) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v45) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1))

def preserves_ShiftS_ShiftSIdeal : Prop :=
  True

def algebraic_ShiftSIdeal_ShiftSRefIdeal [hShiftSIdeal : Cert.ShiftSIdeal.Facts] [hShiftSRefIdeal : Cert.ShiftSRefIdeal.Facts] : Prop :=
  ∀ (m : (ℓ : Loc Cert.ShiftSIdeal.nD Cert.ShiftSIdeal.τ Cert.ShiftSIdeal.sig) → Buf (Elt Ideal) ℓ) (g : Dev Cert.ShiftSIdeal.nD → PrngReg)
    (m' : (ℓ : Loc Cert.ShiftSRefIdeal.nD Cert.ShiftSRefIdeal.τ Cert.ShiftSRefIdeal.sig) → Buf (Elt Ideal) ℓ) (g' : Dev Cert.ShiftSRefIdeal.nD → PrngReg), Pre_ShiftSIdeal m →
    (∀ c : Dev Cert.ShiftSIdeal.nD,
      m' ((c.tc : Thread Cert.ShiftSRefIdeal.nD Cert.ShiftSRefIdeal.τ).loc Cert.ShiftSRefIdeal.main_arg0) = m ((c.tc : Thread Cert.ShiftSIdeal.nD Cert.ShiftSIdeal.τ).loc Cert.ShiftSIdeal.main_arg0)
      ∧ m' ((c.tc : Thread Cert.ShiftSRefIdeal.nD Cert.ShiftSRefIdeal.τ).loc Cert.ShiftSRefIdeal.main_arg1) = m ((c.tc : Thread Cert.ShiftSIdeal.nD Cert.ShiftSIdeal.τ).loc Cert.ShiftSIdeal.main_arg1)) →
    ∃ (v0 : (c : Dev Cert.ShiftSIdeal.nD) → Buf (Elt Ideal) ((c.tc : Thread Cert.ShiftSIdeal.nD Cert.ShiftSIdeal.τ).loc Cert.ShiftSIdeal.main_v10)),
      θ_run (Cert.ShiftSIdeal.defs (F := Ideal)) (onTc (τ := Cert.ShiftSIdeal.τ) (Cert.ShiftSIdeal.main (F := Ideal))) ⟨m, fun _ => 0, g⟩ (fun r => ∀ c : Dev Cert.ShiftSIdeal.nD,
          r.2.mem ((c.tc : Thread Cert.ShiftSIdeal.nD Cert.ShiftSIdeal.τ).loc Cert.ShiftSIdeal.main_v10) = v0 c
          ∧ r.2.mem ((c.tc : Thread Cert.ShiftSIdeal.nD Cert.ShiftSIdeal.τ).loc Cert.ShiftSIdeal.main_arg0) = m ((c.tc : Thread Cert.ShiftSIdeal.nD Cert.ShiftSIdeal.τ).loc Cert.ShiftSIdeal.main_arg0)
          ∧ r.2.mem ((c.tc : Thread Cert.ShiftSIdeal.nD Cert.ShiftSIdeal.τ).loc Cert.ShiftSIdeal.main_arg1) = m ((c.tc : Thread Cert.ShiftSIdeal.nD Cert.ShiftSIdeal.τ).loc Cert.ShiftSIdeal.main_arg1))
      ∧ θ_run (Cert.ShiftSRefIdeal.defs (F := Ideal)) (onTc (τ := Cert.ShiftSRefIdeal.τ) (Cert.ShiftSRefIdeal.main (F := Ideal))) ⟨m', fun _ => 0, g'⟩ (fun r => ∀ c : Dev Cert.ShiftSRefIdeal.nD,
          r.2.mem ((c.tc : Thread Cert.ShiftSRefIdeal.nD Cert.ShiftSRefIdeal.τ).loc Cert.ShiftSRefIdeal.main_v43) = v0 c
          ∧ r.2.mem ((c.tc : Thread Cert.ShiftSRefIdeal.nD Cert.ShiftSRefIdeal.τ).loc Cert.ShiftSRefIdeal.main_arg0) = m' ((c.tc : Thread Cert.ShiftSRefIdeal.nD Cert.ShiftSRefIdeal.τ).loc Cert.ShiftSRefIdeal.main_arg0)
          ∧ r.2.mem ((c.tc : Thread Cert.ShiftSRefIdeal.nD Cert.ShiftSRefIdeal.τ).loc Cert.ShiftSRefIdeal.main_arg1) = m' ((c.tc : Thread Cert.ShiftSRefIdeal.nD Cert.ShiftSRefIdeal.τ).loc Cert.ShiftSRefIdeal.main_arg1))

def Claim : Prop :=
  ∃ (hKernel : Cert.Kernel.Facts) (hKernelIdeal : Cert.KernelIdeal.Facts) (hReferenceIdeal : Cert.ReferenceIdeal.Facts) (hWkv : Cert.Wkv.Facts) (hWkvIdeal : Cert.WkvIdeal.Facts) (hWkvRefIdeal : Cert.WkvRefIdeal.Facts) (hMoeS : Cert.MoeS.Facts) (hMoeSIdeal : Cert.MoeSIdeal.Facts) (hMoeSRefIdeal : Cert.MoeSRefIdeal.Facts) (hInProj : Cert.InProj.Facts) (hInProjIdeal : Cert.InProjIdeal.Facts) (hInProjRefIdeal : Cert.InProjRefIdeal.Facts) (hModu : Cert.Modu.Facts) (hModuIdeal : Cert.ModuIdeal.Facts) (hModuRefIdeal : Cert.ModuRefIdeal.Facts) (hShift : Cert.Shift.Facts) (hShiftIdeal : Cert.ShiftIdeal.Facts) (hShiftRefIdeal : Cert.ShiftRefIdeal.Facts) (hShiftS : Cert.ShiftS.Facts) (hShiftSIdeal : Cert.ShiftSIdeal.Facts) (hShiftSRefIdeal : Cert.ShiftSRefIdeal.Facts) (hPre_finite_arguments : Cert.Pre_finite_arguments.Facts) (hPre_finite_conditions : Cert.Pre_finite_conditions.Facts),
    quiescent_Kernel (hKernel := hKernel)
    ∧ quiescent_KernelIdeal (hKernelIdeal := hKernelIdeal)
    ∧ quiescent_ReferenceIdeal (hReferenceIdeal := hReferenceIdeal)
    ∧ quiescent_Wkv (hWkv := hWkv)
    ∧ quiescent_WkvIdeal (hWkvIdeal := hWkvIdeal)
    ∧ quiescent_WkvIdeal_pre_finite_arguments (hWkvIdeal := hWkvIdeal) (hPre_finite_arguments := hPre_finite_arguments)
    ∧ quiescent_WkvRefIdeal (hWkvRefIdeal := hWkvRefIdeal)
    ∧ quiescent_WkvRefIdeal_pre_finite_arguments (hWkvRefIdeal := hWkvRefIdeal) (hPre_finite_arguments := hPre_finite_arguments)
    ∧ quiescent_MoeS (hMoeS := hMoeS)
    ∧ quiescent_MoeSIdeal (hMoeSIdeal := hMoeSIdeal)
    ∧ quiescent_MoeSRefIdeal (hMoeSRefIdeal := hMoeSRefIdeal)
    ∧ quiescent_InProj (hInProj := hInProj)
    ∧ quiescent_InProjIdeal (hInProjIdeal := hInProjIdeal)
    ∧ quiescent_InProjRefIdeal (hInProjRefIdeal := hInProjRefIdeal)
    ∧ quiescent_Modu (hModu := hModu)
    ∧ quiescent_ModuIdeal (hModuIdeal := hModuIdeal)
    ∧ quiescent_ModuIdeal_pre_finite_conditions (hModuIdeal := hModuIdeal) (hPre_finite_conditions := hPre_finite_conditions)
    ∧ quiescent_ModuRefIdeal (hModuRefIdeal := hModuRefIdeal)
    ∧ quiescent_ModuRefIdeal_pre_finite_conditions (hModuRefIdeal := hModuRefIdeal) (hPre_finite_conditions := hPre_finite_conditions)
    ∧ quiescent_Shift (hShift := hShift)
    ∧ quiescent_ShiftIdeal (hShiftIdeal := hShiftIdeal)
    ∧ quiescent_ShiftRefIdeal (hShiftRefIdeal := hShiftRefIdeal)
    ∧ quiescent_ShiftS (hShiftS := hShiftS)
    ∧ quiescent_ShiftSIdeal (hShiftSIdeal := hShiftSIdeal)
    ∧ quiescent_ShiftSRefIdeal (hShiftSRefIdeal := hShiftSRefIdeal)
    ∧ preserves_Kernel_KernelIdeal
    ∧ algebraic_KernelIdeal_ReferenceIdeal (hKernelIdeal := hKernelIdeal) (hReferenceIdeal := hReferenceIdeal)
    ∧ preserves_Wkv_WkvIdeal
    ∧ algebraic_WkvIdeal_WkvRefIdeal_pre_finite_arguments (hWkvIdeal := hWkvIdeal) (hWkvRefIdeal := hWkvRefIdeal) (hPre_finite_arguments := hPre_finite_arguments)
    ∧ preserves_MoeS_MoeSIdeal
    ∧ algebraic_MoeSIdeal_MoeSRefIdeal (hMoeSIdeal := hMoeSIdeal) (hMoeSRefIdeal := hMoeSRefIdeal)
    ∧ preserves_InProj_InProjIdeal
    ∧ algebraic_InProjIdeal_InProjRefIdeal (hInProjIdeal := hInProjIdeal) (hInProjRefIdeal := hInProjRefIdeal)
    ∧ preserves_Modu_ModuIdeal
    ∧ algebraic_ModuIdeal_ModuRefIdeal_pre_finite_conditions (hModuIdeal := hModuIdeal) (hModuRefIdeal := hModuRefIdeal) (hPre_finite_conditions := hPre_finite_conditions)
    ∧ preserves_Shift_ShiftIdeal
    ∧ algebraic_ShiftIdeal_ShiftRefIdeal (hShiftIdeal := hShiftIdeal) (hShiftRefIdeal := hShiftRefIdeal)
    ∧ preserves_ShiftS_ShiftSIdeal
    ∧ algebraic_ShiftSIdeal_ShiftSRefIdeal (hShiftSIdeal := hShiftSIdeal) (hShiftSRefIdeal := hShiftSRefIdeal)
-- ==== Pre_finite_arguments.lean ====
abbrev S3x8192x1024 : Shape := ⟨3, ![3, 8192, 1024]⟩
abbrev S1x8192x256 : Shape := ⟨3, ![1, 8192, 256]⟩
abbrev S1x1024 : Shape := ⟨2, ![1, 1024]⟩
abbrev S1x2x1024 : Shape := ⟨3, ![1, 2, 1024]⟩
abbrev S1x2x64x1024 : Shape := ⟨4, ![1, 2, 64, 1024]⟩
abbrev S_ : Shape := ⟨0, ![]⟩

class Facts : Prop where
  bcast_S_S3x8192x1024 : S_.BroadcastsInDim S3x8192x1024 (![] : Fin 0 → Fin S3x8192x1024.rank)
  bcast_S_S1x8192x256 : S_.BroadcastsInDim S1x8192x256 (![] : Fin 0 → Fin S1x8192x256.rank)
  bcast_S_S1x1024 : S_.BroadcastsInDim S1x1024 (![] : Fin 0 → Fin S1x1024.rank)
  bcast_S_S1x2x1024 : S_.BroadcastsInDim S1x2x1024 (![] : Fin 0 → Fin S1x2x1024.rank)
  bcast_S_S1x2x64x1024 : S_.BroadcastsInDim S1x2x64x1024 (![] : Fin 0 → Fin S1x2x64x1024.rank)

variable [Facts]

def fn_part1 {F : FTy → Type} [FloatOps F] (main_arg6 : FVec F S1x2x1024 .f32) (main_arg7 : FVec F S1x2x64x1024 .f32) (main_v2 : IVec S3x8192x1024 1) (main_v5 : IVec S1x8192x256 1) (main_v8 : IVec S1x1024 1) (main_v11 : IVec S1x1024 1) (main_v14 : IVec S1x2x1024 1) (main_v17 : IVec S1x2x64x1024 1) : IVec S3x8192x1024 1 × IVec S1x8192x256 1 × IVec S1x1024 1 × IVec S1x1024 1 × IVec S1x2x1024 1 × IVec S1x2x64x1024 1 × IVec S1x2x1024 1 × IVec S1x2x64x1024 1 :=
  let main_v18 : FVec F S1x2x1024 .f32 := subf main_arg6 main_arg6
  let main_cst_5 : FVec F S_ .f32 := constant S_ .f32 0x00000000#32
  let main_v19 : FVec F S1x2x1024 .f32 := broadcastInDim S1x2x1024 ![] bcast_S_S1x2x1024 main_cst_5
  let main_v20 : IVec S1x2x1024 1 := cmpf .oeq main_v18 main_v19
  let main_v21 : FVec F S1x2x64x1024 .f32 := subf main_arg7 main_arg7
  let main_cst_6 : FVec F S_ .f32 := constant S_ .f32 0x00000000#32
  let main_v22 : FVec F S1x2x64x1024 .f32 := broadcastInDim S1x2x64x1024 ![] bcast_S_S1x2x64x1024 main_cst_6
  let main_v23 : IVec S1x2x64x1024 1 := cmpf .oeq main_v21 main_v22
  (main_v2, main_v5, main_v8, main_v11, main_v14, main_v17, main_v20, main_v23)

def fn {F : FTy → Type} [FloatOps F] (main_arg0 : FVec F S3x8192x1024 .f32) (main_arg1 : FVec F S1x8192x256 .f32) (main_arg2 : FVec F S1x1024 .f32) (main_arg3 : FVec F S1x1024 .f32) (main_arg4 : FVec F S1x2x1024 .f32) (main_arg5 : FVec F S1x2x64x1024 .f32) (main_arg6 : FVec F S1x2x1024 .f32) (main_arg7 : FVec F S1x2x64x1024 .f32) : IVec S3x8192x1024 1 × IVec S1x8192x256 1 × IVec S1x1024 1 × IVec S1x1024 1 × IVec S1x2x1024 1 × IVec S1x2x64x1024 1 × IVec S1x2x1024 1 × IVec S1x2x64x1024 1 :=
  let main_v0 : FVec F S3x8192x1024 .f32 := subf main_arg0 main_arg0
  let main_cst : FVec F S_ .f32 := constant S_ .f32 0x00000000#32
  let main_v1 : FVec F S3x8192x1024 .f32 := broadcastInDim S3x8192x1024 ![] bcast_S_S3x8192x1024 main_cst
  let main_v2 : IVec S3x8192x1024 1 := cmpf .oeq main_v0 main_v1
  let main_v3 : FVec F S1x8192x256 .f32 := subf main_arg1 main_arg1
  let main_cst_0 : FVec F S_ .f32 := constant S_ .f32 0x00000000#32
  let main_v4 : FVec F S1x8192x256 .f32 := broadcastInDim S1x8192x256 ![] bcast_S_S1x8192x256 main_cst_0
  let main_v5 : IVec S1x8192x256 1 := cmpf .oeq main_v3 main_v4
  let main_v6 : FVec F S1x1024 .f32 := subf main_arg2 main_arg2
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S1x2x1024 .f32 := subf main_arg4 main_arg4
  let main_cst_3 : FVec F S_ .f32 := constant S_ .f32 0x00000000#32
  let main_v13 : FVec F S1x2x1024 .f32 := broadcastInDim S1x2x1024 ![] bcast_S_S1x2x1024 main_cst_3
  let main_v14 : IVec S1x2x1024 1 := cmpf .oeq main_v12 main_v13
  let main_v15 : FVec F S1x2x64x1024 .f32 := subf main_arg5 main_arg5
  let main_cst_4 : FVec F S_ .f32 := constant S_ .f32 0x00000000#32
  let main_v16 : FVec F S1x2x64x1024 .f32 := broadcastInDim S1x2x64x1024 ![] bcast_S_S1x2x64x1024 main_cst_4
  let main_v17 : IVec S1x2x64x1024 1 := cmpf .oeq main_v15 main_v16
  fn_part1 (F := F) main_arg6 main_arg7 main_v2 main_v5 main_v8 main_v11 main_v14 main_v17
-- ==== Pre_finite_conditions.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩

class Facts : Prop where
  bcast_S_S2x1024 : S_.BroadcastsInDim S2x1024 (![] : Fin 0 → Fin S2x1024.rank)
  bcast_S_S1024 : S_.BroadcastsInDim S1024 (![] : Fin 0 → Fin S1024.rank)
  bcast_S_S1x1024x6144 : S_.BroadcastsInDim S1x1024x6144 (![] : Fin 0 → Fin S1x1024x6144.rank)

variable [Facts]

def fn {F : FTy → Type} [FloatOps F] (main_arg0 : FVec F S2x1024 .f32) (main_arg1 : FVec F S1024 .f32) (main_arg2 : FVec F S1x1024x6144 .f32) (main_arg3 : FVec F S1x6144 .f32) : IVec S2x1024 1 × IVec S1024 1 × IVec S1x1024x6144 1 :=
  let main_v0 : FVec F S2x1024 .f32 := subf main_arg0 main_arg0
  let main_cst : FVec F S_ .f32 := constant S_ .f32 0x00000000#32
  let main_v1 : FVec F S2x1024 .f32 := broadcastInDim S2x1024 ![] bcast_S_S2x1024 main_cst
  let main_v2 : IVec S2x1024 1 := cmpf .oeq main_v0 main_v1
  let main_v3 : FVec F S1024 .f32 := subf main_arg1 main_arg1
  let main_cst_0 : FVec F S_ .f32 := constant S_ .f32 0x00000000#32
  let main_v4 : FVec F S1024 .f32 := broadcastInDim S1024 ![] bcast_S_S1024 main_cst_0
  let main_v5 : IVec S1024 1 := cmpf .oeq main_v3 main_v4
  let main_v6 : FVec F S1x1024x6144 .f32 := subf main_arg2 main_arg2
  let main_cst_1 : FVec F S_ .f32 := constant S_ .f32 0x00000000#32
  let main_v7 : FVec F S1x1024x6144 .f32 := broadcastInDim S1x1024x6144 ![] bcast_S_S1x1024x6144 main_cst_1
  let main_v8 : IVec S1x1024x6144 1 := cmpf .oeq main_v6 main_v7
  (main_v2, main_v5, main_v8)
-- ==== Kernel.lean ====
abbrev S8192x1024 : Shape := ⟨2, ![8192, 1024]⟩
abbrev S8192x128 : Shape := ⟨2, ![8192, 128]⟩
abbrev S8x1x6144 : Shape := ⟨3, ![8, 1, 6144]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1024 : Shape := ⟨1, ![1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S1x1024 : Shape := ⟨2, ![1, 1024]⟩
abbrev S1024x1024 : Shape := ⟨2, ![1024, 1024]⟩
abbrev S1024x128 : Shape := ⟨2, ![1024, 128]⟩
abbrev S1x1x6144 : Shape := ⟨3, ![1, 1, 6144]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1x2048 : Shape := ⟨2, ![1, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x6144 : Shape := ⟨2, ![1, 6144]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x1x6144, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1024, .f32⟩
  | .hbm, ⟨9, _⟩ => ⟨S32x1024x2048, .f32⟩
  | .hbm, ⟨10, _⟩ => ⟨S32x1024x2048, .bf16⟩
  | .hbm, ⟨11, _⟩ => ⟨S32x2048, .f32⟩
  | .hbm, ⟨12, _⟩ => ⟨S32x1x2048, .f32⟩
  | .hbm, ⟨13, _⟩ => ⟨S32x1024x1024, .f32⟩
  | .hbm, ⟨14, _⟩ => ⟨S32x1024x1024, .bf16⟩
  | .hbm, ⟨15, _⟩ => ⟨S32x1024, .f32⟩
  | .hbm, ⟨16, _⟩ => ⟨S32x1x1024, .f32⟩
  | .hbm, ⟨17, _⟩ => ⟨S1x1024, .f32⟩
  | .hbm, ⟨18, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v225 : BitVec 1 := Scalar.cmpi .eq arg1 c31_i32
  let v226 : BitVec 32 := Scalar.extui v225
  let c0_i32_130 : BitVec 32 := 0#32
  let v227 : BitVec 1 := Scalar.cmpi .ne v226 c0_i32_130
  v227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x1024 : Shape := ⟨2, ![8192, 1024]⟩
abbrev S8192x128 : Shape := ⟨2, ![8192, 128]⟩
abbrev S8x1x6144 : Shape := ⟨3, ![8, 1, 6144]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1024 : Shape := ⟨1, ![1024]⟩
abbrev S32x1024x2048 : Shape := ⟨3, ![32, 1024, 2048]⟩
abbrev S32x2048x8192 : Shape := ⟨3, ![32, 2048, 8192]⟩
abbrev S32x8192x2048 : Shape := ⟨3, ![32, 8192, 2048]⟩
abbrev S32x2048 : Shape := ⟨2, ![32, 2048]⟩
abbrev S32x1x2048 : Shape := ⟨3, ![32, 1, 2048]⟩
abbrev S32x8192x1024 : Shape := ⟨3, ![32, 8192, 1024]⟩
abbrev S_ : Shape := ⟨0, ![]⟩
abbrev S32x1024x1024 : Shape := ⟨3, ![32, 1024, 1024]⟩
abbrev S32x1024 : Shape := ⟨2, ![32, 1024]⟩
abbrev S32x1x1024 : Shape := ⟨3, ![32, 1, 1024]⟩
abbrev S8192x32 : Shape := ⟨2, ![8192, 32]⟩
abbrev S32x8192 : Shape := ⟨2, ![32, 8192]⟩
abbrev S32x8192x1 : Shape := ⟨3, ![32, 8192, 1]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x1x6144, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1024, .f32⟩
  | .hbm, ⟨9, _⟩ => ⟨S8192x1024, .f32⟩
  | .hbm, ⟨10, _⟩ => ⟨S32x1024x2048, .f32⟩
  | .hbm, ⟨11, _⟩ => ⟨S32x2048x8192, .f32⟩
  | .hbm, ⟨12, _⟩ => ⟨S32x8192x2048, .f32⟩
  | .hbm, ⟨13, _⟩ => ⟨S32x2048, .f32⟩
  | .hbm, ⟨14, _⟩ => ⟨S32x1x2048, .f32⟩
  | .hbm, ⟨15, _⟩ => ⟨S32x8192x2048, .f32⟩
  | .hbm, ⟨16, _⟩ => ⟨S32x8192x2048, .f32⟩
  | .hbm, ⟨17, _⟩ => ⟨S32x8192x1024, .f32⟩
  | .hbm, ⟨18, _⟩ => ⟨S_, .f32⟩
  | .hbm, ⟨19, _⟩ => ⟨S32x8192x1024, .f32⟩
  | .hbm, ⟨20, _⟩ => ⟨S32x8192x1024, .f32⟩
  | .hbm, ⟨21, _⟩ => ⟨S32x8192x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x8192x1024, .f32⟩
  | .hbm, ⟨26, _⟩ => ⟨S32x8192x1024, .f32⟩
  | .hbm, ⟨27, _⟩ => ⟨S_, .f32⟩
  | .hbm, ⟨28, _⟩ => ⟨S32x8192x1024, .f32⟩
  | .hbm, ⟨29, _⟩ => ⟨S32x8192x1024, .f32⟩
  | .hbm, ⟨30, _⟩ => ⟨S_, .f32⟩
  | .hbm, ⟨31, _⟩ => ⟨S32x8192x1024, .f32⟩
  | .hbm, ⟨32, _⟩ => ⟨S32x8192x1024, .f32⟩
  | .hbm, ⟨33, _⟩ => ⟨S32x8192x1024, .f32⟩
  | .hbm, ⟨34, _⟩ => ⟨S32x8192x1024, .f32⟩
  | .hbm, ⟨35, _⟩ => ⟨S_, .f32⟩
  | .hbm, ⟨36, _⟩ => ⟨S32x8192x1024, .f32⟩
  | .hbm, ⟨37, _⟩ => ⟨S32x8192x1024, .f32⟩
  | .hbm, ⟨38, _⟩ => ⟨S_, .f32⟩
  | .hbm, ⟨39, _⟩ => ⟨S32x8192x1024, .f32⟩
  | .hbm, ⟨40, _⟩ => ⟨S32x8192x1024, .f32⟩
  | .hbm, ⟨41, _⟩ => ⟨S32x8192x1024, .f32⟩
  | .hbm, ⟨42, _⟩ => ⟨S_, .f32⟩
  | .hbm, ⟨43, _⟩ => ⟨S32x8192x1024, .f32⟩
  | .hbm, ⟨44, _⟩ => ⟨S32x8192x1024, .f32⟩
  | .hbm, ⟨45, _⟩ => ⟨S32x8192x1024, .f32⟩
  | .hbm, ⟨46, _⟩ => ⟨S32x1024x1024, .f32⟩
  | .hbm, ⟨47, _⟩ => ⟨S32x8192x1024, .f32⟩
  | .hbm, ⟨48, _⟩ => ⟨S32x1024, .f32⟩
  | .hbm, ⟨49, _⟩ => ⟨S32x1x1024, .f32⟩
  | .hbm, ⟨50, _⟩ => ⟨S32x8192x1024, .f32⟩
  | .hbm, ⟨51, _⟩ => ⟨S32x8192x1024, .f32⟩
  | .hbm, ⟨52, _⟩ => ⟨S8192x32, .f32⟩
  | .hbm, ⟨53, _⟩ => ⟨S32x8192, .f32⟩
  | .hbm, ⟨54, _⟩ => ⟨S32x8192x1, .f32⟩
  | .hbm, ⟨55, _⟩ => ⟨S32x8192x1024, .f32⟩
  | .hbm, ⟨56, _⟩ => ⟨S32x8192x1024, .f32⟩
  | .hbm, ⟨57, _⟩ => ⟨S_, .f32⟩
  | .hbm, ⟨58, _⟩ => ⟨S8192x1024, .f32⟩
  | .hbm, ⟨59, _⟩ => ⟨S1x1x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Wkv.lean ====
abbrev S3x8192x1024 : Shape := ⟨3, ![3, 8192, 1024]⟩
abbrev S1x8192x256 : Shape := ⟨3, ![1, 8192, 256]⟩
abbrev S1x1024 : Shape := ⟨2, ![1, 1024]⟩
abbrev S1x2x1024 : Shape := ⟨3, ![1, 2, 1024]⟩
abbrev S1x2x64x1024 : Shape := ⟨4, ![1, 2, 64, 1024]⟩
abbrev S1024 : Shape := ⟨1, ![1024]⟩
abbrev S2x1024 : Shape := ⟨2, ![2, 1024]⟩
abbrev S2x1x1024 : Shape := ⟨3, ![2, 1, 1024]⟩
abbrev S2x64x1024 : Shape := ⟨3, ![2, 64, 1024]⟩
abbrev S_ : Shape := ⟨0, ![]⟩
abbrev S1x2x16x64x64 : Shape := ⟨5, ![1, 2, 16, 64, 64]⟩
abbrev S8192x1024 : Shape := ⟨2, ![8192, 1024]⟩
abbrev S32x2x16x64x64 : Shape := ⟨5, ![32, 2, 16, 64, 64]⟩
abbrev S1x64x256 : Shape := ⟨3, ![1, 64, 256]⟩
abbrev S1x256 : Shape := ⟨2, ![1, 256]⟩
abbrev S2x1x256 : Shape := ⟨3, ![2, 1, 256]⟩
abbrev S2x64x256 : Shape := ⟨3, ![2, 64, 256]⟩
abbrev S1x2x4x64x64 : Shape := ⟨5, ![1, 2, 4, 64, 64]⟩
abbrev S64x256 : Shape := ⟨2, ![64, 256]⟩
abbrev S256x256 : Shape := ⟨2, ![256, 256]⟩
abbrev S1x1x256 : Shape := ⟨3, ![1, 1, 256]⟩
abbrev S64x64 : Shape := ⟨2, ![64, 64]⟩
abbrev S128x256 : Shape := ⟨2, ![128, 256]⟩
abbrev S1x1x1x64x64 : Shape := ⟨5, ![1, 1, 1, 64, 64]⟩

abbrev nBuf : Space → Nat
  | .hbm => 23
  | .vmem => 38
  | .smem => 0
  | _ => 0

abbrev bufTy : (tb : Table) → Fin (tcTables nBuf tb) → BufTy
  | .hbm, ⟨0, _⟩ => ⟨S3x8192x1024, .f32⟩
  | .hbm, ⟨1, _⟩ => ⟨S1x8192x256, .f32⟩
  | .hbm, ⟨2, _⟩ => ⟨S1x1024, .f32⟩
  | .hbm, ⟨3, _⟩ => ⟨S1x1024, .f32⟩
  | .hbm, ⟨4, _⟩ => ⟨S1x2x1024, .f32⟩
  | .hbm, ⟨5, _⟩ => ⟨S1x2x64x1024, .f32⟩
  | .hbm, ⟨6, _⟩ => ⟨S1x2x1024, .f32⟩
  | .hbm, ⟨7, _⟩ => ⟨S1x2x64x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S2x1024, .f32⟩
  | .hbm, ⟨13, _⟩ => ⟨S2x1x1024, .f32⟩
  | .hbm, ⟨14, _⟩ => ⟨S2x64x1024, .f32⟩
  | .hbm, ⟨15, _⟩ => ⟨S2x1024, .f32⟩
  | .hbm, ⟨16, _⟩ => ⟨S2x1x1024, .f32⟩
  | .hbm, ⟨17, _⟩ => ⟨S2x64x1024, .f32⟩
  | .hbm, ⟨18, _⟩ => ⟨S_, .f32⟩
  | .hbm, ⟨19, _⟩ => ⟨S1x2x16x64x64, .f32⟩
  | .hbm, ⟨20, _⟩ => ⟨S8192x1024, .f32⟩
  | .hbm, ⟨21, _⟩ => ⟨S8192x1024, .f32⟩
  | .hbm, ⟨22, _⟩ => ⟨S32x2x16x64x64, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S2x1x256, .f32⟩
  | .local _ .vmem, ⟨21, _⟩ => ⟨S2x1x256, .f32⟩
  | .local _ .vmem, ⟨22, _⟩ => ⟨S2x64x256, .f32⟩
  | .local _ .vmem, ⟨23, _⟩ => ⟨S2x64x256, .f32⟩
  | .local _ .vmem, ⟨24, _⟩ => ⟨S2x1x256, .f32⟩
  | .local _ .vmem, ⟨25, _⟩ => ⟨S2x1x256, .f32⟩
  | .local _ .vmem, ⟨26, _⟩ => ⟨S2x64x256, .f32⟩
  | .local _ .vmem, ⟨27, _⟩ => ⟨S2x64x256, .f32⟩
  | .local _ .vmem, ⟨28, _⟩ => ⟨S1x2x4x64x64, .f32⟩
  | .local _ .vmem, ⟨29, _⟩ => ⟨S1x2x4x64x64, .f32⟩
  | .local _ .vmem, ⟨30, _⟩ => ⟨S64x256, .f32⟩
  | .local _ .vmem, ⟨31, _⟩ => ⟨S64x256, .f32⟩
  | .local _ .vmem, ⟨32, _⟩ => ⟨S64x256, .f32⟩
  | .local _ .vmem, ⟨33, _⟩ => ⟨S64x256, .f32⟩
  | .local _ .vmem, ⟨34, _⟩ => ⟨S1x2x4x64x64, .f32⟩
  | .local _ .vmem, ⟨35, _⟩ => ⟨S1x2x4x64x64, .f32⟩
  | .local _ .vmem, ⟨36, _⟩ => ⟨S256x256, .f32⟩
  | .local _ .vmem, ⟨37, _⟩ => ⟨S256x256, .f32⟩
  | _, _ => ⟨S3x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v3042 : BitVec 1 := Scalar.cmpi .eq arg2 c3_i32
  let v3043 : BitVec 32 := Scalar.extui v3042
  let c0_i32_917 : BitVec 32 := 0#32
  let v3044 : BitVec 1 := Scalar.cmpi .ne v3043 c0_i32_917
  v3044

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let c0_i32 : BitVec 32 := 0#32
  ![c1_i32.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let c0_i32 : BitVec 32 := 0#32
  ![c2_i32.toNat, v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  let c0_i32_0 : BitVec 32 := 0#32
  ![c0_i32.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c1_i32 : BitVec 32 := 1#32
  let c0_i32 : BitVec 32 := 0#32
  ![c1_i32.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c2_i32 : BitVec 32 := 2#32
  let c0_i32 : BitVec 32 := 0#32
  ![c2_i32.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_17 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S2x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S2x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S2x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x2x4x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x2x4x64x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]
-- ==== WkvRefIdeal.lean ====
abbrev S3x8192x1024 : Shape := ⟨3, ![3, 8192, 1024]⟩
abbrev S1x8192x256 : Shape := ⟨3, ![1, 8192, 256]⟩
abbrev S1x1024 : Shape := ⟨2, ![1, 1024]⟩
abbrev S1x2x1024 : Shape := ⟨3, ![1, 2, 1024]⟩
abbrev S1x2x64x1024 : Shape := ⟨4, ![1, 2, 64, 1024]⟩
abbrev S1x8192x1024 : Shape := ⟨3, ![1, 8192, 1024]⟩
abbrev S8192x1024 : Shape := ⟨2, ![8192, 1024]⟩
abbrev S32x256x16x64 : Shape := ⟨4, ![32, 256, 16, 64]⟩
abbrev S32x256x1024 : Shape := ⟨3, ![32, 256, 1024]⟩
abbrev S8192x256 : Shape := ⟨2, ![8192, 256]⟩
abbrev S32x256x256 : Shape := ⟨3, ![32, 256, 256]⟩
abbrev S32x256x64 : Shape := ⟨3, ![32, 256, 64]⟩
abbrev S1024 : Shape := ⟨1, ![1024]⟩
abbrev S1x1x1024 : Shape := ⟨3, ![1, 1, 1024]⟩
abbrev S_ : Shape := ⟨0, ![]⟩
abbrev S32x256x16 : Shape := ⟨3, ![32, 256, 16]⟩
abbrev S32x256x16x1 : Shape := ⟨4, ![32, 256, 16, 1]⟩
abbrev S1x1x64x1024 : Shape := ⟨4, ![1, 1, 64, 1024]⟩
abbrev S64x1024 : Shape := ⟨2, ![64, 1024]⟩
abbrev S1x32x256x16x64 : Shape := ⟨5, ![1, 32, 256, 16, 64]⟩
abbrev S2x32x256x16x64 : Shape := ⟨5, ![2, 32, 256, 16, 64]⟩
abbrev S256x2x32x16x64 : Shape := ⟨5, ![256, 2, 32, 16, 64]⟩
abbrev S2x32x16x64x64 : Shape := ⟨5, ![2, 32, 16, 64, 64]⟩
abbrev S1x2x32x16x64 : Shape := ⟨5, ![1, 2, 32, 16, 64]⟩
abbrev S2x32x16x64 : Shape := ⟨4, ![2, 32, 16, 64]⟩
abbrev S2x32x16x1x64 : Shape := ⟨5, ![2, 32, 16, 1, 64]⟩
abbrev S2x32x16x64x1 : Shape := ⟨5, ![2, 32, 16, 64, 1]⟩
abbrev S32x2x16x64x64 : Shape := ⟨5, ![32, 2, 16, 64, 64]⟩

abbrev nBuf : Space → Nat
  | .hbm => 276
  | .vmem => 0
  | .smem => 0
  | _ => 0

abbrev hbmTy0_0 (i : Nat) : BufTy := match i % 128 with
  | 0 => ⟨S3x8192x1024, .f32⟩
  | 1 => ⟨S1x8192x256, .f32⟩
  | 2 => ⟨S1x1024, .f32⟩
  | 3 => ⟨S1x1024, .f32⟩
  | 4 => ⟨S1x2x1024, .f32⟩
  | 5 => ⟨S1x2x64x1024, .f32⟩
  | 6 => ⟨S1x2x1024, .f32⟩
  | 7 => ⟨S1x2x64x1024, .f32⟩
  | 8 => ⟨S1x8192x1024, .f32⟩
  | 9 => ⟨S8192x1024, .f32⟩
  | 10 => ⟨S32x256x16x64, .f32⟩
  | 11 => ⟨S1x8192x1024, .f32⟩
  | 12 => ⟨S8192x1024, .f32⟩
  | 13 => ⟨S32x256x1024, .f32⟩
  | 14 => ⟨S1x8192x1024, .f32⟩
  | 15 => ⟨S8192x1024, .f32⟩
  | 16 => ⟨S32x256x16x64, .f32⟩
  | 17 => ⟨S8192x256, .f32⟩
  | 18 => ⟨S32x256x256, .f32⟩
  | 19 => ⟨S32x256x64, .f32⟩
  | 20 => ⟨S32x256x64, .f32⟩
  | 21 => ⟨S1024, .f32⟩
  | 22 => ⟨S1x1x1024, .f32⟩
  | 23 => ⟨S32x256x1024, .f32⟩
  | 24 => ⟨S32x256x1024, .f32⟩
  | 25 => ⟨S32x256x16x64, .f32⟩
  | 26 => ⟨S32x256x16x64, .f32⟩
  | 27 => ⟨S_, .f32⟩
  | 28 => ⟨S32x256x16, .f32⟩
  | 29 => ⟨S32x256x16x1, .f32⟩
  | 30 => ⟨S_, .f32⟩
  | 31 => ⟨S32x256x16x1, .f32⟩
  | 32 => ⟨S32x256x16x1, .f32⟩
  | 33 => ⟨S32x256x16x1, .f32⟩
  | 34 => ⟨S32x256x16x64, .f32⟩
  | 35 => ⟨S32x256x16x64, .f32⟩
  | 36 => ⟨S32x256x64, .f32⟩
  | 37 => ⟨S1x1x1024, .f32⟩
  | 38 => ⟨S1024, .f32⟩
  | 39 => ⟨S1x1x64x1024, .f32⟩
  | 40 => ⟨S64x1024, .f32⟩
  | 41 => ⟨S32x256x1024, .f32⟩
  | 42 => ⟨S1x1x1024, .f32⟩
  | 43 => ⟨S32x256x1024, .f32⟩
  | 44 => ⟨S32x256x1024, .f32⟩
  | 45 => ⟨S32x256x1024, .f32⟩
  | 46 => ⟨S_, .f32⟩
  | 47 => ⟨S32x256x1024, .f32⟩
  | 48 => ⟨S32x256x1024, .f32⟩
  | 49 => ⟨S32x256x1024, .f32⟩
  | 50 => ⟨S32x256x1024, .f32⟩
  | 51 => ⟨S32x256x1024, .i1⟩
  | 52 => ⟨S32x256x1024, .f32⟩
  | 53 => ⟨S32x256x1024, .f32⟩
  | 54 => ⟨S32x256x1024, .f32⟩
  | 55 => ⟨S32x256x1024, .f32⟩
  | 56 => ⟨S32x256x1024, .f32⟩
  | 57 => ⟨S32x256x1024, .f32⟩
  | 58 => ⟨S32x256x1024, .f32⟩
  | 59 => ⟨S32x256x1024, .f32⟩
  | 60 => ⟨S32x256x1024, .f32⟩
  | 61 => ⟨S_, .f32⟩
  | 62 => ⟨S32x256x1024, .f32⟩
  | 63 => ⟨S32x256x1024, .f32⟩
  | 64 => ⟨S32x256x1024, .f32⟩
  | 65 => ⟨S32x256x1024, .f32⟩
  | 66 => ⟨S32x256x1024, .f32⟩
  | 67 => ⟨S32x256x16x64, .f32⟩
  | 68 => ⟨S1x1x1024, .f32⟩
  | 69 => ⟨S1024, .f32⟩
  | 70 => ⟨S1x1x64x1024, .f32⟩
  | 71 => ⟨S64x1024, .f32⟩
  | 72 => ⟨S32x256x1024, .f32⟩
  | 73 => ⟨S1x1x1024, .f32⟩
  | 74 => ⟨S32x256x1024, .f32⟩
  | 75 => ⟨S32x256x1024, .f32⟩
  | 76 => ⟨S32x256x1024, .f32⟩
  | 77 => ⟨S32x256x1024, .f32⟩
  | 78 => ⟨S_, .f32⟩
  | 79 => ⟨S32x256x1024, .f32⟩
  | 80 => ⟨S32x256x1024, .f32⟩
  | 81 => ⟨S_, .f32⟩
  | 82 => ⟨S32x256x1024, .f32⟩
  | 83 => ⟨S32x256x1024, .f32⟩
  | 84 => ⟨S_, .f32⟩
  | 85 => ⟨S32x256x1024, .f32⟩
  | 86 => ⟨S32x256x1024, .f32⟩
  | 87 => ⟨S1024, .f32⟩
  | 88 => ⟨S1x1x1024, .f32⟩
  | 89 => ⟨S32x256x1024, .f32⟩
  | 90 => ⟨S32x256x1024, .f32⟩
  | 91 => ⟨S_, .f32⟩
  | 92 => ⟨S32x256x1024, .f32⟩
  | 93 => ⟨S32x256x1024, .f32⟩
  | 94 => ⟨S32x256x1024, .f32⟩
  | 95 => ⟨S32x256x16x64, .f32⟩
  | 96 => ⟨S32x256x16x64, .f32⟩
  | 97 => ⟨S32x256x16x64, .f32⟩
  | 98 => ⟨S1x1x1024, .f32⟩
  | 99 => ⟨S1024, .f32⟩
  | 100 => ⟨S1x1x64x1024, .f32⟩
  | 101 => ⟨S64x1024, .f32⟩
  | 102 => ⟨S32x256x1024, .f32⟩
  | 103 => ⟨S1x1x1024, .f32⟩
  | 104 => ⟨S32x256x1024, .f32⟩
  | 105 => ⟨S32x256x1024, .f32⟩
  | 106 => ⟨S32x256x1024, .f32⟩
  | 107 => ⟨S_, .f32⟩
  | 108 => ⟨S32x256x1024, .f32⟩
  | 109 => ⟨S32x256x1024, .f32⟩
  | 110 => ⟨S32x256x1024, .f32⟩
  | 111 => ⟨S32x256x1024, .f32⟩
  | 112 => ⟨S32x256x1024, .i1⟩
  | 113 => ⟨S32x256x1024, .f32⟩
  | 114 => ⟨S32x256x1024, .f32⟩
  | 115 => ⟨S32x256x1024, .f32⟩
  | 116 => ⟨S32x256x1024, .f32⟩
  | 117 => ⟨S32x256x1024, .f32⟩
  | 118 => ⟨S32x256x1024, .f32⟩
  | 119 => ⟨S32x256x1024, .f32⟩
  | 120 => ⟨S32x256x1024, .f32⟩
  | 121 => ⟨S32x256x1024, .f32⟩
  | 122 => ⟨S_, .f32⟩
  | 123 => ⟨S32x256x1024, .f32⟩
  | 124 => ⟨S32x256x1024, .f32⟩
  | 125 => ⟨S32x256x1024, .f32⟩
  | 126 => ⟨S32x256x1024, .f32⟩
  | 127 => ⟨S32x256x1024, .f32⟩
  | _ => ⟨S3x8192x1024, .f32⟩

abbrev hbmTy0_1 (i : Nat) : BufTy := match i % 128 with
  | 0 => ⟨S32x256x16x64, .f32⟩
  | 1 => ⟨S1x1x1024, .f32⟩
  | 2 => ⟨S1024, .f32⟩
  | 3 => ⟨S1x1x64x1024, .f32⟩
  | 4 => ⟨S64x1024, .f32⟩
  | 5 => ⟨S32x256x1024, .f32⟩
  | 6 => ⟨S1x1x1024, .f32⟩
  | 7 => ⟨S32x256x1024, .f32⟩
  | 8 => ⟨S32x256x1024, .f32⟩
  | 9 => ⟨S32x256x1024, .f32⟩
  | 10 => ⟨S32x256x1024, .f32⟩
  | 11 => ⟨S_, .f32⟩
  | 12 => ⟨S32x256x1024, .f32⟩
  | 13 => ⟨S32x256x1024, .f32⟩
  | 14 => ⟨S_, .f32⟩
  | 15 => ⟨S32x256x1024, .f32⟩
  | 16 => ⟨S32x256x1024, .f32⟩
  | 17 => ⟨S_, .f32⟩
  | 18 => ⟨S32x256x1024, .f32⟩
  | 19 => ⟨S32x256x1024, .f32⟩
  | 20 => ⟨S1024, .f32⟩
  | 21 => ⟨S1x1x1024, .f32⟩
  | 22 => ⟨S32x256x1024, .f32⟩
  | 23 => ⟨S32x256x1024, .f32⟩
  | 24 => ⟨S_, .f32⟩
  | 25 => ⟨S32x256x1024, .f32⟩
  | 26 => ⟨S32x256x1024, .f32⟩
  | 27 => ⟨S32x256x1024, .f32⟩
  | 28 => ⟨S32x256x16x64, .f32⟩
  | 29 => ⟨S32x256x16x64, .f32⟩
  | 30 => ⟨S32x256x16x64, .f32⟩
  | 31 => ⟨S32x256x16x64, .f32⟩
  | 32 => ⟨S1x32x256x16x64, .f32⟩
  | 33 => ⟨S1x32x256x16x64, .f32⟩
  | 34 => ⟨S2x32x256x16x64, .f32⟩
  | 35 => ⟨S256x2x32x16x64, .f32⟩
  | 36 => ⟨S32x256x16x64, .f32⟩
  | 37 => ⟨S1x32x256x16x64, .f32⟩
  | 38 => ⟨S1x32x256x16x64, .f32⟩
  | 39 => ⟨S2x32x256x16x64, .f32⟩
  | 40 => ⟨S256x2x32x16x64, .f32⟩
  | 41 => ⟨S32x256x16x64, .f32⟩
  | 42 => ⟨S1x32x256x16x64, .f32⟩
  | 43 => ⟨S1x32x256x16x64, .f32⟩
  | 44 => ⟨S2x32x256x16x64, .f32⟩
  | 45 => ⟨S256x2x32x16x64, .f32⟩
  | 46 => ⟨S32x256x16x64, .f32⟩
  | 47 => ⟨S1x32x256x16x64, .f32⟩
  | 48 => ⟨S1x32x256x16x64, .f32⟩
  | 49 => ⟨S2x32x256x16x64, .f32⟩
  | 50 => ⟨S256x2x32x16x64, .f32⟩
  | 51 => ⟨S32x256x16x64, .f32⟩
  | 52 => ⟨S1x32x256x16x64, .f32⟩
  | 53 => ⟨S1x32x256x16x64, .f32⟩
  | 54 => ⟨S2x32x256x16x64, .f32⟩
  | 55 => ⟨S256x2x32x16x64, .f32⟩
  | 56 => ⟨S32x256x16x64, .f32⟩
  | 57 => ⟨S1x32x256x16x64, .f32⟩
  | 58 => ⟨S1x32x256x16x64, .f32⟩
  | 59 => ⟨S2x32x256x16x64, .f32⟩
  | 60 => ⟨S256x2x32x16x64, .f32⟩
  | 61 => ⟨S_, .f32⟩
  | 62 => ⟨S2x32x16x64x64, .f32⟩
  | 63 => ⟨S_, .f32⟩
  | 64 => ⟨S256x2x32x16x64, .f32⟩
  | 65 => ⟨S_, .i32⟩
  | 66 => ⟨S256x2x32x16x64, .f32⟩
  | 67 => ⟨S256x2x32x16x64, .f32⟩
  | 68 => ⟨S256x2x32x16x64, .f32⟩
  | 69 => ⟨S256x2x32x16x64, .f32⟩
  | 70 => ⟨S256x2x32x16x64, .f32⟩
  | 71 => ⟨S256x2x32x16x64, .f32⟩
  | 72 => ⟨S_, .i32⟩
  | 73 => ⟨S2x32x16x64x64, .f32⟩
  | 74 => ⟨S256x2x32x16x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x2x32x16x64, .f32⟩
  | 82 => ⟨S2x32x16x64, .f32⟩
  | 83 => ⟨S_, .i32⟩
  | 84 => ⟨S_, .i32⟩
  | 85 => ⟨S_, .i32⟩
  | 86 => ⟨S_, .i32⟩
  | 87 => ⟨S1x2x32x16x64, .f32⟩
  | 88 => ⟨S2x32x16x64, .f32⟩
  | 89 => ⟨S_, .i32⟩
  | 90 => ⟨S_, .i32⟩
  | 91 => ⟨S_, .i32⟩
  | 92 => ⟨S_, .i32⟩
  | 93 => ⟨S1x2x32x16x64, .f32⟩
  | 94 => ⟨S2x32x16x64, .f32⟩
  | 95 => ⟨S_, .i32⟩
  | 96 => ⟨S_, .i32⟩
  | 97 => ⟨S_, .i32⟩
  | 98 => ⟨S_, .i32⟩
  | 99 => ⟨S1x2x32x16x64, .f32⟩
  | 100 => ⟨S2x32x16x64, .f32⟩
  | 101 => ⟨S_, .i32⟩
  | 102 => ⟨S_, .i32⟩
  | 103 => ⟨S_, .i32⟩
  | 104 => ⟨S_, .i32⟩
  | 105 => ⟨S1x2x32x16x64, .f32⟩
  | 106 => ⟨S2x32x16x64, .f32⟩
  | 107 => ⟨S_, .i32⟩
  | 108 => ⟨S_, .i32⟩
  | 109 => ⟨S_, .i32⟩
  | 110 => ⟨S_, .i32⟩
  | 111 => ⟨S1x2x32x16x64, .f32⟩
  | 112 => ⟨S2x32x16x64, .f32⟩
  | 113 => ⟨S2x32x16x64, .f32⟩
  | 114 => ⟨S2x32x16x64, .f32⟩
  | 115 => ⟨S2x32x16x1x64, .f32⟩
  | 116 => ⟨S2x32x16x64x64, .f32⟩
  | 117 => ⟨S2x32x16x64x64, .f32⟩
  | 118 => ⟨S2x32x16x64x1, .f32⟩
  | 119 => ⟨S2x32x16x1x64, .f32⟩
  | 120 => ⟨S2x32x16x64x64, .f32⟩
  | 121 => ⟨S2x32x16x64x64, .f32⟩
  | 122 => ⟨S2x32x16x64x64, .f32⟩
  | 123 => ⟨S2x32x16x64x64, .f32⟩
  | 124 => ⟨S2x32x16x64x1, .f32⟩
  | 125 => ⟨S2x32x16x1x64, .f32⟩
  | 126 => ⟨S2x32x16x64x64, .f32⟩
  | 127 => ⟨S2x32x16x64x64, .f32⟩
  | _ => ⟨S3x8192x1024, .f32⟩

abbrev hbmTy0_2 (i : Nat) : BufTy := match i % 128 with
  | 0 => ⟨S2x32x16x64x64, .f32⟩
  | 1 => ⟨S2x32x16x64x64, .f32⟩
  | 2 => ⟨S2x32x16x64, .f32⟩
  | 3 => ⟨S1x2x32x16x64, .f32⟩
  | 4 => ⟨S_, .i32⟩
  | 5 => ⟨S_, .i32⟩
  | 6 => ⟨S_, .i32⟩
  | 7 => ⟨S_, .i32⟩
  | 8 => ⟨S256x2x32x16x64, .f32⟩
  | 9 => ⟨S_, .i32⟩
  | 10 => ⟨S_, .i32⟩
  | 11 => ⟨S2x32x256x16x64, .f32⟩
  | 12 => ⟨S1x32x256x16x64, .f32⟩
  | 13 => ⟨S32x256x16x64, .f32⟩
  | 14 => ⟨S8192x1024, .f32⟩
  | 15 => ⟨S1x32x256x16x64, .f32⟩
  | 16 => ⟨S32x256x16x64, .f32⟩
  | 17 => ⟨S32x256x16x64, .f32⟩
  | 18 => ⟨S8192x1024, .f32⟩
  | 19 => ⟨S32x2x16x64x64, .f32⟩
  | _ => ⟨S3x8192x1024, .f32⟩

abbrev hbmTy (i : Nat) : BufTy := match i / 128 with
  | 0 => hbmTy0_0 i
  | 1 => hbmTy0_1 i
  | 2 => hbmTy0_2 i
  | _ => ⟨S3x8192x1024, .f32⟩

abbrev bufTy : (tb : Table) → Fin (tcTables nBuf tb) → BufTy
  | .hbm, ⟨i, _⟩ => hbmTy i
  | _, _ => ⟨S3x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v36 : Ref sig .tc := ⟨.hbm, 59, rfl⟩
abbrev main_v37 : Ref sig .tc := ⟨.hbm, 60, rfl⟩
abbrev main_cst_1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_2 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_v79 : Ref sig .tc := ⟨.hbm, 120, rfl⟩
abbrev main_v80 : Ref sig .tc := ⟨.hbm, 121, rfl⟩
abbrev main_cst_6 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_7 : Ref sig .tc := ⟨.hbm, 139, rfl⟩
abbrev main_v97 : Ref sig .tc := ⟨.hbm, 140, rfl⟩
abbrev main_v98 : Ref sig .tc := ⟨.hbm, 141, rfl⟩
abbrev main_cst_8 : Ref sig .tc := ⟨.hbm, 142, rfl⟩
abbrev main_v99 : Ref sig .tc := ⟨.hbm, 143, rfl⟩
abbrev main_v100 : Ref sig .tc := ⟨.hbm, 144, rfl⟩
abbrev main_cst_9 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_10 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_11 : Ref sig .tc := ⟨.hbm, 189, rfl⟩
abbrev main_v143 : Ref sig .tc := ⟨.hbm, 190, rfl⟩
abbrev main_cst_12 : Ref sig .tc := ⟨.hbm, 191, rfl⟩
abbrev main_v144 : Ref sig .tc := ⟨.hbm, 192, rfl⟩
abbrev main_c : Ref sig .tc := ⟨.hbm, 193, rfl⟩
abbrev main_v145_0 : Ref sig .tc := ⟨.hbm, 194, rfl⟩
abbrev main_v145_1 : Ref sig .tc := ⟨.hbm, 195, rfl⟩
abbrev main_v145_2 : Ref sig .tc := ⟨.hbm, 196, rfl⟩
abbrev main_v145_3 : Ref sig .tc := ⟨.hbm, 197, rfl⟩
abbrev main_v145_4 : Ref sig .tc := ⟨.hbm, 198, rfl⟩
abbrev main_v145_5 : Ref sig .tc := ⟨.hbm, 199, rfl⟩
abbrev main_v145_6 : Ref sig .tc := ⟨.hbm, 200, rfl⟩
abbrev main_v145_7 : Ref sig .tc := ⟨.hbm, 201, rfl⟩
abbrev main_v145_8 : Ref sig .tc := ⟨.hbm, 202, rfl⟩
abbrev main_while0c_c_21 : Ref sig .tc := ⟨.hbm, 203, rfl⟩
abbrev main_while0c_v155 : Ref sig .tc := ⟨.hbm, 204, rfl⟩
abbrev main_while0b_call8_c : Ref sig .tc := ⟨.hbm, 205, rfl⟩
abbrev main_while0b_call8_c_0 : Ref sig .tc := ⟨.hbm, 206, rfl⟩
abbrev main_while0b_call8_c_1 : Ref sig .tc := ⟨.hbm, 207, rfl⟩
abbrev main_while0b_call8_c_2 : Ref sig .tc := ⟨.hbm, 208, rfl⟩
abbrev main_while0b_call8_v0 : Ref sig .tc := ⟨.hbm, 209, rfl⟩
abbrev main_while0b_v155 : Ref sig .tc := ⟨.hbm, 210, rfl⟩
abbrev main_while0b_call9_c : Ref sig .tc := ⟨.hbm, 211, rfl⟩
abbrev main_while0b_call9_c_0 : Ref sig .tc := ⟨.hbm, 212, rfl⟩
abbrev main_while0b_call9_c_1 : Ref sig .tc := ⟨.hbm, 213, rfl⟩
abbrev main_while0b_call9_c_2 : Ref sig .tc := ⟨.hbm, 214, rfl⟩
abbrev main_while0b_call9_v0 : Ref sig .tc := ⟨.hbm, 215, rfl⟩
abbrev main_while0b_v156 : Ref sig .tc := ⟨.hbm, 216, rfl⟩
abbrev main_while0b_call10_c : Ref sig .tc := ⟨.hbm, 217, rfl⟩
abbrev main_while0b_call10_c_0 : Ref sig .tc := ⟨.hbm, 218, rfl⟩
abbrev main_while0b_call10_c_1 : Ref sig .tc := ⟨.hbm, 219, rfl⟩
abbrev main_while0b_call10_c_2 : Ref sig .tc := ⟨.hbm, 220, rfl⟩
abbrev main_while0b_call10_v0 : Ref sig .tc := ⟨.hbm, 221, rfl⟩
abbrev main_while0b_v157 : Ref sig .tc := ⟨.hbm, 222, rfl⟩
abbrev main_while0b_call11_c : Ref sig .tc := ⟨.hbm, 223, rfl⟩
abbrev main_while0b_call11_c_0 : Ref sig .tc := ⟨.hbm, 224, rfl⟩
abbrev main_while0b_call11_c_1 : Ref sig .tc := ⟨.hbm, 225, rfl⟩
abbrev main_while0b_call11_c_2 : Ref sig .tc := ⟨.hbm, 226, rfl⟩
abbrev main_while0b_call11_v0 : Ref sig .tc := ⟨.hbm, 227, rfl⟩
abbrev main_while0b_v158 : Ref sig .tc := ⟨.hbm, 228, rfl⟩
abbrev main_while0b_call12_c : Ref sig .tc := ⟨.hbm, 229, rfl⟩
abbrev main_while0b_call12_c_0 : Ref sig .tc := ⟨.hbm, 230, rfl⟩
abbrev main_while0b_call12_c_1 : Ref sig .tc := ⟨.hbm, 231, rfl⟩
abbrev main_while0b_call12_c_2 : Ref sig .tc := ⟨.hbm, 232, rfl⟩
abbrev main_while0b_call12_v0 : Ref sig .tc := ⟨.hbm, 233, rfl⟩
abbrev main_while0b_v159 : Ref sig .tc := ⟨.hbm, 234, rfl⟩
abbrev main_while0b_call13_c : Ref sig .tc := ⟨.hbm, 235, rfl⟩
abbrev main_while0b_call13_c_0 : Ref sig .tc := ⟨.hbm, 236, rfl⟩
abbrev main_while0b_call13_c_1 : Ref sig .tc := ⟨.hbm, 237, rfl⟩
abbrev main_while0b_call13_c_2 : Ref sig .tc := ⟨.hbm, 238, rfl⟩
abbrev main_while0b_call13_v0 : Ref sig .tc := ⟨.hbm, 239, rfl⟩
abbrev main_while0b_v160 : Ref sig .tc := ⟨.hbm, 240, rfl⟩
abbrev main_while0b_v161 : Ref sig .tc := ⟨.hbm, 241, rfl⟩
abbrev main_while0b_v162 : Ref sig .tc := ⟨.hbm, 242, rfl⟩
abbrev main_while0b_v163 : Ref sig .tc := ⟨.hbm, 243, rfl⟩
abbrev main_while0b_v164 : Ref sig .tc := ⟨.hbm, 244, rfl⟩
abbrev main_while0b_v165 : Ref sig .tc := ⟨.hbm, 245, rfl⟩
abbrev main_while0b_v166 : Ref sig .tc := ⟨.hbm, 246, rfl⟩
abbrev main_while0b_v167 : Ref sig .tc := ⟨.hbm, 247, rfl⟩
abbrev main_while0b_v168 : Ref sig .tc := ⟨.hbm, 248, rfl⟩
abbrev main_while0b_v169 : Ref sig .tc := ⟨.hbm, 249, rfl⟩
abbrev main_while0b_v170 : Ref sig .tc := ⟨.hbm, 250, rfl⟩
abbrev main_while0b_v171 : Ref sig .tc := ⟨.hbm, 251, rfl⟩
abbrev main_while0b_v172 : Ref sig .tc := ⟨.hbm, 252, rfl⟩
abbrev main_while0b_v173 : Ref sig .tc := ⟨.hbm, 253, rfl⟩
abbrev main_while0b_v174 : Ref sig .tc := ⟨.hbm, 254, rfl⟩
abbrev main_while0b_v175 : Ref sig .tc := ⟨.hbm, 255, rfl⟩
abbrev main_while0b_v176 : Ref sig .tc := ⟨.hbm, 256, rfl⟩
abbrev main_while0b_v177 : Ref sig .tc := ⟨.hbm, 257, rfl⟩
abbrev main_while0b_v178 : Ref sig .tc := ⟨.hbm, 258, rfl⟩
abbrev main_while0b_call14_v0 : Ref sig .tc := ⟨.hbm, 259, rfl⟩
abbrev main_while0b_call14_c : Ref sig .tc := ⟨.hbm, 260, rfl⟩
abbrev main_while0b_call14_c_0 : Ref sig .tc := ⟨.hbm, 261, rfl⟩
abbrev main_while0b_call14_c_1 : Ref sig .tc := ⟨.hbm, 262, rfl⟩
abbrev main_while0b_call14_c_2 : Ref sig .tc := ⟨.hbm, 263, rfl⟩
abbrev main_while0b_v179 : Ref sig .tc := ⟨.hbm, 264, rfl⟩
abbrev main_while0b_c_21 : Ref sig .tc := ⟨.hbm, 265, rfl⟩
abbrev main_while0b_v180 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩

abbrev nD : Nat := 1
abbrev τ : Topo := Topo.v7x

variable {F : FTy → Type} [FloatOps F]

abbrev main_while0_count : Scf.Loop 32 := ⟨0#32, 256#32, 1#32⟩
-- ==== MoeS.lean ====
abbrev S8192x1024 : Shape := ⟨2, ![8192, 1024]⟩
abbrev S8192x128 : Shape := ⟨2, ![8192, 128]⟩
abbrev S8x1x6144 : Shape := ⟨3, ![8, 1, 6144]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1024 : Shape := ⟨1, ![1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S1x1024 : Shape := ⟨2, ![1, 1024]⟩
abbrev S1024x1024 : Shape := ⟨2, ![1024, 1024]⟩
abbrev S1024x128 : Shape := ⟨2, ![1024, 128]⟩
abbrev S1x1x6144 : Shape := ⟨3, ![1, 1, 6144]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1x2048 : Shape := ⟨2, ![1, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x6144 : Shape := ⟨2, ![1, 6144]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x1x6144, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1024, .f32⟩
  | .hbm, ⟨9, _⟩ => ⟨S32x1024x2048, .f32⟩
  | .hbm, ⟨10, _⟩ => ⟨S32x1024x2048, .bf16⟩
  | .hbm, ⟨11, _⟩ => ⟨S32x2048, .f32⟩
  | .hbm, ⟨12, _⟩ => ⟨S32x1x2048, .f32⟩
  | .hbm, ⟨13, _⟩ => ⟨S32x1024x1024, .f32⟩
  | .hbm, ⟨14, _⟩ => ⟨S32x1024x1024, .bf16⟩
  | .hbm, ⟨15, _⟩ => ⟨S32x1024, .f32⟩
  | .hbm, ⟨16, _⟩ => ⟨S32x1x1024, .f32⟩
  | .hbm, ⟨17, _⟩ => ⟨S1x1024, .f32⟩
  | .hbm, ⟨18, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v225 : BitVec 1 := Scalar.cmpi .eq arg1 c31_i32
  let v226 : BitVec 32 := Scalar.extui v225
  let c0_i32_130 : BitVec 32 := 0#32
  let v227 : BitVec 1 := Scalar.cmpi .ne v226 c0_i32_130
  v227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeSRefIdeal.lean ====
abbrev S8192x1024 : Shape := ⟨2, ![8192, 1024]⟩
abbrev S8192x128 : Shape := ⟨2, ![8192, 128]⟩
abbrev S8x1x6144 : Shape := ⟨3, ![8, 1, 6144]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1024 : Shape := ⟨1, ![1024]⟩
abbrev S32x1024x2048 : Shape := ⟨3, ![32, 1024, 2048]⟩
abbrev S32x2048x8192 : Shape := ⟨3, ![32, 2048, 8192]⟩
abbrev S32x8192x2048 : Shape := ⟨3, ![32, 8192, 2048]⟩
abbrev S32x2048 : Shape := ⟨2, ![32, 2048]⟩
abbrev S32x1x2048 : Shape := ⟨3, ![32, 1, 2048]⟩
abbrev S32x8192x1024 : Shape := ⟨3, ![32, 8192, 1024]⟩
abbrev S_ : Shape := ⟨0, ![]⟩
abbrev S32x1024x1024 : Shape := ⟨3, ![32, 1024, 1024]⟩
abbrev S32x1024 : Shape := ⟨2, ![32, 1024]⟩
abbrev S32x1x1024 : Shape := ⟨3, ![32, 1, 1024]⟩
abbrev S8192x32 : Shape := ⟨2, ![8192, 32]⟩
abbrev S32x8192 : Shape := ⟨2, ![32, 8192]⟩
abbrev S32x8192x1 : Shape := ⟨3, ![32, 8192, 1]⟩
abbrev S2x1x1024 : Shape := ⟨3, ![2, 1, 1024]⟩
abbrev S2x4096x1024 : Shape := ⟨3, ![2, 4096, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S8x1x6144, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1024, .f32⟩
  | .hbm, ⟨9, _⟩ => ⟨S8192x1024, .f32⟩
  | .hbm, ⟨10, _⟩ => ⟨S32x1024x2048, .f32⟩
  | .hbm, ⟨11, _⟩ => ⟨S32x2048x8192, .f32⟩
  | .hbm, ⟨12, _⟩ => ⟨S32x8192x2048, .f32⟩
  | .hbm, ⟨13, _⟩ => ⟨S32x2048, .f32⟩
  | .hbm, ⟨14, _⟩ => ⟨S32x1x2048, .f32⟩
  | .hbm, ⟨15, _⟩ => ⟨S32x8192x2048, .f32⟩
  | .hbm, ⟨16, _⟩ => ⟨S32x8192x2048, .f32⟩
  | .hbm, ⟨17, _⟩ => ⟨S32x8192x1024, .f32⟩
  | .hbm, ⟨18, _⟩ => ⟨S_, .f32⟩
  | .hbm, ⟨19, _⟩ => ⟨S32x8192x1024, .f32⟩
  | .hbm, ⟨20, _⟩ => ⟨S32x8192x1024, .f32⟩
  | .hbm, ⟨21, _⟩ => ⟨S32x8192x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x8192x1024, .f32⟩
  | .hbm, ⟨26, _⟩ => ⟨S32x8192x1024, .f32⟩
  | .hbm, ⟨27, _⟩ => ⟨S_, .f32⟩
  | .hbm, ⟨28, _⟩ => ⟨S32x8192x1024, .f32⟩
  | .hbm, ⟨29, _⟩ => ⟨S32x8192x1024, .f32⟩
  | .hbm, ⟨30, _⟩ => ⟨S_, .f32⟩
  | .hbm, ⟨31, _⟩ => ⟨S32x8192x1024, .f32⟩
  | .hbm, ⟨32, _⟩ => ⟨S32x8192x1024, .f32⟩
  | .hbm, ⟨33, _⟩ => ⟨S32x8192x1024, .f32⟩
  | .hbm, ⟨34, _⟩ => ⟨S32x8192x1024, .f32⟩
  | .hbm, ⟨35, _⟩ => ⟨S_, .f32⟩
  | .hbm, ⟨36, _⟩ => ⟨S32x8192x1024, .f32⟩
  | .hbm, ⟨37, _⟩ => ⟨S32x8192x1024, .f32⟩
  | .hbm, ⟨38, _⟩ => ⟨S_, .f32⟩
  | .hbm, ⟨39, _⟩ => ⟨S32x8192x1024, .f32⟩
  | .hbm, ⟨40, _⟩ => ⟨S32x8192x1024, .f32⟩
  | .hbm, ⟨41, _⟩ => ⟨S32x8192x1024, .f32⟩
  | .hbm, ⟨42, _⟩ => ⟨S_, .f32⟩
  | .hbm, ⟨43, _⟩ => ⟨S32x8192x1024, .f32⟩
  | .hbm, ⟨44, _⟩ => ⟨S32x8192x1024, .f32⟩
  | .hbm, ⟨45, _⟩ => ⟨S32x8192x1024, .f32⟩
  | .hbm, ⟨46, _⟩ => ⟨S32x1024x1024, .f32⟩
  | .hbm, ⟨47, _⟩ => ⟨S32x8192x1024, .f32⟩
  | .hbm, ⟨48, _⟩ => ⟨S32x1024, .f32⟩
  | .hbm, ⟨49, _⟩ => ⟨S32x1x1024, .f32⟩
  | .hbm, ⟨50, _⟩ => ⟨S32x8192x1024, .f32⟩
  | .hbm, ⟨51, _⟩ => ⟨S32x8192x1024, .f32⟩
  | .hbm, ⟨52, _⟩ => ⟨S8192x32, .f32⟩
  | .hbm, ⟨53, _⟩ => ⟨S32x8192, .f32⟩
  | .hbm, ⟨54, _⟩ => ⟨S32x8192x1, .f32⟩
  | .hbm, ⟨55, _⟩ => ⟨S32x8192x1024, .f32⟩
  | .hbm, ⟨56, _⟩ => ⟨S32x8192x1024, .f32⟩
  | .hbm, ⟨57, _⟩ => ⟨S_, .f32⟩
  | .hbm, ⟨58, _⟩ => ⟨S8192x1024, .f32⟩
  | .hbm, ⟨59, _⟩ => ⟨S2x1x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== InProj.lean ====
abbrev S32x256x1024 : Shape := ⟨3, ![32, 256, 1024]⟩
abbrev S8x1x6144 : Shape := ⟨3, ![8, 1, 6144]⟩
abbrev S1x1024 : Shape := ⟨2, ![1, 1024]⟩
abbrev S1x1024x8448 : Shape := ⟨3, ![1, 1024, 8448]⟩
abbrev S8448 : Shape := ⟨1, ![8448]⟩
abbrev S1024x8448 : Shape := ⟨2, ![1024, 8448]⟩
abbrev S_ : Shape := ⟨0, ![]⟩
abbrev S8448x1 : Shape := ⟨2, ![8448, 1]⟩
abbrev S8192x1024 : Shape := ⟨2, ![8192, 1024]⟩
abbrev S1024 : Shape := ⟨1, ![1024]⟩
abbrev S8192x8448 : Shape := ⟨2, ![8192, 8448]⟩
abbrev S1024x1024 : Shape := ⟨2, ![1024, 1024]⟩
abbrev S1x1x6144 : Shape := ⟨3, ![1, 1, 6144]⟩
abbrev S1024x768 : Shape := ⟨2, ![1024, 768]⟩
abbrev S1024x1 : Shape := ⟨2, ![1024, 1]⟩
abbrev S1x6144 : Shape := ⟨2, ![1, 6144]⟩

abbrev nBuf : Space → Nat
  | .hbm => 18
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S8x1x6144, .f32⟩
  | .hbm, ⟨2, _⟩ => ⟨S1x1024, .f32⟩
  | .hbm, ⟨3, _⟩ => ⟨S1x1024x8448, .f32⟩
  | .hbm, ⟨4, _⟩ => ⟨S8448, .i32⟩
  | .hbm, ⟨5, _⟩ => ⟨S8448, .i1⟩
  | .hbm, ⟨6, _⟩ => ⟨S1024x8448, .f32⟩
  | .hbm, ⟨7, _⟩ => ⟨S_, .i32⟩
  | .hbm, ⟨8, _⟩ => ⟨S8448, .i32⟩
  | .hbm, ⟨9, _⟩ => ⟨S8448, .i32⟩
  | .hbm, ⟨10, _⟩ => ⟨S8448, .i32⟩
  | .hbm, ⟨11, _⟩ => ⟨S8448x1, .i32⟩
  | .hbm, ⟨12, _⟩ => ⟨S1024x8448, .f32⟩
  | .hbm, ⟨13, _⟩ => ⟨S1024x8448, .bf16⟩
  | .hbm, ⟨14, _⟩ => ⟨S8192x1024, .f32⟩
  | .hbm, ⟨15, _⟩ => ⟨S1024, .f32⟩
  | .hbm, ⟨16, _⟩ => ⟨S1x1024, .f32⟩
  | .hbm, ⟨17, _⟩ => ⟨S8192x8448, .f32⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x768, .bf16⟩
  | .local _ .vmem, ⟨6, _⟩ => ⟨S1024x768, .bf16⟩
  | .local _ .vmem, ⟨7, _⟩ => ⟨S1024x768, .f32⟩
  | .local _ .vmem, ⟨8, _⟩ => ⟨S1024x768, .f32⟩
  | .local _ .vmem, ⟨9, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S32x256x1024 : Shape := ⟨3, ![32, 256, 1024]⟩
abbrev S8x1x6144 : Shape := ⟨3, ![8, 1, 6144]⟩
abbrev S1x1024 : Shape := ⟨2, ![1, 1024]⟩
abbrev S1x1024x8448 : Shape := ⟨3, ![1, 1024, 8448]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1x1024 : Shape := ⟨3, ![1, 1, 1024]⟩
abbrev S1024x8448 : Shape := ⟨2, ![1024, 8448]⟩
abbrev S8192x8448 : Shape := ⟨2, ![8192, 8448]⟩
abbrev S8192x3072 : Shape := ⟨2, ![8192, 3072]⟩
abbrev S8192x2048 : Shape := ⟨2, ![8192, 2048]⟩
abbrev S8192x256 : Shape := ⟨2, ![8192, 256]⟩

abbrev nBuf : Space → Nat
  | .hbm => 40
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x1x6144, .f32⟩
  | .hbm, ⟨2, _⟩ => ⟨S1x1024, .f32⟩
  | .hbm, ⟨3, _⟩ => ⟨S1x1024x8448, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1024x8448, .f32⟩
  | .hbm, ⟨34, _⟩ => ⟨S8192x8448, .f32⟩
  | .hbm, ⟨35, _⟩ => ⟨S8192x3072, .f32⟩
  | .hbm, ⟨36, _⟩ => ⟨S8192x3072, .f32⟩
  | .hbm, ⟨37, _⟩ => ⟨S8192x2048, .f32⟩
  | .hbm, ⟨38, _⟩ => ⟨S8192x256, .f32⟩
  | .hbm, ⟨39, _⟩ => ⟨S8192x8448, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Modu.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModuRefIdeal.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024x6144, .f32⟩
  | .hbm, ⟨18, _⟩ => ⟨S8x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Shift.lean ====
abbrev S8192x8448 : Shape := ⟨2, ![8192, 8448]⟩
abbrev S1x3328 : Shape := ⟨2, ![1, 3328]⟩
abbrev S8448 : Shape := ⟨1, ![8448]⟩
abbrev S1024 : Shape := ⟨1, ![1024]⟩
abbrev S1x1024 : Shape := ⟨2, ![1, 1024]⟩
abbrev S3328 : Shape := ⟨1, ![3328]⟩
abbrev S_ : Shape := ⟨0, ![]⟩
abbrev S5120 : Shape := ⟨1, ![5120]⟩
abbrev S8448x1 : Shape := ⟨2, ![8448, 1]⟩
abbrev S1x8448 : Shape := ⟨2, ![1, 8448]⟩
abbrev S3x8192x1024 : Shape := ⟨3, ![3, 8192, 1024]⟩
abbrev S512x1024 : Shape := ⟨2, ![512, 1024]⟩
abbrev S1x512x1024 : Shape := ⟨3, ![1, 512, 1024]⟩

abbrev nBuf : Space → Nat
  | .hbm => 18
  | .vmem => 7
  | .smem => 0
  | _ => 0

abbrev bufTy : (tb : Table) → Fin (tcTables nBuf tb) → BufTy
  | .hbm, ⟨0, _⟩ => ⟨S8192x8448, .f32⟩
  | .hbm, ⟨1, _⟩ => ⟨S1x3328, .f32⟩
  | .hbm, ⟨2, _⟩ => ⟨S8448, .i32⟩
  | .hbm, ⟨3, _⟩ => ⟨S8448, .i1⟩
  | .hbm, ⟨4, _⟩ => ⟨S1024, .i32⟩
  | .hbm, ⟨5, _⟩ => ⟨S1x1024, .i32⟩
  | .hbm, ⟨6, _⟩ => ⟨S3328, .f32⟩
  | .hbm, ⟨7, _⟩ => ⟨S_, .f32⟩
  | .hbm, ⟨8, _⟩ => ⟨S5120, .f32⟩
  | .hbm, ⟨9, _⟩ => ⟨S8448, .f32⟩
  | .hbm, ⟨10, _⟩ => ⟨S_, .i32⟩
  | .hbm, ⟨11, _⟩ => ⟨S8448, .i32⟩
  | .hbm, ⟨12, _⟩ => ⟨S8448, .i32⟩
  | .hbm, ⟨13, _⟩ => ⟨S8448, .i32⟩
  | .hbm, ⟨14, _⟩ => ⟨S8448x1, .i32⟩
  | .hbm, ⟨15, _⟩ => ⟨S8448, .f32⟩
  | .hbm, ⟨16, _⟩ => ⟨S1x8448, .f32⟩
  | .hbm, ⟨17, _⟩ => ⟨S3x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .i32⟩
  | .local _ .vmem, ⟨5, _⟩ => ⟨S1x512x1024, .f32⟩
  | .local _ .vmem, ⟨6, _⟩ => ⟨S1x512x1024, .f32⟩
  | _, _ => ⟨S8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShiftRefIdeal.lean ====
abbrev S8192x8448 : Shape := ⟨2, ![8192, 8448]⟩
abbrev S1x3328 : Shape := ⟨2, ![1, 3328]⟩
abbrev S8192x1024 : Shape := ⟨2, ![8192, 1024]⟩
abbrev S32x256x1024 : Shape := ⟨3, ![32, 256, 1024]⟩
abbrev S32x255x512 : Shape := ⟨3, ![32, 255, 512]⟩
abbrev S_ : Shape := ⟨0, ![]⟩
abbrev S32x256x512 : Shape := ⟨3, ![32, 256, 512]⟩
abbrev S1x1024 : Shape := ⟨2, ![1, 1024]⟩
abbrev S1024 : Shape := ⟨1, ![1024]⟩
abbrev S1x1x1024 : Shape := ⟨3, ![1, 1, 1024]⟩
abbrev S1x8192x1024 : Shape := ⟨3, ![1, 8192, 1024]⟩
abbrev S3x8192x1024 : Shape := ⟨3, ![3, 8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x8448, .f32⟩
  | .hbm, ⟨1, _⟩ => ⟨S1x3328, .f32⟩
  | .hbm, ⟨2, _⟩ => ⟨S8192x1024, .f32⟩
  | .hbm, ⟨3, _⟩ => ⟨S32x256x1024, .f32⟩
  | .hbm, ⟨4, _⟩ => ⟨S32x255x512, .f32⟩
  | .hbm, ⟨5, _⟩ => ⟨S_, .i32⟩
  | .hbm, ⟨6, _⟩ => ⟨S_, .f32⟩
  | .hbm, ⟨7, _⟩ => ⟨S32x256x512, .f32⟩
  | .hbm, ⟨8, _⟩ => ⟨S32x255x512, .f32⟩
  | .hbm, ⟨9, _⟩ => ⟨S_, .i32⟩
  | .hbm, ⟨10, _⟩ => ⟨S_, .f32⟩
  | .hbm, ⟨11, _⟩ => ⟨S32x256x512, .f32⟩
  | .hbm, ⟨12, _⟩ => ⟨S32x256x1024, .f32⟩
  | .hbm, ⟨13, _⟩ => ⟨S1x1024, .f32⟩
  | .hbm, ⟨14, _⟩ => ⟨S1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S1x8192x1024, .f32⟩
  | .hbm, ⟨21, _⟩ => ⟨S8192x1024, .f32⟩
  | .hbm, ⟨22, _⟩ => ⟨S32x256x1024, .f32⟩
  | .hbm, ⟨23, _⟩ => ⟨S32x255x512, .f32⟩
  | .hbm, ⟨24, _⟩ => ⟨S_, .i32⟩
  | .hbm, ⟨25, _⟩ => ⟨S_, .f32⟩
  | .hbm, ⟨26, _⟩ => ⟨S32x256x512, .f32⟩
  | .hbm, ⟨27, _⟩ => ⟨S32x255x512, .f32⟩
  | .hbm, ⟨28, _⟩ => ⟨S_, .i32⟩
  | .hbm, ⟨29, _⟩ => ⟨S_, .f32⟩
  | .hbm, ⟨30, _⟩ => ⟨S32x256x512, .f32⟩
  | .hbm, ⟨31, _⟩ => ⟨S32x256x1024, .f32⟩
  | .hbm, ⟨32, _⟩ => ⟨S1x1024, .f32⟩
  | .hbm, ⟨33, _⟩ => ⟨S1024, .f32⟩
  | .hbm, ⟨34, _⟩ => ⟨S32x256x1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S1x8192x1024, .f32⟩
  | .hbm, ⟨40, _⟩ => ⟨S8192x1024, .f32⟩
  | .hbm, ⟨41, _⟩ => ⟨S32x256x1024, .f32⟩
  | .hbm, ⟨42, _⟩ => ⟨S32x255x512, .f32⟩
  | .hbm, ⟨43, _⟩ => ⟨S_, .i32⟩
  | .hbm, ⟨44, _⟩ => ⟨S_, .f32⟩
  | .hbm, ⟨45, _⟩ => ⟨S32x256x512, .f32⟩
  | .hbm, ⟨46, _⟩ => ⟨S32x255x512, .f32⟩
  | .hbm, ⟨47, _⟩ => ⟨S_, .i32⟩
  | .hbm, ⟨48, _⟩ => ⟨S_, .f32⟩
  | .hbm, ⟨49, _⟩ => ⟨S32x256x512, .f32⟩
  | .hbm, ⟨50, _⟩ => ⟨S32x256x1024, .f32⟩
  | .hbm, ⟨51, _⟩ => ⟨S1x1024, .f32⟩
  | .hbm, ⟨52, _⟩ => ⟨S1024, .f32⟩
  | .hbm, ⟨53, _⟩ => ⟨S32x256x1024, .f32⟩
  | .hbm, ⟨54, _⟩ => ⟨S1x1x1024, .f32⟩
  | .hbm, ⟨55, _⟩ => ⟨S32x256x1024, .f32⟩
  | .hbm, ⟨56, _⟩ => ⟨S32x256x1024, .f32⟩
  | .hbm, ⟨57, _⟩ => ⟨S32x256x1024, .f32⟩
  | .hbm, ⟨58, _⟩ => ⟨S1x8192x1024, .f32⟩
  | .hbm, ⟨59, _⟩ => ⟨S3x8192x1024, .f32⟩
  | _, _ => ⟨S8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_call2_v0 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call3_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_call4_v0 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_call5_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== ShiftS.lean ====
abbrev S8192x8448 : Shape := ⟨2, ![8192, 8448]⟩
abbrev S1x3328 : Shape := ⟨2, ![1, 3328]⟩
abbrev S8448 : Shape := ⟨1, ![8448]⟩
abbrev S256 : Shape := ⟨1, ![256]⟩
abbrev S1x256 : Shape := ⟨2, ![1, 256]⟩
abbrev S3328 : Shape := ⟨1, ![3328]⟩
abbrev S_ : Shape := ⟨0, ![]⟩
abbrev S5120 : Shape := ⟨1, ![5120]⟩
abbrev S8448x1 : Shape := ⟨2, ![8448, 1]⟩
abbrev S1x8448 : Shape := ⟨2, ![1, 8448]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 18
  | .vmem => 6
  | .smem => 0
  | _ => 0

abbrev bufTy : (tb : Table) → Fin (tcTables nBuf tb) → BufTy
  | .hbm, ⟨0, _⟩ => ⟨S8192x8448, .f32⟩
  | .hbm, ⟨1, _⟩ => ⟨S1x3328, .f32⟩
  | .hbm, ⟨2, _⟩ => ⟨S8448, .i32⟩
  | .hbm, ⟨3, _⟩ => ⟨S8448, .i1⟩
  | .hbm, ⟨4, _⟩ => ⟨S256, .i32⟩
  | .hbm, ⟨5, _⟩ => ⟨S1x256, .i32⟩
  | .hbm, ⟨6, _⟩ => ⟨S3328, .f32⟩
  | .hbm, ⟨7, _⟩ => ⟨S_, .f32⟩
  | .hbm, ⟨8, _⟩ => ⟨S5120, .f32⟩
  | .hbm, ⟨9, _⟩ => ⟨S8448, .f32⟩
  | .hbm, ⟨10, _⟩ => ⟨S_, .i32⟩
  | .hbm, ⟨11, _⟩ => ⟨S8448, .i32⟩
  | .hbm, ⟨12, _⟩ => ⟨S8448, .i32⟩
  | .hbm, ⟨13, _⟩ => ⟨S8448, .i32⟩
  | .hbm, ⟨14, _⟩ => ⟨S8448x1, .i32⟩
  | .hbm, ⟨15, _⟩ => ⟨S8448, .f32⟩
  | .hbm, ⟨16, _⟩ => ⟨S1x8448, .f32⟩
  | .hbm, ⟨17, _⟩ => ⟨S1x8192x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S1x256, .i32⟩
  | .local _ .vmem, ⟨4, _⟩ => ⟨S1x512x256, .f32⟩
  | .local _ .vmem, ⟨5, _⟩ => ⟨S1x512x256, .f32⟩
  | _, _ => ⟨S8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShiftSRefIdeal.lean ====
abbrev S8192x8448 : Shape := ⟨2, ![8192, 8448]⟩
abbrev S1x3328 : Shape := ⟨2, ![1, 3328]⟩
abbrev S8192x64 : Shape := ⟨2, ![8192, 64]⟩
abbrev S32x256x64 : Shape := ⟨3, ![32, 256, 64]⟩
abbrev S32x255x32 : Shape := ⟨3, ![32, 255, 32]⟩
abbrev S_ : Shape := ⟨0, ![]⟩
abbrev S32x256x32 : Shape := ⟨3, ![32, 256, 32]⟩
abbrev S1x64 : Shape := ⟨2, ![1, 64]⟩
abbrev S64 : Shape := ⟨1, ![64]⟩
abbrev S1x1x64 : Shape := ⟨3, ![1, 1, 64]⟩
abbrev S8192x128 : Shape := ⟨2, ![8192, 128]⟩
abbrev S32x256x128 : Shape := ⟨3, ![32, 256, 128]⟩
abbrev S32x255x64 : Shape := ⟨3, ![32, 255, 64]⟩
abbrev S1x128 : Shape := ⟨2, ![1, 128]⟩
abbrev S128 : Shape := ⟨1, ![128]⟩
abbrev S1x1x128 : Shape := ⟨3, ![1, 1, 128]⟩
abbrev S32x256x256 : Shape := ⟨3, ![32, 256, 256]⟩
abbrev S1x8192x256 : Shape := ⟨3, ![1, 8192, 256]⟩

abbrev nBuf : Space → Nat
  | .hbm => 58
  | .vmem => 0
  | .smem => 0
  | _ => 0

abbrev bufTy : (tb : Table) → Fin (tcTables nBuf tb) → BufTy
  | .hbm, ⟨0, _⟩ => ⟨S8192x8448, .f32⟩
  | .hbm, ⟨1, _⟩ => ⟨S1x3328, .f32⟩
  | .hbm, ⟨2, _⟩ => ⟨S8192x64, .f32⟩
  | .hbm, ⟨3, _⟩ => ⟨S32x256x64, .f32⟩
  | .hbm, ⟨4, _⟩ => ⟨S32x255x32, .f32⟩
  | .hbm, ⟨5, _⟩ => ⟨S_, .i32⟩
  | .hbm, ⟨6, _⟩ => ⟨S_, .f32⟩
  | .hbm, ⟨7, _⟩ => ⟨S32x256x32, .f32⟩
  | .hbm, ⟨8, _⟩ => ⟨S32x255x32, .f32⟩
  | .hbm, ⟨9, _⟩ => ⟨S_, .i32⟩
  | .hbm, ⟨10, _⟩ => ⟨S_, .f32⟩
  | .hbm, ⟨11, _⟩ => ⟨S32x256x32, .f32⟩
  | .hbm, ⟨12, _⟩ => ⟨S32x256x64, .f32⟩
  | .hbm, ⟨13, _⟩ => ⟨S1x64, .f32⟩
  | .hbm, ⟨14, _⟩ => ⟨S64, .f32⟩
  | .hbm, ⟨15, _⟩ => ⟨S32x256x64, .f32⟩
  | .hbm, ⟨16, _⟩ => ⟨S1x1x64, .f32⟩
  | .hbm, ⟨17, _⟩ => ⟨S32x256x64, .f32⟩
  | .hbm, ⟨18, _⟩ => ⟨S32x256x64, .f32⟩
  | .hbm, ⟨19, _⟩ => ⟨S32x256x64, .f32⟩
  | .hbm, ⟨20, _⟩ => ⟨S8192x64, .f32⟩
  | .hbm, ⟨21, _⟩ => ⟨S32x256x64, .f32⟩
  | .hbm, ⟨22, _⟩ => ⟨S32x255x32, .f32⟩
  | .hbm, ⟨23, _⟩ => ⟨S_, .i32⟩
  | .hbm, ⟨24, _⟩ => ⟨S_, .f32⟩
  | .hbm, ⟨25, _⟩ => ⟨S32x256x32, .f32⟩
  | .hbm, ⟨26, _⟩ => ⟨S32x255x32, .f32⟩
  | .hbm, ⟨27, _⟩ => ⟨S_, .i32⟩
  | .hbm, ⟨28, _⟩ => ⟨S_, .f32⟩
  | .hbm, ⟨29, _⟩ => ⟨S32x256x32, .f32⟩
  | .hbm, ⟨30, _⟩ => ⟨S32x256x64, .f32⟩
  | .hbm, ⟨31, _⟩ => ⟨S1x64, .f32⟩
  | .hbm, ⟨32, _⟩ => ⟨S64, .f32⟩
  | .hbm, ⟨33, _⟩ => ⟨S32x256x64, .f32⟩
  | .hbm, ⟨34, _⟩ => ⟨S1x1x64, .f32⟩
  | .hbm, ⟨35, _⟩ => ⟨S32x256x64, .f32⟩
  | .hbm, ⟨36, _⟩ => ⟨S32x256x64, .f32⟩
  | .hbm, ⟨37, _⟩ => ⟨S32x256x64, .f32⟩
  | .hbm, ⟨38, _⟩ => ⟨S8192x128, .f32⟩
  | .hbm, ⟨39, _⟩ => ⟨S32x256x128, .f32⟩
  | .hbm, ⟨40, _⟩ => ⟨S32x255x64, .f32⟩
  | .hbm, ⟨41, _⟩ => ⟨S_, .i32⟩
  | .hbm, ⟨42, _⟩ => ⟨S_, .f32⟩
  | .hbm, ⟨43, _⟩ => ⟨S32x256x64, .f32⟩
  | .hbm, ⟨44, _⟩ => ⟨S32x255x64, .f32⟩
  | .hbm, ⟨45, _⟩ => ⟨S_, .i32⟩
  | .hbm, ⟨46, _⟩ => ⟨S_, .f32⟩
  | .hbm, ⟨47, _⟩ => ⟨S32x256x64, .f32⟩
  | .hbm, ⟨48, _⟩ => ⟨S32x256x128, .f32⟩
  | .hbm, ⟨49, _⟩ => ⟨S1x128, .f32⟩
  | .hbm, ⟨50, _⟩ => ⟨S128, .f32⟩
  | .hbm, ⟨51, _⟩ => ⟨S32x256x128, .f32⟩
  | .hbm, ⟨52, _⟩ => ⟨S1x1x128, .f32⟩
  | .hbm, ⟨53, _⟩ => ⟨S32x256x128, .f32⟩
  | .hbm, ⟨54, _⟩ => ⟨S32x256x128, .f32⟩
  | .hbm, ⟨55, _⟩ => ⟨S32x256x128, .f32⟩
  | .hbm, ⟨56, _⟩ => ⟨S32x256x256, .f32⟩
  | .hbm, ⟨57, _⟩ => ⟨S1x8192x256, .f32⟩
  | _, _ => ⟨S8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_call2_v0 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call3_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_call4_v0 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_call5_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.MoeBlock.lean ====
module

public import proofs.«01_k».proof.Defs
public import proofs.«01_k».proof.Proof.Gen.KernelIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.Moe

/-- The gated activation of one expert's pre-activations `g` (gate) and `u` (up), in the order of operations of the
    kernel: `min g 7 · 1 / (1 + exp (0 − 1.702 · min g 7)) · (min 7 (max (−7) u) + 1)`. -/
def actAt (g u : EReal) : EReal :=
  min g (Ideal.ofBits .f32 0x40E00000#32)
      * Ideal.div 1 (1 + Ideal.exp (0 - Ideal.ofBits .f32 0x3FD9DB23#32 * min g (Ideal.ofBits .f32 0x40E00000#32)))
    * (min (Ideal.ofBits .f32 0x40E00000#32) (max (Ideal.ofBits .f32 0xC0E00000#32) u) + Ideal.ofBits .f32 0x3F800000#32)

/-- One output lane of one expert on one row `h`: the two up projections with their biases, the activation, the down
    projection with its bias. -/
def expertAt (h : Fin 1024 → EReal) (wg wu : Fin 1024 → Fin 1024 → EReal) (bg bu : Fin 1024 → EReal)
    (wd : Fin 1024 → EReal) (bd : EReal) : EReal :=
  ∑ f, actAt (∑ k, h k * wg k f + bg f) (∑ k, h k * wu k f + bu f) * wd f + bd

/-- The last step on one row, lane `d`: the residual `x + gt · acc`, divided by its root mean square, times the gain. -/
def finAt (x gt acc : Fin 1024 → EReal) (fg : EReal) (d : Fin 1024) : EReal :=
  (x d + gt d * acc d)
      * Ideal.rsqrt (Ideal.div (∑ k, (x k + gt k * acc k) * (x k + gt k * acc k)) (Ideal.ofBits .f32 0x44800000#32)
          + Ideal.ofBits .f32 0x358637BD#32)
    * fg

/-- The lane of the combine row that the kernel's masked sum picks out. -/
def pickAt (e : BitVec 32) (c : Fin 128 → EReal) : EReal :=
  ∑ l : Fin 128, Scalar.select (IntOp.cmpi .eq (BitVec.ofNat 32 l.val) e) (c l) 0

end Cert.Moe

namespace Cert.KernelIdeal.Moe

open Cert.KernelIdeal Cert.KernelIdeal.Gen Cert.Moe

/-- What the body stores for one sub-block of 256 rows, as a vector: the accumulator rows `A` plus the combine weights
    times the expert's output. -/
def step (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) : Vec Ideal S256x1024 .f32 :=
  k0_pay7 e (k0_pay5 b H Wu) (k0_pay6 b H Wg) (FloatOps.ofBits FTy.f32 1065353216#32) Wd bd C A

/-- The first sub-block's store read at an index. -/
theorem step_apply (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) (r : Fin 256) (d : Fin 1024) :
    step e b H Wg Wu Wd bd C A (ix2 r d) = A (ix2 r d) + pickAt e (fun l => C (ix2 r l))
      * expertAt (fun k => H (ix2 r k)) (fun k f => Wg (ix3 0 k f)) (fun k f => Wu (ix3 0 k f))
          (fun f => b (ix3 0 0 ⟨f.val, by omega⟩)) (fun f => b (ix3 0 0 ⟨1024 + f.val, by omega⟩)) (fun f => Wd (ix3 0 f d)) (bd (ix3 0 0 d)) := by
  unfold step pickAt expertAt actAt
  pointwise [k0_pay7, k0_pay6, k0_pay5, k0_pay4]

/-- The second sub-block's store is the same vector function. -/
theorem step_eq_1 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay12 (k0_pay10 (k0_pay4 b) H (k0_pay8 (k0_pay4 b) H Wg) (k0_pay9 Wu) Wd bd) (k0_pay11 e C) A = step e b H Wg Wu Wd bd C A := rfl

/-- The third sub-block's store is the same vector function. -/
theorem step_eq_2 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay15 e (k0_pay13 (k0_pay4 b) H Wg) (k0_pay14 (k0_pay4 b) H Wu) Wd bd C A = step e b H Wg Wu Wd bd C A := rfl

/-- The fourth sub-block's store is the same vector function. -/
theorem step_eq_3 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay1 (k0_pay18 (k0_pay4 b) (k0_pay16 (k0_pay4 b) H Wg) (k0_pay17 H Wu) Wd bd) (k0_pay19 e C) A = step e b H Wg Wu Wd bd C A := rfl

/-- What one grid point adds to the accumulator at an index: the row's combine weight for the point's expert times the
    expert's output, from the point's blocks. -/
def addAt (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (r d : Fin 1024) : EReal :=
  pickAt e (fun l => x1 (ix2 r l))
      * expertAt (fun k => x0 (ix2 r k)) (fun k f => x4 (ix3 0 k ⟨f.val, by omega⟩)) (fun k f => x4 (ix3 0 k ⟨1024 + f.val, by omega⟩))
          (fun f => x5 (ix3 0 0 ⟨f.val, by omega⟩)) (fun f => x5 (ix3 0 0 ⟨1024 + f.val, by omega⟩)) (fun f => x6 (ix3 0 f d)) (x7 (ix3 0 0 d))

/-- The accumulator after a point, over what it held. -/
def accAfter (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32) :
    Vec Ideal S1024x1024 .f32 :=
  fun j => A j + addAt e x0 x1 x4 x5 x6 x7 (j 0) (j 1)

/-- A sub-block's store over the rows it loads is the accumulator after the point, at the rows it writes. -/
theorem step_ld (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (o : ℕ) (h0 : ∀ a, (![o, 0] : Fin 2 → ℕ) a + S256x1024.size a ≤ S1024x1024.size a)
    (h1 : ∀ a, (![o, 0] : Fin 2 → ℕ) a + S256x128.size a ≤ S1024x128.size a)
    (r : Fin 256) (d : Fin 1024) (hr : o + r.val < 1024) :
    step e x5 (View.ld x0 (Rect.unit ![o, 0] ![256, 1024] h0)) (View.ld x4 (Rect.unit ![0, 0, 0] ![1, 1024, 1024] inb_S1x1024x2048_S1x1024x1024_0_0_0))
      (View.ld x4 (Rect.unit ![0, 0, 1024] ![1, 1024, 1024] inb_S1x1024x2048_S1x1024x1024_0_0_1024)) x6 x7
      (View.ld x1 (Rect.unit ![o, 0] ![256, 128] h1)) (View.ld A (Rect.unit ![o, 0] ![256, 1024] h0)) (ix2 r d)
    = accAfter e x0 x1 x4 x5 x6 x7 A (ix2 ⟨o + r.val, hr⟩ d) := by
  refine (step_apply e x5 _ _ _ x6 x7 _ _ r d).trans ?_
  unfold accAfter addAt pickAt expertAt actAt
  pointwise

/-- The same at the rectangle's own index. -/
theorem step_emb (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (o : ℕ) (h0 : ∀ a, (![o, 0] : Fin 2 → ℕ) a + S256x1024.size a ≤ S1024x1024.size a)
    (h1 : ∀ a, (![o, 0] : Fin 2 → ℕ) a + S256x128.size a ≤ S1024x128.size a)
    (x : (Rect.unit (s := S1024x1024) ![o, 0] ![256, 1024] h0).shape.Idx) :
    step e x5 (View.ld x0 (Rect.unit ![o, 0] ![256, 1024] h0)) (View.ld x4 (Rect.unit ![0, 0, 0] ![1, 1024, 1024] inb_S1x1024x2048_S1x1024x1024_0_0_0))
      (View.ld x4 (Rect.unit ![0, 0, 1024] ![1, 1024, 1024] inb_S1x1024x2048_S1x1024x1024_0_0_1024)) x6 x7
      (View.ld x1 (Rect.unit ![o, 0] ![256, 128] h1)) (View.ld A (Rect.unit ![o, 0] ![256, 1024] h0)) x
    = accAfter e x0 x1 x4 x5 x6 x7 A ((Rect.unit (s := S1024x1024) ![o, 0] ![256, 1024] h0).emb x) := by
  obtain ⟨r, d, rfl⟩ : ∃ (r : Fin 256) (d : Fin 1024), x = (ix2 r d : S256x1024.Idx) := ⟨x 0, x 1, by funext a; fin_cases a <;> rfl⟩
  have hr : o + r.val < 1024 := by have := h0 0; simp [S256x1024, S1024x1024] at this; omega
  refine (step_ld e x0 x1 x4 x5 x6 x7 A o h0 h1 r d hr).trans (congrArg _ ?_)
  funext a
  fin_cases a
  · exact Fin.ext (show o + r.val = o + 1 * r.val by omega)
  · exact Fin.ext (show d.val = 0 + 1 * d.val by omega)

/-- The four stores of a point, the last one first. -/
def pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32) :
    List (View.Piece (Elt Ideal) S1024x1024 .f32) :=
  [⟨Rect.unit ![768, 0] ![256, 1024] inb_S1024x1024_S256x1024_768_0,
      step e x5 (View.ld x0 (Rect.unit ![768, 0] ![256, 1024] inb_S1024x1024_S256x1024_768_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![768, 0] ![256, 128] inb_S1024x128_S256x128_768_0)) (View.ld A (Rect.unit ![768, 0] ![256, 1024] inb_S1024x1024_S256x1024_768_0))⟩,
   ⟨Rect.unit ![512, 0] ![256, 1024] inb_S1024x1024_S256x1024_512_0,
      step e x5 (View.ld x0 (Rect.unit ![512, 0] ![256, 1024] inb_S1024x1024_S256x1024_512_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![512, 0] ![256, 128] inb_S1024x128_S256x128_512_0)) (View.ld A (Rect.unit ![512, 0] ![256, 1024] inb_S1024x1024_S256x1024_512_0))⟩,
   ⟨Rect.unit ![256, 0] ![256, 1024] inb_S1024x1024_S256x1024_256_0,
      step e x5 (View.ld x0 (Rect.unit ![256, 0] ![256, 1024] inb_S1024x1024_S256x1024_256_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![256, 0] ![256, 128] inb_S1024x128_S256x128_256_0)) (View.ld A (Rect.unit ![256, 0] ![256, 1024] inb_S1024x1024_S256x1024_256_0))⟩,
   ⟨Rect.unit ![0, 0] ![256, 1024] inb_S1024x1024_S256x1024_0_0,
      step e x5 (View.ld x0 (Rect.unit ![0, 0] ![256, 1024] inb_S1024x1024_S256x1024_0_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![0, 0] ![256, 128] inb_S1024x128_S256x128_0_0)) (View.ld A (Rect.unit ![0, 0] ![256, 1024] inb_S1024x1024_S256x1024_0_0))⟩]

/-- The four stores cover the accumulator. -/
theorem cover_pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (y : S1024x1024.Idx) : ∃ p ∈ pieces e x0 x1 x4 x5 x6 x7 A, y ∈ p.1.set :=
  View.cover_of_tiledL (pieces e x0 x1 x4 x5 x6 x7 A) ![256, 1024] (by sl_kernel_rfl) y

/-- Whatever was stored before them, the four stores of a point leave the accumulator after the point. -/
theorem canon_pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (L' : List (View.Piece (Elt Ideal) S1024x1024 .f32)) :
    View.canon (pieces e x0 x1 x4 x5 x6 x7 A ++ L') = accAfter e x0 x1 x4 x5 x6 x7 A := by
  funext y
  refine View.canon_append_of_piecesOf (accAfter e x0 x1 x4 x5 x6 x7 A) L' (pieces e x0 x1 x4 x5 x6 x7 A)
    (And.intro (fun x => ?_) (And.intro (fun x => ?_) (And.intro (fun x => ?_) (And.intro (fun x => ?_) trivial)))) y ?_
  · exact step_emb e x0 x1 x4 x5 x6 x7 A 768 _ _ x
  · exact step_emb e x0 x1 x4 x5 x6 x7 A 512 _ _ x
  · exact step_emb e x0 x1 x4 x5 x6 x7 A 256 _ _ x
  · exact step_emb e x0 x1 x4 x5 x6 x7 A 0 _ _ x
  · exact cover_pieces e x0 x1 x4 x5 x6 x7 A y

/-- At the first point of a run the accumulator ends as `accAfter` over zeros. -/
theorem sout0_A_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = accAfter (BitVec.ofNat 32 (i 1).val) x0 x1 x4 x5 x6 x7 (k0_pay3 (F := Ideal)) := by
  frame_open
  simp (disch := decide) only [↓ View.readCov_skip, ↓ View.readCov_cons_toLoadRect, ↓ View.readCov_fill]
  frame_out
  exact canon_pieces (BitVec.ofNat 32 (i 1).val) x0 x1 x4 x5 x6 x7 (k0_pay3 (F := Ideal)) _

/-- At the middle point of a run the accumulator ends as `accAfter` over what it held. -/
theorem sout0_B_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accAfter (BitVec.ofNat 32 (i 1).val) x0 x1 x4 x5 x6 x7 xs0 := by
  frame_open
  simp (disch := decide) only [↓ View.readCov_skip, ↓ View.readCov_cons_toLoadRect, ↓ View.readCov_fill]
  frame_out
  exact canon_pieces (BitVec.ofNat 32 (i 1).val) x0 x1 x4 x5 x6 x7 xs0 []

/-- At the last point of a run the accumulator ends as `accAfter` over what it held. -/
theorem sout0_C_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accAfter (BitVec.ofNat 32 (i 1).val) x0 x1 x4 x5 x6 x7 xs0 := by
  frame_open
  simp (disch := decide) only [↓ View.readCov_skip, ↓ View.readCov_cons_toLoadRect, ↓ View.readCov_fill]
  frame_out
  exact canon_pieces (BitVec.ofNat 32 (i 1).val) x0 x1 x4 x5 x6 x7 xs0 []

/-- At the last point of a run the output block is the closing step over the accumulator after the point. -/
theorem out0_C_9_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 x3 x2 (accAfter (BitVec.ofNat 32 (i 1).val) x0 x1 x4 x5 x6 x7 xs0) x8 := by
  frame_open
  simp (disch := decide) only [↓ View.readCov_skip, ↓ View.readCov_cons_toLoadRect, ↓ View.readCov_fill]
  frame_out
  refine congrArg (fun z => k0_pay2 x3 x2 z x8) ?_
  rw [View.readCov_eq_canon_ld]
  refine (View.ld_unit_lit _ _ (by decide)).trans ?_
  · exact canon_pieces (BitVec.ofNat 32 (i 1).val) x0 x1 x4 x5 x6 x7 xs0 []
  · exact cover_pieces (BitVec.ofNat 32 (i 1).val) x0 x1 x4 x5 x6 x7 xs0

/-- The closing step read at an index. -/
theorem pay2_apply (x3 : Vec Ideal S1x1x6144 .f32) (x2 A : Vec Ideal S1024x1024 .f32) (x8 : Vec Ideal S1x1024 .f32) (r d : Fin 1024) :
    k0_pay2 x3 x2 A x8 (ix2 r d) = finAt (fun k => x2 (ix2 r k)) (fun k => x3 (ix3 0 0 ⟨5120 + k.val, by omega⟩)) (fun k => A (ix2 r k)) (x8 (ix2 0 d)) d := by
  unfold finAt
  pointwise [k0_pay2]

end Cert.KernelIdeal.Moe
end
-- ==== Proof.MoeFold.lean ====
module

public import proofs.«01_k».proof.Defs
public import proofs.«01_k».proof.Proof.Gen.KernelIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.MoeBlock

@[expose] public section

set_option maxRecDepth 16384

noncomputable section

open Idealize.ShloMosaic Idealize.ShloMosaic.TcCoe Idealize.SL.Sem

namespace Cert.KernelIdeal.Moe

open Cert.KernelIdeal Cert.KernelIdeal.Gen Cert.Moe

variable (m : (ℓ : Loc nD τ sig) → Buf (Elt Ideal) ℓ)

/-- The printed index maps: the row tile is the point over 32, the expert the point modulo 32. -/
theorem idx : ∀ t : Fin cfg0.N, win0_0.index t = ![t.val / 32, 0] ∧ win0_1.index t = ![t.val / 32, 0] ∧ win0_2.index t = ![t.val / 32, 0]
    ∧ win0_3.index t = ![0, 0, 0] ∧ win0_4.index t = ![t.val % 32, 0, 0] ∧ win0_5.index t = ![t.val % 32, 0, 0]
    ∧ win0_6.index t = ![t.val % 32, 0, 0] ∧ win0_7.index t = ![t.val % 32, 0, 0] ∧ win0_8.index t = ![0, 0] ∧ win0_9.index t = ![t.val / 32, 0] :=
  (by decide +kernel : ∀ t : Fin grid0.N, _)

/-- The expert coordinate of a point. -/
theorem coord1 : ∀ t : Fin cfg0.N, ((grid0.coords t) 1).val = t.val % 32 := (by decide +kernel : ∀ t : Fin grid0.N, _)

/-- What point `t` adds to the accumulator. -/
def term (c : Dev nD) (t : Fin cfg0.N) (j : S1024x1024.Idx) : EReal :=
  addAt (BitVec.ofNat 32 ((grid0.coords t) 1).val) (iblk m c 0 t) (iblk m c 1 t) (iblk m c 4 t) (iblk m c 5 t) (iblk m c 6 t) (iblk m c 7 t) (j 0) (j 1)

/-- At the first point of a run the accumulator is the point's contribution. -/
theorem acc_reset (c : Dev nD) (t : Fin cfg0.N) (h : t.val % 32 = 0) (j : S1024x1024.Idx) :
    (outsAt0 m c t.val t.isLt).2 j = 0 + term m c t j := by
  rw [outsAt0_A m c t h (by omega)]
  dsimp only
  rw [sout0_A_0_eq]
  have h0 : (k0_pay3 (F := Ideal)) j = 0 := by
    obtain ⟨r, d, rfl⟩ : ∃ (r : Fin 1024) (d : Fin 1024), j = ix2 r d := ⟨j 0, j 1, by funext a; fin_cases a <;> rfl⟩
    pointwise [k0_pay3]
  show (k0_pay3 (F := Ideal)) j + _ = _
  rw [h0]
  rfl

/-- At a later point of a run the accumulator grows by the point's contribution. -/
theorem acc_step (c : Dev nD) (t : Fin cfg0.N) (h : ¬t.val % 32 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 32 = 31
  · rw [outsAt0_C m c t h h1]
    dsimp only
    rw [sout0_C_0_eq]
    rfl
  · rw [outsAt0_B m c t h h1]
    dsimp only
    rw [sout0_B_0_eq]
    rfl

/-- At the last point of a run the accumulator is the sum over the 32 experts. -/
theorem acc_flush (c : Dev nD) (t : Fin cfg0.N) (h : t.val % 32 = 32 - 1) (j : S1024x1024.Idx) :
    (outsAt0 m c t.val t.isLt).2 j
      = 0 + ∑ s : Fin 32, term m c ⟨32 * (t.val / 32) + s.val, Pipeline.run_point_lt_of_flush t h s⟩ j :=
  Pipeline.eq_sum_fin_of_reset_step_apply_of_flush (fun n h => (outsAt0 m c n h).2) 32 (fun _ => (0 : EReal)) (term m c)
    (acc_reset m c) (acc_step m c) t h j

/-- The output block at the last point of a run: the closing step over the accumulator. -/
theorem out_flush (c : Dev nD) (t : Fin cfg0.N) (h : t.val % 32 = 31) :
    (outsAt0 m c t.val t.isLt).1 = k0_pay2 (iblk m c 3 t) (iblk m c 2 t) (outsAt0 m c t.val t.isLt).2 (iblk m c 8 t) := by
  rw [outsAt0_C m c t (by omega) h]
  dsimp only
  rw [sout0_C_0_eq, out0_C_9_eq]

/-- The whole result from the call's arguments: per row the combine-weighted sum of the experts' outputs, added to the
    residual under the row's gate, normalised. -/
def G (h2 : Vec Ideal S8192x1024 .bf16) (comb : Vec Ideal S8192x128 .f32) (x1 : Vec Ideal S8192x1024 .f32) (mod3 : Vec Ideal S8x1x6144 .f32)
    (wgu : Vec Ideal S1x32x1024x2048 .f32) (bgu : Vec Ideal S1x32x2048 .f32) (wd : Vec Ideal S1x32x1024x1024 .f32)
    (bd : Vec Ideal S1x32x1024 .f32) (fg : Vec Ideal S1024 .f32) (i : S8192x1024.Idx) : EReal :=
  finAt (fun k => x1 (ix2 (i 0) k)) (fun k => mod3 (ix3 0 0 ⟨5120 + k.val, by omega⟩))
    (fun k => ∑ e : Fin 32, comb (ix2 (i 0) ⟨e.val, by omega⟩)
      * expertAt (fun k => h2 (ix2 (i 0) k)) (fun k f => wgu (ix4 0 e k ⟨f.val, by omega⟩)) (fun k f => wgu (ix4 0 e k ⟨1024 + f.val, by omega⟩))
          (fun f => bgu (ix3 0 e ⟨f.val, by omega⟩)) (fun f => bgu (ix3 0 e ⟨1024 + f.val, by omega⟩)) (fun f => wd (ix4 0 e f k)) (bd (ix3 0 e k)))
    (fg (ix1 (i 1))) (i 1)

/-- The masked lane sum picks the expert's lane. -/
theorem pickAt_eq (e : Fin 32) (c : Fin 128 → EReal) : pickAt (BitVec.ofNat 32 e.val) c = c ⟨e.val, by omega⟩ := by
  unfold pickAt
  rw [Finset.sum_eq_single (⟨e.val, by omega⟩ : Fin 128)]
  · simp [Scalar.select, IntOp.cmpi]
  · intro l _ hl
    have : ¬ BitVec.ofNat 32 l.val = BitVec.ofNat 32 e.val := by
      intro h
      apply hl
      have h' := congrArg BitVec.toNat h
      simp only [BitVec.toNat_ofNat] at h'
      exact Fin.ext (by have := l.isLt; have := e.isLt; show l.val = e.val; omega)
    have h2 : (BitVec.ofNat 32 l.val == BitVec.ofNat 32 e.val) = false := by simpa using this
    simp [Scalar.select, IntOp.cmpi, h2]
  · intro h; exact absurd (Finset.mem_univ _) h

theorem rd0 (c : Dev nD) (t : Fin cfg0.N) (r k : Fin 1024) :
    iblk m c 0 t (ix2 r k) = m ((c : Thread nD τ).loc main_arg0) (ix2 ⟨1024 * (t.val / 32) + r.val, by have := t.isLt; have : cfg0.N = 256 := N_0; omega⟩ k) := by
  blk_point [iblk, V, idx t]

theorem rd1 (c : Dev nD) (t : Fin cfg0.N) (r : Fin 1024) (k : Fin 128) :
    iblk m c 1 t (ix2 r k) = m ((c : Thread nD τ).loc main_arg1) (ix2 ⟨1024 * (t.val / 32) + r.val, by have := t.isLt; have : cfg0.N = 256 := N_0; omega⟩ k) := by
  blk_point [iblk, V, idx t]

theorem rd2 (c : Dev nD) (t : Fin cfg0.N) (r k : Fin 1024) :
    iblk m c 2 t (ix2 r k) = m ((c : Thread nD τ).loc main_arg2) (ix2 ⟨1024 * (t.val / 32) + r.val, by have := t.isLt; have : cfg0.N = 256 := N_0; omega⟩ k) := by
  blk_point [iblk, V, idx t]

theorem rd3 (c : Dev nD) (t : Fin cfg0.N) (k : Fin 6144) :
    iblk m c 3 t (ix3 0 0 k) = m ((c : Thread nD τ).loc main_arg3) (ix3 0 0 k) := by
  blk_point [iblk, V, idx t]

theorem rd4 (c : Dev nD) (t : Fin cfg0.N) (k : Fin 1024) (f : Fin 2048) :
    iblk m c 4 t (ix3 0 k f) = m ((c : Thread nD τ).loc main_arg4) (ix4 0 ⟨t.val % 32, by omega⟩ k f) := by
  blk_point [iblk, V, idx t]

theorem rd5 (c : Dev nD) (t : Fin cfg0.N) (f : Fin 2048) :
    iblk m c 5 t (ix3 0 0 f) = m ((c : Thread nD τ).loc main_arg5) (ix3 0 ⟨t.val % 32, by omega⟩ f) := by
  blk_point [iblk, V, idx t]

theorem rd6 (c : Dev nD) (t : Fin cfg0.N) (k f : Fin 1024) :
    iblk m c 6 t (ix3 0 k f) = m ((c : Thread nD τ).loc main_arg6) (ix4 0 ⟨t.val % 32, by omega⟩ k f) := by
  blk_point [iblk, V, idx t]

theorem rd7 (c : Dev nD) (t : Fin cfg0.N) (f : Fin 1024) :
    iblk m c 7 t (ix3 0 0 f) = m ((c : Thread nD τ).loc main_arg7) (ix3 0 ⟨t.val % 32, by omega⟩ f) := by
  blk_point [iblk, V, idx t]

theorem rd8 (c : Dev nD) (t : Fin cfg0.N) (f : Fin 1024) :
    iblk m c 8 t (ix2 0 f) = m ((c : Thread nD τ).loc main_arg8) (ix1 f) := by
  blk_point [iblk, V, idx t]

/-- A run's contribution from the arguments' own entries. -/
theorem term_eq (c : Dev nD) (t : Fin cfg0.N) (h : t.val % 32 = 32 - 1) (s : Fin 32) (r d : Fin 1024) :
    term m c ⟨32 * (t.val / 32) + s.val, Pipeline.run_point_lt_of_flush t h s⟩ (ix2 r d)
      = (show EReal from m ((c : Thread nD τ).loc main_arg1) (ix2 ⟨1024 * (t.val / 32) + r.val, by have := t.isLt; have : cfg0.N = 256 := N_0; omega⟩ ⟨s.val, by omega⟩))
        * expertAt (fun k => m ((c : Thread nD τ).loc main_arg0) (ix2 ⟨1024 * (t.val / 32) + r.val, by have := t.isLt; have : cfg0.N = 256 := N_0; omega⟩ k))
          (fun k f => m ((c : Thread nD τ).loc main_arg4) (ix4 0 s k ⟨f.val, by omega⟩)) (fun k f => m ((c : Thread nD τ).loc main_arg4) (ix4 0 s k ⟨1024 + f.val, by omega⟩))
          (fun f => m ((c : Thread nD τ).loc main_arg5) (ix3 0 s ⟨f.val, by omega⟩)) (fun f => m ((c : Thread nD τ).loc main_arg5) (ix3 0 s ⟨1024 + f.val, by omega⟩))
          (fun f => m ((c : Thread nD τ).loc main_arg6) (ix4 0 s f d)) (m ((c : Thread nD τ).loc main_arg7) (ix3 0 s d)) := by
  have hd : (32 * (t.val / 32) + s.val) / 32 = t.val / 32 := by have := s.isLt; omega
  have hm : (32 * (t.val / 32) + s.val) % 32 = s.val := by have := s.isLt; omega
  show addAt _ _ _ _ _ _ _ r d = _
  unfold addAt
  simp only [rd0, rd1, rd4, rd5, rd6, rd7, coord1, hd, hm, pickAt_eq]

/-- The result array after the run is the closed form over the arguments. -/
theorem final (c : Dev nD) : (dats m 0 c).arrAt 9 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_covers 9 _ (by decide +kernel) fun t hf y => ?_
  have ht : t.val % 32 = 31 := (flush0_9 t).mp hf
  blk_simp
  rw [after0_9, out_flush m c t ht]
  obtain ⟨r, d, rfl⟩ : ∃ (r d : Fin 1024), y = (ix2 r d : S1024x1024.Idx) := ⟨y 0, y 1, by funext a; fin_cases a <;> rfl⟩
  have hN : t.val < 256 := lt_of_lt_of_eq t.isLt N_0
  have hemb : (win0_9.blk t).view.emb (ix2 r d) = (ix2 ⟨1024 * (t.val / 32) + r.val, by omega⟩ d : S8192x1024.Idx) := by
    blk_ext [idx t]
  rw [hemb]
  refine (pay2_apply _ _ _ _ r d).trans ?_
  unfold G
  simp only [acc_flush m c t ht, term_eq m c t ht, rd2, rd3, rd8, zero_add]
  rfl

end Cert.KernelIdeal.Moe
end
-- ==== Proof.MoeRef.lean ====
module

public import proofs.«01_k».proof.Defs
public import proofs.«01_k».proof.Proof.Gen.KernelIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.MoeFold
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Moe

open Cert.ReferenceIdeal Cert.ReferenceIdeal.Gen Cert.ReferenceIdeal.Read Cert.Moe

variable (x0 : Vec Ideal S8192x1024 .bf16) (x1 : Vec Ideal S8192x128 .f32) (x2 : Vec Ideal S8192x1024 .f32) (x3 : Vec Ideal S8x1x6144 .f32)
  (x4 : Vec Ideal S1x32x1024x2048 .f32) (x5 : Vec Ideal S1x32x2048 .f32) (x6 : Vec Ideal S1x32x1024x1024 .f32)
  (x7 : Vec Ideal S1x32x1024 .f32) (x8 : Vec Ideal S1024 .f32)

/-- The pre-activations: the up projection of every expert with its bias. -/
theorem v7_at (e : Fin 32) (r : Fin 8192) (f : Fin 2048) :
    val_main_v7 (F := Ideal) x0 x4 x5 (ix3 e r f) = ∑ k : Fin 1024, x0 (ix2 r k) * x4 (ix4 0 e k f) + x5 (ix3 0 e f) := by
  pointwise [val_main_v7, val_main_v6, val_main_v5, val_main_v4, val_main_v3, val_main_v2, val_main_v1, val_main_v0]
  exact congrArg (· + _) (Finset.sum_congr rfl fun _ _ => mul_comm _ _)

/-- The gated activation. -/
theorem v24_at (e : Fin 32) (r : Fin 8192) (f : Fin 1024) :
    val_main_v24 (F := Ideal) x0 x4 x5 (ix3 e r f) = actAt (val_main_v7 (F := Ideal) x0 x4 x5 (ix3 e r ⟨f.val, by omega⟩))
      (val_main_v7 (F := Ideal) x0 x4 x5 (ix3 e r ⟨1024 + f.val, by omega⟩)) := by
  unfold actAt
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_cst, val_main_cst_2, val_main_cst_3, val_main_cst_4, val_main_cst_5, val_main_call0_v4,
    val_main_call0_v3, val_main_call0_v2, val_main_call0_v1, val_main_call0_v0, val_main_cst_0, val_main_cst_1, id]
  simp only [zero_sub]

/-- One expert's output. -/
theorem v30_at (e : Fin 32) (r : Fin 8192) (d : Fin 1024) :
    val_main_v30 (F := Ideal) x0 x4 x5 x6 x7 (ix3 e r d) = ∑ f : Fin 1024, val_main_v24 (F := Ideal) x0 x4 x5 (ix3 e r f) * x6 (ix4 0 e f d) + x7 (ix3 0 e d) := by
  pointwise [val_main_v30, val_main_v29, val_main_v28, val_main_v27, val_main_v26, val_main_v25]

/-- The combine-weighted sum over the experts. -/
theorem v36_at (r : Fin 8192) (d : Fin 1024) :
    val_main_v36 (F := Ideal) x0 x1 x4 x5 x6 x7 (ix2 r d) = ∑ e : Fin 32, x1 (ix2 r ⟨e.val, by omega⟩) * val_main_v30 (F := Ideal) x0 x4 x5 x6 x7 (ix3 e r d) := by
  pointwise [val_main_v36, val_main_v35, val_main_v34, val_main_v33, val_main_v32, val_main_v31, val_main_cst_6]

/-- The residual. -/
theorem v41_at (r : Fin 8192) (d : Fin 1024) :
    val_main_v41 (F := Ideal) x0 x1 x2 x3 x4 x5 x6 x7 (ix2 r d) = x2 (ix2 r d) + x3 (ix3 0 0 ⟨5120 + d.val, by omega⟩) * val_main_v36 (F := Ideal) x0 x1 x4 x5 x6 x7 (ix2 r d) := by
  pointwise [val_main_v41, val_main_v40, val_main_v39, val_main_v38, val_main_v37]

/-- The closing normalisation. -/
theorem v54_at (r : Fin 8192) (d : Fin 1024) :
    val_main_v54 (F := Ideal) x0 x1 x2 x3 x4 x5 x6 x7 x8 (ix2 r d) = finAt (fun k => x2 (ix2 r k)) (fun k => x3 (ix3 0 0 ⟨5120 + k.val, by omega⟩))
      (fun k => val_main_v36 (F := Ideal) x0 x1 x4 x5 x6 x7 (ix2 r k)) (x8 (ix1 d)) d := by
  unfold finAt
  simp only [← v41_at x0 x1 x2 x3 x4 x5 x6 x7 r]
  pointwise [val_main_v54, val_main_v53, val_main_v52, val_main_v51, val_main_v50, val_main_v49, val_main_v48, val_main_v47, val_main_v46, val_main_v45,
    val_main_v44, val_main_v43, val_main_v42, val_main_cst_7, val_main_cst_8, val_main_cst_9]

/-- The reference's result is the closed form over the arguments. -/
theorem v54_eq : val_main_v54 (F := Ideal) x0 x1 x2 x3 x4 x5 x6 x7 x8 = Cert.KernelIdeal.Moe.G x0 x1 x2 x3 x4 x5 x6 x7 x8 := by
  funext i
  obtain ⟨r, d, rfl⟩ : ∃ (r : Fin 8192) (d : Fin 1024), i = (ix2 r d : S8192x1024.Idx) := ⟨i 0, i 1, by funext a; fin_cases a <;> rfl⟩
  refine (v54_at x0 x1 x2 x3 x4 x5 x6 x7 x8 r d).trans ?_
  unfold Cert.KernelIdeal.Moe.G expertAt
  simp only [v36_at, v30_at, v24_at, v7_at]
  rfl

end Cert.ReferenceIdeal.Moe
end
-- ==== Proof.MoeClaim.lean ====
module

public import proofs.«01_k».proof.Defs
public import proofs.«01_k».proof.Proof.Gen.KernelIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import proofs.«01_k».proof.Proof.MoeFold
public import proofs.«01_k».proof.Proof.MoeRef
public import proofs.«01_k».proof.Proof.Gen.Kernel.Frame

@[expose] public section

set_option maxRecDepth 16384

noncomputable section

open Idealize.ShloMosaic Idealize.ShloMosaic.TcCoe Idealize.SL.Sem

namespace Cert.Proof.MoeClaims

/-- The kernel's run at words: terminates, arguments unchanged, counters zero. -/
theorem frame_kernel : Cert.quiescent_Kernel := fun m g _ => Cert.Kernel.Gen.frame m g

/-- The same at the ideal reading. -/
theorem frame_kernelIdeal : Cert.quiescent_KernelIdeal := fun m g _ => Cert.KernelIdeal.Gen.frame m g

/-- The reference's run: terminates, arguments unchanged, and there are no counters. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The ideal pass rewrote nothing. -/
theorem preserves : Cert.preserves_Kernel_KernelIdeal := trivial

/-- At the ideal reading the kernel's result and the reference's are the closed form of arguments that agree. -/
theorem algebraic : Cert.algebraic_KernelIdeal_ReferenceIdeal := by
  intro m ρ m' ρ' _ hag
  refine ⟨fun c => (Cert.KernelIdeal.Gen.dats m 0 c).arrAt 9 Cert.KernelIdeal.cfg0.N, ?_, ?_⟩
  · exact (θ_run Cert.KernelIdeal.defs _ _).mono (fun _ h c => ⟨(h c).1.trans (Cert.KernelIdeal.Value.final9 m c).symm, (h c).2⟩)
      (Cert.KernelIdeal.Value.run (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v54_eq, Cert.ReferenceIdeal.Moe.v54_eq]
    obtain ⟨h0, h1, h2, h3, h4, h5, h6, h7, h8⟩ := hag c
    rw [h0, h1, h2, h3, h4, h5, h6, h7, h8]
    exact (Cert.KernelIdeal.Moe.final m c).symm

end Cert.Proof.MoeClaims
end
-- ==== Proof.WkvFrame.lean ====
module

public import proofs.«01_k».proof.Defs
public import proofs.«01_k».proof.Proof.Gen.WkvIdeal.Frame
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import proofs.«01_k».proof.Proof.Gen.WkvRefIdeal.Run
public import proofs.«01_k».proof.Proof.Gen.Wkv.Frame

@[expose] public section

set_option maxRecDepth 16384

noncomputable section

open Idealize.ShloMosaic Idealize.ShloMosaic.TcCoe Idealize.SL.Sem

namespace Cert.Proof.WkvClaims

/-- The recurrence kernel's run at words: terminates, arguments unchanged, counters zero. -/
theorem frame_wkv : Cert.quiescent_Wkv := fun m g _ => Cert.Wkv.Gen.frame m g

/-- The same at the ideal reading. -/
theorem frame_wkvIdeal : Cert.quiescent_WkvIdeal := fun m g _ => Cert.WkvIdeal.Gen.frame m g

/-- The reference's run: terminates, arguments unchanged, and there are no counters. -/
theorem frame_wkvRefIdeal : Cert.quiescent_WkvRefIdeal := fun m g _ =>
  (θ_run Cert.WkvRefIdeal.defs _ _).mono (fun r h => ⟨fun c => (h c).2.2.2, sem_eq_zero_of_no_sems (by decide) r.2⟩)
    (Cert.WkvRefIdeal.Value.run (F := Ideal) m g)

/-- The ideal pass rewrote nothing. -/
theorem preserves : Cert.preserves_Wkv_WkvIdeal := trivial

end Cert.Proof.WkvClaims
end
-- ==== Proof.WkvReal.lean ====
module

public import Idealize.ShloMosaic.PureOps.Ideal
public import Mathlib.LinearAlgebra.Matrix.NonsingularInverse
public import Mathlib.Tactic.NoncommRing
public import Mathlib.Tactic.Ring
public import Mathlib.Tactic.Abel

@[expose] public section

noncomputable section

open Finset

namespace Cert.WkvReal

/-- What one head reads at each token: receptance, normalized key direction, logarithm of the decay, scaled key, correction key, value. -/
structure Feat where
  r : ℕ → Fin 64 → ℝ
  kk : ℕ → Fin 64 → ℝ
  w : ℕ → Fin 64 → ℝ
  kd : ℕ → Fin 64 → ℝ
  b : ℕ → Fin 64 → ℝ
  v : ℕ → Fin 64 → ℝ

/-- The state of one head after `n` tokens of the recurrence, from the state `S`. -/
def run (F : Feat) (S : Fin 64 → Fin 64 → ℝ) : ℕ → Fin 64 → Fin 64 → ℝ
  | 0 => S
  | n + 1 => fun i j => run F S n i j * Real.exp (F.w n j) + (∑ l, run F S n i l * -F.kk n l) * F.b n j + F.v n i * F.kd n j

/-- The output of token `n`: the state after it, times the receptance. -/
def out (F : Feat) (S : Fin 64 → Fin 64 → ℝ) (n : ℕ) (i : Fin 64) : ℝ := ∑ j, run F S (n + 1) i j * F.r n j

/-- The same features with the tokens counted from `c`. -/
def Feat.from (F : Feat) (c : ℕ) : Feat :=
  ⟨fun n => F.r (c + n), fun n => F.kk (c + n), fun n => F.w (c + n), fun n => F.kd (c + n), fun n => F.b (c + n), fun n => F.v (c + n)⟩

theorem run_from (F : Feat) (S : Fin 64 → Fin 64 → ℝ) (c n : ℕ) : run (F.from c) (run F S c) n = run F S (c + n) := by
  induction n with
  | zero => rfl
  | succ n ih =>
    funext i j
    show run (F.from c) (run F S c) n i j * _ + (∑ l, run (F.from c) (run F S c) n i l * -F.kk (c + n) l) * _ + _ = _
    rw [ih]; rfl

theorem out_from (F : Feat) (S : Fin 64 → Fin 64 → ℝ) (c n : ℕ) : out (F.from c) (run F S c) n = out F S (c + n) := by
  funext i
  unfold out
  rw [run_from]; rfl

/-- The running sum of the logarithms of the decay, the current token included. -/
def cum (F : Feat) (t : ℕ) (j : Fin 64) : ℝ := ∑ s ∈ range (t + 1), F.w s j

def at' (F : Feat) (t : ℕ) (j : Fin 64) : ℝ := -F.kk t j * Real.exp (cum F t j - F.w t j)
def rt (F : Feat) (t : ℕ) (j : Fin 64) : ℝ := F.r t j * Real.exp (cum F t j)
def bt (F : Feat) (t : ℕ) (j : Fin 64) : ℝ := F.b t j * Real.exp (-cum F t j)
def kt (F : Feat) (t : ℕ) (j : Fin 64) : ℝ := F.kd t j * Real.exp (-cum F t j)
def bh (F : Feat) (t : ℕ) (j : Fin 64) : ℝ := F.b t j * Real.exp (cum F 63 j - cum F t j)
def kh (F : Feat) (t : ℕ) (j : Fin 64) : ℝ := F.kd t j * Real.exp (cum F 63 j - cum F t j)

/-- The products of the chunk's rows, below the diagonal or up to it. -/
def Mab (F : Feat) (t s : ℕ) : ℝ := if s < t then ∑ j, at' F t j * bt F s j else 0
def Mak (F : Feat) (t s : ℕ) : ℝ := if s < t then ∑ j, at' F t j * kt F s j else 0
def Nrb (F : Feat) (t s : ℕ) : ℝ := if s ≤ t then ∑ j, rt F t j * bt F s j else 0
def Nrk (F : Feat) (t s : ℕ) : ℝ := if s ≤ t then ∑ j, rt F t j * kt F s j else 0

def rhs (F : Feat) (S : Fin 64 → Fin 64 → ℝ) (t : ℕ) (i : Fin 64) : ℝ := ∑ j, at' F t j * S i j + ∑ s : Fin 64, Mak F t s * F.v s i

theorem sum_lt (n : ℕ) (hn : n < 64) (f : ℕ → ℝ) (g : ℕ → ℝ) : ∑ s : Fin 64, (if (s : ℕ) < n then f s else 0) * g s = ∑ s ∈ range n, f s * g s := by
  rw [Fin.sum_univ_eq_sum_range (fun s => (if s < n then f s else 0) * g s) 64]
  simp only [ite_mul, zero_mul]
  rw [← Finset.sum_filter]
  refine Finset.sum_congr ?_ fun _ _ => rfl
  ext s; simp only [Finset.mem_filter, Finset.mem_range]; omega

theorem sum_le (n : ℕ) (hn : n < 64) (f : ℕ → ℝ) (g : ℕ → ℝ) : ∑ s : Fin 64, (if (s : ℕ) ≤ n then f s else 0) * g s = ∑ s ∈ range (n + 1), f s * g s := by
  rw [Fin.sum_univ_eq_sum_range (fun s => (if s ≤ n then f s else 0) * g s) 64]
  simp only [ite_mul, zero_mul]
  rw [← Finset.sum_filter]
  refine Finset.sum_congr ?_ fun _ _ => rfl
  ext s; simp only [Finset.mem_filter, Finset.mem_range]; omega

theorem cum_succ (F : Feat) (t : ℕ) (j : Fin 64) : cum F t j = (∑ s ∈ range t, F.w s j) + F.w t j := Finset.sum_range_succ _ _

/-- Exchange of the sum over the tokens with the product over the features. -/
theorem swap (n : ℕ) (x S : Fin 64 → ℝ) (p q : ℕ → ℝ) (y z : ℕ → Fin 64 → ℝ) :
    ∑ l, (S l + ∑ s ∈ range n, (p s * y s l + q s * z s l)) * x l
      = ∑ l, x l * S l + ∑ s ∈ range n, (∑ l, x l * y s l) * p s + ∑ s ∈ range n, (∑ l, x l * z s l) * q s := by
  simp only [add_mul, Finset.sum_mul, Finset.sum_add_distrib]
  rw [Finset.sum_comm (s := Finset.univ) (t := range n), Finset.sum_comm (s := Finset.univ) (t := range n), ← add_assoc]
  refine congrArg₂ (· + ·) (congrArg₂ (· + ·) ?_ ?_) ?_
  · exact Finset.sum_congr rfl fun _ _ => by ring
  · exact Finset.sum_congr rfl fun _ _ => Finset.sum_congr rfl fun _ _ => by ring
  · exact Finset.sum_congr rfl fun _ _ => Finset.sum_congr rfl fun _ _ => by ring

/-- The chunk: where `u` solves its triangular system, it is the correction of every token, and the state has the closed form. -/
theorem closed (F : Feat) (S : Fin 64 → Fin 64 → ℝ) (u : ℕ → Fin 64 → ℝ)
    (hu : ∀ t, t < 64 → ∀ i, u t i = rhs F S t i + ∑ s : Fin 64, Mab F t s * u s i) (n : ℕ) (hn : n ≤ 64) (i j : Fin 64) :
    run F S n i j = Real.exp (∑ s ∈ range n, F.w s j) * (S i j + ∑ s ∈ range n, (u s i * bt F s j + F.v s i * kt F s j)) := by
  induction n generalizing i j with
  | zero => simp [run]
  | succ n ih =>
    have hn' : n < 64 := hn
    have ih := fun i j => ih (Nat.le_of_lt hn') i j
    have hsa : (∑ l, run F S n i l * -F.kk n l) = u n i := by
      rw [hu n hn' i]
      have e1 : ∀ l, run F S n i l * -F.kk n l = (S i l + ∑ s ∈ range n, (u s i * bt F s l + F.v s i * kt F s l)) * at' F n l := by
        intro l
        have : cum F n l - F.w n l = ∑ s ∈ range n, F.w s l := by rw [cum_succ]; ring
        rw [ih, at', this]; ring
      rw [Finset.sum_congr rfl fun l _ => e1 l, swap, rhs]
      have e2 : ∑ s : Fin 64, Mak F n s * F.v s i = ∑ s ∈ range n, (∑ l, at' F n l * kt F s l) * F.v s i :=
        sum_lt n hn' (fun s => ∑ l, at' F n l * kt F s l) (fun s => F.v s i)
      have e3 : ∑ s : Fin 64, Mab F n s * u s i = ∑ s ∈ range n, (∑ l, at' F n l * bt F s l) * u s i :=
        sum_lt n hn' (fun s => ∑ l, at' F n l * bt F s l) (fun s => u s i)
      rw [e2, e3]; ring
    show run F S n i j * Real.exp (F.w n j) + (∑ l, run F S n i l * -F.kk n l) * F.b n j + F.v n i * F.kd n j = _
    rw [hsa, ih, Finset.sum_range_succ (fun s => F.w s j), Finset.sum_range_succ (fun s => u s i * bt F s j + F.v s i * kt F s j), Real.exp_add]
    have hb : Real.exp (∑ s ∈ range n, F.w s j) * Real.exp (F.w n j) * bt F n j = F.b n j := by
      rw [bt, cum_succ, ← Real.exp_add, mul_left_comm, ← Real.exp_add, add_neg_cancel, Real.exp_zero, mul_one]
    have hk : Real.exp (∑ s ∈ range n, F.w s j) * Real.exp (F.w n j) * kt F n j = F.kd n j := by
      rw [kt, cum_succ, ← Real.exp_add, mul_left_comm, ← Real.exp_add, add_neg_cancel, Real.exp_zero, mul_one]
    rw [← hb, ← hk]; ring

/-- The chunk's outputs and final state, as the kernel computes them. -/
theorem chunk_out (F : Feat) (S : Fin 64 → Fin 64 → ℝ) (u : ℕ → Fin 64 → ℝ)
    (hu : ∀ t, t < 64 → ∀ i, u t i = rhs F S t i + ∑ s : Fin 64, Mab F t s * u s i) (t : ℕ) (ht : t < 64) (i : Fin 64) :
    (∑ j, rt F t j * S i j + ∑ s : Fin 64, Nrb F t s * u s i) + ∑ s : Fin 64, Nrk F t s * F.v s i = out F S t i := by
  have e2 : ∑ s : Fin 64, Nrk F t s * F.v s i = ∑ s ∈ range (t + 1), (∑ l, rt F t l * kt F s l) * F.v s i :=
    sum_le t ht (fun s => ∑ l, rt F t l * kt F s l) (fun s => F.v s i)
  have e3 : ∑ s : Fin 64, Nrb F t s * u s i = ∑ s ∈ range (t + 1), (∑ l, rt F t l * bt F s l) * u s i :=
    sum_le t ht (fun s => ∑ l, rt F t l * bt F s l) (fun s => u s i)
  rw [e2, e3, ← swap (t + 1) (fun l => rt F t l) (fun l => S i l) (fun s => u s i) (fun s => F.v s i) (bt F) (kt F)]
  refine Finset.sum_congr rfl fun l _ => ?_
  rw [closed F S u hu (t + 1) ht, rt, cum]; ring

theorem chunk_state (F : Feat) (S : Fin 64 → Fin 64 → ℝ) (u : ℕ → Fin 64 → ℝ)
    (hu : ∀ t, t < 64 → ∀ i, u t i = rhs F S t i + ∑ s : Fin 64, Mab F t s * u s i) (i j : Fin 64) :
    S i j * Real.exp (cum F 63 j) + (∑ s : Fin 64, u s i * bh F s j + ∑ s : Fin 64, F.v s i * kh F s j) = run F S 64 i j := by
  rw [closed F S u hu 64 le_rfl, mul_add, Finset.mul_sum, ← Finset.sum_add_distrib,
    Fin.sum_univ_eq_sum_range (fun s => u s i * bh F s j + F.v s i * kh F s j) 64]
  refine congrArg₂ (· + ·) (mul_comm _ _) (Finset.sum_congr rfl fun s _ => ?_)
  have e : Real.exp (cum F 63 j - cum F s j) = Real.exp (∑ s ∈ range 64, F.w s j) * Real.exp (-cum F s j) := by
    rw [← Real.exp_add, ← sub_eq_add_neg]; rfl
  rw [bh, kh, bt, kt, e]; ring

/-- The part of a matrix inside the diagonal blocks of `b` tokens, and the part joining an odd block to the one before it. -/
abbrev Mat := Matrix (Fin 64) (Fin 64) ℝ

def din (b : ℕ) (M : Mat) : Mat := fun t s => if (t : ℕ) / b = (s : ℕ) / b then M t s else 0
def off (b : ℕ) (M : Mat) : Mat := fun t s => if (t : ℕ) / b % 2 = 1 ∧ (s : ℕ) / b = (t : ℕ) / b - 1 then M t s else 0

def Inv (b : ℕ) (M X : Mat) : Prop := X * (1 - din b M) = 1 ∧ ∀ t s : Fin 64, (t : ℕ) / b ≠ (s : ℕ) / b → X t s = 0

theorem din_two (b : ℕ) (M : Mat) (hM : ∀ t s : Fin 64, t ≤ s → M t s = 0) (hb : 0 < b) : din (2 * b) M = din b M + off b M := by
  ext t s
  show din (2 * b) M t s = din b M t s + off b M t s
  unfold din off
  rw [mul_comm 2 b, ← Nat.div_div_eq_div_mul, ← Nat.div_div_eq_div_mul]
  rcases lt_or_ge s t with h | h
  · have : (s : ℕ) / b ≤ (t : ℕ) / b := Nat.div_le_div_right (Nat.le_of_lt h)
    generalize (s : ℕ) / b = x at *
    generalize (t : ℕ) / b = y at *
    by_cases h1 : y = x
    · rw [if_pos (by omega), if_pos h1, if_neg (by omega), add_zero]
    · by_cases h2 : y % 2 = 1 ∧ x = y - 1
      · rw [if_pos (by omega), if_neg h1, if_pos h2, zero_add]
      · rw [if_neg (by omega), if_neg h1, if_neg h2, add_zero]
  · rw [hM t s h]; simp

theorem off_mid (b : ℕ) (M X : Mat) (hX : ∀ t s : Fin 64, (t : ℕ) / b ≠ (s : ℕ) / b → X t s = 0) : off b M * X * off b M = 0 := by
  ext t s
  rw [Matrix.mul_apply]
  refine Finset.sum_eq_zero fun q _ => ?_
  rw [Matrix.mul_apply]
  by_cases h1 : (q : ℕ) / b % 2 = 1 ∧ (s : ℕ) / b = (q : ℕ) / b - 1
  · rw [Finset.sum_eq_zero fun p _ => ?_, zero_mul]
    by_cases h2 : (t : ℕ) / b % 2 = 1 ∧ (p : ℕ) / b = (t : ℕ) / b - 1
    · rw [hX p q (by omega), mul_zero]
    · rw [off, if_neg h2, zero_mul]
  · rw [show off b M q s = 0 from if_neg h1, mul_zero]

/-- One doubling. -/
theorem Inv.dbl {b : ℕ} {M X : Mat} (hM : ∀ t s : Fin 64, t ≤ s → M t s = 0) (hb : 0 < b) (h : Inv b M X) : Inv (2 * b) M (X + X * off b M * X) := by
  obtain ⟨h1, h2⟩ := h
  refine ⟨?_, fun t s hts => ?_⟩
  · have h0 := off_mid b M X h2
    have e : (X + X * off b M * X) * (1 - din (2 * b) M)
        = X * (1 - din b M) + X * off b M * (X * (1 - din b M)) - X * off b M - X * (off b M * X * off b M) := by
      rw [din_two b M hM hb]; noncomm_ring
    rw [e, h1, h0, mul_one, mul_zero, sub_zero, add_sub_cancel_right]
  · rw [mul_comm 2 b, ← Nat.div_div_eq_div_mul, ← Nat.div_div_eq_div_mul] at hts
    have hts' : (t : ℕ) / b ≠ (s : ℕ) / b := fun h => hts (by rw [h])
    show X t s + (X * off b M * X) t s = 0
    rw [h2 t s hts', zero_add, Matrix.mul_apply]
    refine Finset.sum_eq_zero fun q _ => ?_
    by_cases h4 : (q : ℕ) / b = (s : ℕ) / b
    · rw [Matrix.mul_apply, Finset.sum_eq_zero fun p _ => ?_, zero_mul]
      by_cases h3 : (t : ℕ) / b = (p : ℕ) / b
      · rw [show off b M p q = 0 from if_neg (by
          generalize (t : ℕ) / b = y1 at *; generalize (s : ℕ) / b = y2 at *; generalize (p : ℕ) / b = y3 at *; generalize (q : ℕ) / b = y4 at *
          omega), mul_zero]
      · rw [h2 t p h3, zero_mul]
    · rw [h2 q s h4, mul_zero]

theorem Inv.one (M : Mat) (hM : ∀ t s : Fin 64, t ≤ s → M t s = 0) : Inv 1 M 1 := by
  have : din 1 M = 0 := by
    ext t s
    show (if (t : ℕ) / 1 = (s : ℕ) / 1 then M t s else 0) = 0
    split
    · next h => rw [Nat.div_one, Nat.div_one] at h; exact hM t s (le_of_eq (Fin.ext h))
    · rfl
  refine ⟨by rw [this]; simp, fun t s h => Matrix.one_apply_ne fun e => h (by rw [e])⟩

/-- All six doublings. -/
def inv1 (M : Mat) : Mat := 1 + off 1 M
def dbl (b : ℕ) (M X : Mat) : Mat := X + X * off b M * X
def inv (M : Mat) : Mat := dbl 32 M (dbl 16 M (dbl 8 M (dbl 4 M (dbl 2 M (inv1 M)))))

theorem inv_mul (M : Mat) (hM : ∀ t s : Fin 64, t ≤ s → M t s = 0) : (1 - M) * inv M = 1 := by
  have h1 := (Inv.one M hM).dbl hM one_pos
  have h2 : Inv 2 M (inv1 M) := by
    have e : (1 : Mat) + 1 * off 1 M * 1 = inv1 M := by rw [one_mul, mul_one, inv1]
    rw [e] at h1; exact h1
  have h6 : Inv 64 M (inv M) := ((((h2.dbl hM (by norm_num)).dbl hM (by norm_num)).dbl hM (by norm_num)).dbl hM (by norm_num)).dbl hM (by norm_num)
  have e : din 64 M = M := by
    ext t s
    exact if_pos (by omega)
  have h7 := h6.1
  rw [e] at h7
  exact mul_eq_one_comm.mp h7

/-- The solution of the triangular system by the inverse. -/
theorem solve (M : Mat) (hM : ∀ t s : Fin 64, t ≤ s → M t s = 0) (y : Fin 64 → ℝ) (t : Fin 64) :
    ∑ s, inv M t s * y s = y t + ∑ s, M t s * ∑ q, inv M s q * y q := by
  have h := inv_mul M hM
  have h' : inv M = 1 + M * inv M := by
    have : inv M - M * inv M = 1 := by rw [← h, sub_mul, one_mul]
    rw [← this]; abel
  have e : (inv M).mulVec y = y + M.mulVec ((inv M).mulVec y) := by
    conv_lhs => rw [h']
    rw [Matrix.add_mulVec, Matrix.one_mulVec, Matrix.mulVec_mulVec]
  exact congrFun e t

/-- The corrections: the inverse applied to the right-hand side. -/
def MabM (F : Feat) : Mat := fun t s => Mab F t s
def uF (F : Feat) (S : Fin 64 → Fin 64 → ℝ) (t : Fin 64) (i : Fin 64) : ℝ := ∑ s : Fin 64, inv (MabM F) t s * rhs F S s i
def uN (F : Feat) (S : Fin 64 → Fin 64 → ℝ) (t : ℕ) (i : Fin 64) : ℝ := if h : t < 64 then uF F S ⟨t, h⟩ i else 0

theorem uN_eq (F : Feat) (S : Fin 64 → Fin 64 → ℝ) (t i : Fin 64) : uN F S t i = uF F S t i := dif_pos t.isLt

theorem uN_solves (F : Feat) (S : Fin 64 → Fin 64 → ℝ) (t : ℕ) (ht : t < 64) (i : Fin 64) :
    uN F S t i = rhs F S t i + ∑ s : Fin 64, Mab F t s * uN F S s i := by
  have h := solve (MabM F) (fun t s h => if_neg (Nat.not_lt.2 h)) (fun s => rhs F S s i) ⟨t, ht⟩
  rw [uN, dif_pos ht]
  refine h.trans ?_
  refine congrArg (rhs F S t i + ·) (Finset.sum_congr rfl fun s _ => ?_)
  rw [uN_eq]; rfl

end Cert.WkvReal
-- ==== Proof.WkvSpec.lean ====
module

public import proofs.«01_k».proof.Proof.WkvReal
public import Idealize.ShloMosaic.Lib.IdealHost

@[expose] public section

noncomputable section

open Idealize.ShloMosaic

namespace Cert.WkvReal

/-- The floor of the squared length, and one half, as the reals their words denote. -/
def epsR : ℝ := (Ideal.ofBits .f32 0x179ABE15#32).toReal
def halfR : ℝ := (Ideal.ofBits .f32 0x3F000000#32).toReal

theorem half_coe : Ideal.ofBits .f32 0x3F000000#32 = ((halfR : ℝ) : EReal) := by
  have h : Ideal.ofBits .f32 0x3F000000#32 = (((1 : ℝ) / 2 : ℝ) : EReal) := by
    simp [Ideal.ofBits, Ideal.ieee, -EReal.coe_mul]; norm_num
  rw [halfR, h, EReal.toReal_coe]

theorem eps_aux : ∃ e : ℝ, 0 < e ∧ Ideal.ofBits .f32 0x179ABE15#32 = (e : EReal) := by
  refine ⟨(10141205 : ℝ) / 2 ^ 103, by positivity, ?_⟩
  simp [Ideal.ofBits, Ideal.ieee, -EReal.coe_mul]; norm_num

theorem eps_pos : 0 < epsR := by
  obtain ⟨e, h, he⟩ := eps_aux
  rw [epsR, he, EReal.toReal_coe]; exact h

theorem eps_coe : Ideal.ofBits .f32 0x179ABE15#32 = ((epsR : ℝ) : EReal) := by
  obtain ⟨e, h, he⟩ := eps_aux
  rw [epsR, he, EReal.toReal_coe]

/-- The normalized key direction of one head. -/
def normR (k w : Fin 64 → ℝ) (j : Fin 64) : ℝ := k j * w j * (Real.sqrt (max (∑ l, k l * w l * (k l * w l)) epsR))⁻¹

/-- The softplus, the logarithm of the decay of a raw value, the logistic rate, and the scaled key. -/
def softR (z : ℝ) : ℝ := max z 0 + Real.log (1 + Real.exp (-max z (-z)))
def logwR (z : ℝ) : ℝ := -Real.exp (-softR (-z) - halfR)
def rateR (z : ℝ) : ℝ := 1 / (1 + Real.exp (-z))
def kdR (k rate ka : ℝ) : ℝ := k * (1 + (rate - 1) * ka)

/-- The raw values: a bias plus a low-rank product. -/
def rawW (wd wup : Fin 64 → ℝ) (w0 : ℝ) : ℝ := w0 + ∑ q, Real.tanh (wd q) * wup q
def rawA (ad aup : Fin 64 → ℝ) (a0 : ℝ) : ℝ := a0 + ∑ q, ad q * aup q

theorem rsqrt_pos {x : ℝ} (h : 0 < x) : Ideal.rsqrt (x : EReal) = (((Real.sqrt x)⁻¹ : ℝ) : EReal) := by
  rw [Ideal.rsqrt_coe, if_neg (not_lt.2 h.le), if_neg h.ne']

theorem log_pos {x : ℝ} (h : 0 < x) : Ideal.log (x : EReal) = ((Real.log x : ℝ) : EReal) := by
  rw [Ideal.log_coe, if_neg (not_le.2 h)]

theorem coe_max (x y : ℝ) : max (x : EReal) (y : EReal) = ((max x y : ℝ) : EReal) := (EReal.coe_strictMono.monotone.map_max).symm

/-- The extended-real forms of the four functions. -/
theorem norm_E (p : ℝ) (s : ℝ) : (p : EReal) * Ideal.rsqrt (max (s : EReal) (Ideal.ofBits .f32 0x179ABE15#32)) = ((p * (Real.sqrt (max s epsR))⁻¹ : ℝ) : EReal) := by
  rw [eps_coe, coe_max, rsqrt_pos (lt_of_lt_of_le eps_pos (le_max_right _ _)), EReal.coe_mul]

theorem soft_E (z : ℝ) : max (z : EReal) 0 + Ideal.log (1 + Ideal.exp (-max (z : EReal) (-(z : EReal)))) = ((softR z : ℝ) : EReal) := by
  rw [← EReal.coe_neg, coe_max, ← EReal.coe_neg, Ideal.exp_coe, ← EReal.coe_zero, coe_max, ← EReal.coe_one, ← EReal.coe_add,
    log_pos (by positivity), ← EReal.coe_add]; rfl

theorem logw_E (z : ℝ) : -Ideal.exp (-((softR (-z) : ℝ) : EReal) - Ideal.ofBits .f32 0x3F000000#32) = ((logwR z : ℝ) : EReal) := by
  rw [half_coe, ← EReal.coe_neg, ← EReal.coe_sub, Ideal.exp_coe, ← EReal.coe_neg]; rfl

theorem rate_E (z : ℝ) : Ideal.div 1 (1 + Ideal.exp (-(z : EReal))) = ((rateR z : ℝ) : EReal) := by
  rw [← EReal.coe_neg, Ideal.exp_coe, ← EReal.coe_one, ← EReal.coe_add, Ideal.div_coe (by positivity), EReal.coe_one, one_mul]; rfl

theorem kd_E (k rate ka : ℝ) : (k : EReal) * (1 + ((rate : EReal) - 1) * (ka : EReal)) = ((kdR k rate ka : ℝ) : EReal) := by
  rw [← EReal.coe_one, ← EReal.coe_sub, ← EReal.coe_mul, ← EReal.coe_add, ← EReal.coe_mul]; rfl

end Cert.WkvReal
-- ==== Proof.WkvFeat.lean ====
module

public import proofs.«01_k».proof.Proof.WkvSpec
public import Idealize.ShloMosaic.Lib.Pointwise

@[expose] public section

noncomputable section

open Idealize.ShloMosaic

namespace Cert.WkvReal

/-- The arguments as real numbers. -/
structure Args where
  rkv : Fin 3 → Fin 8192 → Fin 1024 → ℝ
  sm : Fin 8192 → Fin 256 → ℝ
  kkw : Fin 1024 → ℝ
  kaw : Fin 1024 → ℝ
  w0 : Fin 2 → Fin 1024 → ℝ
  wup : Fin 2 → Fin 64 → Fin 1024 → ℝ
  a0 : Fin 2 → Fin 1024 → ℝ
  aup : Fin 2 → Fin 64 → Fin 1024 → ℝ

/-- The argument arrays hold these real numbers. -/
structure Args.holds (A : Args) (x0 : (⟨3, ![3, 8192, 1024]⟩ : Shape).Idx → EReal) (x1 : (⟨3, ![1, 8192, 256]⟩ : Shape).Idx → EReal)
    (x2 x3 : (⟨2, ![1, 1024]⟩ : Shape).Idx → EReal) (x4 : (⟨3, ![1, 2, 1024]⟩ : Shape).Idx → EReal) (x5 : (⟨4, ![1, 2, 64, 1024]⟩ : Shape).Idx → EReal)
    (x6 : (⟨3, ![1, 2, 1024]⟩ : Shape).Idx → EReal) (x7 : (⟨4, ![1, 2, 64, 1024]⟩ : Shape).Idx → EReal) : Prop where
  rkv : ∀ a b l, x0 (ix3 a b l) = ((A.rkv a b l : ℝ) : EReal)
  sm : ∀ b l, x1 (ix3 0 b l) = ((A.sm b l : ℝ) : EReal)
  kkw : ∀ l, x2 (ix2 0 l) = ((A.kkw l : ℝ) : EReal)
  kaw : ∀ l, x3 (ix2 0 l) = ((A.kaw l : ℝ) : EReal)
  w0 : ∀ d l, x4 (ix3 0 d l) = ((A.w0 d l : ℝ) : EReal)
  wup : ∀ d q l, x5 (ix4 0 d q l) = ((A.wup d q l : ℝ) : EReal)
  a0 : ∀ d l, x6 (ix3 0 d l) = ((A.a0 d l : ℝ) : EReal)
  aup : ∀ d q l, x7 (ix4 0 d q l) = ((A.aup d q l : ℝ) : EReal)

/-- The direction's page, the row its `n`-th token of sequence `q` lies in, and the lane of head `H`. -/
def dir : Bool → Fin 2
  | false => 0
  | true => 1
def tok : Bool → ℕ → ℕ
  | false, n => n
  | true, n => 255 - n
def rowG (q : Fin 32) (n : ℕ) : Fin 8192 := ⟨(q.val * 256 + n) % 8192, Nat.mod_lt _ (by norm_num)⟩
def lnG (H : Fin 16) (j : Fin 64) : Fin 1024 := ⟨H.val * 64 + j.val, by omega⟩

theorem rowG_val (q : Fin 32) (n : ℕ) (h : n < 256) : (rowG q n).val = q.val * 256 + n := Nat.mod_eq_of_lt (by omega)

theorem rowG_eq (q : Fin 32) (n : Fin 256) (h : q.val * 256 + n.val < 8192) : (⟨q.val * 256 + n.val, h⟩ : Fin 8192) = rowG q n.val :=
  Fin.ext (rowG_val q _ n.isLt).symm

theorem row_surj (b : Fin 8192) : ∃ (q : Fin 32) (n : Fin 256), b = rowG q n.val :=
  ⟨⟨b.val / 256, by omega⟩, ⟨b.val % 256, by omega⟩, Fin.ext (by rw [rowG_val _ _ (by simp only []; omega)]; simp only []; omega)⟩

theorem lane_surj (l : Fin 1024) : ∃ (H : Fin 16) (j : Fin 64), l = lnG H j :=
  ⟨⟨l.val / 64, by omega⟩, ⟨l.val % 64, by omega⟩, Fin.ext (by simp only [lnG]; omega)⟩

/-- The raw value of the decay and of the rate at a row and lane. -/
def zW (A : Args) (rev : Bool) (b : Fin 8192) (l : Fin 1024) : ℝ :=
  rawW (fun q => A.sm b ⟨q.val, by omega⟩) (fun q => A.wup (dir rev) q l) (A.w0 (dir rev) l)
def zA (A : Args) (rev : Bool) (b : Fin 8192) (l : Fin 1024) : ℝ :=
  rawA (fun q => A.sm b ⟨64 + q.val, by omega⟩) (fun q => A.aup (dir rev) q l) (A.a0 (dir rev) l)

/-- The rows of one head of one sequence, read in a direction. -/
def feat (A : Args) (rev : Bool) (q : Fin 32) (H : Fin 16) : Feat where
  r n j := A.rkv 0 (rowG q (tok rev n)) (lnG H j)
  v n j := A.rkv 2 (rowG q (tok rev n)) (lnG H j)
  kk n j := normR (fun l => A.rkv 1 (rowG q (tok rev n)) (lnG H l)) (fun l => A.kkw (lnG H l)) j
  w n j := logwR (zW A rev (rowG q (tok rev n)) (lnG H j))
  kd n j := kdR (A.rkv 1 (rowG q (tok rev n)) (lnG H j)) (rateR (zA A rev (rowG q (tok rev n)) (lnG H j))) (A.kaw (lnG H j))
  b n j := normR (fun l => A.rkv 1 (rowG q (tok rev n)) (lnG H l)) (fun l => A.kkw (lnG H l)) j * rateR (zA A rev (rowG q (tok rev n)) (lnG H j))

/-- The three results: the read-out of both directions at a row and lane, and the final states. -/
def oR (A : Args) (rev : Bool) (q : Fin 32) (n : ℕ) (H : Fin 16) (j : Fin 64) : ℝ := out (feat A rev q H) 0 (tok rev n) j
def sR (A : Args) (rev : Bool) (q : Fin 32) (H : Fin 16) (i j : Fin 64) : ℝ := run (feat A rev q H) 0 256 i j

end Cert.WkvReal
-- ==== Proof.WkvBlk.lean ====
module

public import proofs.«01_k».proof.Defs
public import proofs.«01_k».proof.Proof.Gen.WkvIdeal.Value
public import proofs.«01_k».proof.Proof.WkvFeat
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

open Cert.WkvReal (rowG lnG tok dir)

variable (m : (ℓ : Loc nD τ sig) → Buf (Elt Ideal) ℓ)

/-- The printed index maps: the sequence is the point over 16, the head block the point over 4 modulo 4, the chunk the point modulo 4. -/
theorem idx : ∀ t : Fin cfg0.N, win0_0.index t = ![0, 4 * (t.val / 16) + t.val % 4, t.val / 4 % 4]
    ∧ win0_1.index t = ![1, 4 * (t.val / 16) + t.val % 4, t.val / 4 % 4]
    ∧ win0_2.index t = ![2, 4 * (t.val / 16) + t.val % 4, t.val / 4 % 4]
    ∧ win0_3.index t = ![0, 4 * (t.val / 16) + t.val % 4, 0]
    ∧ win0_4.index t = ![0, 4 * (t.val / 16) + (3 - t.val % 4), t.val / 4 % 4]
    ∧ win0_5.index t = ![1, 4 * (t.val / 16) + (3 - t.val % 4), t.val / 4 % 4]
    ∧ win0_6.index t = ![2, 4 * (t.val / 16) + (3 - t.val % 4), t.val / 4 % 4]
    ∧ win0_7.index t = ![0, 4 * (t.val / 16) + (3 - t.val % 4), 0]
    ∧ win0_8.index t = ![0, t.val / 4 % 4]
    ∧ win0_9.index t = ![0, t.val / 4 % 4]
    ∧ win0_10.index t = ![0, 0, t.val / 4 % 4]
    ∧ win0_11.index t = ![0, 0, t.val / 4 % 4]
    ∧ win0_12.index t = ![0, 0, t.val / 4 % 4]
    ∧ win0_13.index t = ![0, 0, t.val / 4 % 4]
    ∧ win0_15.index t = ![4 * (t.val / 16) + t.val % 4, t.val / 4 % 4]
    ∧ win0_16.index t = ![4 * (t.val / 16) + (3 - t.val % 4), t.val / 4 % 4]
    ∧ win0_17.index t = ![t.val / 16, 0, t.val / 4 % 4, 0, 0] :=
  (by decide +kernel : ∀ t : Fin grid0.N, _)

theorem lt512 (t : Fin cfg0.N) : t.val < 512 := lt_of_lt_of_eq t.isLt N_0

theorem rd0 (c : Dev nD) (t : Fin cfg0.N) (s : Fin 64) (l : Fin 256) :
    iblk m c 0 t (ix3 0 s l) = m ((c : Thread nD τ).loc main_arg0) (ix3 0 ⟨256 * (t.val / 16) + 64 * (t.val % 4) + s.val, by have := lt512 t; omega⟩ ⟨256 * (t.val / 4 % 4) + l.val, by omega⟩) := by
  blk_point [iblk, V, idx t]

theorem rd1 (c : Dev nD) (t : Fin cfg0.N) (s : Fin 64) (l : Fin 256) :
    iblk m c 1 t (ix3 0 s l) = m ((c : Thread nD τ).loc main_arg0) (ix3 1 ⟨256 * (t.val / 16) + 64 * (t.val % 4) + s.val, by have := lt512 t; omega⟩ ⟨256 * (t.val / 4 % 4) + l.val, by omega⟩) := by
  blk_point [iblk, V, idx t]

theorem rd2 (c : Dev nD) (t : Fin cfg0.N) (s : Fin 64) (l : Fin 256) :
    iblk m c 2 t (ix3 0 s l) = m ((c : Thread nD τ).loc main_arg0) (ix3 2 ⟨256 * (t.val / 16) + 64 * (t.val % 4) + s.val, by have := lt512 t; omega⟩ ⟨256 * (t.val / 4 % 4) + l.val, by omega⟩) := by
  blk_point [iblk, V, idx t]

theorem rd3 (c : Dev nD) (t : Fin cfg0.N) (s : Fin 64) (l : Fin 256) :
    iblk m c 3 t (ix3 0 s l) = m ((c : Thread nD τ).loc main_arg1) (ix3 0 ⟨256 * (t.val / 16) + 64 * (t.val % 4) + s.val, by have := lt512 t; omega⟩ l) := by
  blk_point [iblk, V, idx t]

theorem rd4 (c : Dev nD) (t : Fin cfg0.N) (s : Fin 64) (l : Fin 256) :
    iblk m c 4 t (ix3 0 s l) = m ((c : Thread nD τ).loc main_arg0) (ix3 0 ⟨256 * (t.val / 16) + 64 * (3 - t.val % 4) + s.val, by have := lt512 t; omega⟩ ⟨256 * (t.val / 4 % 4) + l.val, by omega⟩) := by
  blk_point [iblk, V, idx t]

theorem rd5 (c : Dev nD) (t : Fin cfg0.N) (s : Fin 64) (l : Fin 256) :
    iblk m c 5 t (ix3 0 s l) = m ((c : Thread nD τ).loc main_arg0) (ix3 1 ⟨256 * (t.val / 16) + 64 * (3 - t.val % 4) + s.val, by have := lt512 t; omega⟩ ⟨256 * (t.val / 4 % 4) + l.val, by omega⟩) := by
  blk_point [iblk, V, idx t]

theorem rd6 (c : Dev nD) (t : Fin cfg0.N) (s : Fin 64) (l : Fin 256) :
    iblk m c 6 t (ix3 0 s l) = m ((c : Thread nD τ).loc main_arg0) (ix3 2 ⟨256 * (t.val / 16) + 64 * (3 - t.val % 4) + s.val, by have := lt512 t; omega⟩ ⟨256 * (t.val / 4 % 4) + l.val, by omega⟩) := by
  blk_point [iblk, V, idx t]

theorem rd7 (c : Dev nD) (t : Fin cfg0.N) (s : Fin 64) (l : Fin 256) :
    iblk m c 7 t (ix3 0 s l) = m ((c : Thread nD τ).loc main_arg1) (ix3 0 ⟨256 * (t.val / 16) + 64 * (3 - t.val % 4) + s.val, by have := lt512 t; omega⟩ l) := by
  blk_point [iblk, V, idx t]

theorem rd8 (c : Dev nD) (t : Fin cfg0.N) (l : Fin 256) :
    iblk m c 8 t (ix2 0 l) = m ((c : Thread nD τ).loc main_arg2) (ix2 0 ⟨256 * (t.val / 4 % 4) + l.val, by omega⟩) := by
  blk_point [iblk, V, idx t]

theorem rd9 (c : Dev nD) (t : Fin cfg0.N) (l : Fin 256) :
    iblk m c 9 t (ix2 0 l) = m ((c : Thread nD τ).loc main_arg3) (ix2 0 ⟨256 * (t.val / 4 % 4) + l.val, by omega⟩) := by
  blk_point [iblk, V, idx t]

theorem rd10 (c : Dev nD) (t : Fin cfg0.N) (d : Fin 2) (l : Fin 256) :
    iblk m c 10 t (ix3 d 0 l) = m ((c : Thread nD τ).loc main_arg4) (ix3 0 d ⟨256 * (t.val / 4 % 4) + l.val, by omega⟩) := by
  blk_point [iblk, V, idx t]

theorem rd12 (c : Dev nD) (t : Fin cfg0.N) (d : Fin 2) (l : Fin 256) :
    iblk m c 12 t (ix3 d 0 l) = m ((c : Thread nD τ).loc main_arg6) (ix3 0 d ⟨256 * (t.val / 4 % 4) + l.val, by omega⟩) := by
  blk_point [iblk, V, idx t]

theorem rd11 (c : Dev nD) (t : Fin cfg0.N) (d : Fin 2) (q : Fin 64) (l : Fin 256) :
    iblk m c 11 t (ix3 d q l) = m ((c : Thread nD τ).loc main_arg5) (ix4 0 d q ⟨256 * (t.val / 4 % 4) + l.val, by omega⟩) := by
  blk_point [iblk, V, idx t]

theorem rd13 (c : Dev nD) (t : Fin cfg0.N) (d : Fin 2) (q : Fin 64) (l : Fin 256) :
    iblk m c 13 t (ix3 d q l) = m ((c : Thread nD τ).loc main_arg7) (ix4 0 d q ⟨256 * (t.val / 4 % 4) + l.val, by omega⟩) := by
  blk_point [iblk, V, idx t]

end Cert.WkvIdeal.Dir
-- ==== Proof.WkvOps.lean ====
module

public import proofs.«01_k».proof.Defs
public import proofs.«01_k».proof.Proof.Gen.WkvIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- The all-zero and all-one blocks, and a broadcast word of a float. -/
def cst (s : Shape) (w : BitVec 32) : FVec Ideal s .f32 := broadcast s (Scalar.ofBits .f32 w)

/-- Division of a vector of integers by one number, rounding towards minus infinity, as it is printed. -/
def fdiv {s : Shape} (x : IVec s 32) (d : BitVec 32) : IVec s 32 :=
  select
    (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32)) (divsi x (broadcast s d))

/-- The remainder with the sign of the divisor, as it is printed. -/
def fmod (x : IVec S64x256 32) (d : BitVec 32) : IVec S64x256 32 :=
  have e : BitVec 32 := Scalar.select (Scalar.cmpi .eq d 0#32) 1#32 d
  have q : IVec S64x256 32 := remsi x (broadcast S64x256 e)
  select
    (andi (xori (cmpi .slt q (broadcast S64x256 0#32)) (broadcastTo S64x256 (broadcast S64x256 (Scalar.cmpi .slt e 0#32)) broadcasts_S64x256_S64x256))
      (cmpi .ne q (broadcast S64x256 0#32)))
    (addi q (broadcast S64x256 e)) q

/-- The mask of the head-diagonal blocks. -/
def bdMask : IVec S256x256 1 :=
  cmpi .eq (fdiv (iota .tc S256x256 32 [0] iota_S256x256_d0_w32) 64#32) (fdiv (iota .tc S256x256 32 [1] iota_S256x256_d1_w32) 64#32)

/-- Ones on the head-diagonal blocks. -/
def ones : FVec Ideal S256x256 .bf16 :=
  truncf .bf16 (select bdMask (cst S256x256 0x3F800000#32) (cst S256x256 0x00000000#32)) bitsLt_bf16_f32

/-- Four copies of a block under each other, kept where row block and lane block are the same head. -/
def bd (x : FVec Ideal S64x256 .f32) : FVec Ideal S256x256 .bf16 :=
  truncf .bf16 (select bdMask (concatenate S256x256 0 [⟨S64x256, x⟩, ⟨S64x256, x⟩, ⟨S64x256, x⟩, ⟨S64x256, x⟩] concatenates_S64x256_S64x256_S64x256_S64x256_S256x256_d0)
    (cst S256x256 0x00000000#32)) bitsLt_bf16_f32

/-- The token of a row and of a lane. -/
def t2 : IVec S64x256 32 := iota .tc S64x256 32 [0] iota_S64x256_d0_w32
def s2 : IVec S64x256 32 := fmod (iota .tc S64x256 32 [1] iota_S64x256_d1_w32) 64#32

/-- The rounding and what the rounding leaves. -/
def hi {s : Shape} (x : FVec Ideal s .f32) : FVec Ideal s .bf16 := truncf .bf16 x bitsLt_bf16_f32
def rest {s : Shape} (x : FVec Ideal s .f32) : FVec Ideal s .f32 := subf x (extf .f32 (hi x) bitsLt_bf16_f32)

def dot (a : FVec Ideal S64x256 .bf16) (b : FVec Ideal S256x256 .bf16) : FVec Ideal S64x256 .f32 :=
  matmul dot_S64x256_S256x256_S64x256_1_0_0_1_n_n none a b (constant S64x256 .f32 0x00000000#32)

def dotUp (a : FVec Ideal S64x64 .bf16) (b : FVec Ideal S64x256 .bf16) : FVec Ideal S64x256 .f32 :=
  matmul dot_S64x64_S64x256_S64x256_1_0_0_1_n_n none a b (constant S64x256 .f32 0x00000000#32)

def dotT (a : FVec Ideal S128x256 .bf16) (b : FVec Ideal S256x256 .bf16) : FVec Ideal S128x256 .f32 :=
  matmul dot_S128x256_S256x256_S128x256_1_1_0_0_n_n none a b (constant S128x256 .f32 0x00000000#32)

/-- A product by its three leading parts. -/
def dot3 (a : FVec Ideal S64x64 .f32) (b : FVec Ideal S64x256 .f32) : FVec Ideal S64x256 .f32 :=
  addf (dotUp (hi a) (hi b)) (addf (dotUp (hi (rest a)) (hi b)) (dotUp (hi a) (hi (rest b))))

def row (x : Vec Ideal S1x64x256 .f32) : FVec Ideal S64x256 .f32 := shapeCast S64x256 x shapeCasts_S1x64x256_S64x256
def one (x : Vec Ideal S1x1x256 .f32) : FVec Ideal S1x256 .f32 := shapeCast S1x256 x shapeCasts_S1x1x256_S1x256
def lane (x : Vec Ideal S1x256 .f32) : FVec Ideal S1x256 .f32 := shapeCast S1x256 x shapeCasts_S1x256_S1x256
def down (x : FVec Ideal S1x256 .f32) : FVec Ideal S64x256 .f32 := broadcastTo S64x256 x broadcasts_S1x256_S64x256

/-- The normalized key direction. -/
def kkV (k : FVec Ideal S64x256 .f32) (kkw : FVec Ideal S1x256 .f32) : FVec Ideal S64x256 .f32 :=
  have p : FVec Ideal S64x256 .f32 := mulf k (down kkw)
  have q : FVec Ideal S64x256 .f32 := mulf p p
  mulf p (rsqrt (maximumf (addf (dot (hi q) ones) (dot (hi (rest q)) ones)) (cst S64x256 0x179ABE15#32)))

/-- The logarithm of the decay. -/
def logwV (sm : FVec Ideal S64x256 .f32) (w0 : FVec Ideal S1x256 .f32) (wup : FVec Ideal S64x256 .f32) : FVec Ideal S64x256 .f32 :=
  have z : FVec Ideal S64x256 .f32 := subf (cst S64x256 0x00000000#32)
    (addf (down w0) (dot3 (tanh (extractStridedSlice S64x64 ![0, 0] sm slices_S64x256_o0_0_S64x64)) wup))
  have s : FVec Ideal S64x256 .f32 := addf (maximumf z (cst S64x256 0x00000000#32))
    (log (addf (cst S64x256 0x3F800000#32) (exp (subf (cst S64x256 0x00000000#32) (absf z)))))
  subf (cst S64x256 0x00000000#32) (exp (subf (subf (cst S64x256 0x00000000#32) s) (cst S64x256 0x3F000000#32)))

/-- The in-context learning rate: the exponential of its logistic form, and the rate. -/
def eV (sm : FVec Ideal S64x256 .f32) (a0 : FVec Ideal S1x256 .f32) (aup : FVec Ideal S64x256 .f32) : FVec Ideal S64x256 .f32 :=
  exp (subf (cst S64x256 0x00000000#32) (addf (down a0) (dot3 (extractStridedSlice S64x64 ![0, 64] sm slices_S64x256_o0_64_S64x64) aup)))
def rateE (e : FVec Ideal S64x256 .f32) : FVec Ideal S64x256 .f32 := divf (cst S64x256 0x3F800000#32) (addf (cst S64x256 0x3F800000#32) e)
def rateV (sm : FVec Ideal S64x256 .f32) (a0 : FVec Ideal S1x256 .f32) (aup : FVec Ideal S64x256 .f32) : FVec Ideal S64x256 .f32 := rateE (eV sm a0 aup)

/-- The key scaled by the rate. -/
def kdV (k rate : FVec Ideal S64x256 .f32) (kaw : FVec Ideal S1x256 .f32) : FVec Ideal S64x256 .f32 :=
  mulf k (addf (cst S64x256 0x3F800000#32) (mulf (subf rate (cst S64x256 0x3F800000#32)) (down kaw)))

/-- The triangle of the running sums. -/
def tri (rev : Bool) : FVec Ideal S64x64 .bf16 :=
  truncf .bf16 (select (cmpi (match rev with | false => .sle | true => .sge) (iota .tc S64x64 32 [1] iota_S64x64_d1_w32) (iota .tc S64x64 32 [0] iota_S64x64_d0_w32))
    (cst S64x64 0x3F800000#32) (cst S64x64 0x00000000#32)) bitsLt_bf16_f32

/-- The running sums of the logarithms of the decay. -/
def cumV (rev : Bool) (w : FVec Ideal S64x256 .f32) : FVec Ideal S64x256 .f32 :=
  addf (dotUp (tri rev) (hi w)) (addf (dotUp (tri rev) (hi (rest w))) (dotUp (tri rev) (hi (rest (rest w)))))

/-- The sum over the whole chunk. -/
def totV (rev : Bool) (u : FVec Ideal S64x256 .f32) : FVec Ideal S1x256 .f32 :=
  match rev with
  | false => extractStridedSlice S1x256 ![63, 0] u slices_S64x256_o63_0_S1x256
  | true => extractStridedSlice S1x256 ![0, 0] u slices_S64x256_o0_0_S1x256

def neg (x : FVec Ideal S64x256 .f32) : FVec Ideal S64x256 .f32 := subf (cst S64x256 0x00000000#32) x

/-- Two blocks under each other. -/
def stack (x y : FVec Ideal S64x256 .f32) : FVec Ideal S128x256 .bf16 :=
  truncf .bf16 (concatenate S128x256 0 [⟨S64x256, x⟩, ⟨S64x256, y⟩] concatenates_S64x256_S64x256_S128x256_d0) bitsLt_bf16_f32

def top (x : FVec Ideal S128x256 .f32) : FVec Ideal S64x256 .f32 := extractStridedSlice S64x256 ![0, 0] x slices_S128x256_o0_0_S64x256
def bot (x : FVec Ideal S128x256 .f32) : FVec Ideal S64x256 .f32 := extractStridedSlice S64x256 ![64, 0] x slices_S128x256_o64_0_S64x256

def strict (rev : Bool) (x : FVec Ideal S64x256 .f32) : FVec Ideal S64x256 .f32 :=
  select (cmpi (match rev with | false => .slt | true => .sgt) s2 t2) x (cst S64x256 0x00000000#32)
def incl (rev : Bool) (x : FVec Ideal S64x256 .f32) : FVec Ideal S64x256 .f32 :=
  select (cmpi (match rev with | false => .sle | true => .sge) s2 t2) x (cst S64x256 0x00000000#32)

/-- The part of a matrix that joins neighbouring blocks of `b` tokens. -/
def off (rev : Bool) (b : BitVec 32) (x : FVec Ideal S64x256 .f32) : FVec Ideal S64x256 .f32 :=
  select (andi (cmpi .eq (fmod (fdiv t2 b) 2#32) (broadcast S64x256 (match rev with | false => 1#32 | true => 0#32)))
      (cmpi .eq (fdiv s2 b) (match rev with | false => subi (fdiv t2 b) (broadcast S64x256 1#32) | true => addi (fdiv t2 b) (broadcast S64x256 1#32))))
    x (cst S64x256 0x00000000#32)

/-- The first level of the inverse. -/
def inv1 (rev : Bool) (M : FVec Ideal S64x256 .f32) : FVec Ideal S64x256 .f32 :=
  addf (select (cmpi .eq s2 t2) (cst S64x256 0x3F800000#32) (cst S64x256 0x00000000#32)) (off rev 1#32 M)

/-- One doubling of the inverse. -/
def dbl (rev : Bool) (b : BitVec 32) (M X : FVec Ideal S64x256 .f32) : FVec Ideal S64x256 .f32 :=
  addf X (dot (hi (dot (hi X) (bd (off rev b M)))) (bd X))

def inv (rev : Bool) (M : FVec Ideal S64x256 .f32) : FVec Ideal S64x256 .f32 :=
  dbl rev 32#32 M (dbl rev 16#32 M (dbl rev 8#32 M (dbl rev 4#32 M (dbl rev 2#32 M (inv1 rev M)))))

/-- What one chunk reads, prepared: the scaled rows of the two directions' chunk. -/
structure Prep where
  at' : FVec Ideal S64x256 .f32
  rt : FVec Ideal S64x256 .f32
  bt : FVec Ideal S64x256 .f32
  kt : FVec Ideal S64x256 .f32
  bh : FVec Ideal S64x256 .f32
  kh : FVec Ideal S64x256 .f32
  lt : FVec Ideal S1x256 .f32

def prep (rev : Bool) (r kk w kd b : FVec Ideal S64x256 .f32) : Prep :=
  have cum : FVec Ideal S64x256 .f32 := cumV rev w
  { at' := mulf (neg kk) (exp (subf cum w))
    rt := mulf r (exp cum)
    bt := mulf b (exp (neg cum))
    kt := mulf kd (exp (neg cum))
    bh := mulf b (exp (subf (down (totV rev cum)) cum))
    kh := mulf kd (exp (subf (down (totV rev cum)) cum))
    lt := totV rev cum }

def Mab (rev : Bool) (p : Prep) : FVec Ideal S64x256 .f32 := strict rev (top (dotT (stack p.at' p.rt) (bd p.bt)))
def Mak (rev : Bool) (p : Prep) : FVec Ideal S64x256 .f32 := strict rev (top (dotT (stack p.at' p.rt) (bd p.kt)))
def Nrb (rev : Bool) (p : Prep) : FVec Ideal S64x256 .f32 := incl rev (bot (dotT (stack p.at' p.rt) (bd p.bt)))
def Nrk (rev : Bool) (p : Prep) : FVec Ideal S64x256 .f32 := incl rev (bot (dotT (stack p.at' p.rt) (bd p.kt)))

/-- The corrections of the chunk, by the inverse. -/
def uV (rev : Bool) (p : Prep) (v : FVec Ideal S64x256 .f32) (S : FVec Ideal S256x256 .f32) : FVec Ideal S64x256 .f32 :=
  dot (hi (inv rev (Mab rev p))) (bd (addf (top (dotT (stack p.at' p.rt) (hi S))) (dot (hi (Mak rev p)) (bd v))))

/-- The chunk's output. -/
def oV (rev : Bool) (p : Prep) (v : FVec Ideal S64x256 .f32) (S : FVec Ideal S256x256 .f32) : FVec Ideal S64x256 .f32 :=
  addf (addf (bot (dotT (stack p.at' p.rt) (hi S))) (dot (hi (Nrb rev p)) (bd (uV rev p v S)))) (dot (hi (Nrk rev p)) (bd v))

/-- The state after the chunk. -/
def sV (rev : Bool) (p : Prep) (v : FVec Ideal S64x256 .f32) (S : FVec Ideal S256x256 .f32) : FVec Ideal S256x256 .f32 :=
  shapeCast S256x256 (addf (mulf S (broadcastTo S256x256 (exp p.lt) broadcasts_S1x256_S256x256))
    (select (cmpf .ogt ones (broadcast S256x256 (Scalar.ofBits .bf16 0x0000#16)))
      (matmul dot_S128x256_S128x256_S256x256_0_0_1_1_n_n none (stack (uV rev p v S) v) (stack p.bh p.kh) (constant S256x256 .f32 0x00000000#32))
      (cst S256x256 0x00000000#32))) shapeCasts_S256x256_S256x256

/-- Everything one direction computes of its blocks before the recurrence. -/
def pre (rev : Bool) (r k sm : Vec Ideal S1x64x256 .f32) (kkw kaw : Vec Ideal S1x256 .f32) (w0 : Vec Ideal S1x1x256 .f32) (wup : Vec Ideal S1x64x256 .f32)
    (a0 : Vec Ideal S1x1x256 .f32) (aup : Vec Ideal S1x64x256 .f32) : Prep :=
  prep rev (row r) (kkV (row k) (lane kkw)) (logwV (row sm) (one w0) (row wup))
    (kdV (row k) (rateV (row sm) (one a0) (row aup)) (lane kaw)) (mulf (kkV (row k) (lane kkw)) (rateV (row sm) (one a0) (row aup)))

end Cert.WkvIdeal.Dir
-- ==== Proof.WkvRead.lean ====
module

public import proofs.«01_k».proof.Defs
public import proofs.«01_k».proof.Proof.Gen.WkvIdeal.Value
public import proofs.«01_k».proof.Proof.WkvOps
public import proofs.«01_k».proof.Proof.WkvReal
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- Lane `j` of head `h` of the four heads a block holds. -/
def ln (h : Fin 4) (j : Fin 64) : Fin 256 := ⟨h.val * 64 + j.val, by omega⟩

/-- The row of token `t` in a direction's order. -/
def tk (rev : Bool) (t : Fin 64) : Fin 64 := match rev with | false => t | true => ⟨63 - t.val, by omega⟩

theorem ln_div (h : Fin 4) (j : Fin 64) : (ln h j).val / 64 = h.val := by unfold ln; simp only; omega
theorem ln_mod (h : Fin 4) (j : Fin 64) : (ln h j).val % 64 = j.val := by unfold ln; simp only; omega

theorem ln_surj (d : Fin 256) : ∃ h j, d = ln h j := ⟨⟨d.val / 64, by omega⟩, ⟨d.val % 64, by omega⟩, Fin.ext (by unfold ln; simp only; omega)⟩

theorem sum_ln (f : Fin 256 → EReal) : ∑ l, f l = ∑ h : Fin 4, ∑ j : Fin 64, f (ln h j) := Fin.sum_univ_tiles 4 64 rfl f

theorem tk_tk (rev : Bool) (t : Fin 64) : tk rev (tk rev t) = t := by
  cases rev
  · rfl
  · exact Fin.ext (by show 63 - (63 - t.val) = t.val; omega)

theorem sum_tk (rev : Bool) (f : Fin 64 → EReal) : ∑ s, f s = ∑ s, f (tk rev s) :=
  (Equiv.sum_comp (Function.Involutive.toPerm (tk rev) (tk_tk rev)) f).symm

/-- A sum over all lanes of which one head's remain. -/
theorem sum_head (h : Fin 4) (f : Fin 4 → Fin 64 → EReal) : ∑ h' : Fin 4, ∑ j : Fin 64, (if h' = h then f h' j else 0) = ∑ j, f h j := by
  rw [Finset.sum_eq_single h]
  · exact Finset.sum_congr rfl fun _ _ => if_pos rfl
  · exact fun h' _ hn => Finset.sum_eq_zero fun _ _ => if_neg hn
  · exact fun hn => absurd (Finset.mem_univ _) hn

theorem sel_if {α : Type} (p : Prop) [Decidable p] (a b : α) : Scalar.select (if p then 1#1 else 0#1) a b = if p then a else b := by
  split <;> rfl

theorem row64 : ∀ r : Fin 256, fdiv (iota .tc S256x256 32 [0] iota_S256x256_d0_w32) 64#32 (ix2 r 0) = BitVec.ofNat 32 (r.val / 64) := by decide +kernel
theorem lane64 : ∀ r : Fin 256, fdiv (iota .tc S256x256 32 [1] iota_S256x256_d1_w32) 64#32 (ix2 0 r) = BitVec.ofNat 32 (r.val / 64) := by decide +kernel
theorem eq4 : ∀ a b : Fin 4, Scalar.cmpi .eq (BitVec.ofNat 32 a.val) (BitVec.ofNat 32 b.val) = if a = b then 1#1 else 0#1 := by decide +kernel

theorem bdMask_apply (h h' : Fin 4) (s j : Fin 64) : bdMask (ix2 (ln h s) (ln h' j)) = if h = h' then 1#1 else 0#1 := by
  have e1 : fdiv (iota .tc S256x256 32 [0] iota_S256x256_d0_w32) 64#32 (ix2 (ln h s) (ln h' j)) = BitVec.ofNat 32 h.val := by
    refine Eq.trans ?_ ((row64 (ln h s)).trans (by rw [ln_div])); rfl
  have e2 : fdiv (iota .tc S256x256 32 [1] iota_S256x256_d1_w32) 64#32 (ix2 (ln h s) (ln h' j)) = BitVec.ofNat 32 h'.val := by
    refine Eq.trans ?_ ((lane64 (ln h' j)).trans (by rw [ln_div])); rfl
  refine Eq.trans ?_ (eq4 h h')
  rw [← e1, ← e2]; rfl

theorem dot_apply (a : FVec Ideal S64x256 .bf16) (b : FVec Ideal S256x256 .bf16) (t : Fin 64) (d : Fin 256) :
    dot a b (ix2 t d) = ∑ l : Fin 256, a (ix2 t l) * b (ix2 l d) := by
  pointwise [dot]

theorem dotUp_apply (a : FVec Ideal S64x64 .bf16) (b : FVec Ideal S64x256 .bf16) (t : Fin 64) (d : Fin 256) :
    dotUp a b (ix2 t d) = ∑ l : Fin 64, a (ix2 t l) * b (ix2 l d) := by
  pointwise [dotUp]

theorem dotT_apply (a : FVec Ideal S128x256 .bf16) (b : FVec Ideal S256x256 .bf16) (t : Fin 128) (d : Fin 256) :
    dotT a b (ix2 t d) = ∑ l : Fin 256, a (ix2 t l) * b (ix2 d l) := by
  pointwise [dotT]

theorem dotS_apply (a b : FVec Ideal S128x256 .bf16) (d e : Fin 256) :
    matmul dot_S128x256_S128x256_S256x256_0_0_1_1_n_n none a b (constant (F := Ideal) S256x256 .f32 0x00000000#32) (ix2 d e) = ∑ t : Fin 128, a (ix2 t d) * b (ix2 t e) := by
  pointwise

theorem cat4 (x : FVec Ideal S64x256 .f32) (h : Fin 4) (s : Fin 64) (d : Fin 256) :
    concatenate S256x256 0 [⟨S64x256, x⟩, ⟨S64x256, x⟩, ⟨S64x256, x⟩, ⟨S64x256, x⟩] concatenates_S64x256_S64x256_S64x256_S64x256_S256x256_d0 (ix2 (ln h s) d) = x (ix2 s d) := by
  have hs := s.isLt
  pointwise
  have hl : (ln h s).val = h.val * 64 + s.val := rfl
  have hh : h.val = 0 ∨ h.val = 1 ∨ h.val = 2 ∨ h.val = 3 := by omega
  rcases hh with hh | hh | hh | hh <;> rw [hh] at hl <;> split_ifs <;>
    first
    | omega
    | exact congrArg (fun z => x (ix2 z d)) (Fin.ext (by simp only; omega))

theorem bd_apply (x : FVec Ideal S64x256 .f32) (h h' : Fin 4) (s j : Fin 64) : bd x (ix2 (ln h s) (ln h' j)) = if h = h' then x (ix2 s (ln h' j)) else 0 := by
  refine Eq.trans (b := Scalar.select (bdMask (ix2 (ln h s) (ln h' j))) (concatenate S256x256 0 [⟨S64x256, x⟩, ⟨S64x256, x⟩, ⟨S64x256, x⟩, ⟨S64x256, x⟩] concatenates_S64x256_S64x256_S64x256_S64x256_S256x256_d0 (ix2 (ln h s) (ln h' j)))
    (cst S256x256 0x00000000#32 (ix2 (ln h s) (ln h' j)))) rfl ?_
  rw [bdMask_apply, cat4, sel_if]
  have e : cst S256x256 0x00000000#32 (ix2 (ln h s) (ln h' j)) = (0 : EReal) := by pointwise [cst]
  rw [e]

theorem ones_apply (h h' : Fin 4) (s j : Fin 64) : ones (ix2 (ln h s) (ln h' j)) = if h = h' then (1 : EReal) else 0 := by
  refine Eq.trans (b := Scalar.select (bdMask (ix2 (ln h s) (ln h' j))) (cst S256x256 0x3F800000#32 (ix2 (ln h s) (ln h' j)))
    (cst S256x256 0x00000000#32 (ix2 (ln h s) (ln h' j)))) rfl ?_
  have e : cst S256x256 0x00000000#32 (ix2 (ln h s) (ln h' j)) = (0 : EReal) := by pointwise [cst]
  have e1 : cst S256x256 0x3F800000#32 (ix2 (ln h s) (ln h' j)) = (1 : EReal) := by pointwise [cst]
  rw [bdMask_apply, sel_if, e, e1]

theorem stack_top (x y : FVec Ideal S64x256 .f32) (t : Fin 64) (l : Fin 256) : stack x y (ix2 ⟨t.val, by omega⟩ l) = x (ix2 t l) := by
  pointwise [stack]

theorem stack_bot (x y : FVec Ideal S64x256 .f32) (t : Fin 64) (l : Fin 256) : stack x y (ix2 ⟨64 + t.val, by omega⟩ l) = y (ix2 t l) := by
  pointwise [stack]

theorem top_apply (x : FVec Ideal S128x256 .f32) (t : Fin 64) (l : Fin 256) : top x (ix2 t l) = x (ix2 ⟨t.val, by omega⟩ l) := by
  pointwise [top]

theorem bot_apply (x : FVec Ideal S128x256 .f32) (t : Fin 64) (l : Fin 256) : bot x (ix2 t l) = x (ix2 ⟨64 + t.val, by omega⟩ l) := by
  pointwise [bot]

end Cert.WkvIdeal.Dir
-- ==== Proof.WkvRel.lean ====
module

public import proofs.«01_k».proof.Defs
public import proofs.«01_k».proof.Proof.Gen.WkvIdeal.Value
public import proofs.«01_k».proof.Proof.WkvRead
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A block of the four heads' rows, in a direction's order of the tokens, is this array of reals. -/
def isD (rev : Bool) (x : FVec Ideal S64x256 .f32) (X : Fin 4 → Fin 64 → Fin 64 → ℝ) : Prop :=
  ∀ h t j, x (ix2 (tk rev t) (ln h j)) = ((X h t j : ℝ) : EReal)

/-- A block of the four heads' token-by-token matrices is this array of reals. -/
def isM (rev : Bool) (x : FVec Ideal S64x256 .f32) (X : Fin 4 → Fin 64 → Fin 64 → ℝ) : Prop :=
  ∀ h t s, x (ix2 (tk rev t) (ln h (tk rev s))) = ((X h t s : ℝ) : EReal)

/-- The four heads' states on the diagonal of a block. -/
def isS (x : FVec Ideal S256x256 .f32) (X : Fin 4 → Fin 64 → Fin 64 → ℝ) : Prop :=
  ∀ h v h' k, x (ix2 (ln h v) (ln h' k)) = if h = h' then ((X h v k : ℝ) : EReal) else 0

/-- One row of the four heads. -/
def isL (x : FVec Ideal S1x256 .f32) (X : Fin 4 → Fin 64 → ℝ) : Prop :=
  ∀ h j, x (ix2 0 (ln h j)) = ((X h j : ℝ) : EReal)

theorem hi_apply {s : Shape} (x : FVec Ideal s .f32) (i : s.Idx) : hi x i = x i := rfl

theorem dot_bd (a y : FVec Ideal S64x256 .f32) (t : Fin 64) (h : Fin 4) (j : Fin 64) :
    dot (hi a) (bd y) (ix2 t (ln h j)) = ∑ s, a (ix2 t (ln h s)) * y (ix2 s (ln h j)) := by
  rw [dot_apply, sum_ln]
  simp only [bd_apply, mul_ite, mul_zero, hi_apply]
  exact sum_head h fun h' s => a (ix2 t (ln h' s)) * y (ix2 s (ln h j))

theorem dot_ones (a : FVec Ideal S64x256 .f32) (t : Fin 64) (h : Fin 4) (j : Fin 64) :
    dot (hi a) ones (ix2 t (ln h j)) = ∑ s, a (ix2 t (ln h s)) := by
  rw [dot_apply, sum_ln]
  simp only [ones_apply, mul_ite, mul_zero, mul_one, hi_apply]
  exact sum_head h fun h' s => a (ix2 t (ln h' s))

theorem top_bd (x r y : FVec Ideal S64x256 .f32) (t : Fin 64) (h : Fin 4) (s : Fin 64) :
    top (dotT (stack x r) (bd y)) (ix2 t (ln h s)) = ∑ j, x (ix2 t (ln h j)) * y (ix2 s (ln h j)) := by
  rw [top_apply, dotT_apply, sum_ln]
  simp only [bd_apply, mul_ite, mul_zero, stack_top]
  simp only [@eq_comm _ h]
  exact sum_head h fun h' j => x (ix2 t (ln h' j)) * y (ix2 s (ln h' j))

theorem bot_bd (x r y : FVec Ideal S64x256 .f32) (t : Fin 64) (h : Fin 4) (s : Fin 64) :
    bot (dotT (stack x r) (bd y)) (ix2 t (ln h s)) = ∑ j, r (ix2 t (ln h j)) * y (ix2 s (ln h j)) := by
  rw [bot_apply, dotT_apply, sum_ln]
  simp only [bd_apply, mul_ite, mul_zero, stack_bot]
  simp only [@eq_comm _ h]
  exact sum_head h fun h' j => r (ix2 t (ln h' j)) * y (ix2 s (ln h' j))

theorem top_S {S : FVec Ideal S256x256 .f32} {X : Fin 4 → Fin 64 → Fin 64 → ℝ} (hS : isS S X) (x r : FVec Ideal S64x256 .f32) (t : Fin 64) (h : Fin 4) (i : Fin 64) :
    top (dotT (stack x r) (hi S)) (ix2 t (ln h i)) = ∑ j, x (ix2 t (ln h j)) * ((X h i j : ℝ) : EReal) := by
  rw [top_apply, dotT_apply, sum_ln]
  simp only [hi_apply, hS _ _ _ _, mul_ite, mul_zero, stack_top]
  simp only [@eq_comm _ h]
  exact sum_head h fun h' j => x (ix2 t (ln h' j)) * ((X h i j : ℝ) : EReal)

theorem bot_S {S : FVec Ideal S256x256 .f32} {X : Fin 4 → Fin 64 → Fin 64 → ℝ} (hS : isS S X) (x r : FVec Ideal S64x256 .f32) (t : Fin 64) (h : Fin 4) (i : Fin 64) :
    bot (dotT (stack x r) (hi S)) (ix2 t (ln h i)) = ∑ j, r (ix2 t (ln h j)) * ((X h i j : ℝ) : EReal) := by
  rw [bot_apply, dotT_apply, sum_ln]
  simp only [hi_apply, hS _ _ _ _, mul_ite, mul_zero, stack_bot]
  simp only [@eq_comm _ h]
  exact sum_head h fun h' j => r (ix2 t (ln h' j)) * ((X h i j : ℝ) : EReal)

theorem dot_isD {rev : Bool} {a y : FVec Ideal S64x256 .f32} {A Y : Fin 4 → Fin 64 → Fin 64 → ℝ} (ha : isM rev a A) (hy : isD rev y Y) :
    isD rev (dot (hi a) (bd y)) fun h t j => ∑ s, A h t s * Y h s j := by
  intro h t j
  rw [dot_bd, sum_tk rev, coe_sum]
  exact Finset.sum_congr rfl fun s _ => by rw [ha h t s, hy h s j, EReal.coe_mul]

theorem dot_isM {rev : Bool} {a y : FVec Ideal S64x256 .f32} {A Y : Fin 4 → Fin 64 → Fin 64 → ℝ} (ha : isM rev a A) (hy : isM rev y Y) :
    isM rev (dot (hi a) (bd y)) fun h t j => ∑ s, A h t s * Y h s j := by
  intro h t j
  rw [dot_bd, sum_tk rev, coe_sum]
  exact Finset.sum_congr rfl fun s _ => by rw [ha h t s, hy h s j, EReal.coe_mul]

theorem top_isM {rev : Bool} {x r y : FVec Ideal S64x256 .f32} {X Y : Fin 4 → Fin 64 → Fin 64 → ℝ} (hx : isD rev x X) (hy : isD rev y Y) :
    isM rev (top (dotT (stack x r) (bd y))) fun h t s => ∑ j, X h t j * Y h s j := by
  intro h t s
  rw [top_bd, coe_sum]
  exact Finset.sum_congr rfl fun j _ => by rw [hx h t j, hy h s j, EReal.coe_mul]

theorem bot_isM {rev : Bool} {x r y : FVec Ideal S64x256 .f32} {X Y : Fin 4 → Fin 64 → Fin 64 → ℝ} (hx : isD rev r X) (hy : isD rev y Y) :
    isM rev (bot (dotT (stack x r) (bd y))) fun h t s => ∑ j, X h t j * Y h s j := by
  intro h t s
  rw [bot_bd, coe_sum]
  exact Finset.sum_congr rfl fun j _ => by rw [hx h t j, hy h s j, EReal.coe_mul]

theorem top_isD {rev : Bool} {x r : FVec Ideal S64x256 .f32} {S : FVec Ideal S256x256 .f32} {X Y : Fin 4 → Fin 64 → Fin 64 → ℝ} (hx : isD rev x X) (hS : isS S Y) :
    isD rev (top (dotT (stack x r) (hi S))) fun h t i => ∑ j, X h t j * Y h i j := by
  intro h t i
  rw [top_S hS, coe_sum]
  exact Finset.sum_congr rfl fun j _ => by rw [hx h t j, EReal.coe_mul]

theorem bot_isD {rev : Bool} {x r : FVec Ideal S64x256 .f32} {S : FVec Ideal S256x256 .f32} {X Y : Fin 4 → Fin 64 → Fin 64 → ℝ} (hx : isD rev r X) (hS : isS S Y) :
    isD rev (bot (dotT (stack x r) (hi S))) fun h t i => ∑ j, X h t j * Y h i j := by
  intro h t i
  rw [bot_S hS, coe_sum]
  exact Finset.sum_congr rfl fun j _ => by rw [hx h t j, EReal.coe_mul]

/-- Elementwise operations. -/
theorem cst0 {s : Shape} (i : s.Idx) : cst s 0x00000000#32 i = (0 : EReal) := by pointwise [cst]
theorem cst1 {s : Shape} (i : s.Idx) : cst s 0x3F800000#32 i = (1 : EReal) := by pointwise [cst]

theorem isD.mul {rev : Bool} {x y : FVec Ideal S64x256 .f32} {X Y : Fin 4 → Fin 64 → Fin 64 → ℝ} (hx : isD rev x X) (hy : isD rev y Y) :
    isD rev (mulf x y) fun h t j => X h t j * Y h t j := fun h t j => by
  rw [EReal.coe_mul, ← hx h t j, ← hy h t j]; rfl

theorem isD.add {rev : Bool} {x y : FVec Ideal S64x256 .f32} {X Y : Fin 4 → Fin 64 → Fin 64 → ℝ} (hx : isD rev x X) (hy : isD rev y Y) :
    isD rev (addf x y) fun h t j => X h t j + Y h t j := fun h t j => by
  rw [EReal.coe_add, ← hx h t j, ← hy h t j]; rfl

theorem isM.add {rev : Bool} {x y : FVec Ideal S64x256 .f32} {X Y : Fin 4 → Fin 64 → Fin 64 → ℝ} (hx : isM rev x X) (hy : isM rev y Y) :
    isM rev (addf x y) fun h t j => X h t j + Y h t j := fun h t j => by
  rw [EReal.coe_add, ← hx h t j, ← hy h t j]; rfl

theorem isD.sub {rev : Bool} {x y : FVec Ideal S64x256 .f32} {X Y : Fin 4 → Fin 64 → Fin 64 → ℝ} (hx : isD rev x X) (hy : isD rev y Y) :
    isD rev (subf x y) fun h t j => X h t j - Y h t j := fun h t j => by
  rw [EReal.coe_sub, ← hx h t j, ← hy h t j]; rfl

theorem isD.exp {rev : Bool} {x : FVec Ideal S64x256 .f32} {X : Fin 4 → Fin 64 → Fin 64 → ℝ} (hx : isD rev x X) :
    isD rev (exp x) fun h t j => Real.exp (X h t j) := fun h t j => by
  rw [← Ideal.exp_coe, ← hx h t j]; rfl

theorem isD.neg {rev : Bool} {x : FVec Ideal S64x256 .f32} {X : Fin 4 → Fin 64 → Fin 64 → ℝ} (hx : isD rev x X) :
    isD rev (neg x) fun h t j => -X h t j := fun h t j => by
  refine Eq.trans (b := cst S64x256 0x00000000#32 (ix2 (tk rev t) (ln h j)) - x (ix2 (tk rev t) (ln h j))) rfl ?_
  rw [cst0, hx h t j, zero_sub, EReal.coe_neg]

theorem down_apply (x : FVec Ideal S1x256 .f32) (t : Fin 64) (d : Fin 256) : down x (ix2 t d) = x (ix2 0 d) := by
  pointwise [down]

theorem isL.down {x : FVec Ideal S1x256 .f32} {X : Fin 4 → Fin 64 → ℝ} (hx : isL x X) (rev : Bool) : isD rev (down x) fun h _ j => X h j := fun h t j => by
  rw [down_apply, hx h j]

/-- What a rounding leaves is nothing. -/
theorem rest_apply {s : Shape} {x : FVec Ideal s .f32} {i : s.Idx} {X : ℝ} (h : x i = (X : EReal)) : rest x i = (0 : EReal) := by
  refine Eq.trans (b := x i - x i) rfl ?_
  rw [h, ← EReal.coe_sub, sub_self, EReal.coe_zero]

/-- The comparisons of tokens. -/
theorem le64 : ∀ (rev : Bool) (t s : Fin 64), Scalar.cmpi (match rev with | false => .sle | true => .sge) (BitVec.ofNat 32 (tk rev s).val) (BitVec.ofNat 32 (tk rev t).val)
    = if s ≤ t then 1#1 else 0#1 := by decide +kernel
theorem lt64 : ∀ (rev : Bool) (t s : Fin 64), Scalar.cmpi (match rev with | false => .slt | true => .sgt) (BitVec.ofNat 32 (tk rev s).val) (BitVec.ofNat 32 (tk rev t).val)
    = if s < t then 1#1 else 0#1 := by decide +kernel
theorem eq64 : ∀ (rev : Bool) (t s : Fin 64), Scalar.cmpi .eq (BitVec.ofNat 32 (tk rev s).val) (BitVec.ofNat 32 (tk rev t).val)
    = if t = s then 1#1 else 0#1 := by decide +kernel

theorem s2_zero : ∀ l : Fin 256, s2 (ix2 0 l) = BitVec.ofNat 32 (l.val % 64) := by decide +kernel
theorem s2_apply (t : Fin 64) (h : Fin 4) (s : Fin 64) : s2 (ix2 t (ln h s)) = BitVec.ofNat 32 s.val :=
  Eq.trans (b := s2 (ix2 0 (ln h s))) rfl ((s2_zero (ln h s)).trans (by rw [ln_mod]))
theorem t2_apply (t : Fin 64) (l : Fin 256) : t2 (ix2 t l) = BitVec.ofNat 32 t.val := by pointwise [t2]

theorem tri_apply (rev : Bool) (t s : Fin 64) : tri rev (ix2 (tk rev t) (tk rev s)) = if s ≤ t then (1 : EReal) else 0 := by
  refine Eq.trans (b := Scalar.select (Scalar.cmpi (match rev with | false => .sle | true => .sge)
    (iota .tc S64x64 32 [1] iota_S64x64_d1_w32 (ix2 (tk rev t) (tk rev s))) (iota .tc S64x64 32 [0] iota_S64x64_d0_w32 (ix2 (tk rev t) (tk rev s))))
    (cst S64x64 0x3F800000#32 (ix2 (tk rev t) (tk rev s))) (cst S64x64 0x00000000#32 (ix2 (tk rev t) (tk rev s)))) rfl ?_
  have e1 : iota .tc S64x64 32 [1] iota_S64x64_d1_w32 (ix2 (tk rev t) (tk rev s)) = BitVec.ofNat 32 (tk rev s).val := by pointwise
  have e0 : iota .tc S64x64 32 [0] iota_S64x64_d0_w32 (ix2 (tk rev t) (tk rev s)) = BitVec.ofNat 32 (tk rev t).val := by pointwise
  rw [e1, e0, le64, cst0, cst1, sel_if]

theorem strict_apply (rev : Bool) (x : FVec Ideal S64x256 .f32) (t : Fin 64) (h : Fin 4) (s : Fin 64) :
    strict rev x (ix2 (tk rev t) (ln h (tk rev s))) = if s < t then x (ix2 (tk rev t) (ln h (tk rev s))) else 0 := by
  refine Eq.trans (b := Scalar.select (Scalar.cmpi (match rev with | false => .slt | true => .sgt) (s2 (ix2 (tk rev t) (ln h (tk rev s)))) (t2 (ix2 (tk rev t) (ln h (tk rev s)))))
    (x (ix2 (tk rev t) (ln h (tk rev s)))) (cst S64x256 0x00000000#32 (ix2 (tk rev t) (ln h (tk rev s))))) rfl ?_
  rw [s2_apply, t2_apply, lt64, cst0, sel_if]

theorem incl_apply (rev : Bool) (x : FVec Ideal S64x256 .f32) (t : Fin 64) (h : Fin 4) (s : Fin 64) :
    incl rev x (ix2 (tk rev t) (ln h (tk rev s))) = if s ≤ t then x (ix2 (tk rev t) (ln h (tk rev s))) else 0 := by
  refine Eq.trans (b := Scalar.select (Scalar.cmpi (match rev with | false => .sle | true => .sge) (s2 (ix2 (tk rev t) (ln h (tk rev s)))) (t2 (ix2 (tk rev t) (ln h (tk rev s)))))
    (x (ix2 (tk rev t) (ln h (tk rev s)))) (cst S64x256 0x00000000#32 (ix2 (tk rev t) (ln h (tk rev s))))) rfl ?_
  rw [s2_apply, t2_apply, le64, cst0, sel_if]

theorem isM.strict {rev : Bool} {x : FVec Ideal S64x256 .f32} {X : Fin 4 → Fin 64 → Fin 64 → ℝ} (hx : isM rev x X) :
    isM rev (strict rev x) fun h t s => if s < t then X h t s else 0 := fun h t s => by
  rw [strict_apply, hx h t s]
  exact (apply_ite Real.toEReal _ _ _).symm

theorem isM.incl {rev : Bool} {x : FVec Ideal S64x256 .f32} {X : Fin 4 → Fin 64 → Fin 64 → ℝ} (hx : isM rev x X) :
    isM rev (incl rev x) fun h t s => if s ≤ t then X h t s else 0 := fun h t s => by
  rw [incl_apply, hx h t s]
  exact (apply_ite Real.toEReal _ _ _).symm

end Cert.WkvIdeal.Dir
-- ==== Proof.WkvMask.lean ====
module

public import proofs.«01_k».proof.Defs
public import proofs.«01_k».proof.Proof.Gen.WkvIdeal.Value
public import proofs.«01_k».proof.Proof.WkvRel
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- The block sizes of the inverse's levels. -/
abbrev sizes : List ℕ := [1, 2, 4, 8, 16, 32]

theorem fdiv_tab : ∀ b ∈ sizes, ∀ s : Fin 64, fdiv (fun _ => BitVec.ofNat 32 s.val : IVec S64x256 32) (BitVec.ofNat 32 b) (ix2 0 0) = BitVec.ofNat 32 (s.val / b) := by decide +kernel
theorem fmod_tab : ∀ q : Fin 64, fmod (fun _ => BitVec.ofNat 32 q.val) 2#32 (ix2 0 0) = BitVec.ofNat 32 (q.val % 2) := by decide +kernel

theorem off_tab : ∀ (q p : Fin 64), Scalar.andi (Scalar.cmpi .eq (BitVec.ofNat 32 (q.val % 2)) 1#32) (Scalar.cmpi .eq (BitVec.ofNat 32 p.val) (Scalar.subi (BitVec.ofNat 32 q.val) 1#32))
    = if q.val % 2 = 1 ∧ p.val = q.val - 1 then 1#1 else 0#1 := by decide +kernel
theorem off_tab_rev : ∀ (q p : Fin 64), Scalar.andi (Scalar.cmpi .eq (BitVec.ofNat 32 (q.val % 2)) 0#32) (Scalar.cmpi .eq (BitVec.ofNat 32 p.val) (Scalar.addi (BitVec.ofNat 32 q.val) 1#32))
    = if q.val % 2 = 0 ∧ p.val = q.val + 1 then 1#1 else 0#1 := by decide +kernel

theorem off_flip (b : ℕ) (hb : b ∈ sizes) (t s : Fin 64) :
    ((63 - t.val) / b % 2 = 0 ∧ (63 - s.val) / b = (63 - t.val) / b + 1) ↔ (t.val / b % 2 = 1 ∧ s.val / b = t.val / b - 1) := by
  have ht := t.isLt
  have hs := s.isLt
  simp only [sizes, List.mem_cons, List.not_mem_nil, or_false] at hb
  rcases hb with rfl | rfl | rfl | rfl | rfl | rfl <;> omega

theorem fdiv_at (x : IVec S64x256 32) (d : BitVec 32) (i : S64x256.Idx) : fdiv x d i = fdiv (fun _ => x i : IVec S64x256 32) d (ix2 0 0) := by sl_kernel_rfl
theorem fmod_at (x : IVec S64x256 32) (d : BitVec 32) (i : S64x256.Idx) : fmod x d i = fmod (fun _ => x i : IVec S64x256 32) d (ix2 0 0) := by sl_kernel_rfl

theorem fdiv_t2 (b : ℕ) (hb : b ∈ sizes) (t : Fin 64) (l : Fin 256) : fdiv t2 (BitVec.ofNat 32 b) (ix2 t l) = BitVec.ofNat 32 (t.val / b) := by
  rw [fdiv_at, t2_apply]; exact fdiv_tab b hb t

theorem fdiv_s2 (b : ℕ) (hb : b ∈ sizes) (t : Fin 64) (h : Fin 4) (s : Fin 64) : fdiv s2 (BitVec.ofNat 32 b) (ix2 t (ln h s)) = BitVec.ofNat 32 (s.val / b) := by
  rw [fdiv_at, s2_apply]; exact fdiv_tab b hb s

theorem fmod_t2 (b : ℕ) (hb : b ∈ sizes) (t : Fin 64) (l : Fin 256) : fmod (fdiv t2 (BitVec.ofNat 32 b)) 2#32 (ix2 t l) = BitVec.ofNat 32 (t.val / b % 2) := by
  rw [fmod_at, fdiv_t2 b hb]; exact fmod_tab ⟨t.val / b, Nat.lt_of_le_of_lt (Nat.div_le_self _ _) t.isLt⟩

theorem off_fwd (b : ℕ) (hb : b ∈ sizes) (x : FVec Ideal S64x256 .f32) (t : Fin 64) (h : Fin 4) (s : Fin 64) :
    off false (BitVec.ofNat 32 b) x (ix2 t (ln h s)) = if t.val / b % 2 = 1 ∧ s.val / b = t.val / b - 1 then x (ix2 t (ln h s)) else 0 := by
  refine Eq.trans (b := Scalar.select (Scalar.andi (Scalar.cmpi .eq (fmod (fdiv t2 (BitVec.ofNat 32 b)) 2#32 (ix2 t (ln h s))) 1#32)
    (Scalar.cmpi .eq (fdiv s2 (BitVec.ofNat 32 b) (ix2 t (ln h s))) (Scalar.subi (fdiv t2 (BitVec.ofNat 32 b) (ix2 t (ln h s))) 1#32)))
    (x (ix2 t (ln h s))) (cst S64x256 0x00000000#32 (ix2 t (ln h s)))) rfl ?_
  rw [fmod_t2 b hb, fdiv_s2 b hb, fdiv_t2 b hb, cst0]
  have e := off_tab ⟨t.val / b, Nat.lt_of_le_of_lt (Nat.div_le_self _ _) t.isLt⟩ ⟨s.val / b, Nat.lt_of_le_of_lt (Nat.div_le_self _ _) s.isLt⟩
  rw [e, sel_if]

theorem off_bwd (b : ℕ) (hb : b ∈ sizes) (x : FVec Ideal S64x256 .f32) (t : Fin 64) (h : Fin 4) (s : Fin 64) :
    off true (BitVec.ofNat 32 b) x (ix2 t (ln h s)) = if t.val / b % 2 = 0 ∧ s.val / b = t.val / b + 1 then x (ix2 t (ln h s)) else 0 := by
  refine Eq.trans (b := Scalar.select (Scalar.andi (Scalar.cmpi .eq (fmod (fdiv t2 (BitVec.ofNat 32 b)) 2#32 (ix2 t (ln h s))) 0#32)
    (Scalar.cmpi .eq (fdiv s2 (BitVec.ofNat 32 b) (ix2 t (ln h s))) (Scalar.addi (fdiv t2 (BitVec.ofNat 32 b) (ix2 t (ln h s))) 1#32)))
    (x (ix2 t (ln h s))) (cst S64x256 0x00000000#32 (ix2 t (ln h s)))) rfl ?_
  rw [fmod_t2 b hb, fdiv_s2 b hb, fdiv_t2 b hb, cst0]
  have e := off_tab_rev ⟨t.val / b, Nat.lt_of_le_of_lt (Nat.div_le_self _ _) t.isLt⟩ ⟨s.val / b, Nat.lt_of_le_of_lt (Nat.div_le_self _ _) s.isLt⟩
  rw [e, sel_if]

/-- The joining part of a matrix, in either direction. -/
theorem isM.off {rev : Bool} {x : FVec Ideal S64x256 .f32} {X : Fin 4 → Fin 64 → Fin 64 → ℝ} (hx : isM rev x X) (b : ℕ) (hb : b ∈ sizes) :
    isM rev (off rev (BitVec.ofNat 32 b) x) fun h => WkvReal.off b (X h) := fun h t s => by
  have e : Dir.off rev (BitVec.ofNat 32 b) x (ix2 (tk rev t) (ln h (tk rev s)))
      = if t.val / b % 2 = 1 ∧ s.val / b = t.val / b - 1 then x (ix2 (tk rev t) (ln h (tk rev s))) else 0 := by
    cases rev
    · exact off_fwd b hb x t h s
    · refine (off_bwd b hb x (tk true t) h (tk true s)).trans ?_
      exact if_congr (off_flip b hb t s) rfl rfl
  rw [e, hx h t s]
  exact (apply_ite Real.toEReal _ _ _).symm

theorem isM.dbl {rev : Bool} {M X : FVec Ideal S64x256 .f32} {A Y : Fin 4 → Fin 64 → Fin 64 → ℝ} (hM : isM rev M A) (hX : isM rev X Y) (b : ℕ) (hb : b ∈ sizes) :
    isM rev (dbl rev (BitVec.ofNat 32 b) M X) fun h => WkvReal.dbl b (A h) (Y h) :=
  hX.add (dot_isM (dot_isM hX (hM.off b hb)) hX)

theorem isM.inv1 {rev : Bool} {M : FVec Ideal S64x256 .f32} {A : Fin 4 → Fin 64 → Fin 64 → ℝ} (hM : isM rev M A) :
    isM rev (inv1 rev M) fun h => WkvReal.inv1 (A h) := by
  refine isM.add (X := fun _ t s => (1 : WkvReal.Mat) t s) (fun h t s => ?_) (hM.off 1 (by decide))
  refine Eq.trans (b := Scalar.select (Scalar.cmpi .eq (s2 (ix2 (tk rev t) (ln h (tk rev s)))) (t2 (ix2 (tk rev t) (ln h (tk rev s)))))
    (cst S64x256 0x3F800000#32 (ix2 (tk rev t) (ln h (tk rev s)))) (cst S64x256 0x00000000#32 (ix2 (tk rev t) (ln h (tk rev s))))) rfl ?_
  rw [s2_apply, t2_apply, eq64, cst0, cst1, sel_if]
  refine Eq.trans ?_ (congrArg Real.toEReal (Matrix.one_apply (i := t) (j := s)).symm)
  exact (apply_ite Real.toEReal _ _ _).symm

/-- The inverse by doublings. -/
theorem isM.inv {rev : Bool} {M : FVec Ideal S64x256 .f32} {A : Fin 4 → Fin 64 → Fin 64 → ℝ} (hM : isM rev M A) :
    isM rev (inv rev M) fun h => WkvReal.inv (A h) :=
  hM.dbl (hM.dbl (hM.dbl (hM.dbl (hM.dbl hM.inv1 2 (by decide)) 4 (by decide)) 8 (by decide)) 16 (by decide)) 32 (by decide)

end Cert.WkvIdeal.Dir
-- ==== Proof.WkvChunk.lean ====
module

public import proofs.«01_k».proof.Defs
public import proofs.«01_k».proof.Proof.Gen.WkvIdeal.Value
public import proofs.«01_k».proof.Proof.WkvMask
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- The prepared rows of a chunk are those of the four heads' features. -/
structure isP (rev : Bool) (p : Prep) (F : Fin 4 → WkvReal.Feat) : Prop where
  at' : isD rev p.at' fun h t j => WkvReal.at' (F h) t j
  rt : isD rev p.rt fun h t j => WkvReal.rt (F h) t j
  bt : isD rev p.bt fun h t j => WkvReal.bt (F h) t j
  kt : isD rev p.kt fun h t j => WkvReal.kt (F h) t j
  bh : isD rev p.bh fun h t j => WkvReal.bh (F h) t j
  kh : isD rev p.kh fun h t j => WkvReal.kh (F h) t j
  lt : isL p.lt fun h j => WkvReal.cum (F h) 63 j

theorem dot_tri {rev : Bool} {w : FVec Ideal S64x256 .f32} {W : Fin 4 → Fin 64 → Fin 64 → ℝ} (hw : isD rev w W) :
    isD rev (dotUp (tri rev) (hi w)) fun h t j => ∑ s, (if s ≤ t then 1 else 0) * W h s j := by
  intro h t j
  rw [dotUp_apply, sum_tk rev, coe_sum]
  refine Finset.sum_congr rfl fun s _ => ?_
  rw [hi_apply, hw h s j, tri_apply, EReal.coe_mul]
  exact congrArg (· * _) (apply_ite Real.toEReal _ _ _).symm

theorem isD.rest {rev : Bool} {w : FVec Ideal S64x256 .f32} {W : Fin 4 → Fin 64 → Fin 64 → ℝ} (hw : isD rev w W) :
    isD rev (rest w) fun _ _ _ => 0 := fun h t j => by
  rw [rest_apply (hw h t j), EReal.coe_zero]

theorem isD.congr {rev : Bool} {w : FVec Ideal S64x256 .f32} {W V : Fin 4 → Fin 64 → Fin 64 → ℝ} (hw : isD rev w W) (e : ∀ h t j, W h t j = V h t j) : isD rev w V :=
  fun h t j => by rw [hw h t j, e]

theorem isM.congr {rev : Bool} {w : FVec Ideal S64x256 .f32} {W V : Fin 4 → Fin 64 → Fin 64 → ℝ} (hw : isM rev w W) (e : ∀ h t j, W h t j = V h t j) : isM rev w V :=
  fun h t j => by rw [hw h t j, e]

theorem isD.cum {rev : Bool} {w : FVec Ideal S64x256 .f32} {F : Fin 4 → WkvReal.Feat} (hw : isD rev w fun h t j => (F h).w t j) :
    isD rev (cumV rev w) fun h t j => WkvReal.cum (F h) t j := by
  refine isD.congr ((dot_tri hw).add ((dot_tri hw.rest).add (dot_tri hw.rest.rest))) fun h t j => ?_
  simp only [mul_zero, Finset.sum_const_zero, add_zero]
  refine Eq.trans ?_ ((WkvReal.sum_le t.val t.isLt (fun _ => 1) (fun s => (F h).w s j)).trans (by simp only [one_mul]; rfl))
  exact Finset.sum_congr rfl fun s _ => congrArg (· * _) (if_congr Iff.rfl rfl rfl)

theorem isL_tot {rev : Bool} {u : FVec Ideal S64x256 .f32} {X : Fin 4 → Fin 64 → Fin 64 → ℝ} (hu : isD rev u X) :
    isL (totV rev u) fun h j => X h 63 j := fun h j => by
  rw [← hu h 63 j]
  cases rev
  · pointwise [totV]; rfl
  · pointwise [totV]; rfl

theorem isP_prep {rev : Bool} {r kk w kd b : FVec Ideal S64x256 .f32} {F : Fin 4 → WkvReal.Feat}
    (hr : isD rev r fun h t j => (F h).r t j) (hkk : isD rev kk fun h t j => (F h).kk t j) (hw : isD rev w fun h t j => (F h).w t j)
    (hkd : isD rev kd fun h t j => (F h).kd t j) (hb : isD rev b fun h t j => (F h).b t j) : isP rev (prep rev r kk w kd b) F where
  at' := hkk.neg.mul (hw.cum.sub hw).exp
  rt := hr.mul hw.cum.exp
  bt := hb.mul hw.cum.neg.exp
  kt := hkd.mul hw.cum.neg.exp
  bh := hb.mul (((isL_tot hw.cum).down rev).sub hw.cum).exp
  kh := hkd.mul (((isL_tot hw.cum).down rev).sub hw.cum).exp
  lt := isL_tot hw.cum

variable {rev : Bool} {p : Prep} {F : Fin 4 → WkvReal.Feat}

theorem isP.Mab (hp : isP rev p F) : isM rev (Mab rev p) fun h => WkvReal.MabM (F h) := (top_isM hp.at' hp.bt).strict
theorem isP.Mak (hp : isP rev p F) : isM rev (Mak rev p) fun h t s => WkvReal.Mak (F h) t s := (top_isM hp.at' hp.kt).strict
theorem isP.Nrb (hp : isP rev p F) : isM rev (Nrb rev p) fun h t s => WkvReal.Nrb (F h) t s := (bot_isM hp.rt hp.bt).incl
theorem isP.Nrk (hp : isP rev p F) : isM rev (Nrk rev p) fun h t s => WkvReal.Nrk (F h) t s := (bot_isM hp.rt hp.kt).incl

/-- The corrections are those of the real recurrence. -/
theorem isP.u (hp : isP rev p F) {v : FVec Ideal S64x256 .f32} (hv : isD rev v fun h t j => (F h).v t j) {S : FVec Ideal S256x256 .f32} {X : Fin 4 → Fin 64 → Fin 64 → ℝ} (hS : isS S X) :
    isD rev (uV rev p v S) fun h => WkvReal.uF (F h) (X h) :=
  dot_isD hp.Mab.inv ((top_isD hp.at' hS).add (dot_isD hp.Mak hv))

/-- The chunk's output is the recurrence's. -/
theorem isP.o (hp : isP rev p F) {v : FVec Ideal S64x256 .f32} (hv : isD rev v fun h t j => (F h).v t j) {S : FVec Ideal S256x256 .f32} {X : Fin 4 → Fin 64 → Fin 64 → ℝ} (hS : isS S X) :
    isD rev (oV rev p v S) fun h t j => WkvReal.out (F h) (X h) t j := by
  refine isD.congr (((bot_isD hp.rt hS).add (dot_isD hp.Nrb (hp.u hv hS))).add (dot_isD hp.Nrk hv)) fun h t j => ?_
  rw [← WkvReal.chunk_out (F h) (X h) (WkvReal.uN (F h) (X h)) (WkvReal.uN_solves (F h) (X h)) t.val t.isLt j]
  simp only [WkvReal.uN_eq]

theorem sum128 (rev : Bool) (f : Fin 128 → EReal) : ∑ t, f t = ∑ s : Fin 64, f ⟨(tk rev s).val, by omega⟩ + ∑ s : Fin 64, f ⟨64 + (tk rev s).val, by omega⟩ := by
  rw [← sum_tk rev fun s => f ⟨s.val, by omega⟩, ← sum_tk rev fun s => f ⟨64 + s.val, by omega⟩]
  exact Fin.sum_univ_add (a := 64) (b := 64) f

/-- The update of the state is kept where row and lane are of one head. -/
theorem keep_apply (x : FVec Ideal S256x256 .f32) (h h' : Fin 4) (v k : Fin 64) :
    select (cmpf .ogt ones (broadcast S256x256 (Scalar.ofBits .bf16 0x0000#16))) x (cst S256x256 0x00000000#32) (ix2 (ln h v) (ln h' k))
      = if h = h' then x (ix2 (ln h v) (ln h' k)) else 0 := by
  have e : select (cmpf .ogt ones (broadcast S256x256 (Scalar.ofBits (F := Ideal) .bf16 0x0000#16))) x (cst S256x256 0x00000000#32) (ix2 (ln h v) (ln h' k))
      = if (0 : EReal) < ones (ix2 (ln h v) (ln h' k)) then x (ix2 (ln h v) (ln h' k)) else cst S256x256 0x00000000#32 (ix2 (ln h v) (ln h' k)) := by
    pointwise
  rw [e, ones_apply, cst0]
  by_cases hh : h = h'
  · rw [if_pos hh, if_pos hh, if_pos zero_lt_one]
  · rw [if_neg hh, if_neg hh, if_neg (lt_irrefl _)]

/-- The state after the chunk is the recurrence's after its 64 tokens. -/
theorem isP.s (hp : isP rev p F) {v : FVec Ideal S64x256 .f32} (hv : isD rev v fun h t j => (F h).v t j) {S : FVec Ideal S256x256 .f32} {X : Fin 4 → Fin 64 → Fin 64 → ℝ} (hS : isS S X) :
    isS (sV rev p v S) fun h => WkvReal.run (F h) (X h) 64 := by
  intro h i h' k
  have hu := hp.u hv hS
  have e1 : (broadcastTo S256x256 (exp p.lt) broadcasts_S1x256_S256x256 : FVec Ideal S256x256 .f32) (ix2 (ln h i) (ln h' k)) = ((Real.exp (WkvReal.cum (F h') 63 k) : ℝ) : EReal) := by
    refine Eq.trans (b := Ideal.exp (p.lt (ix2 0 (ln h' k)))) (by pointwise) ?_
    rw [hp.lt h' k, Ideal.exp_coe]
  refine Eq.trans (b := S (ix2 (ln h i) (ln h' k)) * (broadcastTo S256x256 (exp p.lt) broadcasts_S1x256_S256x256 : FVec Ideal S256x256 .f32) (ix2 (ln h i) (ln h' k))
    + select (cmpf .ogt ones (broadcast S256x256 (Scalar.ofBits .bf16 0x0000#16)))
      (matmul dot_S128x256_S128x256_S256x256_0_0_1_1_n_n none (stack (uV rev p v S) v) (stack p.bh p.kh) (constant (F := Ideal) S256x256 .f32 0x00000000#32)) (cst S256x256 0x00000000#32) (ix2 (ln h i) (ln h' k)))
    (by pointwise [sV]) ?_
  rw [e1, keep_apply, hS h i h' k]
  by_cases hh : h = h'
  · subst hh
    rw [if_pos rfl, if_pos rfl, if_pos rfl, dotS_apply, sum128 rev]
    show _ = ((WkvReal.run (F h) (X h) 64 i k : ℝ) : EReal)
    rw [← WkvReal.chunk_state (F h) (X h) (WkvReal.uN (F h) (X h)) (WkvReal.uN_solves (F h) (X h)) i k, EReal.coe_add, EReal.coe_mul, EReal.coe_add, coe_sum, coe_sum]
    refine congrArg₂ (· + ·) rfl (congrArg₂ (· + ·) (Finset.sum_congr rfl fun s _ => ?_) (Finset.sum_congr rfl fun s _ => ?_))
    · rw [stack_top, stack_top, hu h s i, hp.bh h s k, WkvReal.uN_eq, EReal.coe_mul]
    · rw [stack_bot, stack_bot, hv h s i, hp.kh h s k, EReal.coe_mul]
  · rw [if_neg hh, if_neg hh, if_neg hh, zero_mul, add_zero]

end Cert.WkvIdeal.Dir
-- ==== Proof.WkvChain.lean ====
module

public import proofs.«01_k».proof.Defs
public import proofs.«01_k».proof.Proof.Gen.WkvIdeal.Value
public import proofs.«01_k».proof.Proof.WkvOps
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- What one direction reads at one point: its four blocks, the weights, and the carried state. -/
structure Inp where
  r : Vec Ideal S1x64x256 .f32
  k : Vec Ideal S1x64x256 .f32
  v : Vec Ideal S1x64x256 .f32
  sm : Vec Ideal S1x64x256 .f32
  kkw : Vec Ideal S1x256 .f32
  kaw : Vec Ideal S1x256 .f32
  w0 : Vec Ideal S1x1x256 .f32
  wup : Vec Ideal S1x64x256 .f32
  a0 : Vec Ideal S1x1x256 .f32
  aup : Vec Ideal S1x64x256 .f32
  S : Vec Ideal S256x256 .f32

def f63 (I : Inp) : FVec Ideal S64x256 .f32 := k0_pay19 I.r
def f54 (_I : Inp) : FVec Ideal S256x256 .bf16 := k0_pay14 (F := Ideal) (k0_pay10) (k0_pay11) (k0_pay12) (k0_pay13) (0#32)
def f59 (I : Inp) : FVec Ideal S1x256 .f32 := k0_pay17 I.kkw
def f65 (I : Inp) : FVec Ideal S64x256 .f32 := k0_pay20 I.k
def f93 (I : Inp) : FVec Ideal S64x256 .f32 := k0_pay28 (f54 I) (f59 I) (f65 I)
def f69 (I : Inp) : FVec Ideal S64x256 .f32 := k0_pay22 I.sm
def f71 (I : Inp) : FVec Ideal S1x256 .f32 := k0_pay23 I.w0
def f73 (I : Inp) : FVec Ideal S64x256 .f32 := k0_pay24 I.wup
def f113 (I : Inp) : FVec Ideal S64x256 .f32 := k0_pay30 (f69 I) (f71 I) (f73 I)
def f119 (I : Inp) : FVec Ideal S64x256 .f32 := k0_pay31 (f69 I) (f71 I) (f73 I)
def f128 (I : Inp) : FVec Ideal S64x256 .f32 := k0_pay32 (f113 I) (f119 I)
def f165 (_I : Inp) : FVec Ideal S64x64 .bf16 := k0_pay36 (F := Ideal)
def f166 (I : Inp) : FVec Ideal S64x256 .bf16 := k0_pay37 (f113 I) (f119 I)
def f197 (I : Inp) : FVec Ideal S128x256 .bf16 := k0_pay45 (f63 I) (f93 I) (f128 I) (f165 I) (f166 I)
def f75 (I : Inp) : FVec Ideal S1x256 .f32 := k0_pay25 I.a0
def f77 (I : Inp) : FVec Ideal S64x256 .f32 := k0_pay26 I.aup
def f79 (I : Inp) : FVec Ideal S64x64 .f32 := k0_pay27 (f69 I)
def f158 (I : Inp) : FVec Ideal S64x256 .f32 := k0_pay35 (f75 I) (f77 I) (f79 I) (f93 I)
def f198 (I : Inp) : FVec Ideal S256x256 .f32 := k0_pay46 (f128 I) (f158 I) (f165 I) (f166 I)
def f253 (I : Inp) : FVec Ideal S128x256 .f32 := k0_pay50 (f197 I) (f198 I) (iota .tc S256x256 32 [0] iota_S256x256_d0_w32) (k0_pay47) (k0_pay48) (k0_pay49)
def f338 (I : Inp) : FVec Ideal S64x256 .f32 := k0_pay61 (f253 I)
def f61 (I : Inp) : FVec Ideal S1x256 .f32 := k0_pay18 I.kaw
def f157 (I : Inp) : FVec Ideal S64x256 .f32 := k0_pay34 (f61 I) (f65 I) (f75 I) (f77 I) (f79 I)
def f193 (I : Inp) : FVec Ideal S64x256 .f32 := k0_pay42 (f128 I) (f157 I) (f165 I) (f166 I)
def f254 (I : Inp) : FVec Ideal S256x256 .f32 := k0_pay51 (f193 I)
def f309 (I : Inp) : FVec Ideal S128x256 .f32 := k0_pay55 (f197 I) (f254 I) (iota .tc S256x256 32 [0] iota_S256x256_d0_w32) (64#32) (k0_pay52) (k0_pay53) (k0_pay54)
def f341 (I : Inp) : FVec Ideal S64x256 .f32 := k0_pay62 (f309 I)
def f1356 (I : Inp) : FVec Ideal S128x256 .f32 := k0_pay154 (f197 I) I.S
def f67 (I : Inp) : FVec Ideal S64x256 .f32 := k0_pay21 I.v
def f1357 (I : Inp) : FVec Ideal S256x256 .f32 := k0_pay155 (f67 I)
def f1411 (I : Inp) : FVec Ideal S256x256 .bf16 := k0_pay158 (f1357 I) (iota .tc S256x256 32 [0] iota_S256x256_d0_w32) (64#32) (k0_pay156) (k0_pay157) (Scalar.extui (Scalar.cmpi .sgt 64#32 0#32)) (Scalar.extui (Scalar.cmpi .slt 64#32 0#32))
def f332 (I : Inp) : FVec Ideal S64x256 .f32 := k0_pay59 (f253 I)
def f345 (_I : Inp) : FVec Ideal S64x256 .f32 := k0_pay63 (F := Ideal)
def f418 (I : Inp) : FVec Ideal S64x256 .f32 := k0_pay70 (f332 I) (f345 I) (k0_pay66 (iota .tc S64x256 32 [0] iota_S64x256_d0_w32) (1#32) (k0_pay64) (k0_pay65)) (k0_pay67 (k0_pay56)) (Scalar.select (Scalar.cmpi .eq 2#32 0#32) 1#32 2#32) (k0_pay68 (iota .tc S64x256 32 [0] iota_S64x256_d0_w32) (1#32) (k0_pay64) (k0_pay65)) (k0_pay69 (iota .tc S64x256 32 [0] iota_S64x256_d0_w32) (1#32) (k0_pay64) (k0_pay65))
def f491 (I : Inp) : FVec Ideal S64x256 .bf16 := k0_pay75 (f418 I)
def f490 (I : Inp) : FVec Ideal S64x256 .f32 := k0_pay74 (k0_pay56) (f332 I) (k0_pay71 (iota .tc S64x256 32 [0] iota_S64x256_d0_w32)) (2#32) (k0_pay72 (k0_pay56)) (k0_pay73)
def f492 (I : Inp) : FVec Ideal S256x256 .f32 := k0_pay76 (f490 I)
def f548 (I : Inp) : FVec Ideal S64x256 .bf16 := k0_pay81 (f491 I) (f492 I) (k0_pay77) (k0_pay78) (k0_pay79) (k0_pay80)
def f549 (I : Inp) : FVec Ideal S256x256 .f32 := k0_pay82 (f418 I)
def f605 (I : Inp) : FVec Ideal S64x256 .f32 := k0_pay86 (f418 I) (f548 I) (f549 I) (k0_pay83) (iota .tc S256x256 32 [1] iota_S256x256_d1_w32) (64#32) (k0_pay84) (k0_pay85) (0#32)
def f678 (I : Inp) : FVec Ideal S64x256 .bf16 := k0_pay91 (f605 I)
def f676 (_I : Inp) : FVec Ideal S64x256 .f32 := k0_pay90 (F := Ideal)
def f679 (I : Inp) : FVec Ideal S256x256 .f32 := k0_pay92 (f332 I) (k0_pay89 (k0_pay56) (k0_pay87 (iota .tc S64x256 32 [0] iota_S64x256_d0_w32)) (4#32) (k0_pay88 (k0_pay56))) (f676 I)
def f735 (I : Inp) : FVec Ideal S64x256 .bf16 := k0_pay97 (f678 I) (f679 I) (k0_pay93) (k0_pay94) (k0_pay95) (k0_pay96) (0#32)
def f736 (I : Inp) : FVec Ideal S256x256 .f32 := k0_pay98 (f605 I)
def f792 (I : Inp) : FVec Ideal S64x256 .f32 := k0_pay103 (f605 I) (f735 I) (f736 I) (k0_pay99) (iota .tc S256x256 32 [1] iota_S256x256_d1_w32) (64#32) (k0_pay100) (k0_pay101) (k0_pay102)
def f865 (I : Inp) : FVec Ideal S64x256 .bf16 := k0_pay106 (f792 I)
def f866 (I : Inp) : FVec Ideal S256x256 .f32 := k0_pay107 (f332 I) (k0_pay105 (k0_pay56) (k0_pay104 (iota .tc S64x256 32 [0] iota_S64x256_d0_w32)) (8#32))
def f922 (I : Inp) : FVec Ideal S64x256 .bf16 := k0_pay112 (f865 I) (f866 I) (k0_pay108) (iota .tc S256x256 32 [1] iota_S256x256_d1_w32) (k0_pay109) (k0_pay110) (k0_pay111)
def f923 (I : Inp) : FVec Ideal S256x256 .f32 := k0_pay113 (f792 I)
def f979 (I : Inp) : FVec Ideal S64x256 .f32 := k0_pay118 (f792 I) (f922 I) (f923 I) (k0_pay114) (iota .tc S256x256 32 [1] iota_S256x256_d1_w32) (64#32) (k0_pay115) (k0_pay116) (k0_pay117)
def f1052 (I : Inp) : FVec Ideal S64x256 .bf16 := k0_pay126 (f979 I)
def f1053 (I : Inp) : FVec Ideal S256x256 .f32 := k0_pay127 (f332 I) (k0_pay123 (k0_pay56)) (k0_pay124 (k0_pay119 (iota .tc S64x256 32 [0] iota_S64x256_d0_w32)) (k0_pay120 (iota .tc S64x256 32 [0] iota_S64x256_d0_w32)) (k0_pay121 (iota .tc S64x256 32 [0] iota_S64x256_d0_w32))) (k0_pay125 (k0_pay119 (iota .tc S64x256 32 [0] iota_S64x256_d0_w32)) (k0_pay120 (iota .tc S64x256 32 [0] iota_S64x256_d0_w32)) (k0_pay121 (iota .tc S64x256 32 [0] iota_S64x256_d0_w32)))
def f1109 (I : Inp) : FVec Ideal S64x256 .bf16 := k0_pay132 (f1052 I) (f1053 I) (k0_pay128) (iota .tc S256x256 32 [1] iota_S256x256_d1_w32) (64#32) (k0_pay129) (k0_pay130) (k0_pay131)
def f1110 (I : Inp) : FVec Ideal S256x256 .f32 := k0_pay133 (f979 I)
def f1166 (I : Inp) : FVec Ideal S64x256 .f32 := k0_pay137 (f979 I) (f1109 I) (f1110 I) (k0_pay134) (iota .tc S256x256 32 [1] iota_S256x256_d1_w32) (64#32) (k0_pay135) (k0_pay136)
def f1239 (I : Inp) : FVec Ideal S64x256 .bf16 := k0_pay143 (f1166 I)
def f1240 (I : Inp) : FVec Ideal S256x256 .f32 := k0_pay144 (f332 I) (k0_pay140 (k0_pay138 (iota .tc S64x256 32 [0] iota_S64x256_d0_w32)) (k0_pay139 (iota .tc S64x256 32 [0] iota_S64x256_d0_w32)) (1#32)) (k0_pay141 (k0_pay56)) (k0_pay142 (k0_pay138 (iota .tc S64x256 32 [0] iota_S64x256_d0_w32)) (k0_pay139 (iota .tc S64x256 32 [0] iota_S64x256_d0_w32)) (1#32)) (1#32)
def f1296 (I : Inp) : FVec Ideal S64x256 .bf16 := k0_pay148 (f1239 I) (f1240 I) (k0_pay145) (iota .tc S256x256 32 [1] iota_S256x256_d1_w32) (64#32) (k0_pay146) (k0_pay147) (Scalar.extui (Scalar.cmpi .sgt 64#32 0#32)) (Scalar.extui (Scalar.cmpi .slt 64#32 0#32))
def f1297 (I : Inp) : FVec Ideal S256x256 .f32 := k0_pay149 (f1166 I)
def f1353 (I : Inp) : FVec Ideal S64x256 .f32 := k0_pay153 (f1166 I) (f1296 I) (f1297 I) (k0_pay150) (iota .tc S256x256 32 [1] iota_S256x256_d1_w32) (64#32) (k0_pay151) (k0_pay152)
def f1416 (I : Inp) : FVec Ideal S64x256 .bf16 := k0_pay159 (f1353 I)
def f335 (I : Inp) : FVec Ideal S64x256 .f32 := k0_pay60 (f309 I)
def f1417 (I : Inp) : FVec Ideal S256x256 .f32 := k0_pay160 (f335 I) (f1356 I) (f1357 I) (iota .tc S256x256 32 [0] iota_S256x256_d0_w32) (64#32) (k0_pay156) (k0_pay157) (Scalar.extui (Scalar.cmpi .sgt 64#32 0#32)) (Scalar.extui (Scalar.cmpi .slt 64#32 0#32))
def f1473 (I : Inp) : FVec Ideal S256x256 .f32 := k0_pay167 (f1416 I) (f1417 I) (k0_pay162 (iota .tc S256x256 32 [0] iota_S256x256_d0_w32) (64#32) (k0_pay161)) (k0_pay163) (k0_pay164) (k0_pay165)
def fo15 (I : Inp) : FVec Ideal S64x256 .f32 := k0_pay171 (f338 I) (f341 I) (f1356 I) (f1411 I) (f1473 I) (k0_pay168) (iota .tc S256x256 32 [1] iota_S256x256_d1_w32) (64#32) (k0_pay169) (k0_pay170) (Scalar.extui (Scalar.cmpi .sgt 64#32 0#32)) (Scalar.extui (Scalar.cmpi .slt 64#32 0#32))
def f178 (I : Inp) : FVec Ideal S1x256 .f32 := k0_pay39 (f128 I) (f165 I) (f166 I)
def f194 (I : Inp) : FVec Ideal S64x256 .f32 := k0_pay43 (f128 I) (f158 I) (f165 I) (f166 I)
def f195 (I : Inp) : FVec Ideal S64x256 .f32 := k0_pay44 (f128 I) (f157 I) (f165 I) (f166 I)
def f1472 (I : Inp) : FVec Ideal S64x256 .f32 := k0_pay166 (f1416 I) (f1417 I) (k0_pay162 (iota .tc S256x256 32 [0] iota_S256x256_d0_w32) (64#32) (k0_pay161)) (k0_pay163) (k0_pay164) (k0_pay165)
def fs0 (I : Inp) : FVec Ideal S256x256 .f32 := k0_pay172 (f54 I) (f67 I) (f178 I) (f194 I) (f195 I) I.S (f1472 I)
def f1553 (I : Inp) : FVec Ideal S64x256 .f32 := k0_pay173 I.r
def f1583 (I : Inp) : FVec Ideal S64x256 .f32 := k0_pay182 (f54 I) (f59 I) I.k
def f1561 (I : Inp) : FVec Ideal S1x256 .f32 := k0_pay177 I.w0
def f1585 (I : Inp) : FVec Ideal S64x64 .bf16 := k0_pay184 I.sm
def f1588 (I : Inp) : FVec Ideal S64x64 .bf16 := k0_pay185 I.sm
def f1589 (I : Inp) : FVec Ideal S64x256 .bf16 := k0_pay186 I.wup
def f1591 (I : Inp) : FVec Ideal S64x256 .f32 := k0_pay187 I.wup
def f1618 (I : Inp) : FVec Ideal S64x256 .f32 := k0_pay188 (f1561 I) (f1585 I) (f1588 I) (f1589 I) (f1591 I)
def f1686 (I : Inp) : FVec Ideal S128x256 .f32 := k0_pay201 (f1553 I) (f1583 I) (f1618 I)
def f1687 (I : Inp) : FVec Ideal S128x256 .bf16 := k0_pay202 (f1686 I)
def f1565 (I : Inp) : FVec Ideal S1x256 .f32 := k0_pay179 I.a0
def f1567 (I : Inp) : FVec Ideal S64x256 .f32 := k0_pay180 I.aup
def f1569 (I : Inp) : FVec Ideal S64x64 .f32 := k0_pay181 I.sm
def f1636 (I : Inp) : FVec Ideal S64x256 .f32 := k0_pay189 (f1565 I) (f1567 I) (f1569 I)
def f1682 (I : Inp) : FVec Ideal S64x256 .f32 := k0_pay197 (f1583 I) (f1618 I) (f1636 I) (Scalar.ofBits .f32 0x3F800000#32)
def f1688 (I : Inp) : FVec Ideal S256x256 .f32 := k0_pay203 (f1682 I)
def f1743 (I : Inp) : FVec Ideal S128x256 .f32 := k0_pay209 (f1687 I) (f1688 I) (k0_pay204) (k0_pay205) (k0_pay206) (k0_pay207) (k0_pay208)
def f1826 (I : Inp) : FVec Ideal S64x256 .f32 := k0_pay220 (f1743 I)
def f1828 (I : Inp) : FVec Ideal S64x256 .f32 := k0_pay221 (k0_pay217) (f1826 I)
def f1555 (I : Inp) : FVec Ideal S64x256 .f32 := k0_pay174 I.k
def f1683 (I : Inp) : FVec Ideal S64x256 .f32 := k0_pay198 (f61 I) (f1555 I) (f1618 I) (f1636 I) (Scalar.ofBits .f32 0x3F800000#32)
def f1744 (I : Inp) : FVec Ideal S256x256 .f32 := k0_pay210 (f1683 I)
def f1799 (I : Inp) : FVec Ideal S128x256 .f32 := k0_pay214 (f1687 I) (f1744 I) (k0_pay211) (iota .tc S256x256 32 [1] iota_S256x256_d1_w32) (64#32) (k0_pay212) (k0_pay213) (0#32)
def f1831 (I : Inp) : FVec Ideal S64x256 .f32 := k0_pay222 (f1799 I) (k0_pay217)
def f2846 (I : Inp) : FVec Ideal S128x256 .f32 := k0_pay299 (f1687 I) I.S
def f1557 (I : Inp) : FVec Ideal S64x256 .f32 := k0_pay175 I.v
def f2847 (I : Inp) : FVec Ideal S256x256 .f32 := k0_pay300 (f1557 I)
def f2901 (I : Inp) : FVec Ideal S256x256 .bf16 := k0_pay304 (f2847 I) (k0_pay301) (iota .tc S256x256 32 [1] iota_S256x256_d1_w32) (64#32) (k0_pay302) (k0_pay303)
def f1822 (I : Inp) : FVec Ideal S64x256 .f32 := k0_pay218 (f1743 I)
def f1835 (_I : Inp) : FVec Ideal S64x256 .f32 := k0_pay223 (F := Ideal) (iota .tc S64x256 32 [0] iota_S64x256_d0_w32) (k0_pay215)
def f1908 (I : Inp) : FVec Ideal S64x256 .f32 := k0_pay227 (k0_pay215) (f1822 I) (f1835 I) (k0_pay224 (iota .tc S64x256 32 [0] iota_S64x256_d0_w32)) (1#32) (k0_pay225 (k0_pay215)) (k0_pay226 (k0_pay215)) (Scalar.extui (Scalar.cmpi .sgt 1#32 0#32)) (0#32)
def f1981 (I : Inp) : FVec Ideal S64x256 .bf16 := k0_pay235 (f1908 I)
def f1982 (I : Inp) : FVec Ideal S256x256 .f32 := k0_pay236 (f1822 I) (k0_pay231 (iota .tc S64x256 32 [0] iota_S64x256_d0_w32) (2#32) (k0_pay228 (iota .tc S64x256 32 [0] iota_S64x256_d0_w32)) (k0_pay229 (iota .tc S64x256 32 [0] iota_S64x256_d0_w32)) (k0_pay230 (iota .tc S64x256 32 [0] iota_S64x256_d0_w32))) (k0_pay232 (k0_pay215)) (Scalar.select (Scalar.cmpi .eq 2#32 0#32) 1#32 2#32) (k0_pay233 (iota .tc S64x256 32 [0] iota_S64x256_d0_w32) (2#32) (k0_pay228 (iota .tc S64x256 32 [0] iota_S64x256_d0_w32)) (k0_pay229 (iota .tc S64x256 32 [0] iota_S64x256_d0_w32)) (k0_pay230 (iota .tc S64x256 32 [0] iota_S64x256_d0_w32))) (k0_pay234)
def f2038 (I : Inp) : FVec Ideal S64x256 .bf16 := k0_pay238 (f1981 I) (f1982 I) (k0_pay237) (iota .tc S256x256 32 [1] iota_S256x256_d1_w32) (64#32)
def f2039 (I : Inp) : FVec Ideal S256x256 .f32 := k0_pay239 (f1908 I)
def f2095 (I : Inp) : FVec Ideal S64x256 .f32 := k0_pay243 (f1908 I) (f2038 I) (f2039 I) (iota .tc S256x256 32 [0] iota_S256x256_d0_w32) (64#32) (k0_pay240) (k0_pay241) (k0_pay242)
def f2168 (I : Inp) : FVec Ideal S64x256 .bf16 := k0_pay250 (f2095 I)
def f2169 (I : Inp) : FVec Ideal S256x256 .f32 := k0_pay251 (f1822 I) (k0_pay247 (iota .tc S64x256 32 [0] iota_S64x256_d0_w32) (4#32) (k0_pay244 (iota .tc S64x256 32 [0] iota_S64x256_d0_w32)) (k0_pay245 (iota .tc S64x256 32 [0] iota_S64x256_d0_w32)) (k0_pay246)) (k0_pay248 (k0_pay215)) (Scalar.select (Scalar.cmpi .eq 2#32 0#32) 1#32 2#32) (k0_pay249 (iota .tc S64x256 32 [0] iota_S64x256_d0_w32) (4#32) (k0_pay244 (iota .tc S64x256 32 [0] iota_S64x256_d0_w32)) (k0_pay245 (iota .tc S64x256 32 [0] iota_S64x256_d0_w32)) (k0_pay246))
def f2225 (I : Inp) : FVec Ideal S64x256 .bf16 := k0_pay253 (f2168 I) (f2169 I) (k0_pay252)
def f2226 (I : Inp) : FVec Ideal S256x256 .f32 := k0_pay254 (f2095 I)
def f2282 (I : Inp) : FVec Ideal S64x256 .f32 := k0_pay257 (f2095 I) (f2225 I) (f2226 I) (iota .tc S256x256 32 [0] iota_S256x256_d0_w32) (64#32) (k0_pay255) (k0_pay256) (Scalar.extui (Scalar.cmpi .sgt 64#32 0#32)) (Scalar.extui (Scalar.cmpi .slt 64#32 0#32))
def f2355 (I : Inp) : FVec Ideal S64x256 .bf16 := k0_pay262 (f2282 I)
def f2356 (I : Inp) : FVec Ideal S256x256 .f32 := k0_pay263 (f1822 I) (k0_pay260 (iota .tc S64x256 32 [0] iota_S64x256_d0_w32) (8#32) (k0_pay258 (iota .tc S64x256 32 [0] iota_S64x256_d0_w32)) (k0_pay259 (iota .tc S64x256 32 [0] iota_S64x256_d0_w32))) (k0_pay261 (k0_pay215)) (Scalar.select (Scalar.cmpi .eq 2#32 0#32) 1#32 2#32)
def f2412 (I : Inp) : FVec Ideal S64x256 .bf16 := k0_pay267 (f2355 I) (f2356 I) (k0_pay264) (k0_pay265) (k0_pay266)
def f2413 (I : Inp) : FVec Ideal S256x256 .f32 := k0_pay268 (f2282 I)
def f2469 (I : Inp) : FVec Ideal S64x256 .f32 := k0_pay271 (f2282 I) (f2412 I) (f2413 I) (iota .tc S256x256 32 [0] iota_S256x256_d0_w32) (64#32) (k0_pay269) (k0_pay270) (Scalar.extui (Scalar.cmpi .sgt 64#32 0#32)) (0#32)
def f2542 (I : Inp) : FVec Ideal S64x256 .bf16 := k0_pay276 (f2469 I)
def f2543 (I : Inp) : FVec Ideal S256x256 .f32 := k0_pay277 (f1822 I) (k0_pay274 (iota .tc S64x256 32 [0] iota_S64x256_d0_w32) (16#32) (k0_pay272 (iota .tc S64x256 32 [0] iota_S64x256_d0_w32)) (k0_pay273)) (k0_pay275 (k0_pay215)) (2#32) (Scalar.cmpi .eq 2#32 0#32)
def f2599 (I : Inp) : FVec Ideal S64x256 .bf16 := k0_pay280 (f2542 I) (f2543 I) (k0_pay278) (k0_pay279)
def f2600 (I : Inp) : FVec Ideal S256x256 .f32 := k0_pay281 (f2469 I)
def f2656 (I : Inp) : FVec Ideal S64x256 .f32 := k0_pay284 (f2469 I) (f2599 I) (f2600 I) (iota .tc S256x256 32 [0] iota_S256x256_d0_w32) (64#32) (k0_pay282) (k0_pay283) (Scalar.cmpi .sgt 64#32 0#32)
def f2729 (I : Inp) : FVec Ideal S64x256 .bf16 := k0_pay288 (f2656 I)
def f2730 (I : Inp) : FVec Ideal S256x256 .f32 := k0_pay289 (f1822 I) (k0_pay286 (iota .tc S64x256 32 [0] iota_S64x256_d0_w32) (32#32) (k0_pay285 (iota .tc S64x256 32 [0] iota_S64x256_d0_w32))) (k0_pay287 (k0_pay215)) (2#32)
def f2786 (I : Inp) : FVec Ideal S64x256 .bf16 := k0_pay294 (f2729 I) (f2730 I) (k0_pay290) (k0_pay291) (k0_pay292) (k0_pay293)
def f2787 (I : Inp) : FVec Ideal S256x256 .f32 := k0_pay295 (f2656 I)
def f2843 (I : Inp) : FVec Ideal S64x256 .f32 := k0_pay298 (f2656 I) (f2786 I) (f2787 I) (iota .tc S256x256 32 [0] iota_S256x256_d0_w32) (64#32) (k0_pay296) (k0_pay297)
def f2906 (I : Inp) : FVec Ideal S64x256 .bf16 := k0_pay305 (f2843 I)
def f1825 (I : Inp) : FVec Ideal S64x256 .f32 := k0_pay219 (f1687 I) (f1744 I) (k0_pay211) (iota .tc S256x256 32 [1] iota_S256x256_d1_w32) (64#32) (k0_pay212) (k0_pay213) (0#32)
def f2907 (I : Inp) : FVec Ideal S256x256 .f32 := k0_pay306 (f1825 I) (f2846 I) (f2847 I) (k0_pay301) (iota .tc S256x256 32 [1] iota_S256x256_d1_w32) (64#32) (k0_pay302) (k0_pay303)
def f2963 (I : Inp) : FVec Ideal S256x256 .f32 := k0_pay311 (f2906 I) (f2907 I) (k0_pay307) (iota .tc S256x256 32 [1] iota_S256x256_d1_w32) (64#32) (k0_pay308) (k0_pay309)
def f3024 (I : Inp) : FVec Ideal S64x256 .f32 := k0_pay316 (f1828 I) (f1831 I) (f2846 I) (f2901 I) (f2963 I) (k0_pay312) (k0_pay313) (k0_pay314) (k0_pay315)
def f1684 (I : Inp) : FVec Ideal S64x256 .f32 := k0_pay199 (f1583 I) (f1618 I) (f1636 I) (Scalar.ofBits .f32 0x3F800000#32)
def f1685 (I : Inp) : FVec Ideal S64x256 .f32 := k0_pay200 (f61 I) (f1555 I) (f1618 I) (f1636 I) (Scalar.ofBits .f32 0x3F800000#32)
def f2962 (I : Inp) : FVec Ideal S64x256 .f32 := k0_pay310 (f2906 I) (f2907 I) (k0_pay307) (iota .tc S256x256 32 [1] iota_S256x256_d1_w32) (64#32) (k0_pay308) (k0_pay309)
def f3029 (I : Inp) : FVec Ideal S256x256 .f32 := k0_pay317 (f1557 I) (f1684 I) (f1685 I) (f2962 I)
def f1668 (I : Inp) : FVec Ideal S1x256 .f32 := k0_pay194 (f1618 I)
def f3031 (I : Inp) : FVec Ideal S256x256 .f32 := k0_pay318 (f1668 I)
def fs1 (I : Inp) : FVec Ideal S256x256 .f32 := k0_pay1 (f54 I) I.S (f3029 I) (f3031 I)

end Cert.WkvIdeal.Dir
-- ==== Proof.WkvStage.lean ====
module

public import proofs.«01_k».proof.Defs
public import proofs.«01_k».proof.Proof.Gen.WkvIdeal.Value
public import proofs.«01_k».proof.Proof.WkvChain
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-! The stages of one grid point, each equal to the operation it spells out. -/

theorem st165 (I : Inp) : f165 I = tri false := by
  unfold f165
  sl_kernel_rfl

theorem st166 (I : Inp) : f166 I = hi (f128 I) := by
  unfold f166 f128 f113 f119 f69 f71 f73
  sl_kernel_rfl

theorem st54 (I : Inp) : f54 I = ones := by
  unfold f54
  sl_kernel_rfl

theorem st93 (I : Inp) : f93 I = kkV (row I.k) (lane I.kkw) := by
  unfold f93 f54 f59 f65
  sl_kernel_rfl

theorem st128 (I : Inp) : f128 I = logwV (row I.sm) (one I.w0) (row I.wup) := by
  unfold f128 f113 f119 f69 f71 f73
  sl_kernel_rfl

theorem st157 (I : Inp) : f157 I = kdV (row I.k) (rateV (row I.sm) (one I.a0) (row I.aup)) (lane I.kaw) := by
  unfold f157 f61 f65 f75 f77 f79 f69
  sl_kernel_rfl

theorem st158 (I : Inp) : f158 I = mulf (f93 I) (rateV (row I.sm) (one I.a0) (row I.aup)) := by
  unfold f158 f75 f77 f79 f69
  generalize f93 I = x93
  sl_kernel_rfl

theorem st178 (I : Inp) : f178 I = totV false (cumV false (f128 I)) := by
  unfold f178
  rw [st165, st166]
  generalize f128 I = x128
  sl_kernel_rfl

theorem st193 (I : Inp) : f193 I = (prep false (row I.r) (f93 I) (f128 I) (f157 I) (f158 I)).kt := by
  unfold f193
  rw [st165, st166]
  generalize f93 I = x93
  generalize f128 I = x128
  generalize f157 I = x157
  generalize f158 I = x158
  sl_kernel_rfl

theorem st194 (I : Inp) : f194 I = (prep false (row I.r) (f93 I) (f128 I) (f157 I) (f158 I)).bh := by
  unfold f194
  rw [st165, st166]
  generalize f93 I = x93
  generalize f128 I = x128
  generalize f157 I = x157
  generalize f158 I = x158
  sl_kernel_rfl

theorem st195 (I : Inp) : f195 I = (prep false (row I.r) (f93 I) (f128 I) (f157 I) (f158 I)).kh := by
  unfold f195
  rw [st165, st166]
  generalize f93 I = x93
  generalize f128 I = x128
  generalize f157 I = x157
  generalize f158 I = x158
  sl_kernel_rfl

theorem st197 (I : Inp) : f197 I = stack (prep false (row I.r) (f93 I) (f128 I) (f157 I) (f158 I)).at' (prep false (row I.r) (f93 I) (f128 I) (f157 I) (f158 I)).rt := by
  unfold f197 f63
  rw [st165, st166]
  generalize f93 I = x93
  generalize f128 I = x128
  generalize f157 I = x157
  generalize f158 I = x158
  sl_kernel_rfl

theorem st253 (I : Inp) : f253 I = dotT (f197 I) (bd (prep false (row I.r) (f93 I) (f128 I) (f157 I) (f158 I)).bt) := by
  unfold f253 f198
  rw [st165, st166]
  generalize f93 I = x93
  generalize f128 I = x128
  generalize f157 I = x157
  generalize f158 I = x158
  generalize f197 I = x197
  sl_kernel_rfl

theorem st309 (I : Inp) : f309 I = dotT (f197 I) (bd (f193 I)) := by
  unfold f309 f254
  generalize f193 I = x193
  generalize f197 I = x197
  sl_kernel_rfl

theorem st332 (I : Inp) : f332 I = strict false (top (f253 I)) := by
  unfold f332
  generalize f253 I = x253
  sl_kernel_rfl

theorem st335 (I : Inp) : f335 I = strict false (top (f309 I)) := by
  unfold f335
  generalize f309 I = x309
  sl_kernel_rfl

theorem st338 (I : Inp) : f338 I = incl false (bot (f253 I)) := by
  unfold f338
  generalize f253 I = x253
  sl_kernel_rfl

theorem st341 (I : Inp) : f341 I = incl false (bot (f309 I)) := by
  unfold f341
  generalize f309 I = x309
  sl_kernel_rfl

theorem st418 (I : Inp) : f418 I = inv1 false (f332 I) := by
  unfold f418 f345
  generalize f332 I = x332
  sl_kernel_rfl

theorem st605 (I : Inp) : f605 I = dbl false 2#32 (f332 I) (f418 I) := by
  unfold f605 f548 f549 f491 f492 f490
  generalize f332 I = x332
  generalize f418 I = x418
  sl_kernel_rfl

theorem st792 (I : Inp) : f792 I = dbl false 4#32 (f332 I) (f605 I) := by
  unfold f792 f735 f736 f678 f679 f676
  generalize f332 I = x332
  generalize f605 I = x605
  sl_kernel_rfl

theorem st979 (I : Inp) : f979 I = dbl false 8#32 (f332 I) (f792 I) := by
  unfold f979 f922 f923 f865 f866
  generalize f332 I = x332
  generalize f792 I = x792
  sl_kernel_rfl

theorem st1166 (I : Inp) : f1166 I = dbl false 16#32 (f332 I) (f979 I) := by
  unfold f1166 f1109 f1110 f1052 f1053
  generalize f332 I = x332
  generalize f979 I = x979
  sl_kernel_rfl

theorem st1353 (I : Inp) : f1353 I = dbl false 32#32 (f332 I) (f1166 I) := by
  unfold f1353 f1296 f1297 f1239 f1240
  generalize f332 I = x332
  generalize f1166 I = x1166
  sl_kernel_rfl

theorem st1356 (I : Inp) : f1356 I = dotT (f197 I) (hi I.S) := by
  unfold f1356
  generalize f197 I = x197
  sl_kernel_rfl

theorem st1411 (I : Inp) : f1411 I = bd (row I.v) := by
  unfold f1411 f1357 f67
  sl_kernel_rfl

theorem st1472 (I : Inp) : f1472 I = dot (hi (f1353 I)) (bd (addf (top (f1356 I)) (dot (hi (f335 I)) (f1411 I)))) := by
  unfold f1472 f1416 f1417 f1357 f67
  generalize f335 I = x335
  generalize f1353 I = x1353
  generalize f1356 I = x1356
  generalize f1411 I = x1411
  sl_kernel_rfl

theorem sto15 (I : Inp) : fo15 I = addf (addf (bot (f1356 I)) (dot (hi (f338 I)) (bd (f1472 I)))) (dot (hi (f341 I)) (f1411 I)) := by
  unfold fo15 f1473 f1472
  generalize f1416 I = x1416
  generalize f1417 I = x1417
  generalize f338 I = x338
  generalize f341 I = x341
  generalize f1356 I = x1356
  generalize f1411 I = x1411
  sl_kernel_rfl

theorem st1583 (I : Inp) : f1583 I = kkV (row I.k) (lane I.kkw) := by
  unfold f1583 f54 f59
  sl_kernel_rfl

theorem st1618 (I : Inp) : f1618 I = logwV (row I.sm) (one I.w0) (row I.wup) := by
  unfold f1618 f1561 f1585 f1588 f1589 f1591
  sl_kernel_rfl

theorem st1636 (I : Inp) : f1636 I = eV (row I.sm) (one I.a0) (row I.aup) := by
  unfold f1636 f1565 f1567 f1569
  sl_kernel_rfl

theorem st1668 (I : Inp) : f1668 I = totV true (cumV true (f1618 I)) := by
  unfold f1668
  generalize f1618 I = x1618
  sl_kernel_rfl

theorem st1682 (I : Inp) : f1682 I = (prep true (row I.r) (f1583 I) (f1618 I) (kdV (row I.k) (rateE (f1636 I)) (lane I.kaw)) (mulf (f1583 I) (rateE (f1636 I)))).bt := by
  unfold f1682
  generalize f1583 I = x1583
  generalize f1618 I = x1618
  generalize f1636 I = x1636
  sl_kernel_rfl

theorem st1683 (I : Inp) : f1683 I = (prep true (row I.r) (f1583 I) (f1618 I) (kdV (row I.k) (rateE (f1636 I)) (lane I.kaw)) (mulf (f1583 I) (rateE (f1636 I)))).kt := by
  unfold f1683 f61 f1555
  generalize f1583 I = x1583
  generalize f1618 I = x1618
  generalize f1636 I = x1636
  sl_kernel_rfl

theorem st1684 (I : Inp) : f1684 I = (prep true (row I.r) (f1583 I) (f1618 I) (kdV (row I.k) (rateE (f1636 I)) (lane I.kaw)) (mulf (f1583 I) (rateE (f1636 I)))).bh := by
  unfold f1684
  generalize f1583 I = x1583
  generalize f1618 I = x1618
  generalize f1636 I = x1636
  sl_kernel_rfl

theorem st1685 (I : Inp) : f1685 I = (prep true (row I.r) (f1583 I) (f1618 I) (kdV (row I.k) (rateE (f1636 I)) (lane I.kaw)) (mulf (f1583 I) (rateE (f1636 I)))).kh := by
  unfold f1685 f61 f1555
  generalize f1583 I = x1583
  generalize f1618 I = x1618
  generalize f1636 I = x1636
  sl_kernel_rfl

theorem st1687 (I : Inp) : f1687 I = stack (prep true (row I.r) (f1583 I) (f1618 I) (kdV (row I.k) (rateE (f1636 I)) (lane I.kaw)) (mulf (f1583 I) (rateE (f1636 I)))).at' (prep true (row I.r) (f1583 I) (f1618 I) (kdV (row I.k) (rateE (f1636 I)) (lane I.kaw)) (mulf (f1583 I) (rateE (f1636 I)))).rt := by
  unfold f1687 f1686 f1553
  generalize f1583 I = x1583
  generalize f1618 I = x1618
  generalize f1636 I = x1636
  sl_kernel_rfl

theorem st1743 (I : Inp) : f1743 I = dotT (f1687 I) (bd (f1682 I)) := by
  unfold f1743 f1688
  generalize f1682 I = x1682
  generalize f1687 I = x1687
  sl_kernel_rfl

theorem st1799 (I : Inp) : f1799 I = dotT (f1687 I) (bd (f1683 I)) := by
  unfold f1799 f1744
  generalize f1683 I = x1683
  generalize f1687 I = x1687
  sl_kernel_rfl

theorem st1822 (I : Inp) : f1822 I = strict true (top (f1743 I)) := by
  unfold f1822
  generalize f1743 I = x1743
  sl_kernel_rfl

theorem st1825 (I : Inp) : f1825 I = strict true (top (f1799 I)) := by
  unfold f1825 f1799
  generalize f1687 I = x1687
  generalize f1744 I = x1744
  sl_kernel_rfl

theorem st1828 (I : Inp) : f1828 I = incl true (bot (f1743 I)) := by
  unfold f1828 f1826
  generalize f1743 I = x1743
  sl_kernel_rfl

theorem st1831 (I : Inp) : f1831 I = incl true (bot (f1799 I)) := by
  unfold f1831
  generalize f1799 I = x1799
  sl_kernel_rfl

theorem st1908 (I : Inp) : f1908 I = inv1 true (f1822 I) := by
  unfold f1908 f1835
  generalize f1822 I = x1822
  sl_kernel_rfl

theorem st2095 (I : Inp) : f2095 I = dbl true 2#32 (f1822 I) (f1908 I) := by
  unfold f2095 f2038 f2039 f1981 f1982
  generalize f1822 I = x1822
  generalize f1908 I = x1908
  sl_kernel_rfl

theorem st2282 (I : Inp) : f2282 I = dbl true 4#32 (f1822 I) (f2095 I) := by
  unfold f2282 f2225 f2226 f2168 f2169
  generalize f1822 I = x1822
  generalize f2095 I = x2095
  sl_kernel_rfl

theorem st2469 (I : Inp) : f2469 I = dbl true 8#32 (f1822 I) (f2282 I) := by
  unfold f2469 f2412 f2413 f2355 f2356
  generalize f1822 I = x1822
  generalize f2282 I = x2282
  sl_kernel_rfl

theorem st2656 (I : Inp) : f2656 I = dbl true 16#32 (f1822 I) (f2469 I) := by
  unfold f2656 f2599 f2600 f2542 f2543
  generalize f1822 I = x1822
  generalize f2469 I = x2469
  sl_kernel_rfl

theorem st2843 (I : Inp) : f2843 I = dbl true 32#32 (f1822 I) (f2656 I) := by
  unfold f2843 f2786 f2787 f2729 f2730
  generalize f1822 I = x1822
  generalize f2656 I = x2656
  sl_kernel_rfl

theorem st2846 (I : Inp) : f2846 I = dotT (f1687 I) (hi I.S) := by
  unfold f2846
  generalize f1687 I = x1687
  sl_kernel_rfl

theorem st2901 (I : Inp) : f2901 I = bd (row I.v) := by
  unfold f2901 f2847 f1557
  sl_kernel_rfl

theorem st2962 (I : Inp) : f2962 I = dot (hi (f2843 I)) (bd (addf (top (f2846 I)) (dot (hi (f1825 I)) (f2901 I)))) := by
  unfold f2962 f2906 f2907 f2847 f1557
  generalize f1825 I = x1825
  generalize f2843 I = x2843
  generalize f2846 I = x2846
  generalize f2901 I = x2901
  sl_kernel_rfl

theorem st3024 (I : Inp) : f3024 I = addf (addf (bot (f2846 I)) (dot (hi (f1828 I)) (bd (f2962 I)))) (dot (hi (f1831 I)) (f2901 I)) := by
  unfold f3024 f2963 f2962
  generalize f2906 I = x2906
  generalize f2907 I = x2907
  generalize f1828 I = x1828
  generalize f1831 I = x1831
  generalize f2846 I = x2846
  generalize f2901 I = x2901
  sl_kernel_rfl

theorem sts0 (I : Inp) : fs0 I = shapeCast S256x256 (addf (mulf I.S (broadcastTo S256x256 (exp (f178 I)) broadcasts_S1x256_S256x256))
      (select (cmpf .ogt (f54 I) (broadcast S256x256 (Scalar.ofBits .bf16 0x0000#16)))
        (matmul dot_S128x256_S128x256_S256x256_0_0_1_1_n_n none (stack (f1472 I) (row I.v)) (stack (f194 I) (f195 I)) (constant S256x256 .f32 0x00000000#32))
        (cst S256x256 0x00000000#32))) shapeCasts_S256x256_S256x256 := by
  unfold fs0 f67
  generalize f54 I = x54
  generalize f178 I = x178
  generalize f194 I = x194
  generalize f195 I = x195
  generalize f1472 I = x1472
  sl_kernel_rfl

theorem sts1 (I : Inp) : fs1 I = shapeCast S256x256 (addf (mulf I.S (broadcastTo S256x256 (exp (f1668 I)) broadcasts_S1x256_S256x256))
      (select (cmpf .ogt (f54 I) (broadcast S256x256 (Scalar.ofBits .bf16 0x0000#16)))
        (matmul dot_S128x256_S128x256_S256x256_0_0_1_1_n_n none (stack (f2962 I) (row I.v)) (stack (f1684 I) (f1685 I)) (constant S256x256 .f32 0x00000000#32))
        (cst S256x256 0x00000000#32))) shapeCasts_S256x256_S256x256 := by
  unfold fs1 f3029 f3031 f1557
  generalize f54 I = x54
  generalize f1668 I = x1668
  generalize f1684 I = x1684
  generalize f1685 I = x1685
  generalize f2962 I = x2962
  sl_kernel_rfl

/-- The prepared rows of what one direction reads. -/
def preI (rev : Bool) (I : Inp) : Prep := pre rev I.r I.k I.sm I.kkw I.kaw I.w0 I.wup I.a0 I.aup

theorem prep_fwd (I : Inp) : prep false (row I.r) (f93 I) (f128 I) (f157 I) (f158 I) = preI false I := by
  rw [st158, st157, st128, st93]; rfl

theorem prep_bwd (I : Inp) : prep true (row I.r) (f1583 I) (f1618 I) (kdV (row I.k) (rateE (f1636 I)) (lane I.kaw)) (mulf (f1583 I) (rateE (f1636 I))) = preI true I := by
  rw [st1636, st1618, st1583]; rfl

theorem ar_f (I : Inp) : f197 I = stack (preI false I).at' (preI false I).rt := by rw [st197, prep_fwd]
theorem tot_f (I : Inp) : f178 I = (preI false I).lt := by rw [st178, st128]; rfl
theorem bh_f (I : Inp) : f194 I = (preI false I).bh := by rw [st194, prep_fwd]
theorem kh_f (I : Inp) : f195 I = (preI false I).kh := by rw [st195, prep_fwd]
theorem db_f (I : Inp) : f253 I = dotT (stack (preI false I).at' (preI false I).rt) (bd (preI false I).bt) := by rw [st253, prep_fwd, ar_f]
theorem dk_f (I : Inp) : f309 I = dotT (stack (preI false I).at' (preI false I).rt) (bd (preI false I).kt) := by rw [st309, ar_f, st193, prep_fwd]
theorem Mab_f (I : Inp) : f332 I = Mab false (preI false I) := by rw [st332, db_f]; rfl
theorem Mak_f (I : Inp) : f335 I = Mak false (preI false I) := by rw [st335, dk_f]; rfl
theorem Nrb_f (I : Inp) : f338 I = Nrb false (preI false I) := by rw [st338, db_f]; rfl
theorem Nrk_f (I : Inp) : f341 I = Nrk false (preI false I) := by rw [st341, dk_f]; rfl
theorem inv_f (I : Inp) : f1353 I = inv false (Mab false (preI false I)) := by rw [st1353, st1166, st979, st792, st605, st418, Mab_f]; rfl
theorem u_f (I : Inp) : f1472 I = uV false (preI false I) (row I.v) I.S := by rw [st1472, inv_f, st1356, ar_f, Mak_f, st1411]; rfl
theorem o_f (I : Inp) : fo15 I = oV false (preI false I) (row I.v) I.S := by rw [sto15, st1356, ar_f, Nrb_f, Nrk_f, u_f, st1411]; rfl
theorem s_f (I : Inp) : fs0 I = sV false (preI false I) (row I.v) I.S := by rw [sts0, tot_f, u_f, bh_f, kh_f, st54]; rfl

theorem ar_b (I : Inp) : f1687 I = stack (preI true I).at' (preI true I).rt := by rw [st1687, prep_bwd]
theorem tot_b (I : Inp) : f1668 I = (preI true I).lt := by rw [st1668, st1618]; rfl
theorem bh_b (I : Inp) : f1684 I = (preI true I).bh := by rw [st1684, prep_bwd]
theorem kh_b (I : Inp) : f1685 I = (preI true I).kh := by rw [st1685, prep_bwd]
theorem db_b (I : Inp) : f1743 I = dotT (stack (preI true I).at' (preI true I).rt) (bd (preI true I).bt) := by rw [st1743, ar_b, st1682, prep_bwd]
theorem dk_b (I : Inp) : f1799 I = dotT (stack (preI true I).at' (preI true I).rt) (bd (preI true I).kt) := by rw [st1799, ar_b, st1683, prep_bwd]
theorem Mab_b (I : Inp) : f1822 I = Mab true (preI true I) := by rw [st1822, db_b]; rfl
theorem Mak_b (I : Inp) : f1825 I = Mak true (preI true I) := by rw [st1825, dk_b]; rfl
theorem Nrb_b (I : Inp) : f1828 I = Nrb true (preI true I) := by rw [st1828, db_b]; rfl
theorem Nrk_b (I : Inp) : f1831 I = Nrk true (preI true I) := by rw [st1831, dk_b]; rfl
theorem inv_b (I : Inp) : f2843 I = inv true (Mab true (preI true I)) := by rw [st2843, st2656, st2469, st2282, st2095, st1908, Mab_b]; rfl
theorem u_b (I : Inp) : f2962 I = uV true (preI true I) (row I.v) I.S := by rw [st2962, inv_b, st2846, ar_b, Mak_b, st2901]; rfl
theorem o_b (I : Inp) : f3024 I = oV true (preI true I) (row I.v) I.S := by rw [st3024, st2846, ar_b, Nrb_b, Nrk_b, u_b, st2901]; rfl
theorem s_b (I : Inp) : fs1 I = sV true (preI true I) (row I.v) I.S := by rw [sts1, tot_b, u_b, bh_b, kh_b, st54]; rfl

end Cert.WkvIdeal.Dir
-- ==== Proof.WkvPre.lean ====
module

public import proofs.«01_k».proof.Defs
public import proofs.«01_k».proof.Proof.Gen.WkvIdeal.Value
public import proofs.«01_k».proof.Proof.WkvChunk
public import proofs.«01_k».proof.Proof.WkvSpec
public import proofs.«01_k».proof.Proof.WkvStage
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

variable {rev : Bool}

/-- The low-rank product by its three leading parts is the product. -/
theorem dot3_isD {a : FVec Ideal S64x64 .f32} {A : Fin 64 → Fin 64 → ℝ} {b : FVec Ideal S64x256 .f32} {B : Fin 4 → Fin 64 → Fin 64 → ℝ}
    (ha : ∀ t q, a (ix2 (tk rev t) q) = ((A t q : ℝ) : EReal)) (hb : ∀ h q j, b (ix2 q (ln h j)) = ((B h q j : ℝ) : EReal)) :
    isD rev (dot3 a b) fun h t j => ∑ q, A t q * B h q j := by
  have e1 : isD rev (dotUp (hi a) (hi b)) fun h t j => ∑ q, A t q * B h q j := fun h t j => by
    rw [dotUp_apply, coe_sum]
    exact Finset.sum_congr rfl fun q _ => by rw [hi_apply, hi_apply, ha, hb, EReal.coe_mul]
  have e2 : isD rev (dotUp (hi (rest a)) (hi b)) fun h t j => 0 := fun h t j => by
    rw [dotUp_apply]
    exact Finset.sum_eq_zero fun q _ => by rw [hi_apply, rest_apply (ha t q), zero_mul]
  have e3 : isD rev (dotUp (hi a) (hi (rest b))) fun h t j => 0 := fun h t j => by
    rw [dotUp_apply]
    exact Finset.sum_eq_zero fun q _ => by rw [hi_apply, hi_apply, rest_apply (hb h q j), mul_zero]
  exact (e1.add (e2.add e3)).congr fun h t j => by simp only [add_zero]

/-- The normalized key direction. -/
theorem kkV_isD {k : FVec Ideal S64x256 .f32} {w : FVec Ideal S1x256 .f32} {K : Fin 4 → Fin 64 → Fin 64 → ℝ} {W : Fin 4 → Fin 64 → ℝ} (hk : isD rev k K) (hw : isL w W) :
    isD rev (kkV k w) fun h t j => WkvReal.normR (K h t) (W h) j := by
  have hp := hk.mul (hw.down rev)
  have hq := hp.mul hp
  intro h t j
  refine Eq.trans (b := mulf k (down w) (ix2 (tk rev t) (ln h j)) * Ideal.rsqrt (max
    (dot (hi (mulf (mulf k (down w)) (mulf k (down w)))) ones (ix2 (tk rev t) (ln h j)) + dot (hi (rest (mulf (mulf k (down w)) (mulf k (down w))))) ones (ix2 (tk rev t) (ln h j)))
    (Ideal.ofBits .f32 0x179ABE15#32))) (by pointwise [kkV, cst]) ?_
  have z : ∑ s, rest (mulf (mulf k (down w)) (mulf k (down w))) (ix2 (tk rev t) (ln h s)) = (0 : EReal) := Finset.sum_eq_zero fun s _ => hq.rest h t s
  rw [dot_ones, dot_ones, z, add_zero, Finset.sum_congr rfl fun s _ => hq h t s, hp h t j, ← coe_sum, WkvReal.norm_E]
  rfl

/-- The logarithm of the decay. -/
theorem logwV_isD {sm : FVec Ideal S64x256 .f32} {w0 : FVec Ideal S1x256 .f32} {wup : FVec Ideal S64x256 .f32} {A : Fin 64 → Fin 64 → ℝ} {W : Fin 4 → Fin 64 → ℝ} {U : Fin 4 → Fin 64 → Fin 64 → ℝ}
    (hs : ∀ t (q : Fin 64), sm (ix2 (tk rev t) ⟨q.val, by omega⟩) = ((A t q : ℝ) : EReal)) (hw : isL w0 W) (hu : ∀ h q j, wup (ix2 q (ln h j)) = ((U h q j : ℝ) : EReal)) :
    isD rev (logwV sm w0 wup) fun h t j => WkvReal.logwR (WkvReal.rawW (A t) (fun q => U h q j) (W h j)) := by
  have ht : ∀ t q, (tanh (extractStridedSlice S64x64 ![0, 0] sm slices_S64x256_o0_0_S64x64) : FVec Ideal S64x64 .f32) (ix2 (tk rev t) q) = ((Real.tanh (A t q) : ℝ) : EReal) := fun t q => by
    rw [← Ideal.tanh_coe, ← hs t q]; pointwise
  have hz := (hw.down rev).add (dot3_isD (rev := rev) ht hu)
  intro h t j
  refine Eq.trans (b := -Ideal.exp (-(max (-(addf (down w0) (dot3 (tanh (extractStridedSlice S64x64 ![0, 0] sm slices_S64x256_o0_0_S64x64)) wup) (ix2 (tk rev t) (ln h j)))) 0
    + Ideal.log (1 + Ideal.exp (-max (-(addf (down w0) (dot3 (tanh (extractStridedSlice S64x64 ![0, 0] sm slices_S64x256_o0_0_S64x64)) wup) (ix2 (tk rev t) (ln h j))))
      (-(-(addf (down w0) (dot3 (tanh (extractStridedSlice S64x64 ![0, 0] sm slices_S64x256_o0_0_S64x64)) wup) (ix2 (tk rev t) (ln h j)))))))) - Ideal.ofBits .f32 0x3F000000#32)) ?_ ?_
  · pointwise [logwV, cst]
    simp only [zero_sub]
    rfl
  · rw [hz h t j, ← EReal.coe_neg, WkvReal.soft_E, WkvReal.logw_E]; rfl

/-- The rate. -/
theorem rateV_isD {sm : FVec Ideal S64x256 .f32} {a0 : FVec Ideal S1x256 .f32} {aup : FVec Ideal S64x256 .f32} {A : Fin 64 → Fin 64 → ℝ} {W : Fin 4 → Fin 64 → ℝ} {U : Fin 4 → Fin 64 → Fin 64 → ℝ}
    (hs : ∀ t (q : Fin 64), sm (ix2 (tk rev t) ⟨64 + q.val, by omega⟩) = ((A t q : ℝ) : EReal)) (hw : isL a0 W) (hu : ∀ h q j, aup (ix2 q (ln h j)) = ((U h q j : ℝ) : EReal)) :
    isD rev (rateV sm a0 aup) fun h t j => WkvReal.rateR (WkvReal.rawA (A t) (fun q => U h q j) (W h j)) := by
  have ht : ∀ t q, (extractStridedSlice S64x64 ![0, 64] sm slices_S64x256_o0_64_S64x64 : FVec Ideal S64x64 .f32) (ix2 (tk rev t) q) = ((A t q : ℝ) : EReal) := fun t q => by
    rw [← hs t q]; pointwise
  have hz := (hw.down rev).add (dot3_isD (rev := rev) ht hu)
  intro h t j
  refine Eq.trans (b := Ideal.div 1 (1 + Ideal.exp (-(addf (down a0) (dot3 (extractStridedSlice S64x64 ![0, 64] sm slices_S64x256_o0_64_S64x64) aup) (ix2 (tk rev t) (ln h j)))))) ?_ ?_
  · pointwise [rateV, rateE, eV, cst]
    simp only [zero_sub]
  · rw [hz h t j, WkvReal.rate_E]; rfl

/-- The scaled key. -/
theorem kdV_isD {k r : FVec Ideal S64x256 .f32} {w : FVec Ideal S1x256 .f32} {K R : Fin 4 → Fin 64 → Fin 64 → ℝ} {W : Fin 4 → Fin 64 → ℝ} (hk : isD rev k K) (hr : isD rev r R) (hw : isL w W) :
    isD rev (kdV k r w) fun h t j => WkvReal.kdR (K h t j) (R h t j) (W h j) := by
  have hd := hw.down rev
  intro h t j
  refine Eq.trans (b := k (ix2 (tk rev t) (ln h j)) * (1 + (r (ix2 (tk rev t) (ln h j)) - 1) * down w (ix2 (tk rev t) (ln h j)))) (by pointwise [kdV, cst]) ?_
  rw [hk h t j, hr h t j, hd h t j, WkvReal.kd_E]

/-- The blocks one direction reads at one point, as reals. -/
structure isIn (rev : Bool) (I : Inp) (R K V : Fin 4 → Fin 64 → Fin 64 → ℝ) (Wd Ad : Fin 64 → Fin 64 → ℝ) (kw ka w0 a0 : Fin 4 → Fin 64 → ℝ) (wu au : Fin 4 → Fin 64 → Fin 64 → ℝ) : Prop where
  r : isD rev (row I.r) R
  k : isD rev (row I.k) K
  v : isD rev (row I.v) V
  wd : ∀ t (q : Fin 64), row I.sm (ix2 (tk rev t) ⟨q.val, by omega⟩) = ((Wd t q : ℝ) : EReal)
  ad : ∀ t (q : Fin 64), row I.sm (ix2 (tk rev t) ⟨64 + q.val, by omega⟩) = ((Ad t q : ℝ) : EReal)
  kw : isL (lane I.kkw) kw
  ka : isL (lane I.kaw) ka
  w0 : isL (one I.w0) w0
  a0 : isL (one I.a0) a0
  wu : ∀ h q j, row I.wup (ix2 q (ln h j)) = ((wu h q j : ℝ) : EReal)
  au : ∀ h q j, row I.aup (ix2 q (ln h j)) = ((au h q j : ℝ) : EReal)

variable {I : Inp} {R K V : Fin 4 → Fin 64 → Fin 64 → ℝ} {Wd Ad : Fin 64 → Fin 64 → ℝ} {kw ka w0 a0 : Fin 4 → Fin 64 → ℝ} {wu au : Fin 4 → Fin 64 → Fin 64 → ℝ}

/-- The prepared rows of a point are the features of its tokens. -/
theorem isIn.pre (h : isIn rev I R K V Wd Ad kw ka w0 a0 wu au) {F : Fin 4 → WkvReal.Feat}
    (hr : ∀ h (t : Fin 64) j, (F h).r t j = R h t j) (hk : ∀ h (t : Fin 64) j, (F h).kk t j = WkvReal.normR (K h t) (kw h) j)
    (hw : ∀ h (t : Fin 64) j, (F h).w t j = WkvReal.logwR (WkvReal.rawW (Wd t) (fun q => wu h q j) (w0 h j)))
    (hd : ∀ h (t : Fin 64) j, (F h).kd t j = WkvReal.kdR (K h t j) (WkvReal.rateR (WkvReal.rawA (Ad t) (fun q => au h q j) (a0 h j))) (ka h j))
    (hb : ∀ h (t : Fin 64) j, (F h).b t j = WkvReal.normR (K h t) (kw h) j * WkvReal.rateR (WkvReal.rawA (Ad t) (fun q => au h q j) (a0 h j))) :
    isP rev (preI rev I) F := by
  have h1 := kkV_isD h.k h.kw
  have h2 := rateV_isD (rev := rev) h.ad h.a0 h.au
  exact isP_prep (h.r.congr fun a t j => (hr a t j).symm) (h1.congr fun a t j => (hk a t j).symm)
    ((logwV_isD h.wd h.w0 h.wu).congr fun a t j => (hw a t j).symm) ((kdV_isD h.k h2 h.ka).congr fun a t j => (hd a t j).symm)
    ((h1.mul h2).congr fun a t j => (hb a t j).symm)

end Cert.WkvIdeal.Dir
-- ==== Proof.WkvIn.lean ====
module

public import proofs.«01_k».proof.Defs
public import proofs.«01_k».proof.Proof.Gen.WkvIdeal.Value
public import proofs.«01_k».proof.Proof.WkvStage
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- What the forward and the backward direction read at one point. -/
def inF (x0 x1 x2 x3 : Vec Ideal S1x64x256 .f32) (x8 x9 : Vec Ideal S1x256 .f32) (x10 : Vec Ideal S2x1x256 .f32) (x11 : Vec Ideal S2x64x256 .f32)
    (x12 : Vec Ideal S2x1x256 .f32) (x13 : Vec Ideal S2x64x256 .f32) (S : Vec Ideal S256x256 .f32) : Inp :=
  ⟨x0, x1, x2, x3, x8, x9, View.ld x10 (Rect.unit (s := S2x1x256) ![0, 0, 0] S1x1x256.size inb_S2x1x256_S1x1x256_0_0_0),
    View.ld x11 (Rect.unit (s := S2x64x256) ![0, 0, 0] S1x64x256.size inb_S2x64x256_S1x64x256_0_0_0),
    View.ld x12 (Rect.unit (s := S2x1x256) ![0, 0, 0] S1x1x256.size inb_S2x1x256_S1x1x256_0_0_0),
    View.ld x13 (Rect.unit (s := S2x64x256) ![0, 0, 0] S1x64x256.size inb_S2x64x256_S1x64x256_0_0_0), S⟩

def inB (x0 x1 x2 x3 : Vec Ideal S1x64x256 .f32) (x8 x9 : Vec Ideal S1x256 .f32) (x10 : Vec Ideal S2x1x256 .f32) (x11 : Vec Ideal S2x64x256 .f32)
    (x12 : Vec Ideal S2x1x256 .f32) (x13 : Vec Ideal S2x64x256 .f32) (S : Vec Ideal S256x256 .f32) : Inp :=
  ⟨x0, x1, x2, x3, x8, x9, View.ld x10 (Rect.unit (s := S2x1x256) ![1, 0, 0] S1x1x256.size inb_S2x1x256_S1x1x256_1_0_0),
    View.ld x11 (Rect.unit (s := S2x64x256) ![1, 0, 0] S1x64x256.size inb_S2x64x256_S1x64x256_1_0_0),
    View.ld x12 (Rect.unit (s := S2x1x256) ![1, 0, 0] S1x1x256.size inb_S2x1x256_S1x1x256_1_0_0),
    View.ld x13 (Rect.unit (s := S2x64x256) ![1, 0, 0] S1x64x256.size inb_S2x64x256_S1x64x256_1_0_0), S⟩

end Cert.WkvIdeal.Dir
-- ==== Proof.WkvPos.lean ====
module

public import proofs.«01_k».proof.Defs
public import proofs.«01_k».proof.Proof.Gen.WkvIdeal.Value
public import proofs.«01_k».proof.Proof.WkvBlk
public import proofs.«01_k».proof.Proof.WkvPre
public import proofs.«01_k».proof.Proof.WkvIn
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

open Cert.WkvReal (rowG lnG tok dir feat Args rowG_val)

variable (m : (ℓ : Loc nD τ sig) → Buf (Elt Ideal) ℓ)

/-- The sequence of a point, and the head of its head block's row `h`. -/
def Qt (t : Fin cfg0.N) : Fin 32 := ⟨t.val / 16, by have := lt512 t; omega⟩
def HB (t : Fin cfg0.N) (h : Fin 4) : Fin 16 := ⟨4 * (t.val / 4 % 4) + h.val, by omega⟩

/-- The features of a point's chunk, in a direction. -/
def FF (A : Args) (rev : Bool) (t : Fin cfg0.N) (h : Fin 4) : WkvReal.Feat := (feat A rev (Qt t) (HB t h)).from (64 * (t.val % 4))

theorem row_f (t : Fin cfg0.N) (s : Fin 64) (h : 256 * (t.val / 16) + 64 * (t.val % 4) + (tk false s).val < 8192) :
    (⟨256 * (t.val / 16) + 64 * (t.val % 4) + (tk false s).val, h⟩ : Fin 8192) = rowG (Qt t) (tok false (64 * (t.val % 4) + s.val)) := by
  refine Fin.ext ?_
  have hs : (tk false s).val = s.val := rfl
  have ht : tok false (64 * (t.val % 4) + s.val) = 64 * (t.val % 4) + s.val := rfl
  have hq : (Qt t).val = t.val / 16 := rfl
  rw [rowG_val _ _ (by omega)]
  simp only [hs, ht, hq]
  omega

theorem row_b (t : Fin cfg0.N) (s : Fin 64) (h : 256 * (t.val / 16) + 64 * (3 - t.val % 4) + (tk true s).val < 8192) :
    (⟨256 * (t.val / 16) + 64 * (3 - t.val % 4) + (tk true s).val, h⟩ : Fin 8192) = rowG (Qt t) (tok true (64 * (t.val % 4) + s.val)) := by
  refine Fin.ext ?_
  have hs : (tk true s).val = 63 - s.val := rfl
  have ht : tok true (64 * (t.val % 4) + s.val) = 255 - (64 * (t.val % 4) + s.val) := rfl
  have hq : (Qt t).val = t.val / 16 := rfl
  rw [rowG_val _ _ (by omega)]
  simp only [hs, ht, hq]
  omega

theorem lane_h (t : Fin cfg0.N) (h : Fin 4) (j : Fin 64) (hh : 256 * (t.val / 4 % 4) + (ln h j).val < 1024) :
    (⟨256 * (t.val / 4 % 4) + (ln h j).val, hh⟩ : Fin 1024) = lnG (HB t h) j := by
  refine Fin.ext ?_
  show 256 * (t.val / 4 % 4) + (h.val * 64 + j.val) = (4 * (t.val / 4 % 4) + h.val) * 64 + j.val
  omega

theorem row_apply (x : Vec Ideal S1x64x256 .f32) (s : Fin 64) (l : Fin 256) : row x (ix2 s l) = x (ix3 0 s l) := by
  pointwise [row]

theorem one_apply (x : Vec Ideal S1x1x256 .f32) (l : Fin 256) : one x (ix2 0 l) = x (ix3 0 0 l) := by
  pointwise [one]

theorem lane_apply (x : Vec Ideal S1x256 .f32) (l : Fin 256) : lane x (ix2 0 l) = x (ix2 0 l) := by
  pointwise [lane]

theorem pick1_0 (x : Vec Ideal S2x1x256 .f32) (l : Fin 256) :
    (View.ld x (Rect.unit (s := S2x1x256) ![0, 0, 0] S1x1x256.size inb_S2x1x256_S1x1x256_0_0_0) : Vec Ideal S1x1x256 .f32) (ix3 0 0 l) = x (ix3 0 0 l) := by
  refine congrArg x ?_
  funext a
  refine Fin.ext ?_
  match a with
  | ⟨0, _⟩ => rfl
  | ⟨1, _⟩ => rfl
  | ⟨2, _⟩ => exact (Nat.zero_add _).trans (Nat.one_mul _)

theorem pick64_0 (x : Vec Ideal S2x64x256 .f32) (q : Fin 64) (l : Fin 256) :
    (View.ld x (Rect.unit (s := S2x64x256) ![0, 0, 0] S1x64x256.size inb_S2x64x256_S1x64x256_0_0_0) : Vec Ideal S1x64x256 .f32) (ix3 0 q l) = x (ix3 0 q l) := by
  refine congrArg x ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

theorem pick1_1 (x : Vec Ideal S2x1x256 .f32) (l : Fin 256) :
    (View.ld x (Rect.unit (s := S2x1x256) ![1, 0, 0] S1x1x256.size inb_S2x1x256_S1x1x256_1_0_0) : Vec Ideal S1x1x256 .f32) (ix3 0 0 l) = x (ix3 1 0 l) := by
  refine congrArg x ?_
  funext a
  refine Fin.ext ?_
  match a with
  | ⟨0, _⟩ => rfl
  | ⟨1, _⟩ => rfl
  | ⟨2, _⟩ => exact (Nat.zero_add _).trans (Nat.one_mul _)

theorem pick64_1 (x : Vec Ideal S2x64x256 .f32) (q : Fin 64) (l : Fin 256) :
    (View.ld x (Rect.unit (s := S2x64x256) ![1, 0, 0] S1x64x256.size inb_S2x64x256_S1x64x256_1_0_0) : Vec Ideal S1x64x256 .f32) (ix3 0 q l) = x (ix3 1 q l) := by
  refine congrArg x ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

/-- The eight arguments hold the real arrays. -/
abbrev argsHold (c : Dev nD) (A : Args) : Prop :=
  A.holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What a point reads, forward and backward. -/
def ptF (c : Dev nD) (t : Fin cfg0.N) (S : Vec Ideal S256x256 .f32) : Inp :=
  inF (iblk m c 0 t) (iblk m c 1 t) (iblk m c 2 t) (iblk m c 3 t) (iblk m c 8 t) (iblk m c 9 t) (iblk m c 10 t) (iblk m c 11 t) (iblk m c 12 t) (iblk m c 13 t) S
def ptB (c : Dev nD) (t : Fin cfg0.N) (S : Vec Ideal S256x256 .f32) : Inp :=
  inB (iblk m c 4 t) (iblk m c 5 t) (iblk m c 6 t) (iblk m c 7 t) (iblk m c 8 t) (iblk m c 9 t) (iblk m c 10 t) (iblk m c 11 t) (iblk m c 12 t) (iblk m c 13 t) S

variable {m} {c : Dev nD} {A : Args}

theorem isInF (hA : argsHold m c A) (t : Fin cfg0.N) (S : Vec Ideal S256x256 .f32) : isIn false (ptF m c t S)
    (fun h s j => A.rkv 0 (rowG (Qt t) (tok false (64 * (t.val % 4) + s.val))) (lnG (HB t h) j)) (fun h s j => A.rkv 1 (rowG (Qt t) (tok false (64 * (t.val % 4) + s.val))) (lnG (HB t h) j)) (fun h s j => A.rkv 2 (rowG (Qt t) (tok false (64 * (t.val % 4) + s.val))) (lnG (HB t h) j))
    (fun s q => A.sm (rowG (Qt t) (tok false (64 * (t.val % 4) + s.val))) ⟨q.val, by omega⟩) (fun s q => A.sm (rowG (Qt t) (tok false (64 * (t.val % 4) + s.val))) ⟨64 + q.val, by omega⟩)
    (fun h j => A.kkw (lnG (HB t h) j)) (fun h j => A.kaw (lnG (HB t h) j)) (fun h j => A.w0 0 (lnG (HB t h) j)) (fun h j => A.a0 0 (lnG (HB t h) j))
    (fun h q j => A.wup 0 q (lnG (HB t h) j)) (fun h q j => A.aup 0 q (lnG (HB t h) j)) where
  r h s j := by
    refine (row_apply (iblk m c 0 t) _ _).trans ?_
    rw [rd0, lane_h, row_f]
    exact hA.rkv _ _ _
  k h s j := by
    refine (row_apply (iblk m c 1 t) _ _).trans ?_
    rw [rd1, lane_h, row_f]
    exact hA.rkv _ _ _
  v h s j := by
    refine (row_apply (iblk m c 2 t) _ _).trans ?_
    rw [rd2, lane_h, row_f]
    exact hA.rkv _ _ _
  wd s q := by
    refine (row_apply (iblk m c 3 t) _ _).trans ?_
    rw [rd3, row_f]
    exact hA.sm _ _
  ad s q := by
    refine (row_apply (iblk m c 3 t) _ _).trans ?_
    rw [rd3, row_f]
    exact hA.sm _ _
  kw h j := by
    refine (lane_apply (iblk m c 8 t) _).trans ?_
    rw [rd8, lane_h]
    exact hA.kkw _
  ka h j := by
    refine (lane_apply (iblk m c 9 t) _).trans ?_
    rw [rd9, lane_h]
    exact hA.kaw _
  w0 h j := by
    refine (one_apply _ _).trans ((pick1_0 (iblk m c 10 t) _).trans ?_)
    rw [rd10, lane_h]
    exact hA.w0 _ _
  a0 h j := by
    refine (one_apply _ _).trans ((pick1_0 (iblk m c 12 t) _).trans ?_)
    rw [rd12, lane_h]
    exact hA.a0 _ _
  wu h q j := by
    refine (row_apply _ _ _).trans ((pick64_0 (iblk m c 11 t) _ _).trans ?_)
    rw [rd11, lane_h]
    exact hA.wup _ _ _
  au h q j := by
    refine (row_apply _ _ _).trans ((pick64_0 (iblk m c 13 t) _ _).trans ?_)
    rw [rd13, lane_h]
    exact hA.aup _ _ _

/-- The prepared rows of a point are the chunk's features. -/
theorem isPF (hA : argsHold m c A) (t : Fin cfg0.N) (S : Vec Ideal S256x256 .f32) : isP false (preI false (ptF m c t S)) (FF A false t) :=
  (isInF hA t S).pre (fun _ _ _ => rfl) (fun _ _ _ => rfl) (fun _ _ _ => rfl) (fun _ _ _ => rfl) (fun _ _ _ => rfl)

theorem isVF (hA : argsHold m c A) (t : Fin cfg0.N) (S : Vec Ideal S256x256 .f32) : isD false (row (ptF m c t S).v) fun h s j => (FF A false t h).v s j :=
  (isInF hA t S).v

theorem isInB (hA : argsHold m c A) (t : Fin cfg0.N) (S : Vec Ideal S256x256 .f32) : isIn true (ptB m c t S)
    (fun h s j => A.rkv 0 (rowG (Qt t) (tok true (64 * (t.val % 4) + s.val))) (lnG (HB t h) j)) (fun h s j => A.rkv 1 (rowG (Qt t) (tok true (64 * (t.val % 4) + s.val))) (lnG (HB t h) j)) (fun h s j => A.rkv 2 (rowG (Qt t) (tok true (64 * (t.val % 4) + s.val))) (lnG (HB t h) j))
    (fun s q => A.sm (rowG (Qt t) (tok true (64 * (t.val % 4) + s.val))) ⟨q.val, by omega⟩) (fun s q => A.sm (rowG (Qt t) (tok true (64 * (t.val % 4) + s.val))) ⟨64 + q.val, by omega⟩)
    (fun h j => A.kkw (lnG (HB t h) j)) (fun h j => A.kaw (lnG (HB t h) j)) (fun h j => A.w0 1 (lnG (HB t h) j)) (fun h j => A.a0 1 (lnG (HB t h) j))
    (fun h q j => A.wup 1 q (lnG (HB t h) j)) (fun h q j => A.aup 1 q (lnG (HB t h) j)) where
  r h s j := by
    refine (row_apply (iblk m c 4 t) _ _).trans ?_
    rw [rd4, lane_h, row_b]
    exact hA.rkv _ _ _
  k h s j := by
    refine (row_apply (iblk m c 5 t) _ _).trans ?_
    rw [rd5, lane_h, row_b]
    exact hA.rkv _ _ _
  v h s j := by
    refine (row_apply (iblk m c 6 t) _ _).trans ?_
    rw [rd6, lane_h, row_b]
    exact hA.rkv _ _ _
  wd s q := by
    refine (row_apply (iblk m c 7 t) _ _).trans ?_
    rw [rd7, row_b]
    exact hA.sm _ _
  ad s q := by
    refine (row_apply (iblk m c 7 t) _ _).trans ?_
    rw [rd7, row_b]
    exact hA.sm _ _
  kw h j := by
    refine (lane_apply (iblk m c 8 t) _).trans ?_
    rw [rd8, lane_h]
    exact hA.kkw _
  ka h j := by
    refine (lane_apply (iblk m c 9 t) _).trans ?_
    rw [rd9, lane_h]
    exact hA.kaw _
  w0 h j := by
    refine (one_apply _ _).trans ((pick1_1 (iblk m c 10 t) _).trans ?_)
    rw [rd10, lane_h]
    exact hA.w0 _ _
  a0 h j := by
    refine (one_apply _ _).trans ((pick1_1 (iblk m c 12 t) _).trans ?_)
    rw [rd12, lane_h]
    exact hA.a0 _ _
  wu h q j := by
    refine (row_apply _ _ _).trans ((pick64_1 (iblk m c 11 t) _ _).trans ?_)
    rw [rd11, lane_h]
    exact hA.wup _ _ _
  au h q j := by
    refine (row_apply _ _ _).trans ((pick64_1 (iblk m c 13 t) _ _).trans ?_)
    rw [rd13, lane_h]
    exact hA.aup _ _ _

/-- The prepared rows of a point are the chunk's features. -/
theorem isPB (hA : argsHold m c A) (t : Fin cfg0.N) (S : Vec Ideal S256x256 .f32) : isP true (preI true (ptB m c t S)) (FF A true t) :=
  (isInB hA t S).pre (fun _ _ _ => rfl) (fun _ _ _ => rfl) (fun _ _ _ => rfl) (fun _ _ _ => rfl) (fun _ _ _ => rfl)

theorem isVB (hA : argsHold m c A) (t : Fin cfg0.N) (S : Vec Ideal S256x256 .f32) : isD true (row (ptB m c t S).v) fun h s j => (FF A true t h).v s j :=
  (isInB hA t S).v

end Cert.WkvIdeal.Dir
-- ==== Proof.WkvCase.lean ====
module

public import proofs.«01_k».proof.Defs
public import proofs.«01_k».proof.Proof.Gen.WkvIdeal.Value
public import proofs.«01_k».proof.Proof.WkvIn
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- At the first chunk of a sequence the forward output block is the chunk's value over the blocks read there. -/
theorem out0_A_15_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) :
    out0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = fo15 (inF x0 x1 x2 x3 x8 x9 x10 x11 x12 x13 (k0_pay15 (F := Ideal))) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  simp (disch := decide) only [↓ View.readCov_skip, ↓ View.readCov_cons_toLoadRect, ↓ View.readCov_fill]
  frame_out
  sl_kernel_rfl

/-- At the first chunk of a sequence the backward output block is the chunk's value over the blocks read there. -/
theorem out0_A_16_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) :
    out0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = f3024 (inB x4 x5 x6 x7 x8 x9 x10 x11 x12 x13 (k0_pay16 (F := Ideal))) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  simp (disch := decide) only [↓ View.readCov_skip, ↓ View.readCov_cons_toLoadRect, ↓ View.readCov_fill]
  frame_out
  sl_kernel_rfl

/-- At the first chunk of a sequence the forward scratch is the chunk's value over the blocks read there. -/
theorem sout0_A_0_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = fs0 (inF x0 x1 x2 x3 x8 x9 x10 x11 x12 x13 (k0_pay15 (F := Ideal))) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  simp (disch := decide) only [↓ View.readCov_skip, ↓ View.readCov_cons_toLoadRect, ↓ View.readCov_fill]
  frame_out
  sl_kernel_rfl

/-- At the first chunk of a sequence the backward scratch is the chunk's value over the blocks read there. -/
theorem sout0_A_1_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = fs1 (inB x4 x5 x6 x7 x8 x9 x10 x11 x12 x13 (k0_pay16 (F := Ideal))) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  simp (disch := decide) only [↓ View.readCov_skip, ↓ View.readCov_cons_toLoadRect, ↓ View.readCov_fill]
  frame_out
  sl_kernel_rfl

/-- At a middle chunk of a sequence the forward output block is the chunk's value over the blocks read there. -/
theorem out0_B_15_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    out0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fo15 (inF x0 x1 x2 x3 x8 x9 x10 x11 x12 x13 (xs0)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At a middle chunk of a sequence the backward output block is the chunk's value over the blocks read there. -/
theorem out0_B_16_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    out0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = f3024 (inB x4 x5 x6 x7 x8 x9 x10 x11 x12 x13 (xs1)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At a middle chunk of a sequence the forward scratch is the chunk's value over the blocks read there. -/
theorem sout0_B_0_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fs0 (inF x0 x1 x2 x3 x8 x9 x10 x11 x12 x13 (xs0)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At a middle chunk of a sequence the backward scratch is the chunk's value over the blocks read there. -/
theorem sout0_B_1_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : ¬cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fs1 (inB x4 x5 x6 x7 x8 x9 x10 x11 x12 x13 (xs1)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At the last chunk of a sequence the forward output block is the chunk's value over the blocks read there. -/
theorem out0_C_15_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fo15 (inF x0 x1 x2 x3 x8 x9 x10 x11 x12 x13 (xs0)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At the last chunk of a sequence the backward output block is the chunk's value over the blocks read there. -/
theorem out0_C_16_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    out0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = f3024 (inB x4 x5 x6 x7 x8 x9 x10 x11 x12 x13 (xs1)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At the last chunk of a sequence the forward scratch is the chunk's value over the blocks read there. -/
theorem sout0_C_0_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fs0 (inF x0 x1 x2 x3 x8 x9 x10 x11 x12 x13 (xs0)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

/-- At the last chunk of a sequence the backward scratch is the chunk's value over the blocks read there. -/
theorem sout0_C_1_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fs1 (inB x4 x5 x6 x7 x8 x9 x10 x11 x12 x13 (xs1)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  frame_out
  sl_kernel_rfl

end Cert.WkvIdeal.Dir
-- ==== Proof.WkvCase17.lean ====
module

public import proofs.«01_k».proof.Defs
public import proofs.«01_k».proof.Proof.Gen.WkvIdeal.Value
public import proofs.«01_k».proof.Proof.WkvIn
public import proofs.«01_k».proof.Proof.WkvRead
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

/-- The final states of both directions: the diagonal blocks of the two scratches. -/
def fin17 (S T : FVec Ideal S256x256 .f32) : Vec Ideal S1x2x4x64x64 .f32 := fun y =>
  if (y 1 : ℕ) = 0 then S (ix2 (ln (y 2) (y 3)) (ln (y 2) (y 4))) else T (ix2 (ln (y 2) (y 3)) (ln (y 2) (y 4)))

theorem fin17_0 (S T : FVec Ideal S256x256 .f32) (y : S1x2x4x64x64.Idx) (h : Fin 4) (v k : Fin 64) (h1 : (y 1 : ℕ) = 0) (h2 : (y 2 : ℕ) = h.val) (h3 : (y 3 : ℕ) = v.val) (h4 : (y 4 : ℕ) = k.val) :
    S (ix2 (ln h v) (ln h k)) = fin17 S T y := by
  have e2 : y 2 = h := Fin.ext h2
  have e3 : y 3 = v := Fin.ext h3
  have e4 : y 4 = k := Fin.ext h4
  unfold fin17
  rw [if_pos h1, e2, e3, e4]

theorem fin17_1 (S T : FVec Ideal S256x256 .f32) (y : S1x2x4x64x64.Idx) (h : Fin 4) (v k : Fin 64) (h1 : ¬ (y 1 : ℕ) = 0) (h2 : (y 2 : ℕ) = h.val) (h3 : (y 3 : ℕ) = v.val) (h4 : (y 4 : ℕ) = k.val) :
    T (ix2 (ln h v) (ln h k)) = fin17 S T y := by
  have e2 : y 2 = h := Fin.ext h2
  have e3 : y 3 = v := Fin.ext h3
  have e4 : y 4 = k := Fin.ext h4
  unfold fin17
  rw [if_neg h1, e2, e3, e4]

theorem pk4 (S : Vec Ideal S256x256 .f32) (x : S1x1x1x64x64.Idx) :
    k0_pay4 (F := Ideal) (View.ld S (Rect.unit (s := S256x256) ![192, 192] S64x64.size inb_S256x256_S64x64_192_192)) x = S (ix2 (ln 3 (x 3)) (ln 3 (x 4))) := by
  pointwise [k0_pay4]
  blk_ext [ln]

theorem pk3 (S : Vec Ideal S256x256 .f32) (x : S1x1x1x64x64.Idx) :
    k0_pay3 (F := Ideal) (View.ld S (Rect.unit (s := S256x256) ![128, 128] S64x64.size inb_S256x256_S64x64_128_128)) x = S (ix2 (ln 2 (x 3)) (ln 2 (x 4))) := by
  pointwise [k0_pay3]
  blk_ext [ln]

theorem pk2 (S : Vec Ideal S256x256 .f32) (x : S1x1x1x64x64.Idx) :
    k0_pay2 (F := Ideal) (View.ld S (Rect.unit (s := S256x256) ![64, 64] S64x64.size inb_S256x256_S64x64_64_64)) x = S (ix2 (ln 1 (x 3)) (ln 1 (x 4))) := by
  pointwise [k0_pay2]
  blk_ext [ln]

theorem pk9 (S : Vec Ideal S256x256 .f32) (x : S1x1x1x64x64.Idx) :
    k0_pay9 (F := Ideal) (View.ld S (Rect.unit (s := S256x256) ![0, 0] S64x64.size inb_S256x256_S64x64_0_0)) x = S (ix2 (ln 0 (x 3)) (ln 0 (x 4))) := by
  pointwise [k0_pay9]
  blk_ext [ln]

theorem pk8 (S : Vec Ideal S256x256 .f32) (x : S1x1x1x64x64.Idx) :
    k0_pay8 (F := Ideal) (View.ld S (Rect.unit (s := S256x256) ![192, 192] S64x64.size inb_S256x256_S64x64_192_192)) x = S (ix2 (ln 3 (x 3)) (ln 3 (x 4))) := by
  pointwise [k0_pay8]
  blk_ext [ln]

theorem pk7 (S : Vec Ideal S256x256 .f32) (x : S1x1x1x64x64.Idx) :
    k0_pay7 (F := Ideal) (View.ld S (Rect.unit (s := S256x256) ![128, 128] S64x64.size inb_S256x256_S64x64_128_128)) x = S (ix2 (ln 2 (x 3)) (ln 2 (x 4))) := by
  pointwise [k0_pay7]
  blk_ext [ln]

theorem pk6 (S : Vec Ideal S256x256 .f32) (x : S1x1x1x64x64.Idx) :
    k0_pay6 (F := Ideal) (View.ld S (Rect.unit (s := S256x256) ![64, 64] S64x64.size inb_S256x256_S64x64_64_64)) x = S (ix2 (ln 1 (x 3)) (ln 1 (x 4))) := by
  pointwise [k0_pay6]
  blk_ext [ln]

theorem pk5 (S : Vec Ideal S256x256 .f32) (x : S1x1x1x64x64.Idx) :
    k0_pay5 (F := Ideal) (View.ld S (Rect.unit (s := S256x256) ![0, 0] S64x64.size inb_S256x256_S64x64_0_0)) x = S (ix2 (ln 0 (x 3)) (ln 0 (x 4))) := by
  pointwise [k0_pay5]
  blk_ext [ln]

/-- At the last chunk of a sequence the block of final states is the diagonal blocks of the two new scratches. -/
theorem out0_C_17_eq  (c : Dev nD) (i : grid0.Coords) (arg3 : Memref sig .tc .vmem S1x64x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2x1x256 .f32) (harg13 : arg13.IsWhole) (arg14 : Memref sig .tc .vmem S2x64x256 .f32) (harg14 : arg14.IsWhole) (arg15 : Memref sig .tc .vmem S2x1x256 .f32) (harg15 : arg15.IsWhole) (arg16 : Memref sig .tc .vmem S2x64x256 .f32) (harg16 : arg16.IsWhole) (arg17 : Memref sig .tc .vmem S1x2x4x64x64 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S1x2x4x64x64 .f32) (harg20 : arg20.IsWhole) (arg21 : Memref sig .tc .vmem S256x256 .f32) (harg21 : arg21.IsWhole) (arg22 : Memref sig .tc .vmem S256x256 .f32) (harg22 : arg22.IsWhole) (hc0 : ¬cond0_0 i) (hc1 : cond0_1 i)
    (x0 : Vec Ideal S1x64x256 .f32) (x1 : Vec Ideal S1x64x256 .f32) (x2 : Vec Ideal S1x64x256 .f32) (x3 : Vec Ideal S1x64x256 .f32) (x4 : Vec Ideal S1x64x256 .f32) (x5 : Vec Ideal S1x64x256 .f32) (x6 : Vec Ideal S1x64x256 .f32) (x7 : Vec Ideal S1x64x256 .f32) (x8 : Vec Ideal S1x256 .f32) (x9 : Vec Ideal S1x256 .f32) (x10 : Vec Ideal S2x1x256 .f32) (x11 : Vec Ideal S2x64x256 .f32) (x12 : Vec Ideal S2x1x256 .f32) (x13 : Vec Ideal S2x64x256 .f32) (x14 : Vec Ideal S1x2x4x64x64 .f32) (xs0 : Vec Ideal S256x256 .f32) (xs1 : Vec Ideal S256x256 .f32) :
    out0_C_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = fin17 (fs0 (inF x0 x1 x2 x3 x8 x9 x10 x11 x12 x13 xs0)) (fs1 (inB x4 x5 x6 x7 x8 x9 x10 x11 x12 x13 xs1)) := by
  have hc : ∀ x : FVec Ideal S64x256 .f32, concatenate S256x256 0 [⟨S64x256, x⟩, ⟨S64x256, x⟩, ⟨S64x256, x⟩, ⟨S64x256, x⟩] concatenates_S64x256_S64x256_S64x256_S64x256_S256x256_d0 = k0_pay76 x := fun _ => rfl
  frame_open
  try simp only [hc]
  simp (disch := decide) only [↓ View.readCov_skip, ↓ View.readCov_cons_toLoadRect, ↓ View.readCov_fill]
  frame_out
  funext y
  canon_tiles x h
  case piece0 =>
    have q1 : (x 1 : ℕ) < 1 := (x 1).isLt
    have q2 : (x 2 : ℕ) < 1 := (x 2).isLt
    refine Eq.trans (b := k0_pay4 (F := Ideal) (View.ld (fs1 (inB x4 x5 x6 x7 x8 x9 x10 x11 x12 x13 xs1)) (Rect.unit (s := S256x256) ![192, 192] S64x64.size inb_S256x256_S64x64_192_192)) x) (by sl_kernel_rfl) ((pk4 _ x).trans ?_)
    exact fin17_1 _ _ y 3 (x 3) (x 4) (by omega) (by refine h2.trans ?_; show _ = (3 : ℕ); omega) h3 h4
  case piece1 =>
    have q1 : (x 1 : ℕ) < 1 := (x 1).isLt
    have q2 : (x 2 : ℕ) < 1 := (x 2).isLt
    refine Eq.trans (b := k0_pay3 (F := Ideal) (View.ld (fs1 (inB x4 x5 x6 x7 x8 x9 x10 x11 x12 x13 xs1)) (Rect.unit (s := S256x256) ![128, 128] S64x64.size inb_S256x256_S64x64_128_128)) x) (by sl_kernel_rfl) ((pk3 _ x).trans ?_)
    exact fin17_1 _ _ y 2 (x 3) (x 4) (by omega) (by refine h2.trans ?_; show _ = (2 : ℕ); omega) h3 h4
  case piece2 =>
    have q1 : (x 1 : ℕ) < 1 := (x 1).isLt
    have q2 : (x 2 : ℕ) < 1 := (x 2).isLt
    refine Eq.trans (b := k0_pay2 (F := Ideal) (View.ld (fs1 (inB x4 x5 x6 x7 x8 x9 x10 x11 x12 x13 xs1)) (Rect.unit (s := S256x256) ![64, 64] S64x64.size inb_S256x256_S64x64_64_64)) x) (by sl_kernel_rfl) ((pk2 _ x).trans ?_)
    exact fin17_1 _ _ y 1 (x 3) (x 4) (by omega) (by refine h2.trans ?_; show _ = (1 : ℕ); omega) h3 h4
  case piece3 =>
    have q1 : (x 1 : ℕ) < 1 := (x 1).isLt
    have q2 : (x 2 : ℕ) < 1 := (x 2).isLt
    refine Eq.trans (b := k0_pay9 (F := Ideal) (View.ld (fs1 (inB x4 x5 x6 x7 x8 x9 x10 x11 x12 x13 xs1)) (Rect.unit (s := S256x256) ![0, 0] S64x64.size inb_S256x256_S64x64_0_0)) x) (by sl_kernel_rfl) ((pk9 _ x).trans ?_)
    exact fin17_1 _ _ y 0 (x 3) (x 4) (by omega) (by refine h2.trans ?_; show _ = (0 : ℕ); omega) h3 h4
  case piece4 =>
    have q1 : (x 1 : ℕ) < 1 := (x 1).isLt
    have q2 : (x 2 : ℕ) < 1 := (x 2).isLt
    refine Eq.trans (b := k0_pay8 (F := Ideal) (View.ld (fs0 (inF x0 x1 x2 x3 x8 x9 x10 x11 x12 x13 xs0)) (Rect.unit (s := S256x256) ![192, 192] S64x64.size inb_S256x256_S64x64_192_192)) x) (by sl_kernel_rfl) ((pk8 _ x).trans ?_)
    exact fin17_0 _ _ y 3 (x 3) (x 4) (by omega) (by refine h2.trans ?_; show _ = (3 : ℕ); omega) h3 h4
  case piece5 =>
    have q1 : (x 1 : ℕ) < 1 := (x 1).isLt
    have q2 : (x 2 : ℕ) < 1 := (x 2).isLt
    refine Eq.trans (b := k0_pay7 (F := Ideal) (View.ld (fs0 (inF x0 x1 x2 x3 x8 x9 x10 x11 x12 x13 xs0)) (Rect.unit (s := S256x256) ![128, 128] S64x64.size inb_S256x256_S64x64_128_128)) x) (by sl_kernel_rfl) ((pk7 _ x).trans ?_)
    exact fin17_0 _ _ y 2 (x 3) (x 4) (by omega) (by refine h2.trans ?_; show _ = (2 : ℕ); omega) h3 h4
  case piece6 =>
    have q1 : (x 1 : ℕ) < 1 := (x 1).isLt
    have q2 : (x 2 : ℕ) < 1 := (x 2).isLt
    refine Eq.trans (b := k0_pay6 (F := Ideal) (View.ld (fs0 (inF x0 x1 x2 x3 x8 x9 x10 x11 x12 x13 xs0)) (Rect.unit (s := S256x256) ![64, 64] S64x64.size inb_S256x256_S64x64_64_64)) x) (by sl_kernel_rfl) ((pk6 _ x).trans ?_)
    exact fin17_0 _ _ y 1 (x 3) (x 4) (by omega) (by refine h2.trans ?_; show _ = (1 : ℕ); omega) h3 h4
  case piece7 =>
    have q1 : (x 1 : ℕ) < 1 := (x 1).isLt
    have q2 : (x 2 : ℕ) < 1 := (x 2).isLt
    refine Eq.trans (b := k0_pay5 (F := Ideal) (View.ld (fs0 (inF x0 x1 x2 x3 x8 x9 x10 x11 x12 x13 xs0)) (Rect.unit (s := S256x256) ![0, 0] S64x64.size inb_S256x256_S64x64_0_0)) x) (by sl_kernel_rfl) ((pk5 _ x).trans ?_)
    exact fin17_0 _ _ y 0 (x 3) (x 4) (by omega) (by refine h2.trans ?_; show _ = (0 : ℕ); omega) h3 h4

end Cert.WkvIdeal.Dir
-- ==== Proof.WkvFold.lean ====
module

public import proofs.«01_k».proof.Defs
public import proofs.«01_k».proof.Proof.Gen.WkvIdeal.Value
public import proofs.«01_k».proof.Proof.WkvPos
public import proofs.«01_k».proof.Proof.WkvCase
public import proofs.«01_k».proof.Proof.WkvCase17
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

open Cert.WkvReal (rowG lnG tok dir feat Args rowG_val oR sR)

variable {m : (ℓ : Loc nD τ sig) → Buf (Elt Ideal) ℓ} {c : Dev nD} {A : Args}

/-- The state a head has after `n` tokens of a point's sequence. -/
def stT (A : Args) (rev : Bool) (t : Fin cfg0.N) (n : ℕ) (h : Fin 4) : Fin 64 → Fin 64 → ℝ := WkvReal.run (feat A rev (Qt t) (HB t h)) 0 n

theorem stepF (hA : argsHold m c A) (t : Fin cfg0.N) (S : Vec Ideal S256x256 .f32) (hS : isS S (stT A false t (64 * (t.val % 4)))) :
    isS (fs0 (ptF m c t S)) (stT A false t (64 * (t.val % 4 + 1))) := by
  rw [s_f]
  intro h v h' k
  refine ((isPF hA t S).s (isVF hA t S) (S := (ptF m c t S).S) hS h v h' k).trans ?_
  have e : WkvReal.run (FF A false t h) (stT A false t (64 * (t.val % 4)) h) 64 = stT A false t (64 * (t.val % 4 + 1)) h :=
    WkvReal.run_from (feat A false (Qt t) (HB t h)) 0 (64 * (t.val % 4)) 64
  simp only [e]

theorem outF (hA : argsHold m c A) (t : Fin cfg0.N) (S : Vec Ideal S256x256 .f32) (hS : isS S (stT A false t (64 * (t.val % 4)))) :
    isD false (fo15 (ptF m c t S)) fun h s j => WkvReal.out (feat A false (Qt t) (HB t h)) 0 (64 * (t.val % 4) + s.val) j := by
  rw [o_f]
  refine ((isPF hA t S).o (isVF hA t S) (S := (ptF m c t S).S) hS).congr fun h s j => ?_
  exact congrFun (WkvReal.out_from (feat A false (Qt t) (HB t h)) 0 (64 * (t.val % 4)) s.val) j

theorem stepB (hA : argsHold m c A) (t : Fin cfg0.N) (S : Vec Ideal S256x256 .f32) (hS : isS S (stT A true t (64 * (t.val % 4)))) :
    isS (fs1 (ptB m c t S)) (stT A true t (64 * (t.val % 4 + 1))) := by
  rw [s_b]
  intro h v h' k
  refine ((isPB hA t S).s (isVB hA t S) (S := (ptB m c t S).S) hS h v h' k).trans ?_
  have e : WkvReal.run (FF A true t h) (stT A true t (64 * (t.val % 4)) h) 64 = stT A true t (64 * (t.val % 4 + 1)) h :=
    WkvReal.run_from (feat A true (Qt t) (HB t h)) 0 (64 * (t.val % 4)) 64
  simp only [e]

theorem outB (hA : argsHold m c A) (t : Fin cfg0.N) (S : Vec Ideal S256x256 .f32) (hS : isS S (stT A true t (64 * (t.val % 4)))) :
    isD true (f3024 (ptB m c t S)) fun h s j => WkvReal.out (feat A true (Qt t) (HB t h)) 0 (64 * (t.val % 4) + s.val) j := by
  rw [o_b]
  refine ((isPB hA t S).o (isVB hA t S) (S := (ptB m c t S).S) hS).congr fun h s j => ?_
  exact congrFun (WkvReal.out_from (feat A true (Qt t) (HB t h)) 0 (64 * (t.val % 4)) s.val) j

theorem zeroF (rev : Bool) (t : Fin cfg0.N) (h0 : t.val % 4 = 0) : isS (k0_pay15 (F := Ideal)) (stT A rev t (64 * (t.val % 4))) := by
  intro h v h' k
  rw [h0]
  refine Eq.trans (b := (0 : EReal)) (by pointwise [k0_pay15]) ?_
  exact (ite_self _).symm

theorem zeroB (rev : Bool) (t : Fin cfg0.N) (h0 : t.val % 4 = 0) : isS (k0_pay16 (F := Ideal)) (stT A rev t (64 * (t.val % 4))) := by
  intro h v h' k
  rw [h0]
  refine Eq.trans (b := (0 : EReal)) (by pointwise [k0_pay16]) ?_
  exact (ite_self _).symm

theorem lift (rev : Bool) (u t : Fin cfg0.N) (e : u.val + 1 = t.val) (h0 : ¬ t.val % 4 = 0) : stT A rev u (64 * (u.val % 4 + 1)) = stT A rev t (64 * (t.val % 4)) := by
  have hq : Qt u = Qt t := Fin.ext (by show u.val / 16 = t.val / 16; omega)
  have hb : ∀ h, HB u h = HB t h := fun h => Fin.ext (by show 4 * (u.val / 4 % 4) + h.val = 4 * (t.val / 4 % 4) + h.val; omega)
  have hn : u.val % 4 + 1 = t.val % 4 := by omega
  funext h
  unfold stT
  rw [hq, hb, hn]

/-- What the staging buffers and the two scratches hold after a point. -/
structure Hold (A : Args) (t : Fin cfg0.N) (o : Vec Ideal S64x256 .f32 × Vec Ideal S64x256 .f32 × Vec Ideal S1x2x4x64x64 .f32 × Vec Ideal S256x256 .f32 × Vec Ideal S256x256 .f32) : Prop where
  oF : isD false o.1 fun h s j => WkvReal.out (feat A false (Qt t) (HB t h)) 0 (64 * (t.val % 4) + s.val) j
  oB : isD true o.2.1 fun h s j => WkvReal.out (feat A true (Qt t) (HB t h)) 0 (64 * (t.val % 4) + s.val) j
  st : t.val % 4 = 3 → ∃ S T, o.2.2.1 = fin17 S T ∧ isS S (stT A false t 256) ∧ isS T (stT A true t 256)
  sF : isS o.2.2.2.1 (stT A false t (64 * (t.val % 4 + 1)))
  sB : isS o.2.2.2.2 (stT A true t (64 * (t.val % 4 + 1)))

/-- At the first chunk of a sequence. -/
theorem hold_A (hA : argsHold m c A) (t : Fin cfg0.N) (h0 : t.val % 4 = 0) (h1 : ¬ t.val % 4 = 3) : Hold A t (outsAt0 m c t.val t.isLt) := by
  rw [outsAt0_A m c t h0 h1]
  refine ⟨?_, ?_, fun h => absurd h h1, ?_, ?_⟩
  · dsimp only
    rw [out0_A_15_eq]
    exact outF hA t _ (zeroF _ t h0)
  · dsimp only
    rw [out0_A_16_eq]
    exact outB hA t _ (zeroB _ t h0)
  · dsimp only
    rw [sout0_A_0_eq]
    exact stepF hA t _ (zeroF _ t h0)
  · dsimp only
    rw [sout0_A_1_eq]
    exact stepB hA t _ (zeroB _ t h0)

/-- At a middle chunk, from the states the point before left. -/
theorem hold_B (hA : argsHold m c A) (t : Fin cfg0.N) (h0 : ¬ t.val % 4 = 0) (h1 : ¬ t.val % 4 = 3) (hp : t.val - 1 < cfg0.N)
    (hF : isS (outsAt0 m c (t.val - 1) hp).2.2.2.1 (stT A false t (64 * (t.val % 4)))) (hB : isS (outsAt0 m c (t.val - 1) hp).2.2.2.2 (stT A true t (64 * (t.val % 4)))) :
    Hold A t (outsAt0 m c t.val t.isLt) := by
  rw [outsAt0_B m c t h0 h1]
  refine ⟨?_, ?_, fun h => absurd h h1, ?_, ?_⟩
  · dsimp only
    rw [out0_B_15_eq]
    exact outF hA t _ hF
  · dsimp only
    rw [out0_B_16_eq]
    exact outB hA t _ hB
  · dsimp only
    rw [sout0_B_0_eq]
    exact stepF hA t _ hF
  · dsimp only
    rw [sout0_B_1_eq]
    exact stepB hA t _ hB

/-- At the last chunk, from the states the point before left. -/
theorem hold_C (hA : argsHold m c A) (t : Fin cfg0.N) (h0 : ¬ t.val % 4 = 0) (h1 : t.val % 4 = 3) (hp : t.val - 1 < cfg0.N)
    (hF : isS (outsAt0 m c (t.val - 1) hp).2.2.2.1 (stT A false t (64 * (t.val % 4)))) (hB : isS (outsAt0 m c (t.val - 1) hp).2.2.2.2 (stT A true t (64 * (t.val % 4)))) :
    Hold A t (outsAt0 m c t.val t.isLt) := by
  have e : 64 * (t.val % 4 + 1) = 256 := by omega
  have kF := stepF hA t _ hF
  have kB := stepB hA t _ hB
  rw [outsAt0_C m c t h0 h1]
  refine ⟨?_, ?_, fun _ => ⟨_, _, ?_, e ▸ kF, e ▸ kB⟩, ?_, ?_⟩
  · dsimp only
    rw [out0_C_15_eq]
    exact outF hA t _ hF
  · dsimp only
    rw [out0_C_16_eq]
    exact outB hA t _ hB
  · dsimp only
    rw [out0_C_17_eq]
    rfl
  · dsimp only
    rw [sout0_C_0_eq]
    exact kF
  · dsimp only
    rw [sout0_C_1_eq]
    exact kB

/-- After every point the buffers and scratches hold the exact recurrence. -/
theorem carried (hA : argsHold m c A) : ∀ (n : ℕ) (h : n < cfg0.N), Hold A ⟨n, h⟩ (outsAt0 m c n h) := by
  intro n
  induction n with
  | zero => exact fun h => hold_A hA ⟨0, h⟩ rfl (by show ¬ 0 % 4 = 3; decide)
  | succ n ih =>
    intro h
    have k := ih (Nat.lt_of_succ_lt h)
    by_cases h0 : (n + 1) % 4 = 0
    · exact hold_A hA ⟨n + 1, h⟩ h0 (by show ¬ (n + 1) % 4 = 3; omega)
    · have kF := k.sF
      have kB := k.sB
      rw [lift _ ⟨n, Nat.lt_of_succ_lt h⟩ ⟨n + 1, h⟩ rfl h0] at kF kB
      by_cases h1 : (n + 1) % 4 = 3
      · exact hold_C hA ⟨n + 1, h⟩ h0 h1 _ kF kB
      · exact hold_B hA ⟨n + 1, h⟩ h0 h1 _ kF kB

end Cert.WkvIdeal.Dir
-- ==== Proof.WkvFinal.lean ====
module

public import proofs.«01_k».proof.Defs
public import proofs.«01_k».proof.Proof.Gen.WkvIdeal.Value
public import proofs.«01_k».proof.Proof.WkvFold
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvIdeal.Dir

open Cert.WkvIdeal Cert.WkvIdeal.Gen

open Cert.WkvReal (rowG lnG tok dir feat Args rowG_val oR sR)

variable {m : (ℓ : Loc nD τ sig) → Buf (Elt Ideal) ℓ} {c : Dev nD} {A : Args}

/-- The read-out array of a direction, and the array of final states. -/
def GO (A : Args) (rev : Bool) : Vec Ideal S8192x1024 .f32 := fun i =>
  ((oR A rev ⟨(i 0).val / 256, by have : (i 0).val < 8192 := (i 0).isLt; omega⟩ ((i 0).val % 256) ⟨(i 1).val / 64, by have : (i 1).val < 1024 := (i 1).isLt; omega⟩ ⟨(i 1).val % 64, by omega⟩ : ℝ) : EReal)
def GS (A : Args) : Vec Ideal S32x2x16x64x64 .f32 := fun i =>
  ((sR A (decide ((i 1).val = 1)) (i 0) (i 2) (i 3) (i 4) : ℝ) : EReal)

theorem GO_at (A : Args) (rev : Bool) (q : Fin 32) (n : ℕ) (hn : n < 256) (H : Fin 16) (j : Fin 64) : GO A rev (ix2 (rowG q n) (lnG H j)) = ((oR A rev q n H j : ℝ) : EReal) := by
  have hr := rowG_val q n hn
  have e1 : (⟨(rowG q n).val / 256, by omega⟩ : Fin 32) = q := Fin.ext (by show (rowG q n).val / 256 = q.val; omega)
  have e2 : (rowG q n).val % 256 = n := by omega
  have e3 : (⟨(lnG H j).val / 64, by omega⟩ : Fin 16) = H := Fin.ext (by show (H.val * 64 + j.val) / 64 = H.val; omega)
  have e4 : (⟨(lnG H j).val % 64, by omega⟩ : Fin 64) = j := Fin.ext (by show (H.val * 64 + j.val) % 64 = j.val; omega)
  refine Eq.trans (b := ((oR A rev ⟨(rowG q n).val / 256, by omega⟩ ((rowG q n).val % 256) ⟨(lnG H j).val / 64, by omega⟩ ⟨(lnG H j).val % 64, by omega⟩ : ℝ) : EReal)) rfl ?_
  rw [e1, e2, e3, e4]

theorem GS_at (A : Args) (rev : Bool) (q : Fin 32) (H : Fin 16) (i j : Fin 64) : GS A (ix5 q (dir rev) H i j) = ((sR A rev q H i j : ℝ) : EReal) := by
  cases rev <;> rfl

theorem tok_tok (rev : Bool) (n : ℕ) (h : n < 256) : tok rev (tok rev n) = n := by
  cases rev
  · rfl
  · show 255 - (255 - n) = n
    omega

theorem tok_lt (rev : Bool) (n : ℕ) (h : n < 256) : tok rev n < 256 := by
  cases rev
  · exact h
  · show 255 - n < 256
    omega

theorem GO_tok (A : Args) (rev : Bool) (q : Fin 32) (n : ℕ) (hn : n < 256) (H : Fin 16) (j : Fin 64) :
    ((WkvReal.out (feat A rev q H) 0 n j : ℝ) : EReal) = GO A rev (ix2 (rowG q (tok rev n)) (lnG H j)) := by
  rw [GO_at A rev q _ (tok_lt rev n hn) H j]
  unfold oR
  rw [tok_tok rev n hn]

/-- The read-out of a direction after the run. -/
theorem final15 (hA : argsHold m c A) : (dats m 0 c).arrAt 15 cfg0.N = GO A false := by
  refine (dats m 0 c).arrAt_eq_of_covers 15 _ (by decide +kernel) fun t hf y => ?_
  blk_simp
  rw [after0_15]
  obtain ⟨s, l, rfl⟩ : ∃ (s : Fin 64) (l : Fin 256), y = (ix2 s l : S64x256.Idx) := ⟨y 0, y 1, by funext a; fin_cases a <;> rfl⟩
  obtain ⟨h, j, rfl⟩ := ln_surj l
  obtain ⟨r, hr⟩ : ∃ r, s = tk false r := ⟨tk false s, (tk_tk false s).symm⟩
  rw [hr]
  clear hr
  have hN := lt512 t
  have hemb : (win0_15.blk t).view.emb (ix2 (tk false r) (ln h j)) = (ix2 (⟨256 * (t.val / 16) + 64 * (t.val % 4) + (tk false r).val, by omega⟩ : Fin 8192) (⟨256 * (t.val / 4 % 4) + (ln h j).val, by omega⟩ : Fin 1024) : S8192x1024.Idx) := by
    blk_ext [idx t]
  rw [hemb, row_f, lane_h]
  refine ((carried hA t.val t.isLt).oF h r j).trans ?_
  exact GO_tok A false (Qt t) (64 * (t.val % 4) + r.val) (by omega) (HB t h) j

/-- The read-out of a direction after the run. -/
theorem final16 (hA : argsHold m c A) : (dats m 0 c).arrAt 16 cfg0.N = GO A true := by
  refine (dats m 0 c).arrAt_eq_of_covers 16 _ (by decide +kernel) fun t hf y => ?_
  blk_simp
  rw [after0_16]
  obtain ⟨s, l, rfl⟩ : ∃ (s : Fin 64) (l : Fin 256), y = (ix2 s l : S64x256.Idx) := ⟨y 0, y 1, by funext a; fin_cases a <;> rfl⟩
  obtain ⟨h, j, rfl⟩ := ln_surj l
  obtain ⟨r, hr⟩ : ∃ r, s = tk true r := ⟨tk true s, (tk_tk true s).symm⟩
  rw [hr]
  clear hr
  have hN := lt512 t
  have hemb : (win0_16.blk t).view.emb (ix2 (tk true r) (ln h j)) = (ix2 (⟨256 * (t.val / 16) + 64 * (3 - t.val % 4) + (tk true r).val, by omega⟩ : Fin 8192) (⟨256 * (t.val / 4 % 4) + (ln h j).val, by omega⟩ : Fin 1024) : S8192x1024.Idx) := by
    blk_ext [idx t]
  rw [hemb, row_b, lane_h]
  refine ((carried hA t.val t.isLt).oB h r j).trans ?_
  exact GO_tok A true (Qt t) (64 * (t.val % 4) + r.val) (by omega) (HB t h) j

/-- The final states after the run. -/
theorem final17 (hA : argsHold m c A) : (dats m 0 c).arrAt 17 cfg0.N = GS A := by
  refine (dats m 0 c).arrAt_eq_of_covers 17 _ (by decide +kernel) fun t hf y => ?_
  blk_simp
  rw [after0_17]
  have h3 : t.val % 4 = 3 := (flush0_17 t).mp hf
  obtain ⟨d, h, v, k, rfl⟩ : ∃ (d : Fin 2) (h : Fin 4) (v k : Fin 64), y = (ix5 0 d h v k : S1x2x4x64x64.Idx) :=
    ⟨y 1, y 2, y 3, y 4, by
      funext a
      match a with
      | ⟨0, _⟩ => exact Fin.ext (by have : (y 0 : ℕ) < 1 := (y 0).isLt; show (y 0 : ℕ) = 0; omega)
      | ⟨1, _⟩ => rfl
      | ⟨2, _⟩ => rfl
      | ⟨3, _⟩ => rfl
      | ⟨4, _⟩ => rfl⟩
  have hN := lt512 t
  have hemb : (win0_17.blk t).view.emb (ix5 0 d h v k) = (ix5 (⟨t.val / 16, by omega⟩ : Fin 32) d (⟨4 * (t.val / 4 % 4) + h.val, by omega⟩ : Fin 16) v k : S32x2x16x64x64.Idx) := by
    blk_ext [idx t]
  rw [hemb]
  obtain ⟨S, T, e, hS, hT⟩ := (carried hA t.val t.isLt).st h3
  rw [e]
  fin_cases d
  · refine (fin17_0 S T (ix5 0 0 h v k) h v k rfl rfl rfl rfl).symm.trans ((hS h v h k).trans ?_)
    rw [if_pos rfl]
    exact (GS_at A false (Qt t) (HB t h) v k).symm
  · refine (fin17_1 S T (ix5 0 1 h v k) h v k (by show ¬ (1 : ℕ) = 0; decide) rfl rfl rfl).symm.trans ((hT h v h k).trans ?_)
    rw [if_pos rfl]
    exact (GS_at A true (Qt t) (HB t h) v k).symm

end Cert.WkvIdeal.Dir
-- ==== Proof.WkvRefIn.lean ====
module

public import proofs.«01_k».proof.Defs
public import proofs.«01_k».proof.Proof.Gen.WkvRefIdeal.Run
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvRefIdeal.Scan

open Cert.WkvRefIdeal Cert.WkvRefIdeal.Value Idealize.ShloMosaic.StableHlo

/-- The named pieces of what the reference prepares, of its argument arrays. -/
def rH (a : Vec Ideal S3x8192x1024 .f32) : FVec Ideal S32x256x16x64 .f32 :=
  shapeCast S32x256x16x64 (shapeCast S8192x1024 (extractStridedSlice S1x8192x1024 ![0, 0, 0] a Gen.slices_S3x8192x1024_S1x8192x1024_0_0_0) Gen.shapeCasts_S1x8192x1024_S8192x1024) Gen.shapeCasts_S8192x1024_S32x256x16x64
def vH (a : Vec Ideal S3x8192x1024 .f32) : FVec Ideal S32x256x16x64 .f32 :=
  shapeCast S32x256x16x64 (shapeCast S8192x1024 (extractStridedSlice S1x8192x1024 ![2, 0, 0] a Gen.slices_S3x8192x1024_S1x8192x1024_2_0_0) Gen.shapeCasts_S1x8192x1024_S8192x1024) Gen.shapeCasts_S8192x1024_S32x256x16x64
def kT (a : Vec Ideal S3x8192x1024 .f32) : FVec Ideal S32x256x1024 .f32 :=
  shapeCast S32x256x1024 (shapeCast S8192x1024 (extractStridedSlice S1x8192x1024 ![1, 0, 0] a Gen.slices_S3x8192x1024_S1x8192x1024_1_0_0) Gen.shapeCasts_S1x8192x1024_S8192x1024) Gen.shapeCasts_S8192x1024_S32x256x1024
def smT (b : Vec Ideal S1x8192x256 .f32) : FVec Ideal S32x256x256 .f32 :=
  shapeCast S32x256x256 (shapeCast S8192x256 b Gen.shapeCasts_S1x8192x256_S8192x256) Gen.shapeCasts_S8192x256_S32x256x256
def wdT (b : Vec Ideal S1x8192x256 .f32) : FVec Ideal S32x256x64 .f32 := Host.tanh (extractStridedSlice S32x256x64 ![0, 0, 0] (smT b) Gen.slices_S32x256x256_S32x256x64_0_0_0)
def adT (b : Vec Ideal S1x8192x256 .f32) : FVec Ideal S32x256x64 .f32 := extractStridedSlice S32x256x64 ![0, 0, 64] (smT b) Gen.slices_S32x256x256_S32x256x64_0_0_64
def spread (x : FVec Ideal S1024 .f32) : FVec Ideal S32x256x1024 .f32 :=
  broadcastInDim S32x256x1024 ![0, 1, 2] Gen.bcast_S1x1x1024_S32x256x1024_0_1_2 (broadcastInDim S1x1x1024 ![2] Gen.bcast_S1024_S1x1x1024_2 x)
def num (b : BitVec 32) : FVec Ideal S32x256x1024 .f32 := broadcastInDim S32x256x1024 ![] Gen.bcast_S_S32x256x1024 (constant S_ .f32 b)
def pH (a : Vec Ideal S3x8192x1024 .f32) (w : Vec Ideal S1x1024 .f32) : FVec Ideal S32x256x16x64 .f32 :=
  shapeCast S32x256x16x64 (mulf (kT a) (spread (shapeCast S1024 w Gen.shapeCasts_S1x1024_S1024))) Gen.shapeCasts_S32x256x1024_S32x256x16x64
def kkH (a : Vec Ideal S3x8192x1024 .f32) (w : Vec Ideal S1x1024 .f32) : FVec Ideal S32x256x16x64 .f32 :=
  mulf (pH a w) (broadcastInDim S32x256x16x64 ![0, 1, 2, 3] Gen.bcast_S32x256x16x1_S32x256x16x64_0_1_2_3
    (Host.rsqrt (maximumf (broadcastInDim S32x256x16x1 ![0, 1, 2] Gen.bcast_S32x256x16_S32x256x16x1_0_1_2
      (Host.reduceAdd (mulf (pH a w) (pH a w)) (constant S_ .f32 0x00000000#32) Gen.reducesTo_S32x256x16x64_S32x256x16_d3 Gen.h_S_))
      (broadcastInDim S32x256x16x1 ![] Gen.bcast_S_S32x256x16x1 (constant S_ .f32 0x179ABE15#32)))))
def vec0 (x : Vec Ideal S1x2x1024 .f32) : FVec Ideal S1024 .f32 := shapeCast S1024 (extractStridedSlice S1x1x1024 ![0, 0, 0] x Gen.slices_S1x2x1024_S1x1x1024_0_0_0) Gen.shapeCasts_S1x1x1024_S1024
def vec1 (x : Vec Ideal S1x2x1024 .f32) : FVec Ideal S1024 .f32 := shapeCast S1024 (extractStridedSlice S1x1x1024 ![0, 1, 0] x Gen.slices_S1x2x1024_S1x1x1024_0_1_0) Gen.shapeCasts_S1x1x1024_S1024
def mat0 (x : Vec Ideal S1x2x64x1024 .f32) : FVec Ideal S64x1024 .f32 := shapeCast S64x1024 (extractStridedSlice S1x1x64x1024 ![0, 0, 0, 0] x Gen.slices_S1x2x64x1024_S1x1x64x1024_0_0_0_0) Gen.shapeCasts_S1x1x64x1024_S64x1024
def mat1 (x : Vec Ideal S1x2x64x1024 .f32) : FVec Ideal S64x1024 .f32 := shapeCast S64x1024 (extractStridedSlice S1x1x64x1024 ![0, 1, 0, 0] x Gen.slices_S1x2x64x1024_S1x1x64x1024_0_1_0_0) Gen.shapeCasts_S1x1x64x1024_S64x1024
/-- A bias plus a low-rank product. -/
def affine (x : FVec Ideal S32x256x64 .f32) (w : FVec Ideal S1024 .f32) (u : FVec Ideal S64x1024 .f32) : FVec Ideal S32x256x1024 .f32 :=
  addf (spread w) (Host.dotGeneral dot_S32x256x64_S64x1024_S32x256x1024_2_0_01_1_n_n none x u)
/-- The softplus as the host writes it out. -/
def softT (z : FVec Ideal S32x256x1024 .f32) : FVec Ideal S32x256x1024 .f32 :=
  select (cmpf .une (subf z (num 0x00000000#32)) (subf z (num 0x00000000#32))) (addf z (num 0x00000000#32))
    (addf (maximumf z (num 0x00000000#32)) (Host.log1p (Host.exp (Host.negf (Host.absf (subf z (num 0x00000000#32)))))))
def decT (z : FVec Ideal S32x256x1024 .f32) : FVec Ideal S32x256x16x64 .f32 :=
  shapeCast S32x256x16x64 (Host.exp (Host.negf (Host.exp (subf (Host.negf (softT (Host.negf z))) (num 0x3F000000#32))))) Gen.shapeCasts_S32x256x1024_S32x256x16x64
def rateT (z : FVec Ideal S32x256x1024 .f32) : FVec Ideal S32x256x1024 .f32 :=
  Host.divf (num 0x3F800000#32) (addf (num 0x3F800000#32) (Host.exp (Host.negf z)))
def kdT (k : FVec Ideal S32x256x1024 .f32) (g : FVec Ideal S32x256x1024 .f32) (w : Vec Ideal S1x1024 .f32) : FVec Ideal S32x256x16x64 .f32 :=
  shapeCast S32x256x16x64 (mulf k (addf (num 0x3F800000#32) (mulf (subf g (num 0x3F800000#32)) (spread (shapeCast S1024 w Gen.shapeCasts_S1x1024_S1024))))) Gen.shapeCasts_S32x256x1024_S32x256x16x64
def bT (kk : FVec Ideal S32x256x16x64 .f32) (g : FVec Ideal S32x256x1024 .f32) : FVec Ideal S32x256x16x64 .f32 :=
  mulf kk (shapeCast S32x256x16x64 g Gen.shapeCasts_S32x256x1024_S32x256x16x64)
/-- Both directions stacked, with the tokens first. -/
def stk1 (x y : FVec Ideal S1x32x256x16x64 .f32) : FVec Ideal S256x2x32x16x64 .f32 :=
  transpose S256x2x32x16x64 [2, 0, 1, 3, 4] (concatenate S2x32x256x16x64 0 [⟨S1x32x256x16x64, x⟩, ⟨S1x32x256x16x64, y⟩] Gen.concatenates_S1x32x256x16x64_S1x32x256x16x64_S2x32x256x16x64_d0) Gen.transposes_S2x32x256x16x64_S256x2x32x16x64_2_0_1_3_4
def lift (x : FVec Ideal S32x256x16x64 .f32) : FVec Ideal S1x32x256x16x64 .f32 := broadcastInDim S1x32x256x16x64 ![1, 2, 3, 4] Gen.bcast_S32x256x16x64_S1x32x256x16x64_1_2_3_4 x
def stk (x y : FVec Ideal S32x256x16x64 .f32) : FVec Ideal S256x2x32x16x64 .f32 := stk1 (lift x) (lift (Host.reverse [1] y))

variable (m : (ℓ : Loc nD τ sig) → Buf (Elt Ideal) ℓ)

/-- The six stacked arrays the loop starts from. -/
theorem ent0 (c : Dev nD) : entryContents preI m c (Proc.devRef .tc main_v145_0)
    = stk (rH (m ((c.tc : Thread nD τ).loc main_arg0)))
      (rH (m ((c.tc : Thread nD τ).loc main_arg0))) := by
  simp only [entryContents, afterL_cons, afterL_nil]
  after_reads_simp
  refine Eq.trans (b := stk1 _ _) rfl (congrArg₂ stk1 ?_ ?_)
  · after_reads_simp
    rfl
  · after_reads_simp
    rfl

theorem ent1 (c : Dev nD) : entryContents preI m c (Proc.devRef .tc main_v145_1)
    = stk (decT (affine (wdT (m ((c.tc : Thread nD τ).loc main_arg1))) (vec0 (m ((c.tc : Thread nD τ).loc main_arg4))) (mat0 (m ((c.tc : Thread nD τ).loc main_arg5)))))
      (decT (affine (wdT (m ((c.tc : Thread nD τ).loc main_arg1))) (vec1 (m ((c.tc : Thread nD τ).loc main_arg4))) (mat1 (m ((c.tc : Thread nD τ).loc main_arg5))))) := by
  simp only [entryContents, afterL_cons, afterL_nil]
  after_reads_simp
  refine Eq.trans (b := stk1 _ _) rfl (congrArg₂ stk1 ?_ ?_)
  · after_reads_simp
    rfl
  · after_reads_simp
    rfl

theorem ent2 (c : Dev nD) : entryContents preI m c (Proc.devRef .tc main_v145_2)
    = stk (kdT (kT (m ((c.tc : Thread nD τ).loc main_arg0))) (rateT (affine (adT (m ((c.tc : Thread nD τ).loc main_arg1))) (vec0 (m ((c.tc : Thread nD τ).loc main_arg6))) (mat0 (m ((c.tc : Thread nD τ).loc main_arg7))))) (m ((c.tc : Thread nD τ).loc main_arg3)))
      (kdT (kT (m ((c.tc : Thread nD τ).loc main_arg0))) (rateT (affine (adT (m ((c.tc : Thread nD τ).loc main_arg1))) (vec1 (m ((c.tc : Thread nD τ).loc main_arg6))) (mat1 (m ((c.tc : Thread nD τ).loc main_arg7))))) (m ((c.tc : Thread nD τ).loc main_arg3))) := by
  simp only [entryContents, afterL_cons, afterL_nil]
  after_reads_simp
  refine Eq.trans (b := stk1 _ _) rfl (congrArg₂ stk1 ?_ ?_)
  · after_reads_simp
    rfl
  · after_reads_simp
    rfl

theorem ent3 (c : Dev nD) : entryContents preI m c (Proc.devRef .tc main_v145_3)
    = stk (vH (m ((c.tc : Thread nD τ).loc main_arg0)))
      (vH (m ((c.tc : Thread nD τ).loc main_arg0))) := by
  simp only [entryContents, afterL_cons, afterL_nil]
  after_reads_simp
  refine Eq.trans (b := stk1 _ _) rfl (congrArg₂ stk1 ?_ ?_)
  · after_reads_simp
    rfl
  · after_reads_simp
    rfl

theorem ent4 (c : Dev nD) : entryContents preI m c (Proc.devRef .tc main_v145_4)
    = stk (kkH (m ((c.tc : Thread nD τ).loc main_arg0)) (m ((c.tc : Thread nD τ).loc main_arg2)))
      (kkH (m ((c.tc : Thread nD τ).loc main_arg0)) (m ((c.tc : Thread nD τ).loc main_arg2))) := by
  simp only [entryContents, afterL_cons, afterL_nil]
  after_reads_simp
  refine Eq.trans (b := stk1 _ _) rfl (congrArg₂ stk1 ?_ ?_)
  · after_reads_simp
    rfl
  · after_reads_simp
    rfl

theorem ent5 (c : Dev nD) : entryContents preI m c (Proc.devRef .tc main_v145_5)
    = stk (bT (kkH (m ((c.tc : Thread nD τ).loc main_arg0)) (m ((c.tc : Thread nD τ).loc main_arg2))) (rateT (affine (adT (m ((c.tc : Thread nD τ).loc main_arg1))) (vec0 (m ((c.tc : Thread nD τ).loc main_arg6))) (mat0 (m ((c.tc : Thread nD τ).loc main_arg7))))))
      (bT (kkH (m ((c.tc : Thread nD τ).loc main_arg0)) (m ((c.tc : Thread nD τ).loc main_arg2))) (rateT (affine (adT (m ((c.tc : Thread nD τ).loc main_arg1))) (vec1 (m ((c.tc : Thread nD τ).loc main_arg6))) (mat1 (m ((c.tc : Thread nD τ).loc main_arg7)))))) := by
  simp only [entryContents, afterL_cons, afterL_nil]
  after_reads_simp
  refine Eq.trans (b := stk1 _ _) rfl (congrArg₂ stk1 ?_ ?_)
  · after_reads_simp
    rfl
  · after_reads_simp
    rfl

/-- The state it starts from. -/
def zeroS : FVec Ideal S2x32x16x64x64 .f32 := broadcastInDim S2x32x16x64x64 ![] Gen.bcast_S_S2x32x16x64x64 (constant S_ .f32 0x00000000#32)

theorem ent7 (c : Dev nD) : entryContents preI m c (Proc.devRef .tc main_v145_7) = zeroS := by
  simp only [entryContents, afterL_cons, afterL_nil]
  after_reads_simp
  rfl

end Cert.WkvRefIdeal.Scan
-- ==== Proof.WkvRefVal.lean ====
module

public import proofs.«01_k».proof.Defs
public import proofs.«01_k».proof.Proof.Gen.WkvRefIdeal.Run
public import proofs.«01_k».proof.Proof.WkvRefIn
public import proofs.«01_k».proof.Proof.WkvFeat
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvRefIdeal.Scan

open Cert.WkvRefIdeal Cert.WkvRefIdeal.Value Idealize.ShloMosaic.StableHlo

open Cert.WkvReal

theorem stk_f (x y : FVec Ideal S32x256x16x64 .f32) (n : Fin 256) (q : Fin 32) (H : Fin 16) (j : Fin 64) :
    stk x y (ix5 n 0 q H j) = x (ix4 q n H j) := by
  pointwise [stk, stk1, lift]

theorem stk_b (x y : FVec Ideal S32x256x16x64 .f32) (n : Fin 256) (q : Fin 32) (H : Fin 16) (j : Fin 64) :
    stk x y (ix5 n 1 q H j) = y (ix4 q n.rev H j) := by
  pointwise [stk, stk1, lift]
  rfl

theorem rH_apply (a : Vec Ideal S3x8192x1024 .f32) (q : Fin 32) (n : Fin 256) (H : Fin 16) (j : Fin 64) :
    rH a (ix4 q n H j) = a (ix3 0 (rowG q n.val) (lnG H j)) := by
  rw [← rowG_eq q n (by omega)]
  pointwise [rH, lnG]

theorem vH_apply (a : Vec Ideal S3x8192x1024 .f32) (q : Fin 32) (n : Fin 256) (H : Fin 16) (j : Fin 64) :
    vH a (ix4 q n H j) = a (ix3 2 (rowG q n.val) (lnG H j)) := by
  rw [← rowG_eq q n (by omega)]
  pointwise [vH, lnG]

theorem kT_apply (a : Vec Ideal S3x8192x1024 .f32) (q : Fin 32) (n : Fin 256) (l : Fin 1024) :
    kT a (ix3 q n l) = a (ix3 1 (rowG q n.val) l) := by
  rw [← rowG_eq q n (by omega)]
  pointwise [kT]

theorem smT_apply (b : Vec Ideal S1x8192x256 .f32) (q : Fin 32) (n : Fin 256) (l : Fin 256) :
    smT b (ix3 q n l) = b (ix3 0 (rowG q n.val) l) := by
  rw [← rowG_eq q n (by omega)]
  pointwise [smT]

theorem kkH_apply (a : Vec Ideal S3x8192x1024 .f32) (w : Vec Ideal S1x1024 .f32) (q : Fin 32) (n : Fin 256) (H : Fin 16) (j : Fin 64) :
    kkH a w (ix4 q n H j) = kT a (ix3 q n (lnG H j)) * w (ix2 0 (lnG H j)) *
      Ideal.rsqrt (max (∑ l, kT a (ix3 q n (lnG H l)) * w (ix2 0 (lnG H l)) * (kT a (ix3 q n (lnG H l)) * w (ix2 0 (lnG H l)))) (Ideal.ofBits .f32 0x179ABE15#32)) := by
  pointwise [kkH, pH, spread, lnG]

theorem affine_apply (x : FVec Ideal S32x256x64 .f32) (w : FVec Ideal S1024 .f32) (u : FVec Ideal S64x1024 .f32) (q : Fin 32) (n : Fin 256) (l : Fin 1024) :
    affine x w u (ix3 q n l) = w (ix1 l) + ∑ s : Fin 64, x (ix3 q n s) * u (ix2 s l) := by
  pointwise [affine, spread]

theorem soft_apply (z : FVec Ideal S32x256x1024 .f32) (q : Fin 32) (n : Fin 256) (l : Fin 1024) :
    softT z (ix3 q n l) = max (z (ix3 q n l)) 0 + Ideal.log (1 + Ideal.exp (-max (z (ix3 q n l)) (-(z (ix3 q n l))))) := by
  pointwise [softT, num]
  rw [if_neg (not_not.2 rfl)]
  rfl

theorem dec_apply (z : FVec Ideal S32x256x1024 .f32) (q : Fin 32) (n : Fin 256) (H : Fin 16) (j : Fin 64) :
    decT z (ix4 q n H j) = Ideal.exp (-Ideal.exp (-softT (Host.negf z) (ix3 q n (lnG H j)) - Ideal.ofBits .f32 0x3F000000#32)) := by
  pointwise [decT, num, lnG]

theorem rate_apply (z : FVec Ideal S32x256x1024 .f32) (q : Fin 32) (n : Fin 256) (l : Fin 1024) :
    rateT z (ix3 q n l) = Ideal.div 1 (1 + Ideal.exp (-z (ix3 q n l))) := by
  pointwise [rateT, num]

theorem kd_apply (k g : FVec Ideal S32x256x1024 .f32) (w : Vec Ideal S1x1024 .f32) (q : Fin 32) (n : Fin 256) (H : Fin 16) (j : Fin 64) :
    kdT k g w (ix4 q n H j) = k (ix3 q n (lnG H j)) * (1 + (g (ix3 q n (lnG H j)) - 1) * w (ix2 0 (lnG H j))) := by
  pointwise [kdT, num, spread, lnG]

theorem b_apply (kk : FVec Ideal S32x256x16x64 .f32) (g : FVec Ideal S32x256x1024 .f32) (q : Fin 32) (n : Fin 256) (H : Fin 16) (j : Fin 64) :
    bT kk g (ix4 q n H j) = kk (ix4 q n H j) * g (ix3 q n (lnG H j)) := by
  pointwise [bT, lnG]

theorem zeroS_apply (d : Fin 2) (q : Fin 32) (H : Fin 16) (i j : Fin 64) : zeroS (ix5 d q H i j) = 0 := by
  pointwise [zeroS]

variable {A : Args} {x0 : Vec Ideal S3x8192x1024 .f32} {x1 : Vec Ideal S1x8192x256 .f32} {x2 x3 : Vec Ideal S1x1024 .f32} {x4 : Vec Ideal S1x2x1024 .f32} {x5 : Vec Ideal S1x2x64x1024 .f32} {x6 : Vec Ideal S1x2x1024 .f32} {x7 : Vec Ideal S1x2x64x1024 .f32}

theorem wdT_apply (b : Vec Ideal S1x8192x256 .f32) (q : Fin 32) (n : Fin 256) (s : Fin 64) :
    wdT b (ix3 q n s) = Ideal.tanh (smT b (ix3 q n ⟨s.val, by omega⟩)) := by
  pointwise [wdT]

theorem adT_apply (b : Vec Ideal S1x8192x256 .f32) (q : Fin 32) (n : Fin 256) (s : Fin 64) :
    adT b (ix3 q n s) = smT b (ix3 q n ⟨64 + s.val, by omega⟩) := by
  pointwise [adT]

theorem vec0_apply (x : Vec Ideal S1x2x1024 .f32) (l : Fin 1024) : vec0 x (ix1 l) = x (ix3 0 0 l) := by
  pointwise [vec0]
theorem vec1_apply (x : Vec Ideal S1x2x1024 .f32) (l : Fin 1024) : vec1 x (ix1 l) = x (ix3 0 1 l) := by
  pointwise [vec1]
theorem mat0_apply (x : Vec Ideal S1x2x64x1024 .f32) (s : Fin 64) (l : Fin 1024) : mat0 x (ix2 s l) = x (ix4 0 0 s l) := by
  pointwise [mat0]
theorem mat1_apply (x : Vec Ideal S1x2x64x1024 .f32) (s : Fin 64) (l : Fin 1024) : mat1 x (ix2 s l) = x (ix4 0 1 s l) := by
  pointwise [mat1]

/-- A row array holding real values. -/
def isZ (z : FVec Ideal S32x256x1024 .f32) (Z : Fin 8192 → Fin 1024 → ℝ) : Prop := ∀ (q : Fin 32) (n : Fin 256) l, z (ix3 q n l) = ((Z (rowG q n.val) l : ℝ) : EReal)
def isH (x : FVec Ideal S32x256x16x64 .f32) (Z : Fin 8192 → Fin 16 → Fin 64 → ℝ) : Prop := ∀ (q : Fin 32) (n : Fin 256) H j, x (ix4 q n H j) = ((Z (rowG q n.val) H j : ℝ) : EReal)

theorem sumC (s : Finset (Fin 64)) (f : Fin 64 → ℝ) : ((∑ i ∈ s, f i : ℝ) : EReal) = ∑ i ∈ s, ((f i : ℝ) : EReal) := by
  induction s using Finset.induction_on with
  | empty => simp
  | insert a s ha ih => rw [Finset.sum_insert ha, Finset.sum_insert ha, EReal.coe_add, ih]

theorem sumE (f g : Fin 64 → ℝ) : ∑ s, ((f s : ℝ) : EReal) * ((g s : ℝ) : EReal) = ((∑ s, f s * g s : ℝ) : EReal) := by
  rw [sumC]
  exact Finset.sum_congr rfl fun s _ => (EReal.coe_mul _ _).symm

theorem zW0 (h : A.holds x0 x1 x2 x3 x4 x5 x6 x7) : isZ (affine (wdT x1) (vec0 x4) (mat0 x5)) (zW A false) := by
  intro q n l
  rw [affine_apply, vec0_apply, Finset.sum_congr rfl fun s _ => by rw [wdT_apply, smT_apply, h.sm, Ideal.tanh_coe, mat0_apply, h.wup], sumE, h.w0, ← EReal.coe_add]
  rfl
theorem zW1 (h : A.holds x0 x1 x2 x3 x4 x5 x6 x7) : isZ (affine (wdT x1) (vec1 x4) (mat1 x5)) (zW A true) := by
  intro q n l
  rw [affine_apply, vec1_apply, Finset.sum_congr rfl fun s _ => by rw [wdT_apply, smT_apply, h.sm, Ideal.tanh_coe, mat1_apply, h.wup], sumE, h.w0, ← EReal.coe_add]
  rfl
theorem zA0 (h : A.holds x0 x1 x2 x3 x4 x5 x6 x7) : isZ (affine (adT x1) (vec0 x6) (mat0 x7)) (zA A false) := by
  intro q n l
  rw [affine_apply, vec0_apply, Finset.sum_congr rfl fun s _ => by rw [adT_apply, smT_apply, h.sm, mat0_apply, h.aup], sumE, h.a0, ← EReal.coe_add]
  rfl
theorem zA1 (h : A.holds x0 x1 x2 x3 x4 x5 x6 x7) : isZ (affine (adT x1) (vec1 x6) (mat1 x7)) (zA A true) := by
  intro q n l
  rw [affine_apply, vec1_apply, Finset.sum_congr rfl fun s _ => by rw [adT_apply, smT_apply, h.sm, mat1_apply, h.aup], sumE, h.a0, ← EReal.coe_add]
  rfl

theorem isZ.dec {z : FVec Ideal S32x256x1024 .f32} {Z : Fin 8192 → Fin 1024 → ℝ} (h : isZ z Z) :
    isH (decT z) fun b H j => Real.exp (logwR (Z b (lnG H j))) := by
  intro q n H j
  rw [dec_apply, soft_apply, show Host.negf z (ix3 q n (lnG H j)) = -z (ix3 q n (lnG H j)) from rfl, h, ← EReal.coe_neg, soft_E, logw_E, Ideal.exp_coe]

theorem isZ.rate {z : FVec Ideal S32x256x1024 .f32} {Z : Fin 8192 → Fin 1024 → ℝ} (h : isZ z Z) : isZ (rateT z) fun b l => rateR (Z b l) := by
  intro q n l
  rw [rate_apply, h, rate_E]

theorem isZ.kd {g : FVec Ideal S32x256x1024 .f32} {G : Fin 8192 → Fin 1024 → ℝ} (hg : isZ g G) (h : A.holds x0 x1 x2 x3 x4 x5 x6 x7) :
    isH (kdT (kT x0) g x3) fun b H j => kdR (A.rkv 1 b (lnG H j)) (G b (lnG H j)) (A.kaw (lnG H j)) := by
  intro q n H j
  rw [kd_apply, kT_apply, h.rkv, hg, h.kaw, kd_E]

theorem kkH_is (h : A.holds x0 x1 x2 x3 x4 x5 x6 x7) : isH (kkH x0 x2) fun b H => normR (fun l => A.rkv 1 b (lnG H l)) fun l => A.kkw (lnG H l) := by
  intro q n H j
  simp only [kkH_apply, kT_apply, h.rkv, h.kkw]
  simp only [← EReal.coe_mul]
  rw [← sumC, norm_E]
  rfl

theorem isZ.b {g : FVec Ideal S32x256x1024 .f32} {G : Fin 8192 → Fin 1024 → ℝ} (hg : isZ g G) (h : A.holds x0 x1 x2 x3 x4 x5 x6 x7) :
    isH (bT (kkH x0 x2) g) fun b H j => normR (fun l => A.rkv 1 b (lnG H l)) (fun l => A.kkw (lnG H l)) j * G b (lnG H j) := by
  intro q n H j
  rw [b_apply, kkH_is h, hg, ← EReal.coe_mul]

theorem rH_is (h : A.holds x0 x1 x2 x3 x4 x5 x6 x7) : isH (rH x0) fun b H j => A.rkv 0 b (lnG H j) := by
  intro q n H j
  rw [rH_apply, h.rkv]
theorem vH_is (h : A.holds x0 x1 x2 x3 x4 x5 x6 x7) : isH (vH x0) fun b H j => A.rkv 2 b (lnG H j) := by
  intro q n H j
  rw [vH_apply, h.rkv]

/-- A stacked array holding real rows of both directions. -/
def isX (x : FVec Ideal S256x2x32x16x64 .f32) (X : Bool → Fin 32 → Fin 16 → ℕ → Fin 64 → ℝ) : Prop :=
  ∀ (n : Fin 256) rev q H j, x (ix5 n (dir rev) q H j) = ((X rev q H n.val j : ℝ) : EReal)

theorem stk_isX {x y : FVec Ideal S32x256x16x64 .f32} (Z : Bool → Fin 8192 → Fin 16 → Fin 64 → ℝ) (hx : isH x (Z false)) (hy : isH y (Z true)) :
    isX (stk x y) fun rev q H n j => Z rev (rowG q (tok rev n)) H j := by
  intro n rev q H j
  cases rev with
  | false => exact (stk_f x y n q H j).trans (hx q n H j)
  | true =>
    refine (stk_b x y n q H j).trans ((hy q n.rev H j).trans ?_)
    have e : n.rev.val = 255 - n.val := by rw [Fin.val_rev]; omega
    rw [e]
    rfl

variable (m : (ℓ : Loc nD τ sig) → Buf (Elt Ideal) ℓ) (c : Dev nD)

/-- The argument arrays of a device hold real numbers. -/
abbrev argsHold (A : Args) : Prop := A.holds (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))

/-- What the loop starts from, as real rows. -/
theorem ent0_is (h : argsHold m c A) : isX (entryContents preI m c (Proc.devRef .tc main_v145_0)) fun rev q H => (feat A rev q H).r := by
  rw [ent0]
  exact stk_isX (fun _ b H j => A.rkv 0 b (lnG H j)) (rH_is h) (rH_is h)
theorem ent1_is (h : argsHold m c A) : isX (entryContents preI m c (Proc.devRef .tc main_v145_1)) fun rev q H n j => Real.exp ((feat A rev q H).w n j) := by
  rw [ent1]
  exact stk_isX (fun rev b H j => Real.exp (logwR (zW A rev b (lnG H j)))) (zW0 h).dec (zW1 h).dec
theorem ent2_is (h : argsHold m c A) : isX (entryContents preI m c (Proc.devRef .tc main_v145_2)) fun rev q H => (feat A rev q H).kd := by
  rw [ent2]
  exact stk_isX (fun rev b H j => kdR (A.rkv 1 b (lnG H j)) (rateR (zA A rev b (lnG H j))) (A.kaw (lnG H j))) ((zA0 h).rate.kd h) ((zA1 h).rate.kd h)
theorem ent3_is (h : argsHold m c A) : isX (entryContents preI m c (Proc.devRef .tc main_v145_3)) fun rev q H => (feat A rev q H).v := by
  rw [ent3]
  exact stk_isX (fun _ b H j => A.rkv 2 b (lnG H j)) (vH_is h) (vH_is h)
theorem ent4_is (h : argsHold m c A) : isX (entryContents preI m c (Proc.devRef .tc main_v145_4)) fun rev q H => (feat A rev q H).kk := by
  rw [ent4]
  exact stk_isX (fun _ b H => normR (fun l => A.rkv 1 b (lnG H l)) fun l => A.kkw (lnG H l)) (kkH_is h) (kkH_is h)
theorem ent5_is (h : argsHold m c A) : isX (entryContents preI m c (Proc.devRef .tc main_v145_5)) fun rev q H => (feat A rev q H).b := by
  rw [ent5]
  exact stk_isX (fun rev b H j => normR (fun l => A.rkv 1 b (lnG H l)) (fun l => A.kkw (lnG H l)) j * rateR (zA A rev b (lnG H j))) ((zA0 h).rate.b h) ((zA1 h).rate.b h)

end Cert.WkvRefIdeal.Scan
-- ==== Proof.WkvRefStep.lean ====
module

public import proofs.«01_k».proof.Defs
public import proofs.«01_k».proof.Proof.Gen.WkvRefIdeal.Run
public import proofs.«01_k».proof.Proof.WkvRefVal
public import Idealize.ShloMosaic.Lib.DynamicIndex
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.WkvRefIdeal.Scan

open Cert.WkvRefIdeal Cert.WkvRefIdeal.Value Idealize.ShloMosaic.StableHlo

open Cert.WkvReal

/-- The slice of a stacked array at a token. -/
def cut (x : FVec Ideal S256x2x32x16x64 .f32) (n : IVec S_ 32) : FVec Ideal S2x32x16x64 .f32 :=
  shapeCast S2x32x16x64 (Host.dynamicSlice S1x2x32x16x64 x (fun k => (((![n, constantI S_ 32 0#32, constantI S_ 32 0#32, constantI S_ 32 0#32, constantI S_ 32 0#32] : Fin 5 → IVec S_ 32)) k (Shape.Idx.first Gen.h_S_)).toInt) Gen.sliceFits_S256x2x32x16x64_S1x2x32x16x64) Gen.shapeCasts_S1x2x32x16x64_S2x32x16x64

/-- A stacked array with one token's rows put in. -/
def put (x : FVec Ideal S256x2x32x16x64 .f32) (n : IVec S_ 32) (u : FVec Ideal S2x32x16x64 .f32) : FVec Ideal S256x2x32x16x64 .f32 :=
  Host.dynamicUpdateSlice x (broadcastInDim S1x2x32x16x64 ![1, 2, 3, 4] Gen.bcast_S2x32x16x64_S1x2x32x16x64_1_2_3_4 u) (fun k => (((![n, constantI S_ 32 0#32, constantI S_ 32 0#32, constantI S_ 32 0#32, constantI S_ 32 0#32] : Fin 5 → IVec S_ 32)) k (Shape.Idx.first Gen.h_S_)).toInt) Gen.updateFits_S256x2x32x16x64_S1x2x32x16x64

theorem start_eq (n : Fin 256) : ∀ a : Fin 5, (fun k => (((![(fun _ => BitVec.ofNat 32 n.val), constantI S_ 32 0#32, constantI S_ 32 0#32, constantI S_ 32 0#32, constantI S_ 32 0#32] : Fin 5 → IVec S_ 32)) k (Shape.Idx.first Gen.h_S_)).toInt) a = (((![n.val, 0, 0, 0, 0] : Fin 5 → ℕ) a : ℕ) : Int) := by
  intro a
  fin_cases a
  · exact toInt_ofNat_of_lt (lt_of_lt_of_le n.isLt (by norm_num))
  all_goals rfl

theorem fits (n : Fin 256) : S256x2x32x16x64.Slices ![n.val, 0, 0, 0, 0] S1x2x32x16x64 :=
  ⟨rfl, fun a => by
    have := n.isLt
    fin_cases a
    · show n.val + 1 ≤ 256
      omega
    all_goals exact le_refl _⟩

theorem cut_apply (x : FVec Ideal S256x2x32x16x64 .f32) (n : Fin 256) (d : Fin 2) (q : Fin 32) (H : Fin 16) (j : Fin 64) :
    cut x (fun _ => BitVec.ofNat 32 n.val) (ix4 d q H j) = x (ix5 n d q H j) := by
  unfold cut
  rw [Host.dynamicSlice_eq_extractStridedSlice _ _ _ ![n.val, 0, 0, 0, 0] _ (fits n) (start_eq n)]
  pointwise []

theorem put_apply (x : FVec Ideal S256x2x32x16x64 .f32) (u : FVec Ideal S2x32x16x64 .f32) (n k : Fin 256) (d : Fin 2) (q : Fin 32) (H : Fin 16) (j : Fin 64) :
    put x (fun _ => BitVec.ofNat 32 n.val) u (ix5 k d q H j) = if k = n then u (ix4 d q H j) else x (ix5 k d q H j) := by
  unfold put
  rw [Host.dynamicUpdateSlice_eq_updateSlice _ _ _ _ ![n.val, 0, 0, 0, 0] (fun a => by
    refine (congrArg (fun z : Int => (min (max z 0) ((S256x2x32x16x64.size a - S1x2x32x16x64.size (a.cast rfl) : ℕ) : Int)).toNat) (start_eq n a)).trans ?_
    have := n.isLt
    fin_cases a
    · show (min (max ((n.val : ℕ) : Int) 0) ((256 - 1 : ℕ) : Int)).toNat = n.val
      omega
    all_goals rfl) (fits n)]
  pointwise []
  by_cases e : k = n
  · subst e
    rw [dif_pos ⟨le_refl _, Nat.lt_succ_self _⟩, if_pos rfl]
  · rw [dif_neg (fun h => e (Fin.ext (by omega))), if_neg e]

/-- The state after one token, and its read-out. -/
def nextS (S : FVec Ideal S2x32x16x64x64 .f32) (w kd v kk b : FVec Ideal S2x32x16x64 .f32) : FVec Ideal S2x32x16x64x64 .f32 :=
  addf (addf (mulf S (broadcastInDim S2x32x16x64x64 ![0, 1, 2, 3, 4] Gen.bcast_S2x32x16x1x64_S2x32x16x64x64_0_1_2_3_4 (broadcastInDim S2x32x16x1x64 ![0, 1, 2, 4] Gen.bcast_S2x32x16x64_S2x32x16x1x64_0_1_2_4 w)))
    (mulf (broadcastInDim S2x32x16x64x64 ![0, 1, 2, 3, 4] Gen.bcast_S2x32x16x64x1_S2x32x16x64x64_0_1_2_3_4 (broadcastInDim S2x32x16x64x1 ![0, 1, 2, 3] Gen.bcast_S2x32x16x64_S2x32x16x64x1_0_1_2_3
      (Host.dotGeneral dot_S2x32x16x64x64_S2x32x16x64_S2x32x16x64_4_3_3_n_012_012 none S (Host.negf kk))))
      (broadcastInDim S2x32x16x64x64 ![0, 1, 2, 3, 4] Gen.bcast_S2x32x16x1x64_S2x32x16x64x64_0_1_2_3_4 (broadcastInDim S2x32x16x1x64 ![0, 1, 2, 4] Gen.bcast_S2x32x16x64_S2x32x16x1x64_0_1_2_4 b))))
    (mulf (broadcastInDim S2x32x16x64x64 ![0, 1, 2, 3, 4] Gen.bcast_S2x32x16x64x1_S2x32x16x64x64_0_1_2_3_4 (broadcastInDim S2x32x16x64x1 ![0, 1, 2, 3] Gen.bcast_S2x32x16x64_S2x32x16x64x1_0_1_2_3 v))
      (broadcastInDim S2x32x16x64x64 ![0, 1, 2, 3, 4] Gen.bcast_S2x32x16x1x64_S2x32x16x64x64_0_1_2_3_4 (broadcastInDim S2x32x16x1x64 ![0, 1, 2, 4] Gen.bcast_S2x32x16x64_S2x32x16x1x64_0_1_2_4 kd)))

def readS (S : FVec Ideal S2x32x16x64x64 .f32) (r : FVec Ideal S2x32x16x64 .f32) : FVec Ideal S2x32x16x64 .f32 :=
  Host.dotGeneral dot_S2x32x16x64x64_S2x32x16x64_S2x32x16x64_4_3_3_n_012_012 none S r

theorem nextS_apply (S : FVec Ideal S2x32x16x64x64 .f32) (w kd v kk b : FVec Ideal S2x32x16x64 .f32) (d : Fin 2) (q : Fin 32) (H : Fin 16) (i j : Fin 64) :
    nextS S w kd v kk b (ix5 d q H i j) = S (ix5 d q H i j) * w (ix4 d q H j) + (∑ l : Fin 64, S (ix5 d q H i l) * -kk (ix4 d q H l)) * b (ix4 d q H j) + v (ix4 d q H i) * kd (ix4 d q H j) := by
  pointwise [nextS]

theorem readS_apply (S : FVec Ideal S2x32x16x64x64 .f32) (r : FVec Ideal S2x32x16x64 .f32) (d : Fin 2) (q : Fin 32) (H : Fin 16) (i : Fin 64) :
    readS S r (ix4 d q H i) = ∑ l : Fin 64, S (ix5 d q H i l) * r (ix4 d q H l) := by
  pointwise [readS]

variable (V : Valuation τ sig (Elt Ideal))

theorem next_eq : res_main_while0b_v177 V = nextS (V (Proc.devRef .tc main_v145_7)) (cut (V (Proc.devRef .tc main_v145_1)) (V (Proc.devRef .tc main_v145_6)))
    (cut (V (Proc.devRef .tc main_v145_2)) (V (Proc.devRef .tc main_v145_6))) (cut (V (Proc.devRef .tc main_v145_3)) (V (Proc.devRef .tc main_v145_6)))
    (cut (V (Proc.devRef .tc main_v145_4)) (V (Proc.devRef .tc main_v145_6))) (cut (V (Proc.devRef .tc main_v145_5)) (V (Proc.devRef .tc main_v145_6))) := by
  sl_kernel_rfl

theorem out_eq : step_main_v145_8 V = put (V (Proc.devRef .tc main_v145_8)) (V (Proc.devRef .tc main_v145_6))
    (readS (res_main_while0b_v177 V) (cut (V (Proc.devRef .tc main_v145_0)) (V (Proc.devRef .tc main_v145_6)))) := by
  sl_kernel_rfl

/-- The state array holding real states. -/
def isT (x : FVec Ideal S2x32x16x64x64 .f32) (X : Bool → Fin 32 → Fin 16 → Fin 64 → Fin 64 → ℝ) : Prop :=
  ∀ rev q H i j, x (ix5 (dir rev) q H i j) = ((X rev q H i j : ℝ) : EReal)

/-- The carried buffers before token `n`. -/
structure At (A : Args) (n : ℕ) (V : Valuation τ sig (Elt Ideal)) : Prop where
  r : isX (V (Proc.devRef .tc main_v145_0)) fun rev q H => (feat A rev q H).r
  w : isX (V (Proc.devRef .tc main_v145_1)) fun rev q H n j => Real.exp ((feat A rev q H).w n j)
  kd : isX (V (Proc.devRef .tc main_v145_2)) fun rev q H => (feat A rev q H).kd
  v : isX (V (Proc.devRef .tc main_v145_3)) fun rev q H => (feat A rev q H).v
  kk : isX (V (Proc.devRef .tc main_v145_4)) fun rev q H => (feat A rev q H).kk
  b : isX (V (Proc.devRef .tc main_v145_5)) fun rev q H => (feat A rev q H).b
  ctr : V (Proc.devRef .tc main_v145_6) = fun _ => BitVec.ofNat 32 n
  st : isT (V (Proc.devRef .tc main_v145_7)) fun rev q H => run (feat A rev q H) 0 n
  out : ∀ (k : Fin 256), k.val < n → ∀ rev q H j, (V (Proc.devRef .tc main_v145_8) : FVec Ideal S256x2x32x16x64 .f32) (ix5 k (dir rev) q H j) = ((out (feat A rev q H) 0 k.val j : ℝ) : EReal)

theorem cut_is {x : FVec Ideal S256x2x32x16x64 .f32} {X : Bool → Fin 32 → Fin 16 → ℕ → Fin 64 → ℝ} (h : isX x X) {n : ℕ} (hn : n < 256) (rev : Bool) (q : Fin 32) (H : Fin 16) (j : Fin 64) :
    cut x (fun _ => BitVec.ofNat 32 n) (ix4 (dir rev) q H j) = ((X rev q H n j : ℝ) : EReal) :=
  (cut_apply x ⟨n, hn⟩ (dir rev) q H j).trans (h ⟨n, hn⟩ rev q H j)

/-- One token of the recurrence on real states. -/
theorem next_is {S : FVec Ideal S2x32x16x64x64 .f32} {w kd v kk b : FVec Ideal S256x2x32x16x64 .f32} {ctr : IVec S_ 32} {n : ℕ} {F : Bool → Fin 32 → Fin 16 → Feat} (hn : n < 256)
    (hS : isT S fun rev q H => run (F rev q H) 0 n) (hw : isX w fun rev q H n j => Real.exp ((F rev q H).w n j)) (hkd : isX kd fun rev q H => (F rev q H).kd)
    (hv : isX v fun rev q H => (F rev q H).v) (hkk : isX kk fun rev q H => (F rev q H).kk) (hb : isX b fun rev q H => (F rev q H).b) (hc : ctr = fun _ => BitVec.ofNat 32 n) :
    isT (nextS S (cut w ctr) (cut kd ctr) (cut v ctr) (cut kk ctr) (cut b ctr)) fun rev q H => run (F rev q H) 0 (n + 1) := by
  subst hc
  intro rev q H i j
  refine (nextS_apply _ _ _ _ _ _ (dir rev) q H i j).trans ?_
  rw [cut_is hw hn, cut_is hkd hn, cut_is hv hn, cut_is hb hn, hS, Finset.sum_congr rfl fun l _ => by rw [cut_is hkk hn, hS rev q H i l, ← EReal.coe_neg], sumE,
    ← EReal.coe_mul, ← EReal.coe_mul, ← EReal.coe_mul, ← EReal.coe_add, ← EReal.coe_add]
  rfl

theorem read_is {S : FVec Ideal S2x32x16x64x64 .f32} {r : FVec Ideal S256x2x32x16x64 .f32} {ctr : IVec S_ 32} {n : ℕ} {F : Bool → Fin 32 → Fin 16 → Feat} (hn : n < 256)
    (hS : isT S fun rev q H => run (F rev q H) 0 (n + 1)) (hr : isX r fun rev q H => (F rev q H).r) (hc : ctr = fun _ => BitVec.ofNat 32 n) (rev : Bool) (q : Fin 32) (H : Fin 16) (j : Fin 64) :
    readS S (cut r ctr) (ix4 (dir rev) q H j) = ((out (F rev q H) 0 n j : ℝ) : EReal) := by
  subst hc
  refine (readS_apply _ _ (dir rev) q H j).trans ?_
  rw [Finset.sum_congr rfl fun l _ => by rw [hS rev q H j l, cut_is hr hn rev q H l], sumE]
  rfl

theorem put_is (x : FVec Ideal S256x2x32x16x64 .f32) (u : FVec Ideal S2x32x16x64 .f32) {ctr : IVec S_ 32} {n : ℕ} (hn : n < 256) (hc : ctr = fun _ => BitVec.ofNat 32 n) (k : Fin 256) (d : Fin 2) (q : Fin 32) (H : Fin 16) (j : Fin 64) :
    put x ctr u (ix5 k d q H j) = if k = ⟨n, hn⟩ then u (ix4 d q H j) else x (ix5 k d q H j) := by
  subst hc
  exact put_apply x u ⟨n, hn⟩ k d q H j

theorem At.state {A : Args} {n : ℕ} {V : Valuation τ sig (Elt Ideal)} (h : At A n V) (hn : n < 256) :
    isT (res_main_while0b_v177 V) fun rev q H => run (feat A rev q H) 0 (n + 1) := by
  rw [next_eq]
  exact next_is hn h.st h.w h.kd h.v h.kk h.b h.ctr

/-- One trip of the loop goes from the contents before a token to the contents before the next. -/
theorem At.step {A : Args} {n : ℕ} {V : Valuation τ sig (Elt Ideal)} (h : At A n V) (hn : n < 256) : At A (n + 1) (STEP V) where
  r := by rw [STEP_main_v145_0]; exact h.r
  w := by rw [STEP_main_v145_1]; exact h.w
  kd := by rw [STEP_main_v145_2]; exact h.kd
  v := by rw [STEP_main_v145_3]; exact h.v
  kk := by rw [STEP_main_v145_4]; exact h.kk
  b := by rw [STEP_main_v145_5]; exact h.b
  ctr := by
    rw [STEP_main_v145_6]
    unfold step_main_v145_6
    rw [h.ctr]
    funext _
    show BitVec.ofNat 32 n + 1#32 = BitVec.ofNat 32 (n + 1)
    rw [BitVec.ofNat_add]
  st := by
    rw [STEP_main_v145_7]
    exact h.state hn
  out := by
    intro k hk rev q H j
    rw [STEP_main_v145_8, out_eq]
    refine (put_is _ _ hn h.ctr k (dir rev) q H j).trans ?_
    by_cases e : k = ⟨n, hn⟩
    · subst e
      rw [if_pos rfl]
      exact read_is hn (h.state hn) h.r h.ctr rev q H j
    · rw [if_neg e]
      exact h.out k (lt_of_le_of_ne (Nat.le_of_lt_succ hk) fun e' => e (Fin.ext e')) rev q H j

variable (m : (ℓ : Loc nD τ sig) → Buf (Elt Ideal) ℓ) (c : Dev nD)

theorem at_start {A : Args} (h : argsHold m c A) : At A 0 (entryContents preI m c) where
  r := ent0_is m c h
  w := ent1_is m c h
  kd := ent2_is m c h
  v := ent3_is m c h
  kk := ent4_is m c h
  b := ent5_is m c h
  ctr := ctr_entry m c
  st := by
    intro rev q H i j
    rw [ent7]
    exact zeroS_apply (dir rev) q H i j
  out := fun k hk => absurd hk (Nat.not_lt_zero _)

theorem at_iter {A : Args} (h : argsHold m c A) : ∀ n, n ≤ 256 → At A n (STEP^[n] (entryContents preI m c))
  | 0, _ => at_start m c h
  | n + 1, hn => by
    rw [Function.iterate_succ_apply']
    exact (at_iter h n (Nat.le_of_succ_le hn)).step hn

/-- The results read at an index. -/
theorem out149_apply (V : Valuation τ sig (Elt Ideal)) (q : Fin 32) (n : Fin 256) (H : Fin 16) (j : Fin 64) :
    (out_main_v149 V : FVec Ideal S8192x1024 .f32) (ix2 (rowG q n.val) (lnG H j)) = (V (Proc.devRef .tc main_v145_8) : FVec Ideal S256x2x32x16x64 .f32) (ix5 n 0 q H j) := by
  rw [← rowG_eq q n (by omega)]
  pointwise [out_main_v149, lnG]

theorem out153_apply (V : Valuation τ sig (Elt Ideal)) (q : Fin 32) (n : Fin 256) (H : Fin 16) (j : Fin 64) :
    (out_main_v153 V : FVec Ideal S8192x1024 .f32) (ix2 (rowG q n.val) (lnG H j)) = (V (Proc.devRef .tc main_v145_8) : FVec Ideal S256x2x32x16x64 .f32) (ix5 n.rev 1 q H j) := by
  rw [← rowG_eq q n (by omega)]
  pointwise [out_main_v153, lnG]
  rfl

theorem out154_apply (V : Valuation τ sig (Elt Ideal)) (q : Fin 32) (d : Fin 2) (H : Fin 16) (i j : Fin 64) :
    (out_main_v154 V : FVec Ideal S32x2x16x64x64 .f32) (ix5 q d H i j) = (V (Proc.devRef .tc main_v145_7) : FVec Ideal S2x32x16x64x64 .f32) (ix5 d q H i j) := by
  pointwise [out_main_v154]

/-- The three results are the closed forms over the real arguments. -/
theorem res149 {A : Args} (h : argsHold m c A) (q : Fin 32) (n : Fin 256) (H : Fin 16) (j : Fin 64) :
    (out_main_v149 (STEP^[256] (entryContents preI m c)) : FVec Ideal S8192x1024 .f32) (ix2 (rowG q n.val) (lnG H j)) = ((oR A false q n.val H j : ℝ) : EReal) :=
  (out149_apply _ q n H j).trans ((at_iter m c h 256 le_rfl).out n n.isLt false q H j)

theorem res153 {A : Args} (h : argsHold m c A) (q : Fin 32) (n : Fin 256) (H : Fin 16) (j : Fin 64) :
    (out_main_v153 (STEP^[256] (entryContents preI m c)) : FVec Ideal S8192x1024 .f32) (ix2 (rowG q n.val) (lnG H j)) = ((oR A true q n.val H j : ℝ) : EReal) := by
  refine (out153_apply _ q n H j).trans (((at_iter m c h 256 le_rfl).out n.rev n.rev.isLt true q H j).trans ?_)
  have e : n.rev.val = tok true n.val := by rw [Fin.val_rev]; show 256 - (n.val + 1) = 255 - n.val; omega
  rw [e]
  rfl

theorem res154 {A : Args} (h : argsHold m c A) (q : Fin 32) (rev : Bool) (H : Fin 16) (i j : Fin 64) :
    (out_main_v154 (STEP^[256] (entryContents preI m c)) : FVec Ideal S32x2x16x64x64 .f32) (ix5 q (dir rev) H i j) = ((sR A rev q H i j : ℝ) : EReal) :=
  (out154_apply _ q (dir rev) H i j).trans ((at_iter m c h 256 le_rfl).st rev q H i j)

end Cert.WkvRefIdeal.Scan
-- ==== Proof.WkvClaim.lean ====
/-
  The recurrence's value claim: at the ideal reading and finite arguments the chunked kernel and the plain recurrence
  return the same two read-outs and the same final states.
-/
module

public import proofs.«01_k».proof.Defs
public import proofs.«01_k».proof.Proof.Gen.WkvIdeal.Value
public import proofs.«01_k».proof.Proof.Gen.WkvRefIdeal.Run
public import proofs.«01_k».proof.Proof.Gen.Pre_finite_arguments
public import proofs.«01_k».proof.Proof.WkvFinal
public import proofs.«01_k».proof.Proof.WkvRefStep
public import proofs.«01_k».proof.Proof.WkvFrame
public import Idealize.ShloMosaic.Lib.Quiescent

@[expose] public section

set_option maxRecDepth 16384

noncomputable section

open Idealize.ShloMosaic Idealize.ShloMosaic.TcCoe Idealize.SL.Sem

namespace Cert.Proof.WkvClaims

open Cert.WkvReal (Args rowG lnG dir row_surj lane_surj)

/-- An extended real that differs from itself by zero is a real number. -/
theorem real_of_sub {a : EReal} (h : a - a = 0) : a = ((a.toReal : ℝ) : EReal) := by
  induction a using EReal.rec with
  | bot => exact absurd h (by simp)
  | top => exact absurd h (by simp)
  | coe r => rfl

/-- Where the comparison the precondition makes is true at every index, the array holds real numbers. -/
theorem real_of_ones {s : Shape} {x : FVec Ideal s .f32} {w : IVec s 1} (hw : w = fun _ => 1#1)
    (h : ∀ i, w i = Ideal.cmp .oeq (x i - x i) (Ideal.ofBits .f32 0x00000000#32)) (i : s.Idx) : x i = (((x i).toReal : ℝ) : EReal) := by
  refine real_of_sub ?_
  have k : Ideal.cmp .oeq (x i - x i) (Ideal.ofBits .f32 0x00000000#32) = 1#1 := (h i).symm.trans (congrFun hw i)
  rw [Ideal.ofBits_zero_f32] at k
  by_contra hne
  simp [Ideal.cmp, hne] at k

theorem holds_congr {A : Args} {x0 y0 : (⟨3, ![3, 8192, 1024]⟩ : Shape).Idx → EReal} {x1 y1 : (⟨3, ![1, 8192, 256]⟩ : Shape).Idx → EReal}
    {x2 y2 x3 y3 : (⟨2, ![1, 1024]⟩ : Shape).Idx → EReal} {x4 y4 : (⟨3, ![1, 2, 1024]⟩ : Shape).Idx → EReal} {x5 y5 : (⟨4, ![1, 2, 64, 1024]⟩ : Shape).Idx → EReal}
    {x6 y6 : (⟨3, ![1, 2, 1024]⟩ : Shape).Idx → EReal} {x7 y7 : (⟨4, ![1, 2, 64, 1024]⟩ : Shape).Idx → EReal}
    (e0 : y0 = x0) (e1 : y1 = x1) (e2 : y2 = x2) (e3 : y3 = x3) (e4 : y4 = x4) (e5 : y5 = x5) (e6 : y6 = x6) (e7 : y7 = x7)
    (h : A.holds x0 x1 x2 x3 x4 x5 x6 x7) : A.holds y0 y1 y2 y3 y4 y5 y6 y7 := by
  subst e0 e1 e2 e3 e4 e5 e6 e7
  exact h

section
open Cert.WkvIdeal

/-- Under the precondition the arguments hold real arrays. -/
theorem args (m : (ℓ : Loc nD τ sig) → Buf (Elt Ideal) ℓ) (h : Cert.Pre_WkvIdeal_finite_arguments m) (c : Dev nD) : ∃ A : Args, Cert.WkvIdeal.Dir.argsHold m c A := by
  obtain ⟨h0, h1, h2, h3, h4, h5, h6, h7⟩ := h c
  refine ⟨⟨fun a b l => EReal.toReal (m ((c.tc : Thread nD τ).loc main_arg0) (ix3 a b l)), fun b l => EReal.toReal (m ((c.tc : Thread nD τ).loc main_arg1) (ix3 0 b l)),
    fun l => EReal.toReal (m ((c.tc : Thread nD τ).loc main_arg2) (ix2 0 l)), fun l => EReal.toReal (m ((c.tc : Thread nD τ).loc main_arg3) (ix2 0 l)),
    fun d l => EReal.toReal (m ((c.tc : Thread nD τ).loc main_arg4) (ix3 0 d l)), fun d q l => EReal.toReal (m ((c.tc : Thread nD τ).loc main_arg5) (ix4 0 d q l)),
    fun d l => EReal.toReal (m ((c.tc : Thread nD τ).loc main_arg6) (ix3 0 d l)), fun d q l => EReal.toReal (m ((c.tc : Thread nD τ).loc main_arg7) (ix4 0 d q l))⟩, ?_⟩
  exact ⟨fun _ _ _ => real_of_ones h0 (fun _ => rfl) _, fun _ _ => real_of_ones h1 (fun _ => rfl) _, fun _ => real_of_ones h2 (fun _ => rfl) _,
    fun _ => real_of_ones h3 (fun _ => rfl) _, fun _ _ => real_of_ones h4 (fun _ => rfl) _, fun _ _ _ => real_of_ones h5 (fun _ => rfl) _,
    fun _ _ => real_of_ones h6 (fun _ => rfl) _, fun _ _ _ => real_of_ones h7 (fun _ => rfl) _⟩

end

/-- The frames under the precondition, which need nothing of it. -/
theorem frame_wkvIdeal_pre : Cert.quiescent_WkvIdeal_pre_finite_arguments := fun m g _ => frame_wkvIdeal m g trivial

theorem frame_wkvRefIdeal_pre : Cert.quiescent_WkvRefIdeal_pre_finite_arguments := fun m g _ => frame_wkvRefIdeal m g trivial

/-- At the ideal reading the chunked kernel and the plain recurrence give the same read-outs and the same final states. -/
theorem algebraic : Cert.algebraic_WkvIdeal_WkvRefIdeal_pre_finite_arguments := by
  intro m ρ m' ρ' hpre hag
  refine ⟨fun c => (Cert.WkvIdeal.Gen.dats m 0 c).arrAt 15 Cert.WkvIdeal.cfg0.N, fun c => (Cert.WkvIdeal.Gen.dats m 0 c).arrAt 16 Cert.WkvIdeal.cfg0.N,
    fun c => (Cert.WkvIdeal.Gen.dats m 0 c).arrAt 17 Cert.WkvIdeal.cfg0.N, ?_, ?_⟩
  · exact Cert.WkvIdeal.Value.run_blocks (F := Ideal) m ρ
  · refine (θ_run Cert.WkvRefIdeal.defs _ _).mono (fun _ h c => ?_) (Cert.WkvRefIdeal.Value.run (F := Ideal) m' ρ')
    obtain ⟨A, hA⟩ := args m hpre c
    obtain ⟨e0, e1, e2, e3, e4, e5, e6, e7⟩ := hag c
    have hA' : Cert.WkvRefIdeal.Scan.argsHold m' c A := holds_congr e0 e1 e2 e3 e4 e5 e6 e7 hA
    refine ⟨(h c).1.trans (Eq.trans ?_ (Cert.WkvIdeal.Dir.final15 hA).symm), (h c).2.1.trans (Eq.trans ?_ (Cert.WkvIdeal.Dir.final16 hA).symm),
      (h c).2.2.1.trans (Eq.trans ?_ (Cert.WkvIdeal.Dir.final17 hA).symm), (h c).2.2.2⟩
    · funext i
      obtain ⟨b, l, rfl⟩ : ∃ (b : Fin 8192) (l : Fin 1024), i = (ix2 b l : Cert.WkvIdeal.S8192x1024.Idx) := ⟨i 0, i 1, by funext a; fin_cases a <;> rfl⟩
      obtain ⟨q, n, rfl⟩ := row_surj b
      obtain ⟨H, j, rfl⟩ := lane_surj l
      exact (Cert.WkvRefIdeal.Scan.res149 m' c hA' q n H j).trans (Cert.WkvIdeal.Dir.GO_at A false q n.val n.isLt H j).symm
    · funext i
      obtain ⟨b, l, rfl⟩ : ∃ (b : Fin 8192) (l : Fin 1024), i = (ix2 b l : Cert.WkvIdeal.S8192x1024.Idx) := ⟨i 0, i 1, by funext a; fin_cases a <;> rfl⟩
      obtain ⟨q, n, rfl⟩ := row_surj b
      obtain ⟨H, j, rfl⟩ := lane_surj l
      exact (Cert.WkvRefIdeal.Scan.res153 m' c hA' q n H j).trans (Cert.WkvIdeal.Dir.GO_at A true q n.val n.isLt H j).symm
    · funext i
      obtain ⟨q, d, H, v, k, rfl⟩ : ∃ (q : Fin 32) (d : Fin 2) (H : Fin 16) (v k : Fin 64), i = (ix5 q d H v k : Cert.WkvIdeal.S32x2x16x64x64.Idx) :=
        ⟨i 0, i 1, i 2, i 3, i 4, by funext a; fin_cases a <;> rfl⟩
      fin_cases d
      · exact (Cert.WkvRefIdeal.Scan.res154 m' c hA' q false H v k).trans (Cert.WkvIdeal.Dir.GS_at A false q H v k).symm
      · exact (Cert.WkvRefIdeal.Scan.res154 m' c hA' q true H v k).trans (Cert.WkvIdeal.Dir.GS_at A true q H v k).symm

end Cert.Proof.WkvClaims
end
-- ==== Proof.MoeSBlock.lean ====
module

public import proofs.«01_k».proof.Defs
public import proofs.«01_k».proof.Proof.Gen.MoeSIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.MoeBlock

@[expose] public section

set_option maxRecDepth 16384

noncomputable section

open Idealize.ShloMosaic Idealize.ShloMosaic.TcCoe Idealize.SL.Sem

namespace Cert.MoeSIdeal.Moe

open Cert.MoeSIdeal Cert.MoeSIdeal.Gen Cert.Moe

/-- What the body stores for one sub-block of 256 rows, as a vector: the accumulator rows `A` plus the combine weights
    times the expert's output. -/
def step (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) : Vec Ideal S256x1024 .f32 :=
  k0_pay7 e (k0_pay5 b H Wu) (k0_pay6 b H Wg) (FloatOps.ofBits FTy.f32 1065353216#32) Wd bd C A

/-- The first sub-block's store read at an index. -/
theorem step_apply (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) (r : Fin 256) (d : Fin 1024) :
    step e b H Wg Wu Wd bd C A (ix2 r d) = A (ix2 r d) + pickAt e (fun l => C (ix2 r l))
      * expertAt (fun k => H (ix2 r k)) (fun k f => Wg (ix3 0 k f)) (fun k f => Wu (ix3 0 k f))
          (fun f => b (ix3 0 0 ⟨f.val, by omega⟩)) (fun f => b (ix3 0 0 ⟨1024 + f.val, by omega⟩)) (fun f => Wd (ix3 0 f d)) (bd (ix3 0 0 d)) := by
  unfold step pickAt expertAt actAt
  pointwise [k0_pay7, k0_pay6, k0_pay5, k0_pay4]

/-- The second sub-block's store is the same vector function. -/
theorem step_eq_1 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay12 (k0_pay10 (k0_pay4 b) H (k0_pay8 (k0_pay4 b) H Wg) (k0_pay9 Wu) Wd bd) (k0_pay11 e C) A = step e b H Wg Wu Wd bd C A := rfl

/-- The third sub-block's store is the same vector function. -/
theorem step_eq_2 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay15 e (k0_pay13 (k0_pay4 b) H Wg) (k0_pay14 (k0_pay4 b) H Wu) Wd bd C A = step e b H Wg Wu Wd bd C A := rfl

/-- The fourth sub-block's store is the same vector function. -/
theorem step_eq_3 (e : BitVec 32) (b : Vec Ideal S1x1x2048 .f32) (H : Vec Ideal S256x1024 .bf16) (Wg Wu Wd : Vec Ideal S1x1024x1024 .bf16)
    (bd : Vec Ideal S1x1x1024 .f32) (C : Vec Ideal S256x128 .f32) (A : Vec Ideal S256x1024 .f32) :
    k0_pay1 (k0_pay18 (k0_pay4 b) (k0_pay16 (k0_pay4 b) H Wg) (k0_pay17 H Wu) Wd bd) (k0_pay19 e C) A = step e b H Wg Wu Wd bd C A := rfl

/-- What one grid point adds to the accumulator at an index: the row's combine weight for the point's expert times the
    expert's output, from the point's blocks. -/
def addAt (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (r d : Fin 1024) : EReal :=
  pickAt e (fun l => x1 (ix2 r l))
      * expertAt (fun k => x0 (ix2 r k)) (fun k f => x4 (ix3 0 k ⟨f.val, by omega⟩)) (fun k f => x4 (ix3 0 k ⟨1024 + f.val, by omega⟩))
          (fun f => x5 (ix3 0 0 ⟨f.val, by omega⟩)) (fun f => x5 (ix3 0 0 ⟨1024 + f.val, by omega⟩)) (fun f => x6 (ix3 0 f d)) (x7 (ix3 0 0 d))

/-- The accumulator after a point, over what it held. -/
def accAfter (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32) :
    Vec Ideal S1024x1024 .f32 :=
  fun j => A j + addAt e x0 x1 x4 x5 x6 x7 (j 0) (j 1)

/-- A sub-block's store over the rows it loads is the accumulator after the point, at the rows it writes. -/
theorem step_ld (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (o : ℕ) (h0 : ∀ a, (![o, 0] : Fin 2 → ℕ) a + S256x1024.size a ≤ S1024x1024.size a)
    (h1 : ∀ a, (![o, 0] : Fin 2 → ℕ) a + S256x128.size a ≤ S1024x128.size a)
    (r : Fin 256) (d : Fin 1024) (hr : o + r.val < 1024) :
    step e x5 (View.ld x0 (Rect.unit ![o, 0] ![256, 1024] h0)) (View.ld x4 (Rect.unit ![0, 0, 0] ![1, 1024, 1024] inb_S1x1024x2048_S1x1024x1024_0_0_0))
      (View.ld x4 (Rect.unit ![0, 0, 1024] ![1, 1024, 1024] inb_S1x1024x2048_S1x1024x1024_0_0_1024)) x6 x7
      (View.ld x1 (Rect.unit ![o, 0] ![256, 128] h1)) (View.ld A (Rect.unit ![o, 0] ![256, 1024] h0)) (ix2 r d)
    = accAfter e x0 x1 x4 x5 x6 x7 A (ix2 ⟨o + r.val, hr⟩ d) := by
  refine (step_apply e x5 _ _ _ x6 x7 _ _ r d).trans ?_
  unfold accAfter addAt pickAt expertAt actAt
  pointwise

/-- The same at the rectangle's own index. -/
theorem step_emb (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (o : ℕ) (h0 : ∀ a, (![o, 0] : Fin 2 → ℕ) a + S256x1024.size a ≤ S1024x1024.size a)
    (h1 : ∀ a, (![o, 0] : Fin 2 → ℕ) a + S256x128.size a ≤ S1024x128.size a)
    (x : (Rect.unit (s := S1024x1024) ![o, 0] ![256, 1024] h0).shape.Idx) :
    step e x5 (View.ld x0 (Rect.unit ![o, 0] ![256, 1024] h0)) (View.ld x4 (Rect.unit ![0, 0, 0] ![1, 1024, 1024] inb_S1x1024x2048_S1x1024x1024_0_0_0))
      (View.ld x4 (Rect.unit ![0, 0, 1024] ![1, 1024, 1024] inb_S1x1024x2048_S1x1024x1024_0_0_1024)) x6 x7
      (View.ld x1 (Rect.unit ![o, 0] ![256, 128] h1)) (View.ld A (Rect.unit ![o, 0] ![256, 1024] h0)) x
    = accAfter e x0 x1 x4 x5 x6 x7 A ((Rect.unit (s := S1024x1024) ![o, 0] ![256, 1024] h0).emb x) := by
  obtain ⟨r, d, rfl⟩ : ∃ (r : Fin 256) (d : Fin 1024), x = (ix2 r d : S256x1024.Idx) := ⟨x 0, x 1, by funext a; fin_cases a <;> rfl⟩
  have hr : o + r.val < 1024 := by have := h0 0; simp [S256x1024, S1024x1024] at this; omega
  refine (step_ld e x0 x1 x4 x5 x6 x7 A o h0 h1 r d hr).trans (congrArg _ ?_)
  funext a
  fin_cases a
  · exact Fin.ext (show o + r.val = o + 1 * r.val by omega)
  · exact Fin.ext (show d.val = 0 + 1 * d.val by omega)

/-- The four stores of a point, the last one first. -/
def pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32) :
    List (View.Piece (Elt Ideal) S1024x1024 .f32) :=
  [⟨Rect.unit ![768, 0] ![256, 1024] inb_S1024x1024_S256x1024_768_0,
      step e x5 (View.ld x0 (Rect.unit ![768, 0] ![256, 1024] inb_S1024x1024_S256x1024_768_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![768, 0] ![256, 128] inb_S1024x128_S256x128_768_0)) (View.ld A (Rect.unit ![768, 0] ![256, 1024] inb_S1024x1024_S256x1024_768_0))⟩,
   ⟨Rect.unit ![512, 0] ![256, 1024] inb_S1024x1024_S256x1024_512_0,
      step e x5 (View.ld x0 (Rect.unit ![512, 0] ![256, 1024] inb_S1024x1024_S256x1024_512_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![512, 0] ![256, 128] inb_S1024x128_S256x128_512_0)) (View.ld A (Rect.unit ![512, 0] ![256, 1024] inb_S1024x1024_S256x1024_512_0))⟩,
   ⟨Rect.unit ![256, 0] ![256, 1024] inb_S1024x1024_S256x1024_256_0,
      step e x5 (View.ld x0 (Rect.unit ![256, 0] ![256, 1024] inb_S1024x1024_S256x1024_256_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![256, 0] ![256, 128] inb_S1024x128_S256x128_256_0)) (View.ld A (Rect.unit ![256, 0] ![256, 1024] inb_S1024x1024_S256x1024_256_0))⟩,
   ⟨Rect.unit ![0, 0] ![256, 1024] inb_S1024x1024_S256x1024_0_0,
      step e x5 (View.ld x0 (Rect.unit ![0, 0] ![256, 1024] inb_S1024x1024_S256x1024_0_0)) (View.ld x4 (Rect.unit ![0, 0, 0] ![1, 1024, 1024] inb_S1x1024x2048_S1x1024x1024_0_0_0))
        (View.ld x4 (Rect.unit ![0, 0, 1024] ![1, 1024, 1024] inb_S1x1024x2048_S1x1024x1024_0_0_1024)) x6 x7
        (View.ld x1 (Rect.unit ![0, 0] ![256, 128] inb_S1024x128_S256x128_0_0)) (View.ld A (Rect.unit ![0, 0] ![256, 1024] inb_S1024x1024_S256x1024_0_0))⟩]

/-- The four stores cover the accumulator. -/
theorem cover_pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (y : S1024x1024.Idx) : ∃ p ∈ pieces e x0 x1 x4 x5 x6 x7 A, y ∈ p.1.set :=
  View.cover_of_tiledL (pieces e x0 x1 x4 x5 x6 x7 A) ![256, 1024] (by sl_kernel_rfl) y

/-- Whatever was stored before them, the four stores of a point leave the accumulator after the point. -/
theorem canon_pieces (e : BitVec 32) (x0 : Vec Ideal S1024x1024 .bf16) (x1 : Vec Ideal S1024x128 .f32) (x4 : Vec Ideal S1x1024x2048 .bf16)
    (x5 : Vec Ideal S1x1x2048 .f32) (x6 : Vec Ideal S1x1024x1024 .bf16) (x7 : Vec Ideal S1x1x1024 .f32) (A : Vec Ideal S1024x1024 .f32)
    (L' : List (View.Piece (Elt Ideal) S1024x1024 .f32)) :
    View.canon (pieces e x0 x1 x4 x5 x6 x7 A ++ L') = accAfter e x0 x1 x4 x5 x6 x7 A := by
  funext y
  refine View.canon_append_of_piecesOf (accAfter e x0 x1 x4 x5 x6 x7 A) L' (pieces e x0 x1 x4 x5 x6 x7 A)
    (And.intro (fun x => ?_) (And.intro (fun x => ?_) (And.intro (fun x => ?_) (And.intro (fun x => ?_) trivial)))) y ?_
  · exact step_emb e x0 x1 x4 x5 x6 x7 A 768 _ _ x
  · exact step_emb e x0 x1 x4 x5 x6 x7 A 512 _ _ x
  · exact step_emb e x0 x1 x4 x5 x6 x7 A 256 _ _ x
  · exact step_emb e x0 x1 x4 x5 x6 x7 A 0 _ _ x
  · exact cover_pieces e x0 x1 x4 x5 x6 x7 A y

/-- At the first point of a run the accumulator ends as `accAfter` over zeros. -/
theorem sout0_A_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = accAfter (BitVec.ofNat 32 (i 1).val) x0 x1 x4 x5 x6 x7 (k0_pay3 (F := Ideal)) := by
  frame_open
  simp (disch := decide) only [↓ View.readCov_skip, ↓ View.readCov_cons_toLoadRect, ↓ View.readCov_fill]
  frame_out
  exact canon_pieces (BitVec.ofNat 32 (i 1).val) x0 x1 x4 x5 x6 x7 (k0_pay3 (F := Ideal)) _

/-- At the middle point of a run the accumulator ends as `accAfter` over what it held. -/
theorem sout0_B_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accAfter (BitVec.ofNat 32 (i 1).val) x0 x1 x4 x5 x6 x7 xs0 := by
  frame_open
  simp (disch := decide) only [↓ View.readCov_skip, ↓ View.readCov_cons_toLoadRect, ↓ View.readCov_fill]
  frame_out
  exact canon_pieces (BitVec.ofNat 32 (i 1).val) x0 x1 x4 x5 x6 x7 xs0 []

/-- At the last point of a run the accumulator ends as `accAfter` over what it held. -/
theorem sout0_C_0_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = accAfter (BitVec.ofNat 32 (i 1).val) x0 x1 x4 x5 x6 x7 xs0 := by
  frame_open
  simp (disch := decide) only [↓ View.readCov_skip, ↓ View.readCov_cons_toLoadRect, ↓ View.readCov_fill]
  frame_out
  exact canon_pieces (BitVec.ofNat 32 (i 1).val) x0 x1 x4 x5 x6 x7 xs0 []

/-- At the last point of a run the output block is the closing step over the accumulator after the point. -/
theorem out0_C_9_eq (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x6144 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : cond0_1 i)
    (x0 : Vec Ideal S1024x1024 .bf16) (x1 : Vec Ideal S1024x128 .f32) (x2 : Vec Ideal S1024x1024 .f32) (x3 : Vec Ideal S1x1x6144 .f32) (x4 : Vec Ideal S1x1024x2048 .bf16) (x5 : Vec Ideal S1x1x2048 .f32) (x6 : Vec Ideal S1x1024x1024 .bf16) (x7 : Vec Ideal S1x1x1024 .f32) (x8 : Vec Ideal S1x1024 .f32) (xs0 : Vec Ideal S1024x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 x3 x2 (accAfter (BitVec.ofNat 32 (i 1).val) x0 x1 x4 x5 x6 x7 xs0) x8 := by
  frame_open
  simp (disch := decide) only [↓ View.readCov_skip, ↓ View.readCov_cons_toLoadRect, ↓ View.readCov_fill]
  frame_out
  refine congrArg (fun z => k0_pay2 x3 x2 z x8) ?_
  rw [View.readCov_eq_canon_ld]
  refine (View.ld_unit_lit _ _ (by decide)).trans ?_
  · exact canon_pieces (BitVec.ofNat 32 (i 1).val) x0 x1 x4 x5 x6 x7 xs0 []
  · exact cover_pieces (BitVec.ofNat 32 (i 1).val) x0 x1 x4 x5 x6 x7 xs0

/-- The closing step read at an index. -/
theorem pay2_apply (x3 : Vec Ideal S1x1x6144 .f32) (x2 A : Vec Ideal S1024x1024 .f32) (x8 : Vec Ideal S1x1024 .f32) (r d : Fin 1024) :
    k0_pay2 x3 x2 A x8 (ix2 r d) = finAt (fun k => x2 (ix2 r k)) (fun k => x3 (ix3 0 0 ⟨5120 + k.val, by omega⟩)) (fun k => A (ix2 r k)) (x8 (ix2 0 d)) d := by
  unfold finAt
  pointwise [k0_pay2]

end Cert.MoeSIdeal.Moe
end
-- ==== Proof.MoeSFold.lean ====
module

public import proofs.«01_k».proof.Defs
public import proofs.«01_k».proof.Proof.Gen.MoeSIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.MoeSBlock

@[expose] public section

set_option maxRecDepth 16384

noncomputable section

open Idealize.ShloMosaic Idealize.ShloMosaic.TcCoe Idealize.SL.Sem

namespace Cert.MoeSIdeal.Moe

open Cert.MoeSIdeal Cert.MoeSIdeal.Gen Cert.Moe

variable (m : (ℓ : Loc nD τ sig) → Buf (Elt Ideal) ℓ)

/-- The printed index maps: the row tile is the point over 32, the expert the point modulo 32. -/
theorem idx : ∀ t : Fin cfg0.N, win0_0.index t = ![t.val / 32, 0] ∧ win0_1.index t = ![t.val / 32, 0] ∧ win0_2.index t = ![t.val / 32, 0]
    ∧ win0_3.index t = ![1 + t.val / 128, 0, 0] ∧ win0_4.index t = ![t.val % 32, 0, 0] ∧ win0_5.index t = ![t.val % 32, 0, 0]
    ∧ win0_6.index t = ![t.val % 32, 0, 0] ∧ win0_7.index t = ![t.val % 32, 0, 0] ∧ win0_8.index t = ![0, 0] ∧ win0_9.index t = ![t.val / 32, 0] :=
  (by decide +kernel : ∀ t : Fin grid0.N, _)

/-- The expert coordinate of a point. -/
theorem coord1 : ∀ t : Fin cfg0.N, ((grid0.coords t) 1).val = t.val % 32 := (by decide +kernel : ∀ t : Fin grid0.N, _)

/-- What point `t` adds to the accumulator. -/
def term (c : Dev nD) (t : Fin cfg0.N) (j : S1024x1024.Idx) : EReal :=
  addAt (BitVec.ofNat 32 ((grid0.coords t) 1).val) (iblk m c 0 t) (iblk m c 1 t) (iblk m c 4 t) (iblk m c 5 t) (iblk m c 6 t) (iblk m c 7 t) (j 0) (j 1)

/-- At the first point of a run the accumulator is the point's contribution. -/
theorem acc_reset (c : Dev nD) (t : Fin cfg0.N) (h : t.val % 32 = 0) (j : S1024x1024.Idx) :
    (outsAt0 m c t.val t.isLt).2 j = 0 + term m c t j := by
  rw [outsAt0_A m c t h (by omega)]
  dsimp only
  rw [sout0_A_0_eq]
  have h0 : (k0_pay3 (F := Ideal)) j = 0 := by
    obtain ⟨r, d, rfl⟩ : ∃ (r : Fin 1024) (d : Fin 1024), j = ix2 r d := ⟨j 0, j 1, by funext a; fin_cases a <;> rfl⟩
    pointwise [k0_pay3]
  show (k0_pay3 (F := Ideal)) j + _ = _
  rw [h0]
  rfl

/-- At a later point of a run the accumulator grows by the point's contribution. -/
theorem acc_step (c : Dev nD) (t : Fin cfg0.N) (h : ¬t.val % 32 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 32 = 31
  · rw [outsAt0_C m c t h h1]
    dsimp only
    rw [sout0_C_0_eq]
    rfl
  · rw [outsAt0_B m c t h h1]
    dsimp only
    rw [sout0_B_0_eq]
    rfl

/-- At the last point of a run the accumulator is the sum over the 32 experts. -/
theorem acc_flush (c : Dev nD) (t : Fin cfg0.N) (h : t.val % 32 = 32 - 1) (j : S1024x1024.Idx) :
    (outsAt0 m c t.val t.isLt).2 j
      = 0 + ∑ s : Fin 32, term m c ⟨32 * (t.val / 32) + s.val, Pipeline.run_point_lt_of_flush t h s⟩ j :=
  Pipeline.eq_sum_fin_of_reset_step_apply_of_flush (fun n h => (outsAt0 m c n h).2) 32 (fun _ => (0 : EReal)) (term m c)
    (acc_reset m c) (acc_step m c) t h j

/-- The output block at the last point of a run: the closing step over the accumulator. -/
theorem out_flush (c : Dev nD) (t : Fin cfg0.N) (h : t.val % 32 = 31) :
    (outsAt0 m c t.val t.isLt).1 = k0_pay2 (iblk m c 3 t) (iblk m c 2 t) (outsAt0 m c t.val t.isLt).2 (iblk m c 8 t) := by
  rw [outsAt0_C m c t (by omega) h]
  dsimp only
  rw [sout0_C_0_eq, out0_C_9_eq]

/-- The whole result from the call's arguments: per row the combine-weighted sum of the experts' outputs, added to the
    residual under the row's gate, normalised. -/
def G (h2 : Vec Ideal S8192x1024 .bf16) (comb : Vec Ideal S8192x128 .f32) (x1 : Vec Ideal S8192x1024 .f32) (mod3 : Vec Ideal S8x1x6144 .f32)
    (wgu : Vec Ideal S1x32x1024x2048 .f32) (bgu : Vec Ideal S1x32x2048 .f32) (wd : Vec Ideal S1x32x1024x1024 .f32)
    (bd : Vec Ideal S1x32x1024 .f32) (fg : Vec Ideal S1024 .f32) (i : S8192x1024.Idx) : EReal :=
  finAt (fun k => x1 (ix2 (i 0) k)) (fun k => mod3 (ix3 ⟨1 + (i 0).val / 4096, by have : (i 0).val < 8192 := (i 0).isLt; omega⟩ 0 ⟨5120 + k.val, by omega⟩))
    (fun k => ∑ e : Fin 32, comb (ix2 (i 0) ⟨e.val, by omega⟩)
      * expertAt (fun k => h2 (ix2 (i 0) k)) (fun k f => wgu (ix4 0 e k ⟨f.val, by omega⟩)) (fun k f => wgu (ix4 0 e k ⟨1024 + f.val, by omega⟩))
          (fun f => bgu (ix3 0 e ⟨f.val, by omega⟩)) (fun f => bgu (ix3 0 e ⟨1024 + f.val, by omega⟩)) (fun f => wd (ix4 0 e f k)) (bd (ix3 0 e k)))
    (fg (ix1 (i 1))) (i 1)

/-- The masked lane sum picks the expert's lane. -/
theorem pickAt_eq (e : Fin 32) (c : Fin 128 → EReal) : pickAt (BitVec.ofNat 32 e.val) c = c ⟨e.val, by omega⟩ := by
  unfold pickAt
  rw [Finset.sum_eq_single (⟨e.val, by omega⟩ : Fin 128)]
  · simp [Scalar.select, IntOp.cmpi]
  · intro l _ hl
    have : ¬ BitVec.ofNat 32 l.val = BitVec.ofNat 32 e.val := by
      intro h
      apply hl
      have h' := congrArg BitVec.toNat h
      simp only [BitVec.toNat_ofNat] at h'
      exact Fin.ext (by have := l.isLt; have := e.isLt; show l.val = e.val; omega)
    have h2 : (BitVec.ofNat 32 l.val == BitVec.ofNat 32 e.val) = false := by simpa using this
    simp [Scalar.select, IntOp.cmpi, h2]
  · intro h; exact absurd (Finset.mem_univ _) h

theorem rd0 (c : Dev nD) (t : Fin cfg0.N) (r k : Fin 1024) :
    iblk m c 0 t (ix2 r k) = m ((c : Thread nD τ).loc main_arg0) (ix2 ⟨1024 * (t.val / 32) + r.val, by have := t.isLt; have : cfg0.N = 256 := N_0; omega⟩ k) := by
  blk_point [iblk, V, idx t]

theorem rd1 (c : Dev nD) (t : Fin cfg0.N) (r : Fin 1024) (k : Fin 128) :
    iblk m c 1 t (ix2 r k) = m ((c : Thread nD τ).loc main_arg1) (ix2 ⟨1024 * (t.val / 32) + r.val, by have := t.isLt; have : cfg0.N = 256 := N_0; omega⟩ k) := by
  blk_point [iblk, V, idx t]

theorem rd2 (c : Dev nD) (t : Fin cfg0.N) (r k : Fin 1024) :
    iblk m c 2 t (ix2 r k) = m ((c : Thread nD τ).loc main_arg2) (ix2 ⟨1024 * (t.val / 32) + r.val, by have := t.isLt; have : cfg0.N = 256 := N_0; omega⟩ k) := by
  blk_point [iblk, V, idx t]

theorem rd3 (c : Dev nD) (t : Fin cfg0.N) (k : Fin 6144) :
    iblk m c 3 t (ix3 0 0 k) = m ((c : Thread nD τ).loc main_arg3) (ix3 ⟨1 + t.val / 128, by have := t.isLt; have : cfg0.N = 256 := N_0; omega⟩ 0 k) := by
  blk_point [iblk, V, idx t]

theorem rd4 (c : Dev nD) (t : Fin cfg0.N) (k : Fin 1024) (f : Fin 2048) :
    iblk m c 4 t (ix3 0 k f) = m ((c : Thread nD τ).loc main_arg4) (ix4 0 ⟨t.val % 32, by omega⟩ k f) := by
  blk_point [iblk, V, idx t]

theorem rd5 (c : Dev nD) (t : Fin cfg0.N) (f : Fin 2048) :
    iblk m c 5 t (ix3 0 0 f) = m ((c : Thread nD τ).loc main_arg5) (ix3 0 ⟨t.val % 32, by omega⟩ f) := by
  blk_point [iblk, V, idx t]

theorem rd6 (c : Dev nD) (t : Fin cfg0.N) (k f : Fin 1024) :
    iblk m c 6 t (ix3 0 k f) = m ((c : Thread nD τ).loc main_arg6) (ix4 0 ⟨t.val % 32, by omega⟩ k f) := by
  blk_point [iblk, V, idx t]

theorem rd7 (c : Dev nD) (t : Fin cfg0.N) (f : Fin 1024) :
    iblk m c 7 t (ix3 0 0 f) = m ((c : Thread nD τ).loc main_arg7) (ix3 0 ⟨t.val % 32, by omega⟩ f) := by
  blk_point [iblk, V, idx t]

theorem rd8 (c : Dev nD) (t : Fin cfg0.N) (f : Fin 1024) :
    iblk m c 8 t (ix2 0 f) = m ((c : Thread nD τ).loc main_arg8) (ix1 f) := by
  blk_point [iblk, V, idx t]

/-- A run's contribution from the arguments' own entries. -/
theorem term_eq (c : Dev nD) (t : Fin cfg0.N) (h : t.val % 32 = 32 - 1) (s : Fin 32) (r d : Fin 1024) :
    term m c ⟨32 * (t.val / 32) + s.val, Pipeline.run_point_lt_of_flush t h s⟩ (ix2 r d)
      = (show EReal from m ((c : Thread nD τ).loc main_arg1) (ix2 ⟨1024 * (t.val / 32) + r.val, by have := t.isLt; have : cfg0.N = 256 := N_0; omega⟩ ⟨s.val, by omega⟩))
        * expertAt (fun k => m ((c : Thread nD τ).loc main_arg0) (ix2 ⟨1024 * (t.val / 32) + r.val, by have := t.isLt; have : cfg0.N = 256 := N_0; omega⟩ k))
          (fun k f => m ((c : Thread nD τ).loc main_arg4) (ix4 0 s k ⟨f.val, by omega⟩)) (fun k f => m ((c : Thread nD τ).loc main_arg4) (ix4 0 s k ⟨1024 + f.val, by omega⟩))
          (fun f => m ((c : Thread nD τ).loc main_arg5) (ix3 0 s ⟨f.val, by omega⟩)) (fun f => m ((c : Thread nD τ).loc main_arg5) (ix3 0 s ⟨1024 + f.val, by omega⟩))
          (fun f => m ((c : Thread nD τ).loc main_arg6) (ix4 0 s f d)) (m ((c : Thread nD τ).loc main_arg7) (ix3 0 s d)) := by
  have hd : (32 * (t.val / 32) + s.val) / 32 = t.val / 32 := by have := s.isLt; omega
  have hm : (32 * (t.val / 32) + s.val) % 32 = s.val := by have := s.isLt; omega
  show addAt _ _ _ _ _ _ _ r d = _
  unfold addAt
  simp only [rd0, rd1, rd4, rd5, rd6, rd7, coord1, hd, hm, pickAt_eq]

/-- The result array after the run is the closed form over the arguments. -/
theorem final (c : Dev nD) : (dats m 0 c).arrAt 9 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_covers 9 _ (by decide +kernel) fun t hf y => ?_
  have ht : t.val % 32 = 31 := (flush0_9 t).mp hf
  blk_simp
  rw [after0_9, out_flush m c t ht]
  obtain ⟨r, d, rfl⟩ : ∃ (r d : Fin 1024), y = (ix2 r d : S1024x1024.Idx) := ⟨y 0, y 1, by funext a; fin_cases a <;> rfl⟩
  have hN : t.val < 256 := lt_of_lt_of_eq t.isLt N_0
  have hemb : (win0_9.blk t).view.emb (ix2 r d) = (ix2 ⟨1024 * (t.val / 32) + r.val, by omega⟩ d : S8192x1024.Idx) := by
    blk_ext [idx t]
  rw [hemb]
  refine (pay2_apply _ _ _ _ r d).trans ?_
  unfold G
  simp only [acc_flush m c t ht, term_eq m c t ht, rd2, rd3, rd8, zero_add]
  have hrow : (1 + t.val / 128 : ℕ) = 1 + (1024 * (t.val / 32) + r.val) / 4096 := by have := r.isLt; omega
  simp only [hrow]
  rfl

end Cert.MoeSIdeal.Moe
end
-- ==== Proof.MoeSRef.lean ====
module

public import proofs.«01_k».proof.Defs
public import proofs.«01_k».proof.Proof.Gen.MoeSIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.MoeSFold
public import proofs.«01_k».proof.Proof.Gen.MoeSRefIdeal.Read

@[expose] public section

set_option maxRecDepth 16384

noncomputable section

open Idealize.ShloMosaic Idealize.ShloMosaic.TcCoe Idealize.SL.Sem

namespace Cert.MoeSRefIdeal.Moe

open Cert.MoeSRefIdeal Cert.MoeSRefIdeal.Gen Cert.MoeSRefIdeal.Read Cert.Moe

variable (x0 : Vec Ideal S8192x1024 .bf16) (x1 : Vec Ideal S8192x128 .f32) (x2 : Vec Ideal S8192x1024 .f32) (x3 : Vec Ideal S8x1x6144 .f32)
  (x4 : Vec Ideal S1x32x1024x2048 .f32) (x5 : Vec Ideal S1x32x2048 .f32) (x6 : Vec Ideal S1x32x1024x1024 .f32)
  (x7 : Vec Ideal S1x32x1024 .f32) (x8 : Vec Ideal S1024 .f32)

/-- The pre-activations: the up projection of every expert with its bias. -/
theorem v7_at (e : Fin 32) (r : Fin 8192) (f : Fin 2048) :
    val_main_v7 (F := Ideal) x0 x4 x5 (ix3 e r f) = ∑ k : Fin 1024, x0 (ix2 r k) * x4 (ix4 0 e k f) + x5 (ix3 0 e f) := by
  pointwise [val_main_v7, val_main_v6, val_main_v5, val_main_v4, val_main_v3, val_main_v2, val_main_v1, val_main_v0]
  exact congrArg (· + _) (Finset.sum_congr rfl fun _ _ => mul_comm _ _)

/-- The gated activation. -/
theorem v24_at (e : Fin 32) (r : Fin 8192) (f : Fin 1024) :
    val_main_v24 (F := Ideal) x0 x4 x5 (ix3 e r f) = actAt (val_main_v7 (F := Ideal) x0 x4 x5 (ix3 e r ⟨f.val, by omega⟩))
      (val_main_v7 (F := Ideal) x0 x4 x5 (ix3 e r ⟨1024 + f.val, by omega⟩)) := by
  unfold actAt
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_cst, val_main_cst_2, val_main_cst_3, val_main_cst_4, val_main_cst_5, val_main_call0_v4,
    val_main_call0_v3, val_main_call0_v2, val_main_call0_v1, val_main_call0_v0, val_main_cst_0, val_main_cst_1, id]
  simp only [zero_sub]

/-- One expert's output. -/
theorem v30_at (e : Fin 32) (r : Fin 8192) (d : Fin 1024) :
    val_main_v30 (F := Ideal) x0 x4 x5 x6 x7 (ix3 e r d) = ∑ f : Fin 1024, val_main_v24 (F := Ideal) x0 x4 x5 (ix3 e r f) * x6 (ix4 0 e f d) + x7 (ix3 0 e d) := by
  pointwise [val_main_v30, val_main_v29, val_main_v28, val_main_v27, val_main_v26, val_main_v25]

/-- The combine-weighted sum over the experts. -/
theorem v36_at (r : Fin 8192) (d : Fin 1024) :
    val_main_v36 (F := Ideal) x0 x1 x4 x5 x6 x7 (ix2 r d) = ∑ e : Fin 32, x1 (ix2 r ⟨e.val, by omega⟩) * val_main_v30 (F := Ideal) x0 x4 x5 x6 x7 (ix3 e r d) := by
  pointwise [val_main_v36, val_main_v35, val_main_v34, val_main_v33, val_main_v32, val_main_v31, val_main_cst_6]

/-- The residual. -/
theorem v42_at (r : Fin 8192) (d : Fin 1024) :
    val_main_v42 (F := Ideal) x0 x1 x2 x3 x4 x5 x6 x7 (ix2 r d) = x2 (ix2 r d) + x3 (ix3 ⟨1 + r.val / 4096, by omega⟩ 0 ⟨5120 + d.val, by omega⟩) * val_main_v36 (F := Ideal) x0 x1 x4 x5 x6 x7 (ix2 r d) := by
  pointwise [val_main_v42, val_main_v41, val_main_v40, val_main_v39, val_main_v38, val_main_v37]

/-- The closing normalisation. -/
theorem v55_at (r : Fin 8192) (d : Fin 1024) :
    val_main_v55 (F := Ideal) x0 x1 x2 x3 x4 x5 x6 x7 x8 (ix2 r d) = finAt (fun k => x2 (ix2 r k)) (fun k => x3 (ix3 ⟨1 + r.val / 4096, by omega⟩ 0 ⟨5120 + k.val, by omega⟩))
      (fun k => val_main_v36 (F := Ideal) x0 x1 x4 x5 x6 x7 (ix2 r k)) (x8 (ix1 d)) d := by
  unfold finAt
  simp only [← v42_at x0 x1 x2 x3 x4 x5 x6 x7 r]
  pointwise [val_main_v55, val_main_v54, val_main_v53, val_main_v52, val_main_v51, val_main_v50, val_main_v49, val_main_v48, val_main_v47, val_main_v46,
    val_main_v45, val_main_v44, val_main_v43, val_main_cst_7, val_main_cst_8, val_main_cst_9]

/-- The reference's result is the closed form over the arguments. -/
theorem v55_eq : val_main_v55 (F := Ideal) x0 x1 x2 x3 x4 x5 x6 x7 x8 = Cert.MoeSIdeal.Moe.G x0 x1 x2 x3 x4 x5 x6 x7 x8 := by
  funext i
  obtain ⟨r, d, rfl⟩ : ∃ (r : Fin 8192) (d : Fin 1024), i = (ix2 r d : S8192x1024.Idx) := ⟨i 0, i 1, by funext a; fin_cases a <;> rfl⟩
  refine (v55_at x0 x1 x2 x3 x4 x5 x6 x7 x8 r d).trans ?_
  unfold Cert.MoeSIdeal.Moe.G expertAt
  simp only [v36_at, v30_at, v24_at, v7_at]
  rfl

end Cert.MoeSRefIdeal.Moe
end
-- ==== Proof.MoeSClaim.lean ====
module

public import proofs.«01_k».proof.Defs
public import proofs.«01_k».proof.Proof.Gen.MoeSIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import proofs.«01_k».proof.Proof.MoeSFold
public import proofs.«01_k».proof.Proof.MoeSRef
public import proofs.«01_k».proof.Proof.Gen.MoeS.Frame

@[expose] public section

set_option maxRecDepth 16384

noncomputable section

open Idealize.ShloMosaic Idealize.ShloMosaic.TcCoe Idealize.SL.Sem

namespace Cert.Proof.MoeSClaims

/-- The kernel's run at words: terminates, arguments unchanged, counters zero. -/
theorem frame_kernel : Cert.quiescent_MoeS := fun m g _ => Cert.MoeS.Gen.frame m g

/-- The same at the ideal reading. -/
theorem frame_kernelIdeal : Cert.quiescent_MoeSIdeal := fun m g _ => Cert.MoeSIdeal.Gen.frame m g

/-- The reference's run: terminates, arguments unchanged, and there are no counters. -/
theorem frame_referenceIdeal : Cert.quiescent_MoeSRefIdeal := fun m g _ =>
  (θ_run Cert.MoeSRefIdeal.defs _ _).mono (fun r h => ⟨fun c => (h c).2, sem_eq_zero_of_no_sems (by decide) r.2⟩)
    (Cert.MoeSRefIdeal.Value.run (F := Ideal) m g)

/-- The ideal pass rewrote nothing. -/
theorem preserves : Cert.preserves_MoeS_MoeSIdeal := trivial

/-- At the ideal reading the kernel's result and the reference's are the closed form of arguments that agree. -/
theorem algebraic : Cert.algebraic_MoeSIdeal_MoeSRefIdeal := by
  intro m ρ m' ρ' _ hag
  refine ⟨fun c => (Cert.MoeSIdeal.Gen.dats m 0 c).arrAt 9 Cert.MoeSIdeal.cfg0.N, ?_, ?_⟩
  · exact (θ_run Cert.MoeSIdeal.defs _ _).mono (fun _ h c => ⟨(h c).1.trans (Cert.MoeSIdeal.Value.final9 m c).symm, (h c).2⟩)
      (Cert.MoeSIdeal.Value.run (F := Ideal) m ρ)
  · refine (θ_run Cert.MoeSRefIdeal.defs _ _).mono (fun _ h c => ⟨(h c).1.trans ?_, (h c).2⟩) (Cert.MoeSRefIdeal.Value.run (F := Ideal) m' ρ')
    rw [Cert.MoeSRefIdeal.Read.val_main_v55_eq, Cert.MoeSRefIdeal.Moe.v55_eq]
    obtain ⟨h0, h1, h2, h3, h4, h5, h6, h7, h8⟩ := hag c
    rw [h0, h1, h2, h3, h4, h5, h6, h7, h8]
    exact (Cert.MoeSIdeal.Moe.final m c).symm

end Cert.Proof.MoeSClaims
end
-- ==== Proof.InProjTable.lean ====
module

public import proofs.«01_k».proof.Defs
public import proofs.«01_k».proof.Proof.Gen.InProjIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.InProj

/-- One entry of a normalised and modulated row: `x` divided by its root mean square, times the gain `g`, times one
    plus the scale, plus the shift. -/
def normAt (x : Fin 1024 → EReal) (g sc sh : EReal) (k : Fin 1024) : EReal :=
  x k * Ideal.rsqrt (Ideal.div (∑ l, x l * x l) (Ideal.ofBits .f32 0x44800000#32) + Ideal.ofBits .f32 0x358637BD#32)
      * g * (Ideal.ofBits .f32 0x3F800000#32 + sc) + sh

/-- The column of the weight that the kernel's column `p` stands for. -/
def col (p : Fin 8448) : Fin 8448 :=
  ⟨if p.val < 3072 then 3328 + p.val else if p.val < 6144 then p.val - 3072 else if p.val < 8192 then p.val + 256 else p.val - 5120,
    by split_ifs <;> omega⟩

/-- The whole result from the call's arguments: row by column products of the modulated rows with the weight. -/
def G (x : Fin 32 → Fin 256 → Fin 1024 → EReal) (md : Fin 6144 → EReal) (g : Fin 1024 → EReal)
    (w : Fin 1024 → Fin 8448 → EReal) (r : Fin 8192) (p : Fin 8448) : EReal :=
  ∑ k : Fin 1024, normAt (x ⟨r.val / 256, by omega⟩ ⟨r.val % 256, by omega⟩) (g k) (md ⟨1024 + k.val, by omega⟩)
    (md ⟨k.val, by omega⟩) k * w k (col p)

end Cert.InProj

namespace Cert.InProjIdeal.Value.Proj

open Cert.InProjIdeal Cert.InProjIdeal.Gen Cert.InProj

/-- The host's column table holds the column each of the kernel's columns stands for. -/
theorem table : ∀ p : Fin 8448, lit0 p = BitVec.ofNat 32 (col p).val := by decide +kernel

end Cert.InProjIdeal.Value.Proj
end
-- ==== Proof.InProjBlock.lean ====
module

public import proofs.«01_k».proof.Defs
public import proofs.«01_k».proof.Proof.Gen.InProjIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.InProjTable

@[expose] public section

set_option maxRecDepth 16384

noncomputable section

open Idealize.ShloMosaic Idealize.ShloMosaic.TcCoe Idealize.SL.Sem

namespace Cert.InProjIdeal.Value.Proj

open Cert.InProjIdeal Cert.InProjIdeal.Gen Cert.InProj

variable (m : (ℓ : Loc nD τ sig) → Buf (Elt Ideal) ℓ)

/-- At the first point of a row tile the carried scratch becomes the tile's modulated rows. -/
theorem sout0_A_0_eq (c : Dev nD) (i : grid0.Coords) (arg2 : Memref sig .tc .vmem S1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .f32) (harg6 : arg6.IsWhole) (arg7 : Memref sig .tc .vmem S1024x1024 .bf16) (harg7 : arg7.IsWhole) (hc0 : cond0_0 i)
    (x0 : Vec Ideal S1024x1024 .f32) (x1 : Vec Ideal S1x1x6144 .f32) (x2 : Vec Ideal S1x1024 .f32) (x3 : Vec Ideal S1024x768 .bf16) :
    sout0_A_0 c i arg2 harg2 arg3 harg3 arg4 harg4 arg5 harg5 arg6 harg6 arg7 harg7 hc0 x0 x1 x2 x3 = k0_pay1 x0 x2 x1 := by
  frame_open
  frame_out

/-- There the output block is the product of these rows with the weight's block. -/
theorem out0_A_4_eq (c : Dev nD) (i : grid0.Coords) (arg2 : Memref sig .tc .vmem S1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .f32) (harg6 : arg6.IsWhole) (arg7 : Memref sig .tc .vmem S1024x1024 .bf16) (harg7 : arg7.IsWhole) (hc0 : cond0_0 i)
    (x0 : Vec Ideal S1024x1024 .f32) (x1 : Vec Ideal S1x1x6144 .f32) (x2 : Vec Ideal S1x1024 .f32) (x3 : Vec Ideal S1024x768 .bf16) :
    out0_A_4 c i arg2 harg2 arg3 harg3 arg4 harg4 arg5 harg5 arg6 harg6 arg7 harg7 hc0 x0 x1 x2 x3 = k0_pay2 (k0_pay1 x0 x2 x1) x3 := by
  frame_open
  simp (disch := decide) only [↓ View.readCov_skip, ↓ View.readCov_cons_toLoadRect, ↓ View.readCov_fill]
  frame_out

/-- At a later point the output block is the product of the carried rows with the weight's block. -/
theorem out0_B_4_eq (c : Dev nD) (i : grid0.Coords) (arg2 : Memref sig .tc .vmem S1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .f32) (harg6 : arg6.IsWhole) (arg7 : Memref sig .tc .vmem S1024x1024 .bf16) (harg7 : arg7.IsWhole) (hc0 : ¬cond0_0 i)
    (x0 : Vec Ideal S1024x1024 .f32) (x1 : Vec Ideal S1x1x6144 .f32) (x2 : Vec Ideal S1x1024 .f32) (x3 : Vec Ideal S1024x768 .bf16) (xs0 : Vec Ideal S1024x1024 .bf16) :
    out0_B_4 c i arg2 harg2 arg3 harg3 arg4 harg4 arg5 harg5 arg6 harg6 arg7 harg7 hc0 x0 x1 x2 x3 xs0 = k0_pay2 xs0 x3 := by
  frame_open
  frame_out

/-- The modulated rows at an index. -/
theorem pay1_apply (x0 : Vec Ideal S1024x1024 .f32) (x2 : Vec Ideal S1x1024 .f32) (x1 : Vec Ideal S1x1x6144 .f32) (r k : Fin 1024) :
    k0_pay1 x0 x2 x1 (ix2 r k) = normAt (fun l => x0 (ix2 r l)) (x2 (ix2 0 k)) (x1 (ix3 0 0 ⟨1024 + k.val, by omega⟩)) (x1 (ix3 0 0 ⟨k.val, by omega⟩)) k := by
  unfold normAt
  pointwise [k0_pay1]

/-- The product at an index. -/
theorem pay2_apply (h : Vec Ideal S1024x1024 .bf16) (w : Vec Ideal S1024x768 .bf16) (r : Fin 1024) (f : Fin 768) :
    k0_pay2 h w (ix2 r f) = ∑ k : Fin 1024, h (ix2 r k) * w (ix2 k f) := by
  pointwise [k0_pay2]

/-- The printed index maps: the row tile is the point over 11, the column block the point modulo 11. -/
theorem idx : ∀ t : Fin cfg0.N, win0_0.index t = ![t.val / 11, 0] ∧ win0_1.index t = ![0, 0, 0] ∧ win0_2.index t = ![0, 0]
    ∧ win0_3.index t = ![0, t.val % 11] ∧ win0_4.index t = ![t.val / 11, t.val % 11] :=
  (by decide +kernel : ∀ t : Fin grid0.N, _)

theorem rd0 (c : Dev nD) (t : Fin cfg0.N) (r k : Fin 1024) :
    iblk m c 0 t (ix2 r k) = m ((c : Thread nD τ).loc main_arg0) (ix3 ⟨(1024 * (t.val / 11) + r.val) / 256, by have := t.isLt; have : cfg0.N = 88 := N_0; omega⟩ ⟨(1024 * (t.val / 11) + r.val) % 256, by omega⟩ k) := by
  blk_point [iblk, V, idx t]

theorem rd1 (c : Dev nD) (t : Fin cfg0.N) (k : Fin 6144) :
    iblk m c 1 t (ix3 0 0 k) = m ((c : Thread nD τ).loc main_arg1) (ix3 0 0 k) := by
  blk_point [iblk, V, idx t]

theorem rd2 (c : Dev nD) (t : Fin cfg0.N) (k : Fin 1024) :
    iblk m c 2 t (ix2 0 k) = m ((c : Thread nD τ).loc main_arg2) (ix2 0 k) := by
  blk_point [iblk, V, idx t]

/-- The list of columns the host takes: an entry below zero would be counted from the end, and there is none. -/
def cols : IVec S8448x1 32 :=
  have c : IVec S8448 32 := fun i => lit0 (S8448.rowMajor i)
  have k : IVec S8448 32 := select (constantI S8448 1 0#1) (addi c (broadcastInDim S8448 ![] bcast_S_S8448 (constantI S_ 32 8448#32))) c
  broadcastInDim S8448x1 ![0] bcast_S8448_S8448x1_0 k

/-- The weight with its columns in the kernel's order, as the host prepares it. -/
def hostw (w : Vec Ideal S1x1024x8448 .f32) : Vec Ideal S1024x8448 .bf16 :=
  have y : FVec Ideal S1024x8448 .f32 := shapeCast S1024x8448 w shapeCasts_S1x1024x8448_S1024x8448
  have z : FVec Ideal S1024x8448 .f32 := Host.gather gather_S1024x8448_S8448x1_S1024x8448_0_1_n_n_1_1_10241 y cols
  have u : FVec Ideal S1024x8448 .bf16 := truncf .bf16 z bitsLt_bf16_f32
  u

/-- Taking columns: element `(k, p)` of the gather is the operand at row `k` of the column the list names. -/
theorem take_apply (x : FVec Ideal S1024x8448 .f32) (l : IVec S8448x1 32) (k : Fin 1024) (p : Fin 8448) :
    Host.gather gather_S1024x8448_S8448x1_S1024x8448_0_1_n_n_1_1_10241 x l (ix2 k p)
      = x (ix2 k ⟨min (l (ix2 p 0)).toInt.toNat (8448 - 1), by omega⟩) := by
  unfold Host.gather
  refine congrArg x ?_
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S1024x8448_S8448x1_S1024x8448_0_1_n_n_1_1_10241] at h)]
    have hs : GatherDims.start gather_S1024x8448_S8448x1_S1024x8448_0_1_n_n_1_1_10241 (ix2 k p) l 0 = 0 := by
      unfold GatherDims.start
      rw [dif_neg (by decide)]
    rw [hs]
    simp only [Nat.zero_add]
    unfold GatherDims.offCoord
    rw [dif_pos (by decide)]
    rfl
  · rw [GatherDims.batchCoord_eq_zero _ _ _ (fun h => by simp [gather_S1024x8448_S8448x1_S1024x8448_0_1_n_n_1_1_10241] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x8448_S8448x1_S1024x8448_0_1_n_n_1_1_10241.startIndexMap from List.mem_singleton.mpr rfl)]
    have hsi : gather_S1024x8448_S8448x1_S1024x8448_0_1_n_n_1_1_10241.siIdx (ix2 k p)
        ⟨List.idxOf (1 : Fin 2) gather_S1024x8448_S8448x1_S1024x8448_0_1_n_n_1_1_10241.startIndexMap,
          List.idxOf_lt_length_iff.2 (List.mem_singleton.mpr rfl)⟩ = (ix2 p 0 : S8448x1.Idx) := by
      funext b; refine Fin.ext ?_
      match b with
      | ⟨0, _⟩ => rfl
      | ⟨1, _⟩ => rfl
    rw [hsi]
    rfl

theorem cols_apply (p : Fin 8448) : cols (ix2 p 0) = BitVec.ofNat 32 (col p).val := by
  refine Eq.trans ?_ (table p)
  refine Eq.trans (b := lit0 (S8448.rowMajor (ix1 p))) ?_ ?_
  · pointwise [cols]
  · exact congrArg lit0 (Fin.ext (Shape.rowMajor_val_one _))

/-- The host's weight at an index. -/
theorem hostw_apply (w : Vec Ideal S1x1024x8448 .f32) (k : Fin 1024) (p : Fin 8448) : hostw w (ix2 k p) = w (ix3 0 k (col p)) := by
  refine Eq.trans (b := Host.gather gather_S1024x8448_S8448x1_S1024x8448_0_1_n_n_1_1_10241
    (shapeCast S1024x8448 w shapeCasts_S1x1024x8448_S1024x8448 : FVec Ideal S1024x8448 .f32) cols (ix2 k p)) rfl ?_
  rw [take_apply]
  pointwise []
  refine congrArg (fun q => w (ix3 0 k q)) (Fin.ext ?_)
  show min (cols (ix2 p 0)).toInt.toNat 8447 = (col p).val
  rw [cols_apply]
  have h := (col p).isLt
  rw [BitVec.toInt_eq_toNat_of_lt (by rw [BitVec.toNat_ofNat]; omega), BitVec.toNat_ofNat]
  omega

/-- What the host hands the kernel as the weight. -/
theorem V_w (c : Dev nD) : V m c (Pipeline.arrRef spec0 3) = hostw (m ((c : Thread nD τ).loc main_arg3)) := by
  unfold hostw cols
  blk_simp [V]
  rfl

theorem rd3 (c : Dev nD) (t : Fin cfg0.N) (k : Fin 1024) (f : Fin 768) :
    iblk m c 3 t (ix2 k f) = m ((c : Thread nD τ).loc main_arg3) (ix3 0 k (col ⟨768 * (t.val % 11) + f.val, by omega⟩)) := by
  refine Eq.trans ?_ (hostw_apply _ k _)
  rw [← V_w]
  blk_ext [iblk, idx t]

/-- The modulated rows of point `t`'s row tile. -/
def rows (c : Dev nD) (t : Fin cfg0.N) : Vec Ideal S1024x1024 .bf16 :=
  k0_pay1 (iblk m c 0 t) (iblk m c 2 t) (iblk m c 1 t)

theorem rows_apply (c : Dev nD) (t : Fin cfg0.N) (r k : Fin 1024) :
    rows m c t (ix2 r k) = normAt (fun l => m ((c : Thread nD τ).loc main_arg0) (ix3 ⟨(1024 * (t.val / 11) + r.val) / 256, by have := t.isLt; have : cfg0.N = 88 := N_0; omega⟩ ⟨(1024 * (t.val / 11) + r.val) % 256, by omega⟩ l))
      (m ((c : Thread nD τ).loc main_arg2) (ix2 0 k)) (m ((c : Thread nD τ).loc main_arg1) (ix3 0 0 ⟨1024 + k.val, by omega⟩)) (m ((c : Thread nD τ).loc main_arg1) (ix3 0 0 ⟨k.val, by omega⟩)) k := by
  unfold rows
  rw [pay1_apply]
  simp only [rd0, rd1, rd2]

/-- Two points of one row tile have the same rows. -/
theorem rows_eq (c : Dev nD) (t t' : Fin cfg0.N) (h : t.val / 11 = t'.val / 11) : rows m c t = rows m c t' := by
  funext j
  obtain ⟨r, k, rfl⟩ : ∃ (r k : Fin 1024), j = (ix2 r k : S1024x1024.Idx) := ⟨j 0, j 1, by funext a; fin_cases a <;> rfl⟩
  simp only [rows_apply, h]

/-- After every point the scratch holds the rows of the point's tile. -/
theorem carried (c : Dev nD) : ∀ (n : ℕ) (h : n < cfg0.N), (outsAt0 m c n h).2 = rows m c ⟨n, h⟩ := by
  intro n
  induction n with
  | zero =>
    intro h
    rw [outsAt0_A m c ⟨0, h⟩ rfl]
    dsimp only
    rw [sout0_A_0_eq]
    rfl
  | succ n ih =>
    intro h
    by_cases h0 : (n + 1) % 11 = 0
    · rw [outsAt0_A m c ⟨n + 1, h⟩ h0]
      dsimp only
      rw [sout0_A_0_eq]
      rfl
    · refine (congrArg Prod.snd (outsAt0_B m c ⟨n + 1, h⟩ h0)).trans ?_
      exact (ih (Nat.lt_of_succ_lt h)).trans (rows_eq m c _ _ (by show n / 11 = (n + 1) / 11; omega))

/-- The output block after every point: the tile's rows times the weight's block. -/
theorem out_point (c : Dev nD) (t : Fin cfg0.N) : (outsAt0 m c t.val t.isLt).1 = k0_pay2 (rows m c t) (iblk m c 3 t) := by
  by_cases h0 : t.val % 11 = 0
  · rw [outsAt0_A m c t h0]
    dsimp only
    rw [out0_A_4_eq]
    rfl
  · rw [outsAt0_B m c t h0]
    dsimp only
    rw [out0_B_4_eq, carried]
    refine congrArg (fun z => k0_pay2 z (iblk m c 3 t)) (rows_eq m c _ _ ?_)
    show (t.val - 1) / 11 = t.val / 11
    omega

/-- The result array after the run is the closed form over the arguments. -/
theorem final (c : Dev nD) : (dats m 0 c).arrAt 4 cfg0.N = fun i : S8192x8448.Idx =>
    G (fun a b k => m ((c : Thread nD τ).loc main_arg0) (ix3 a b k)) (fun k => m ((c : Thread nD τ).loc main_arg1) (ix3 0 0 k))
      (fun k => m ((c : Thread nD τ).loc main_arg2) (ix2 0 k)) (fun k p => m ((c : Thread nD τ).loc main_arg3) (ix3 0 k p)) (i 0) (i 1) := by
  refine (dats m 0 c).arrAt_eq_of_covers 4 _ (by decide +kernel) fun t hf y => ?_
  blk_simp
  rw [after0_4, out_point m c t]
  obtain ⟨r, f, rfl⟩ : ∃ (r : Fin 1024) (f : Fin 768), y = (ix2 r f : S1024x768.Idx) := ⟨y 0, y 1, by funext a; fin_cases a <;> rfl⟩
  have hN : t.val < 88 := lt_of_lt_of_eq t.isLt N_0
  have hemb : (win0_4.blk t).view.emb (ix2 r f) = (ix2 ⟨1024 * (t.val / 11) + r.val, by omega⟩ ⟨768 * (t.val % 11) + f.val, by omega⟩ : S8192x8448.Idx) := by
    blk_ext [idx t]
  rw [hemb]
  refine (pay2_apply _ _ r f).trans ?_
  simp only [rows_apply, rd3]
  rfl

end Cert.InProjIdeal.Value.Proj
end
-- ==== Proof.InProjRef.lean ====
module

public import proofs.«01_k».proof.Defs
public import proofs.«01_k».proof.Proof.Gen.InProjIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Pointwise
public import proofs.«01_k».proof.Proof.InProjBlock
public import proofs.«01_k».proof.Proof.Gen.InProjRefIdeal.Read

@[expose] public section

set_option maxRecDepth 16384

noncomputable section

open Idealize.ShloMosaic Idealize.ShloMosaic.TcCoe Idealize.SL.Sem

namespace Cert.InProjRefIdeal.Proj

open Cert.InProjRefIdeal Cert.InProjRefIdeal.Gen Cert.InProjRefIdeal.Read Cert.InProj

variable (x0 : Vec Ideal S32x256x1024 .f32) (x1 : Vec Ideal S8x1x6144 .f32) (x2 : Vec Ideal S1x1024 .f32) (x3 : Vec Ideal S1x1024x8448 .f32)

/-- The modulated rows. -/
theorem v24_at (r : Fin 8192) (k : Fin 1024) :
    val_main_v24 (F := Ideal) x0 x1 x2 (ix2 r k) = normAt (fun l => x0 (ix3 ⟨r.val / 256, by omega⟩ ⟨r.val % 256, by omega⟩ l)) (x2 (ix2 0 k))
      (x1 (ix3 0 0 ⟨1024 + k.val, by omega⟩)) (x1 (ix3 0 0 ⟨k.val, by omega⟩)) k := by
  unfold normAt
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The product with the weight. -/
theorem v26_at (r : Fin 8192) (p : Fin 8448) :
    val_main_v26 (F := Ideal) x0 x1 x2 x3 (ix2 r p) = ∑ k : Fin 1024, val_main_v24 (F := Ideal) x0 x1 x2 (ix2 r k) * x3 (ix3 0 k p) := by
  pointwise [val_main_v26, val_main_v25]

/-- The columns in the kernel's order. -/
theorem v31_at (r : Fin 8192) (p : Fin 8448) :
    val_main_v31 (F := Ideal) x0 x1 x2 x3 (ix2 r p) = val_main_v26 (F := Ideal) x0 x1 x2 x3 (ix2 r (col p)) := by
  pointwise [val_main_v31, val_main_v30, val_main_v29, val_main_v28, val_main_v27]
  unfold col
  split_ifs
  all_goals refine congrArg (fun q => val_main_v26 (F := Ideal) x0 x1 x2 x3 (ix2 r q)) (Fin.ext ?_)
  all_goals dsimp only
  all_goals (try split_ifs) <;> omega

/-- The reference's result is the closed form over the arguments. -/
theorem v31_eq : val_main_v31 (F := Ideal) x0 x1 x2 x3 = fun i : S8192x8448.Idx =>
    G (fun a b k => x0 (ix3 a b k)) (fun k => x1 (ix3 0 0 k)) (fun k => x2 (ix2 0 k)) (fun k p => x3 (ix3 0 k p)) (i 0) (i 1) := by
  funext i
  obtain ⟨r, p, rfl⟩ : ∃ (r : Fin 8192) (p : Fin 8448), i = (ix2 r p : S8192x8448.Idx) := ⟨i 0, i 1, by funext a; fin_cases a <;> rfl⟩
  refine (v31_at x0 x1 x2 x3 r p).trans ?_
  rw [v26_at]
  simp only [v24_at]
  rfl

end Cert.InProjRefIdeal.Proj
end
-- ==== Proof.InProjClaim.lean ====
module

public import proofs.«01_k».proof.Defs
public import proofs.«01_k».proof.Proof.Gen.InProjIdeal.Value
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import proofs.«01_k».proof.Proof.InProjBlock
public import proofs.«01_k».proof.Proof.InProjRef
public import proofs.«01_k».proof.Proof.Gen.InProj.Frame

@[expose] public section

set_option maxRecDepth 16384

noncomputable section

open Idealize.ShloMosaic Idealize.ShloMosaic.TcCoe Idealize.SL.Sem

namespace Cert.Proof.InProjClaims

/-- The kernel's run at words: terminates, arguments unchanged, counters zero. -/
theorem frame_kernel : Cert.quiescent_InProj := fun m g _ => Cert.InProj.Gen.frame m g

/-- The same at the ideal reading. -/
theorem frame_kernelIdeal : Cert.quiescent_InProjIdeal := fun m g _ => Cert.InProjIdeal.Gen.frame m g

/-- The reference's run: terminates, arguments unchanged, and there are no counters. -/
theorem frame_referenceIdeal : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

/-- The ideal pass rewrote nothing. -/
theorem preserves : Cert.preserves_InProj_InProjIdeal := trivial

/-- At the ideal reading the kernel's result and the reference's are the closed form of arguments that agree. -/
theorem algebraic : Cert.algebraic_InProjIdeal_InProjRefIdeal := by
  intro m ρ m' ρ' _ hag
  refine ⟨fun c => (Cert.InProjIdeal.Gen.dats m 0 c).arrAt 4 Cert.InProjIdeal.cfg0.N, ?_, ?_⟩
  · exact (θ_run Cert.InProjIdeal.defs _ _).mono (fun _ h c => ⟨(h c).1.trans (Cert.InProjIdeal.Value.final4 m c).symm, (h c).2⟩)
      (Cert.InProjIdeal.Value.run (F := Ideal) m ρ)
  · refine (θ_run Cert.InProjRefIdeal.defs _ _).mono (fun _ h c => ⟨(h c).1.trans ?_, (h c).2⟩) (Cert.InProjRefIdeal.Value.run (F := Ideal) m' ρ')
    rw [Cert.InProjRefIdeal.Read.val_main_v31_eq, Cert.InProjRefIdeal.Proj.v31_eq]
    obtain ⟨h0, h1, h2, h3⟩ := hag c
    rw [h0, h1, h2, h3]
    exact (Cert.InProjIdeal.Value.Proj.final m c).symm

end Cert.Proof.InProjClaims
end
-- ==== Proof.ModuBlock.lean ====
module

public import proofs.«01_k».proof.Defs
public import proofs.«01_k».proof.Proof.Gen.ModuIdeal.Value
public import proofs.«01_k».proof.Proof.WkvSpec
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ModuIdeal.Value.Rows

open Cert.ModuIdeal Cert.ModuIdeal.Gen

variable (m : (ℓ : Loc nD τ sig) → Buf (Elt Ideal) ℓ)

/-- `x` times the sigmoid of `x`. -/
def silu (x : EReal) : EReal := x * Ideal.div 1 (1 + Ideal.exp (-x))

/-- Of a real number it is a real number. -/
theorem silu_real (r : ℝ) : ∃ s : ℝ, silu (r : EReal) = (s : EReal) :=
  ⟨r * WkvReal.rateR r, by unfold silu; rw [WkvReal.rate_E, EReal.coe_mul]⟩

/-- A real number differs from itself by zero. -/
theorem sub_self_real (r : ℝ) : (r : EReal) - (r : EReal) = 0 := by rw [← EReal.coe_sub, sub_self, EReal.coe_zero]

/-- One entry of the body's result: the three products of the split operands and the bias. -/
theorem pay1_apply (x : Vec Ideal S8x1024 .f32) (w : Vec Ideal S1024x1024 .f32) (b : Vec Ideal S1x1024 .f32) (r : Fin 8) (f : Fin 1024) :
    k0_pay1 x w b (ix2 r f) = (∑ k : Fin 1024, silu (x (ix2 r k)) * w (ix2 k f))
      + ((∑ k : Fin 1024, (silu (x (ix2 r k)) - silu (x (ix2 r k))) * w (ix2 k f)) + ∑ k : Fin 1024, silu (x (ix2 r k)) * (w (ix2 k f) - w (ix2 k f)))
      + b (ix2 0 f) := by
  unfold silu
  pointwise [k0_pay1]
  simp only [zero_sub]

/-- Of real operands only the first product remains. -/
theorem pay1_real (x : Vec Ideal S8x1024 .f32) (w : Vec Ideal S1024x1024 .f32) (b : Vec Ideal S1x1024 .f32)
    (hx : ∀ r k, ∃ a : ℝ, x (ix2 r k) = (a : EReal)) (hw : ∀ k f, ∃ a : ℝ, w (ix2 k f) = (a : EReal)) (r : Fin 8) (f : Fin 1024) :
    k0_pay1 x w b (ix2 r f) = (∑ k : Fin 1024, silu (x (ix2 r k)) * w (ix2 k f)) + b (ix2 0 f) := by
  rw [pay1_apply]
  have e1 : (∑ k : Fin 1024, (silu (x (ix2 r k)) - silu (x (ix2 r k))) * w (ix2 k f)) = 0 := Finset.sum_eq_zero fun k _ => by
    obtain ⟨a, ha⟩ := hx r k
    obtain ⟨s, hs⟩ := silu_real a
    rw [ha, hs, sub_self_real, zero_mul]
  have e2 : (∑ k : Fin 1024, silu (x (ix2 r k)) * (w (ix2 k f) - w (ix2 k f))) = 0 := Finset.sum_eq_zero fun k _ => by
    obtain ⟨a, ha⟩ := hw k f
    rw [ha, sub_self_real, mul_zero]
  rw [e1, e2, add_zero, add_zero]

/-- The eight rows of conditions: the prompt's, the samples', and zeros. -/
def cond (x0 : Vec Ideal S2x1024 .f32) (x1 : Vec Ideal S1024 .f32) : Vec Ideal S8x1024 .f32 :=
  concatenate S8x1024 0 [⟨S1x1024, (broadcastInDim S1x1024 ![1] bcast_S1024_S1x1024_1 x1 : Vec Ideal S1x1024 .f32)⟩, ⟨S2x1024, x0⟩,
    ⟨S5x1024, (broadcastInDim S5x1024 ![] bcast_S_S5x1024 (constant (F := Ideal) S_ .f32 0x00000000#32 : Vec Ideal S_ .f32) : Vec Ideal S5x1024 .f32)⟩] concatenates_S1x1024_S2x1024_S5x1024_S8x1024_d0

/-- Their entries are real where the conditions' are. -/
theorem cond_real (x0 : Vec Ideal S2x1024 .f32) (x1 : Vec Ideal S1024 .f32) (h0 : ∀ i, ∃ a : ℝ, x0 i = (a : EReal)) (h1 : ∀ i, ∃ a : ℝ, x1 i = (a : EReal))
    (r : Fin 8) (k : Fin 1024) : ∃ a : ℝ, cond x0 x1 (ix2 r k) = (a : EReal) := by
  pointwise [cond]
  split_ifs
  all_goals first | exact h0 _ | exact h1 _ | exact ⟨0, rfl⟩

/-- The whole result from the conditions, the weight and the bias. -/
def G (x : Vec Ideal S8x1024 .f32) (w : Fin 1024 → Fin 6144 → EReal) (b : Fin 6144 → EReal) (r : Fin 8) (p : Fin 6144) : EReal :=
  (∑ k : Fin 1024, silu (x (ix2 r k)) * w k p) + b p

/-- The printed index maps. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What the host hands the kernel as the conditions. -/
theorem V_c (c : Dev nD) : V m c (Pipeline.arrRef spec0 0) = cond (m ((c : Thread nD τ).loc main_arg0)) (m ((c : Thread nD τ).loc main_arg1)) := by
  unfold cond
  blk_simp [V]
  rfl

theorem rd0 (c : Dev nD) (t : Fin cfg0.N) (r : Fin 8) (k : Fin 1024) :
    iblk m c 0 t (ix2 r k) = cond (m ((c : Thread nD τ).loc main_arg0)) (m ((c : Thread nD τ).loc main_arg1)) (ix2 r k) := by
  rw [← V_c]
  blk_ext [iblk, idx t]

theorem rd1 (c : Dev nD) (t : Fin cfg0.N) (k f : Fin 1024) :
    iblk m c 1 t (ix2 k f) = m ((c : Thread nD τ).loc main_arg2) (ix3 0 k ⟨1024 * t.val + f.val, by have := t.isLt; have : cfg0.N = 6 := N_0; omega⟩) := by
  blk_point [iblk, V, idx t]

theorem rd2 (c : Dev nD) (t : Fin cfg0.N) (f : Fin 1024) :
    iblk m c 2 t (ix2 0 f) = m ((c : Thread nD τ).loc main_arg3) (ix2 0 ⟨1024 * t.val + f.val, by have := t.isLt; have : cfg0.N = 6 := N_0; omega⟩) := by
  blk_point [iblk, V, idx t]

/-- The body's output block is its payload of the three input blocks. -/
theorem out_eq (x0 : Vec Ideal S8x1024 .f32) (x1 : Vec Ideal S1024x1024 .f32) (x2 : Vec Ideal S1x1024 .f32) : out0_3 x0 x1 x2 = k0_pay1 x0 x1 x2 := by
  frame_out

/-- The result array after the run, where the conditions and the weight are real. -/
theorem final (c : Dev nD) (h0 : ∀ i, ∃ a : ℝ, m ((c : Thread nD τ).loc main_arg0) i = (a : EReal)) (h1 : ∀ i, ∃ a : ℝ, m ((c : Thread nD τ).loc main_arg1) i = (a : EReal))
    (h2 : ∀ i, ∃ a : ℝ, m ((c : Thread nD τ).loc main_arg2) i = (a : EReal)) :
    (dats m 0 c).arrAt 3 cfg0.N = fun i : S8x6144.Idx => G (cond (m ((c : Thread nD τ).loc main_arg0)) (m ((c : Thread nD τ).loc main_arg1)))
      (fun k p => m ((c : Thread nD τ).loc main_arg2) (ix3 0 k p)) (fun p => m ((c : Thread nD τ).loc main_arg3) (ix2 0 p)) (i 0) (i 1) := by
  refine (dats m 0 c).arrAt_eq_of_covers 3 _ (by decide +kernel) fun t hf y => ?_
  blk_simp
  rw [after0_3, out_eq]
  obtain ⟨r, f, rfl⟩ : ∃ (r : Fin 8) (f : Fin 1024), y = (ix2 r f : S8x1024.Idx) := ⟨y 0, y 1, by funext a; fin_cases a <;> rfl⟩
  have hN : t.val < 6 := lt_of_lt_of_eq t.isLt N_0
  have hemb : (win0_3.blk t).view.emb (ix2 r f) = (ix2 r ⟨1024 * t.val + f.val, by omega⟩ : S8x6144.Idx) := by
    blk_ext [idx t]
  rw [hemb]
  refine (pay1_real _ _ _ (fun a k => ?_) (fun k a => ?_) r f).trans ?_
  · rw [rd0]; exact cond_real _ _ h0 h1 a k
  · rw [rd1]; exact h2 _
  · simp only [rd0, rd1, rd2]
    rfl

end Cert.ModuIdeal.Value.Rows

end
-- ==== Proof.ModuRef.lean ====
module

public import proofs.«01_k».proof.Defs
public import proofs.«01_k».proof.Proof.ModuBlock
public import proofs.«01_k».proof.Proof.Gen.ModuRefIdeal.Read
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ModuRefIdeal.Rows

open Cert.ModuRefIdeal Cert.ModuRefIdeal.Gen Cert.ModuRefIdeal.Read
open Cert.ModuIdeal.Value.Rows (silu cond G)

variable (x0 : Vec Ideal S2x1024 .f32) (x1 : Vec Ideal S1024 .f32) (x2 : Vec Ideal S1x1024x6144 .f32) (x3 : Vec Ideal S1x6144 .f32)

/-- The activated conditions. -/
theorem v3_at (r : Fin 8) (k : Fin 1024) : val_main_v3 (F := Ideal) x0 x1 (ix2 r k) = silu (cond x0 x1 (ix2 r k)) := by
  have e : val_main_v2 (F := Ideal) x0 x1 = cond x0 x1 := rfl
  unfold silu
  rw [← e]
  pointwise [val_main_v3, val_main_call0_v5, val_main_call0_v4, val_main_call0_cst_0, val_main_call0_v3, val_main_call0_v2, val_main_call0_cst, val_main_call0_v1, val_main_call0_v0]

/-- The reference's result is the closed form over the arguments. -/
theorem v9_eq : val_main_v9 (F := Ideal) x0 x1 x2 x3 = fun i : S8x6144.Idx =>
    G (cond x0 x1) (fun k p => x2 (ix3 0 k p)) (fun p => x3 (ix2 0 p)) (i 0) (i 1) := by
  funext i
  obtain ⟨r, p, rfl⟩ : ∃ (r : Fin 8) (p : Fin 6144), i = (ix2 r p : S8x6144.Idx) := ⟨i 0, i 1, by funext a; fin_cases a <;> rfl⟩
  refine Eq.trans (b := (∑ k : Fin 1024, val_main_v3 (F := Ideal) x0 x1 (ix2 r k) * x2 (ix3 0 k p)) + x3 (ix2 0 p))
    (by pointwise [val_main_v9, val_main_v5, val_main_v4, val_main_v8, val_main_v7, val_main_v6]) ?_
  simp only [v3_at]
  rfl

end Cert.ModuRefIdeal.Rows

end
-- ==== Proof.ModuClaim.lean ====
module

public import proofs.«01_k».proof.Defs
public import proofs.«01_k».proof.Proof.ModuBlock
public import proofs.«01_k».proof.Proof.ModuRef
public import proofs.«01_k».proof.Proof.WkvClaim
public import proofs.«01_k».proof.Proof.Gen.Modu.Frame
public import proofs.«01_k».proof.Proof.Gen.Pre_finite_conditions
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.Proof.ModuClaims

/-- The kernel's run at words: terminates, arguments unchanged, counters zero. -/
theorem frame_kernel : Cert.quiescent_Modu := fun m g _ => Cert.Modu.Gen.frame m g

/-- The same at the ideal reading. -/
theorem frame_kernelIdeal : Cert.quiescent_ModuIdeal := fun m g _ => Cert.ModuIdeal.Gen.frame m g

/-- The reference's run: terminates, arguments unchanged, and there are no counters. -/
theorem frame_referenceIdeal : Cert.quiescent_ModuRefIdeal := fun m g _ =>
  (θ_run Cert.ModuRefIdeal.defs _ _).mono (fun r h => ⟨fun c => (h c).2, sem_eq_zero_of_no_sems (by decide) r.2⟩)
    (Cert.ModuRefIdeal.Value.run (F := Ideal) m g)

/-- Both runs under the claim's precondition. -/
theorem frame_kernelIdeal_pre : Cert.quiescent_ModuIdeal_pre_finite_conditions := fun m g _ => frame_kernelIdeal m g trivial

theorem frame_referenceIdeal_pre : Cert.quiescent_ModuRefIdeal_pre_finite_conditions := fun m g _ => frame_referenceIdeal m g trivial

/-- The ideal pass rewrote nothing. -/
theorem preserves : Cert.preserves_Modu_ModuIdeal := trivial

/-- At the ideal reading and finite conditions and weight the kernel's rows and the reference's are the same. -/
theorem algebraic : Cert.algebraic_ModuIdeal_ModuRefIdeal_pre_finite_conditions := by
  intro m ρ m' ρ' hpre hag
  refine ⟨fun c => (Cert.ModuIdeal.Gen.dats m 0 c).arrAt 3 Cert.ModuIdeal.cfg0.N, ?_, ?_⟩
  · exact Cert.ModuIdeal.Value.run_blocks (F := Ideal) m ρ
  · refine (θ_run Cert.ModuRefIdeal.defs _ _).mono (fun _ h c => ⟨(h c).1.trans ?_, (h c).2⟩) (Cert.ModuRefIdeal.Value.run (F := Ideal) m' ρ')
    rw [Cert.ModuRefIdeal.Read.val_main_v9_eq, Cert.ModuRefIdeal.Rows.v9_eq]
    obtain ⟨h0, h1, h2, h3⟩ := hag c
    rw [h0, h1, h2, h3]
    obtain ⟨p0, p1, p2⟩ := hpre c
    refine (Cert.ModuIdeal.Value.Rows.final m c (fun i => ⟨_, WkvClaims.real_of_ones p0 (fun _ => rfl) i⟩) (fun i => ⟨_, WkvClaims.real_of_ones p1 (fun _ => rfl) i⟩)
      (fun i => ⟨_, WkvClaims.real_of_ones p2 (fun _ => rfl) i⟩)).symm

end Cert.Proof.ModuClaims

end
-- ==== Proof.ShiftMix.lean ====
module

public import proofs.«01_k».proof.Defs
public import proofs.«01_k».proof.Proof.InProjTable
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.Shifted

/-- One entry of the shifted column `P` at row `R`: the row mixed with its neighbour in the same sequence of 256 rows, the
    previous one if `fwd` holds and the next one otherwise, with zero beyond the sequence's ends. -/
def mix (P : Fin 8192 → EReal) (mu : EReal) (fwd : Prop) [Decidable fwd] (R : Fin 8192) : EReal :=
  P R + mu * ((if fwd then (if R.val % 256 = 0 then 0 else P ⟨R.val - 1, by omega⟩)
    else (if R.val % 256 = 255 then 0 else P ⟨(R.val + 1) % 8192, by omega⟩)) - P R)

/-- The row's position in its sequence, as the kernel computes it from the row's number in the tile. -/
def posAt (r : Fin 512) : BitVec 32 :=
  Scalar.select (IntOp.andi (IntOp.xori (IntOp.cmpi CmpIPredicate.slt (IntOp.remsi ArithUnit.vector (BitVec.ofNat 32 r.val)
      (Scalar.select (Scalar.cmpi CmpIPredicate.eq 256#32 0#32) 1#32 256#32)) 0#32)
    (Scalar.cmpi CmpIPredicate.slt (Scalar.select (Scalar.cmpi CmpIPredicate.eq 256#32 0#32) 1#32 256#32) 0#32))
    (IntOp.cmpi CmpIPredicate.ne (IntOp.remsi ArithUnit.vector (BitVec.ofNat 32 r.val)
      (Scalar.select (Scalar.cmpi CmpIPredicate.eq 256#32 0#32) 1#32 256#32)) 0#32))
  (IntOp.addi (IntOp.remsi ArithUnit.vector (BitVec.ofNat 32 r.val) (Scalar.select (Scalar.cmpi CmpIPredicate.eq 256#32 0#32) 1#32 256#32))
    (Scalar.select (Scalar.cmpi CmpIPredicate.eq 256#32 0#32) 1#32 256#32))
  (IntOp.remsi ArithUnit.vector (BitVec.ofNat 32 r.val) (Scalar.select (Scalar.cmpi CmpIPredicate.eq 256#32 0#32) 1#32 256#32))

/-- Whether it is the first position. -/
theorem first : ∀ r : Fin 512, IntOp.cmpi CmpIPredicate.eq (posAt r) 0#32 = if r.val % 256 = 0 then 1#1 else 0#1 := by decide +kernel

/-- Whether it is the last position. -/
theorem last : ∀ r : Fin 512, IntOp.cmpi CmpIPredicate.eq (posAt r) 255#32 = if r.val % 256 = 255 then 1#1 else 0#1 := by decide +kernel

/-- A selection by a decided bit. -/
theorem sel_if (p : Prop) [Decidable p] (a b : EReal) : Scalar.select (if p then 1#1 else 0#1) a b = if p then a else b := by
  by_cases h : p
  · simp only [if_pos h]; rfl
  · simp only [if_neg h]; rfl

/-- A selection by a comparison with zero. -/
theorem sel_zero (d : BitVec 32) (a b : EReal) : Scalar.select (IntOp.cmpi CmpIPredicate.eq d 0#32) a b = if d = 0#32 then a else b := by
  by_cases h : d = 0#32
  · subst h; rfl
  · rw [if_neg h]
    unfold Scalar.select
    refine if_neg ?_
    have hb : (d == 0#32) = false := beq_eq_false_iff_ne.mpr h
    show ¬ BitVec.ofBool (d == 0#32) = 1#1
    rw [hb]
    decide

/-- Equal columns, weights, directions and rows give equal entries. -/
theorem mix_congr {P P' : Fin 8192 → EReal} {mu mu' : EReal} {p p' : Prop} [Decidable p] [Decidable p'] {R R' : Fin 8192}
    (hP : ∀ r, P r = P' r) (hm : mu = mu') (hp : p ↔ p') (hR : R = R') : mix P mu p R = mix P' mu' p' R' := by
  obtain rfl : P = P' := funext hP
  subst hm hR
  unfold mix
  rw [if_congr hp rfl rfl]

/-- The small columns' result: three groups of 64, 64 and 128 columns, the first half of each looking at the previous row. -/
def small (P : Fin 8192 → Fin 8448 → EReal) (s : Fin 3328 → EReal) (R : Fin 8192) (f : Fin 256) : EReal :=
  mix (fun r => P r ⟨8192 + f.val, by omega⟩) (s ⟨3072 + f.val, by omega⟩) (f.val < 32 ∨ 64 ≤ f.val ∧ f.val < 96 ∨ 128 ≤ f.val ∧ f.val < 192) R

/-- The result for r, k and v: the first half of each one's columns looks at the previous row. -/
def large (P : Fin 8192 → Fin 8448 → EReal) (s : Fin 3328 → EReal) (g : Fin 3) (R : Fin 8192) (f : Fin 1024) : EReal :=
  mix (fun r => P r ⟨1024 * (3 + g.val) + f.val, by omega⟩) (s ⟨1024 * g.val + f.val, by omega⟩) (f.val < 512) R

end Cert.Shifted

end
-- ==== Proof.ShiftBlock.lean ====
module

public import proofs.«01_k».proof.Defs
public import proofs.«01_k».proof.Proof.Gen.ShiftIdeal.Value
public import proofs.«01_k».proof.Proof.ShiftMix
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ShiftIdeal.Value.Sh

open Cert.ShiftIdeal Cert.ShiftIdeal.Gen Cert.InProj Cert.Shifted

variable (m : (ℓ : Loc nD τ sig) → Buf (Elt Ideal) ℓ)

/-- The body at an index. -/
theorem pay_apply (x : Vec Ideal S512x1024 .f32) (d : Vec Ideal S1x1024 .i32) (mu : Vec Ideal S1x1024 .f32) (r : Fin 512) (f : Fin 1024) :
    k0_pay1 x (k0_pay2 x d mu) (ix3 0 r f) = x (ix2 r f) + mu (ix2 0 f) * ((if d (ix2 0 f) = 0#32 then
      (if r.val % 256 = 0 then 0 else x (ix2 ⟨(r.val + 512 - 1) % 512, Nat.mod_lt _ (by decide)⟩ f))
      else (if r.val % 256 = 255 then 0 else x (ix2 ⟨(r.val + 512 - 511) % 512, Nat.mod_lt _ (by decide)⟩ f))) - x (ix2 r f)) := by
  rw [← sel_zero, ← sel_if (r.val % 256 = 0), ← sel_if (r.val % 256 = 255), ← first r, ← last r]
  unfold posAt
  pointwise [k0_pay1, k0_pay2]

/-- The list of columns the host takes. -/
def cols : IVec S8448x1 32 :=
  have c : IVec S8448 32 := fun i => lit0 (S8448.rowMajor i)
  have k : IVec S8448 32 := select (constantI S8448 1 0#1) (addi c (broadcastInDim S8448 ![] bcast_S_S8448 (constantI S_ 32 8448#32))) c
  broadcastInDim S8448x1 ![0] bcast_S8448_S8448x1_0 k

/-- The host's column table holds the column each of the kernel's columns stands for. -/
theorem table : ∀ p : Fin 8448, lit0 p = BitVec.ofNat 32 (col p).val := by decide +kernel

/-- The mixing weights by the weight's column, with zeros after the shifted ones. -/
def wide (s : Vec Ideal S1x3328 .f32) : FVec Ideal S8448 .f32 :=
  concatenate S8448 0 [⟨S3328, (shapeCast S3328 s shapeCasts_S1x3328_S3328 : Vec Ideal S3328 .f32)⟩,
    ⟨S5120, broadcastInDim S5120 ![] bcast_S_S5120 (constant (F := Ideal) S_ .f32 0x00000000#32 : Vec Ideal S_ .f32)⟩] concatenates_S3328_S5120_S8448_d0

/-- The mixing weights in the kernel's order, as the host prepares them. -/
def hostmu (s : Vec Ideal S1x3328 .f32) : Vec Ideal S1x8448 .f32 :=
  shapeCast S1x8448 (Host.gather gather_S8448_S8448x1_S8448_n_0_n_n_0_1_1 (wide s) cols : FVec Ideal S8448 .f32) shapeCasts_S8448_S1x8448

/-- Taking entries: element `p` of the gather is the entry the list names. -/
theorem take_apply (x : FVec Ideal S8448 .f32) (l : IVec S8448x1 32) (p : Fin 8448) :
    Host.gather gather_S8448_S8448x1_S8448_n_0_n_n_0_1_1 x l (ix1 p) = x (ix1 ⟨min (l (ix2 p 0)).toInt.toNat (8448 - 1), by omega⟩) := by
  unfold Host.gather
  refine congrArg x ?_
  funext a
  refine Fin.ext ?_
  show GatherDims.start _ _ _ a + GatherDims.batchCoord _ _ a + GatherDims.offCoord _ _ a = _
  have h0 : a = 0 := by
    match a with
    | ⟨0, _⟩ => rfl
  subst h0
  rw [GatherDims.batchCoord_eq_zero _ _ _ (fun h => by simp [gather_S8448_S8448x1_S8448_n_0_n_n_0_1_1] at h),
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8448_S8448x1_S8448_n_0_n_n_0_1_1.startIndexMap from List.mem_singleton.mpr rfl)]
  have hsi : gather_S8448_S8448x1_S8448_n_0_n_n_0_1_1.siIdx (ix1 p)
      ⟨List.idxOf (0 : Fin 1) gather_S8448_S8448x1_S8448_n_0_n_n_0_1_1.startIndexMap,
        List.idxOf_lt_length_iff.2 (List.mem_singleton.mpr rfl)⟩ = (ix2 p 0 : S8448x1.Idx) := by
    funext b; refine Fin.ext ?_
    match b with
    | ⟨0, _⟩ => rfl
    | ⟨1, _⟩ => rfl
  rw [hsi]
  rfl

theorem cols_apply (p : Fin 8448) : cols (ix2 p 0) = BitVec.ofNat 32 (col p).val := by
  refine Eq.trans ?_ (table p)
  refine Eq.trans (b := lit0 (S8448.rowMajor (ix1 p))) ?_ ?_
  · pointwise [cols]
  · exact congrArg lit0 (Fin.ext (Shape.rowMajor_val_one _))

/-- A shifted column's mixing weight. -/
theorem wide_apply (s : Vec Ideal S1x3328 .f32) (q : Fin 8448) (h : q.val < 3328) : wide s (ix1 q) = s (ix2 0 ⟨q.val, h⟩) := by
  pointwise [wide]
  first | done | rw [dif_pos h]

/-- The host's mixing weights at a shifted column. -/
theorem hostmu_apply (s : Vec Ideal S1x3328 .f32) (p : Fin 8448) (h : (col p).val < 3328) : hostmu s (ix2 0 p) = s (ix2 0 ⟨(col p).val, h⟩) := by
  refine Eq.trans (b := Host.gather gather_S8448_S8448x1_S8448_n_0_n_n_0_1_1 (wide s) cols (ix1 p)) ?_ ?_
  · pointwise [hostmu]
  rw [take_apply, ← wide_apply s (col p) h]
  refine congrArg (fun q => wide s (ix1 q)) (Fin.ext ?_)
  show min (cols (ix2 p 0)).toInt.toNat 8447 = (col p).val
  rw [cols_apply]
  have h := (col p).isLt
  rw [BitVec.toInt_eq_toNat_of_lt (by rw [BitVec.toNat_ofNat]; omega), BitVec.toNat_ofNat]
  omega

/-- What the host hands the kernel as mixing weights. -/
theorem V_mu (c : Dev nD) : V m c (Pipeline.arrRef spec0 1) = hostmu (m ((c : Thread nD τ).loc main_arg1)) := by
  unfold hostmu wide cols
  blk_simp [V]
  rfl

/-- What the host hands the kernel as directions. -/
theorem V_dir (c : Dev nD) : V m c (Pipeline.arrRef spec0 2) = (broadcastInDim S1x1024 ![1] bcast_S1024_S1x1024_1 (fun i => lit1 (S1024.rowMajor i) : IVec S1024 32) : IVec S1x1024 32) := by
  blk_simp [V]
  rfl

theorem dir_apply (f : Fin 1024) : (broadcastInDim S1x1024 ![1] bcast_S1024_S1x1024_1 (fun i => lit1 (S1024.rowMajor i) : IVec S1024 32) : IVec S1x1024 32) (ix2 0 f) = lit1 f := by
  refine Eq.trans (b := lit1 (S1024.rowMajor (ix1 f))) ?_ ?_
  · pointwise []
  · exact congrArg lit1 (Fin.ext (Shape.rowMajor_val_one _))

/-- The directions: which columns look at the previous row. -/
theorem dirs : ∀ f : Fin 1024, lit1 f = 0#32 ↔ f.val < 512 := by decide +kernel

/-- The printed index maps. -/
theorem idx : ∀ t : Fin cfg0.N, win0_0.index t = ![t.val / 3, 3 + t.val % 3] ∧ win0_1.index t = ![0, 3 + t.val % 3] ∧ win0_2.index t = ![0, 0] ∧ win0_3.index t = ![t.val % 3, t.val / 3, 0] :=
  (by decide +kernel : ∀ t : Fin grid0.N, _)

theorem rd0 (c : Dev nD) (t : Fin cfg0.N) (r : Fin 512) (f : Fin 1024) :
    X0_0 m c t (ix2 r f) = m ((c : Thread nD τ).loc main_arg0) (ix2 ⟨512 * (t.val / 3) + r.val, by have := t.isLt; have : cfg0.N = 48 := N_0; omega⟩ ⟨1024 * (3 + t.val % 3) + f.val, by omega⟩) := by
  unfold X0_0 Pipeline.Window.fill
  rw [dif_pos (moved0_0 t _)]
  blk_point [iblk, V, idx t]

theorem rd1 (c : Dev nD) (t : Fin cfg0.N) (f : Fin 1024) :
    X0_1 m c t (ix2 0 f) = m ((c : Thread nD τ).loc main_arg1) (ix2 0 ⟨1024 * (t.val % 3) + f.val, by omega⟩) := by
  have hc : (col ⟨1024 * (3 + t.val % 3) + f.val, by omega⟩).val = 1024 * (t.val % 3) + f.val := by
    unfold col
    dsimp only
    split_ifs <;> omega
  refine Eq.trans ?_ ((hostmu_apply (m ((c : Thread nD τ).loc main_arg1)) ⟨1024 * (3 + t.val % 3) + f.val, by omega⟩ (by rw [hc]; omega)).trans ?_)
  · rw [← V_mu]
    unfold X0_1 Pipeline.Window.fill
    rw [dif_pos (moved0_1 t _)]
    blk_ext [iblk, idx t]
  · exact congrArg (fun q => m ((c : Thread nD τ).loc main_arg1) (ix2 0 q)) (Fin.ext hc)

theorem rd2 (c : Dev nD) (t : Fin cfg0.N) (f : Fin 1024) : iblk m c 2 t (ix2 0 f) = lit1 f := by
  refine Eq.trans ?_ (dir_apply f)
  rw [← V_dir m c]
  blk_ext [iblk, idx t]

theorem out_eq (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024 .i32) (harg4 : arg4.IsWhole) (arg5 : Memref sig .tc .vmem S1x512x1024 .f32) (harg5 : arg5.IsWhole)
    (x0 : Vec Ideal S512x1024 .f32) (x1 : Vec Ideal S1x1024 .f32) (x2 : Vec Ideal S1x1024 .i32) :
    out0_A_3 c i arg2 harg2 arg3 harg3 arg4 harg4 arg5 harg5 x0 x1 x2 = k0_pay1 x0 (k0_pay2 x0 x2 x1) := by
  frame_open
  frame_out

theorem out_point (c : Dev nD) (t : Fin cfg0.N) :
    outsAt0 m c t = k0_pay1 (X0_0 m c t) (k0_pay2 (X0_0 m c t) (iblk m c 2 t) (X0_1 m c t)) := by
  unfold outsAt0
  rw [out_eq]

/-- The result array after the run is the closed form over the arguments. -/
theorem final (c : Dev nD) : (dats m 0 c).arrAt 3 cfg0.N = fun i : S3x8192x1024.Idx =>
    large (fun r q => m ((c : Thread nD τ).loc main_arg0) (ix2 r q)) (fun q => m ((c : Thread nD τ).loc main_arg1) (ix2 0 q)) (i 0) (i 1) (i 2) := by
  refine (dats m 0 c).arrAt_eq_of_covers 3 _ (by decide +kernel) fun t hf y => ?_
  blk_simp
  rw [after0_3, out_point m c t]
  obtain ⟨r, f, rfl⟩ : ∃ (r : Fin 512) (f : Fin 1024), y = (ix3 0 r f : S1x512x1024.Idx) :=
    ⟨y 1, y 2, by funext a; fin_cases a <;> first | rfl | exact Subsingleton.elim (α := Fin 1) _ _⟩
  have hN : t.val < 48 := lt_of_lt_of_eq t.isLt N_0
  have hemb : (win0_3.blk t).view.emb (ix3 0 r f) = (ix3 ⟨t.val % 3, by omega⟩ ⟨512 * (t.val / 3) + r.val, by omega⟩ f : S3x8192x1024.Idx) := by
    blk_ext [idx t]
  rw [hemb]
  refine (pay_apply _ _ _ r f).trans ?_
  show _ = large (fun r q => m ((c : Thread nD τ).loc main_arg0) (ix2 r q)) (fun q => m ((c : Thread nD τ).loc main_arg1) (ix2 0 q)) ⟨t.val % 3, by omega⟩ ⟨512 * (t.val / 3) + r.val, by omega⟩ f
  simp only [rd0, rd1, rd2]
  unfold large mix
  have hr := r.isLt
  refine congrArg₂ (· + ·) rfl (congrArg₂ (· * ·) rfl (congrArg₂ (· - ·) ?_ rfl))
  refine if_congr (dirs f) ?_ ?_
  · by_cases h : r.val % 256 = 0
    · refine (if_pos h).trans (if_pos ?_).symm
      show (512 * (t.val / 3) + r.val) % 256 = 0
      omega
    · refine (if_neg h).trans (Eq.trans ?_ (if_neg ?_).symm)
      · refine congrArg (fun q => m ((c : Thread nD τ).loc main_arg0) (ix2 q _)) (Fin.ext ?_)
        show 512 * (t.val / 3) + (r.val + 512 - 1) % 512 = 512 * (t.val / 3) + r.val - 1
        omega
      · show ¬ (512 * (t.val / 3) + r.val) % 256 = 0
        omega
  · by_cases h : r.val % 256 = 255
    · refine (if_pos h).trans (if_pos ?_).symm
      show (512 * (t.val / 3) + r.val) % 256 = 255
      omega
    · refine (if_neg h).trans (Eq.trans ?_ (if_neg ?_).symm)
      · refine congrArg (fun q => m ((c : Thread nD τ).loc main_arg0) (ix2 q _)) (Fin.ext ?_)
        show 512 * (t.val / 3) + (r.val + 512 - 511) % 512 = (512 * (t.val / 3) + r.val + 1) % 8192
        omega
      · show ¬ (512 * (t.val / 3) + r.val) % 256 = 255
        omega

end Cert.ShiftIdeal.Value.Sh

end
-- ==== Proof.ShiftRef.lean ====
module

public import proofs.«01_k».proof.Defs
public import proofs.«01_k».proof.Proof.Gen.ShiftRefIdeal.Read
public import proofs.«01_k».proof.Proof.ShiftMix
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ShiftRefIdeal.Sh

open Cert.ShiftRefIdeal Cert.ShiftRefIdeal.Gen Cert.ShiftRefIdeal.Read Cert.Shifted

variable (x0 : Vec Ideal S8192x8448 .f32) (x1 : Vec Ideal S1x3328 .f32)

/-- The padding is zero. -/
theorem zero_word : (FloatOps.sitofp FTy.f32 (0#32 : BitVec 32) : Ideal .f32) = 0 := by
  show (((0#32 : BitVec 32).toInt : ℝ) : EReal) = 0
  simp

/-- Group 1 of the three. -/
theorem v14_at (R : Fin 8192) (f : Fin 1024) : val_main_v14 (F := Ideal) x0 x1 (ix3 0 R f)
    = mix (fun r => x0 (ix2 r ⟨3072 + f.val, by omega⟩)) (x1 (ix2 0 ⟨0 + f.val, by omega⟩)) (f.val < 512) R := by
  pointwise [val_main_v14, val_main_v13, val_main_v12, val_main_v11, val_main_v10, val_main_v9, val_main_v8, val_main_v7, val_main_v6, val_main_v5, val_main_v4, val_main_v3, val_main_v2, val_main_v1, val_main_v0, val_main_c, val_main_call0_v0, val_main_call1_v0, val_main_c_0, val_main_call2_v0, val_main_call3_v0, val_main_c_1, val_main_c_2, val_main_call4_v0, val_main_call5_v0, val_main_c_3, val_main_c_4]
  have hR := R.isLt
  have hf := f.isLt
  unfold mix
  refine congrArg₂ (· + ·) (congrArg₂ (fun p q => x0 (ix2 p q)) (Fin.ext (by (try dsimp only) <;> omega)) rfl) (congrArg₂ (· * ·) (congrArg (fun q => x1 (ix2 0 q)) (Fin.ext (by (try dsimp only) <;> omega))) (congrArg₂ (· - ·) ?_ (congrArg₂ (fun p q => x0 (ix2 p q)) (Fin.ext (by (try dsimp only) <;> omega)) rfl)))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- Group 2 of the three. -/
theorem v29_at (R : Fin 8192) (f : Fin 1024) : val_main_v29 (F := Ideal) x0 x1 (ix3 0 R f)
    = mix (fun r => x0 (ix2 r ⟨4096 + f.val, by omega⟩)) (x1 (ix2 0 ⟨1024 + f.val, by omega⟩)) (f.val < 512) R := by
  pointwise [val_main_v29, val_main_v28, val_main_v27, val_main_v26, val_main_v25, val_main_v24, val_main_v23, val_main_v22, val_main_v21, val_main_v20, val_main_v19, val_main_v18, val_main_v17, val_main_v16, val_main_v15, val_main_c, val_main_call0_v0, val_main_call1_v0, val_main_c_0, val_main_call2_v0, val_main_call3_v0, val_main_c_1, val_main_c_2, val_main_call4_v0, val_main_call5_v0, val_main_c_3, val_main_c_4]
  have hR := R.isLt
  have hf := f.isLt
  unfold mix
  refine congrArg₂ (· + ·) (congrArg₂ (fun p q => x0 (ix2 p q)) (Fin.ext (by (try dsimp only) <;> omega)) rfl) (congrArg₂ (· * ·) (congrArg (fun q => x1 (ix2 0 q)) (Fin.ext (by (try dsimp only) <;> omega))) (congrArg₂ (· - ·) ?_ (congrArg₂ (fun p q => x0 (ix2 p q)) (Fin.ext (by (try dsimp only) <;> omega)) rfl)))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- Group 3 of the three. -/
theorem v44_at (R : Fin 8192) (f : Fin 1024) : val_main_v44 (F := Ideal) x0 x1 (ix3 0 R f)
    = mix (fun r => x0 (ix2 r ⟨5120 + f.val, by omega⟩)) (x1 (ix2 0 ⟨2048 + f.val, by omega⟩)) (f.val < 512) R := by
  pointwise [val_main_v44, val_main_v43, val_main_v42, val_main_v41, val_main_v40, val_main_v39, val_main_v38, val_main_v37, val_main_v36, val_main_v35, val_main_v34, val_main_v33, val_main_v32, val_main_v31, val_main_v30, val_main_c, val_main_call0_v0, val_main_call1_v0, val_main_c_0, val_main_call2_v0, val_main_call3_v0, val_main_c_1, val_main_c_2, val_main_call4_v0, val_main_call5_v0, val_main_c_3, val_main_c_4]
  have hR := R.isLt
  have hf := f.isLt
  unfold mix
  refine congrArg₂ (· + ·) (congrArg₂ (fun p q => x0 (ix2 p q)) (Fin.ext (by (try dsimp only) <;> omega)) rfl) (congrArg₂ (· * ·) (congrArg (fun q => x1 (ix2 0 q)) (Fin.ext (by (try dsimp only) <;> omega))) (congrArg₂ (· - ·) ?_ (congrArg₂ (fun p q => x0 (ix2 p q)) (Fin.ext (by (try dsimp only) <;> omega)) rfl)))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- The result is the closed form. -/
theorem v45_at (g : Fin 3) (R : Fin 8192) (f : Fin 1024) : val_main_v45 (F := Ideal) x0 x1 (ix3 g R f) = large (fun r q => x0 (ix2 r q)) (fun q => x1 (ix2 0 q)) g R f := by
  fin_cases g
  · refine Eq.trans ?_ ((v14_at x0 x1 R f).trans ?_)
    · pointwise [val_main_v45]
    · exact mix_congr (fun r => congrArg (fun q => x0 (ix2 r q)) (Fin.ext (by (try dsimp only) <;> omega))) (congrArg (fun q => x1 (ix2 0 q)) (Fin.ext (by (try dsimp only) <;> omega))) Iff.rfl rfl
  · refine Eq.trans ?_ ((v29_at x0 x1 R f).trans ?_)
    · pointwise [val_main_v45]
    · exact mix_congr (fun r => congrArg (fun q => x0 (ix2 r q)) (Fin.ext (by (try dsimp only) <;> omega))) (congrArg (fun q => x1 (ix2 0 q)) (Fin.ext (by (try dsimp only) <;> omega))) Iff.rfl rfl
  · refine Eq.trans ?_ ((v44_at x0 x1 R f).trans ?_)
    · pointwise [val_main_v45]
    · exact mix_congr (fun r => congrArg (fun q => x0 (ix2 r q)) (Fin.ext (by (try dsimp only) <;> omega))) (congrArg (fun q => x1 (ix2 0 q)) (Fin.ext (by (try dsimp only) <;> omega))) Iff.rfl rfl

theorem v45_eq : val_main_v45 (F := Ideal) x0 x1 = fun i : S3x8192x1024.Idx => large (fun r q => x0 (ix2 r q)) (fun q => x1 (ix2 0 q)) (i 0) (i 1) (i 2) := by
  funext i
  obtain ⟨g, R, f, rfl⟩ : ∃ (g : Fin 3) (R : Fin 8192) (f : Fin 1024), i = (ix3 g R f : S3x8192x1024.Idx) :=
    ⟨i 0, i 1, i 2, by funext a; fin_cases a <;> rfl⟩
  exact v45_at x0 x1 g R f

end Cert.ShiftRefIdeal.Sh

end
-- ==== Proof.ShiftClaim.lean ====
module

public import proofs.«01_k».proof.Defs
public import proofs.«01_k».proof.Proof.ShiftBlock
public import proofs.«01_k».proof.Proof.ShiftRef
public import proofs.«01_k».proof.Proof.Gen.Shift.Frame
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.Proof.ShiftClaims

/-- The kernel's run at words: terminates, arguments unchanged, counters zero. -/
theorem frame_kernel : Cert.quiescent_Shift := fun m g _ => Cert.Shift.Gen.frame m g

/-- The same at the ideal reading. -/
theorem frame_kernelIdeal : Cert.quiescent_ShiftIdeal := fun m g _ => Cert.ShiftIdeal.Gen.frame m g

/-- The reference's run: terminates, arguments unchanged, and there are no counters. -/
theorem frame_referenceIdeal : Cert.quiescent_ShiftRefIdeal := fun m g _ =>
  (θ_run Cert.ShiftRefIdeal.defs _ _).mono (fun r h => ⟨fun c => (h c).2, sem_eq_zero_of_no_sems (by decide) r.2⟩)
    (Cert.ShiftRefIdeal.Value.run (F := Ideal) m g)

/-- The ideal pass rewrote nothing. -/
theorem preserves : Cert.preserves_Shift_ShiftIdeal := trivial

/-- At the ideal reading the kernel's result and the reference's are the closed form of arguments that agree. -/
theorem algebraic : Cert.algebraic_ShiftIdeal_ShiftRefIdeal := by
  intro m ρ m' ρ' _ hag
  refine ⟨fun c => (Cert.ShiftIdeal.Gen.dats m 0 c).arrAt 3 Cert.ShiftIdeal.cfg0.N, ?_, ?_⟩
  · exact Cert.ShiftIdeal.Value.run_blocks (F := Ideal) m ρ
  · refine (θ_run Cert.ShiftRefIdeal.defs _ _).mono (fun _ h c => ⟨(h c).1.trans ?_, (h c).2⟩) (Cert.ShiftRefIdeal.Value.run (F := Ideal) m' ρ')
    rw [Cert.ShiftRefIdeal.Read.val_main_v45_eq, Cert.ShiftRefIdeal.Sh.v45_eq]
    obtain ⟨h0, h1⟩ := hag c
    rw [h0, h1]
    exact (Cert.ShiftIdeal.Value.Sh.final m c).symm

end Cert.Proof.ShiftClaims

end
-- ==== Proof.ShiftSBlock.lean ====
module

public import proofs.«01_k».proof.Defs
public import proofs.«01_k».proof.Proof.Gen.ShiftSIdeal.Value
public import proofs.«01_k».proof.Proof.ShiftMix
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ShiftSIdeal.Value.Sh

open Cert.ShiftSIdeal Cert.ShiftSIdeal.Gen Cert.InProj Cert.Shifted

variable (m : (ℓ : Loc nD τ sig) → Buf (Elt Ideal) ℓ)

/-- The body at an index. -/
theorem pay_apply (x : Vec Ideal S512x256 .f32) (d : Vec Ideal S1x256 .i32) (mu : Vec Ideal S1x256 .f32) (r : Fin 512) (f : Fin 256) :
    k0_pay1 x (k0_pay2 x d mu) (ix3 0 r f) = x (ix2 r f) + mu (ix2 0 f) * ((if d (ix2 0 f) = 0#32 then
      (if r.val % 256 = 0 then 0 else x (ix2 ⟨(r.val + 512 - 1) % 512, Nat.mod_lt _ (by decide)⟩ f))
      else (if r.val % 256 = 255 then 0 else x (ix2 ⟨(r.val + 512 - 511) % 512, Nat.mod_lt _ (by decide)⟩ f))) - x (ix2 r f)) := by
  rw [← sel_zero, ← sel_if (r.val % 256 = 0), ← sel_if (r.val % 256 = 255), ← first r, ← last r]
  unfold posAt
  pointwise [k0_pay1, k0_pay2]

/-- The list of columns the host takes. -/
def cols : IVec S8448x1 32 :=
  have c : IVec S8448 32 := fun i => lit0 (S8448.rowMajor i)
  have k : IVec S8448 32 := select (constantI S8448 1 0#1) (addi c (broadcastInDim S8448 ![] bcast_S_S8448 (constantI S_ 32 8448#32))) c
  broadcastInDim S8448x1 ![0] bcast_S8448_S8448x1_0 k

/-- The host's column table holds the column each of the kernel's columns stands for. -/
theorem table : ∀ p : Fin 8448, lit0 p = BitVec.ofNat 32 (col p).val := by decide +kernel

/-- The mixing weights by the weight's column, with zeros after the shifted ones. -/
def wide (s : Vec Ideal S1x3328 .f32) : FVec Ideal S8448 .f32 :=
  concatenate S8448 0 [⟨S3328, (shapeCast S3328 s shapeCasts_S1x3328_S3328 : Vec Ideal S3328 .f32)⟩,
    ⟨S5120, broadcastInDim S5120 ![] bcast_S_S5120 (constant (F := Ideal) S_ .f32 0x00000000#32 : Vec Ideal S_ .f32)⟩] concatenates_S3328_S5120_S8448_d0

/-- The mixing weights in the kernel's order, as the host prepares them. -/
def hostmu (s : Vec Ideal S1x3328 .f32) : Vec Ideal S1x8448 .f32 :=
  shapeCast S1x8448 (Host.gather gather_S8448_S8448x1_S8448_n_0_n_n_0_1_1 (wide s) cols : FVec Ideal S8448 .f32) shapeCasts_S8448_S1x8448

/-- Taking entries: element `p` of the gather is the entry the list names. -/
theorem take_apply (x : FVec Ideal S8448 .f32) (l : IVec S8448x1 32) (p : Fin 8448) :
    Host.gather gather_S8448_S8448x1_S8448_n_0_n_n_0_1_1 x l (ix1 p) = x (ix1 ⟨min (l (ix2 p 0)).toInt.toNat (8448 - 1), by omega⟩) := by
  unfold Host.gather
  refine congrArg x ?_
  funext a
  refine Fin.ext ?_
  show GatherDims.start _ _ _ a + GatherDims.batchCoord _ _ a + GatherDims.offCoord _ _ a = _
  have h0 : a = 0 := by
    match a with
    | ⟨0, _⟩ => rfl
  subst h0
  rw [GatherDims.batchCoord_eq_zero _ _ _ (fun h => by simp [gather_S8448_S8448x1_S8448_n_0_n_n_0_1_1] at h),
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8448_S8448x1_S8448_n_0_n_n_0_1_1.startIndexMap from List.mem_singleton.mpr rfl)]
  have hsi : gather_S8448_S8448x1_S8448_n_0_n_n_0_1_1.siIdx (ix1 p)
      ⟨List.idxOf (0 : Fin 1) gather_S8448_S8448x1_S8448_n_0_n_n_0_1_1.startIndexMap,
        List.idxOf_lt_length_iff.2 (List.mem_singleton.mpr rfl)⟩ = (ix2 p 0 : S8448x1.Idx) := by
    funext b; refine Fin.ext ?_
    match b with
    | ⟨0, _⟩ => rfl
    | ⟨1, _⟩ => rfl
  rw [hsi]
  rfl

theorem cols_apply (p : Fin 8448) : cols (ix2 p 0) = BitVec.ofNat 32 (col p).val := by
  refine Eq.trans ?_ (table p)
  refine Eq.trans (b := lit0 (S8448.rowMajor (ix1 p))) ?_ ?_
  · pointwise [cols]
  · exact congrArg lit0 (Fin.ext (Shape.rowMajor_val_one _))

/-- A shifted column's mixing weight. -/
theorem wide_apply (s : Vec Ideal S1x3328 .f32) (q : Fin 8448) (h : q.val < 3328) : wide s (ix1 q) = s (ix2 0 ⟨q.val, h⟩) := by
  pointwise [wide]
  first | done | rw [dif_pos h]

/-- The host's mixing weights at a shifted column. -/
theorem hostmu_apply (s : Vec Ideal S1x3328 .f32) (p : Fin 8448) (h : (col p).val < 3328) : hostmu s (ix2 0 p) = s (ix2 0 ⟨(col p).val, h⟩) := by
  refine Eq.trans (b := Host.gather gather_S8448_S8448x1_S8448_n_0_n_n_0_1_1 (wide s) cols (ix1 p)) ?_ ?_
  · pointwise [hostmu]
  rw [take_apply, ← wide_apply s (col p) h]
  refine congrArg (fun q => wide s (ix1 q)) (Fin.ext ?_)
  show min (cols (ix2 p 0)).toInt.toNat 8447 = (col p).val
  rw [cols_apply]
  have h := (col p).isLt
  rw [BitVec.toInt_eq_toNat_of_lt (by rw [BitVec.toNat_ofNat]; omega), BitVec.toNat_ofNat]
  omega

/-- What the host hands the kernel as mixing weights. -/
theorem V_mu (c : Dev nD) : V m c (Pipeline.arrRef spec0 1) = hostmu (m ((c : Thread nD τ).loc main_arg1)) := by
  unfold hostmu wide cols
  blk_simp [V]
  rfl

/-- What the host hands the kernel as directions. -/
theorem V_dir (c : Dev nD) : V m c (Pipeline.arrRef spec0 2) = (broadcastInDim S1x256 ![1] bcast_S256_S1x256_1 (fun i => lit1 (S256.rowMajor i) : IVec S256 32) : IVec S1x256 32) := by
  blk_simp [V]
  rfl

theorem dir_apply (f : Fin 256) : (broadcastInDim S1x256 ![1] bcast_S256_S1x256_1 (fun i => lit1 (S256.rowMajor i) : IVec S256 32) : IVec S1x256 32) (ix2 0 f) = lit1 f := by
  refine Eq.trans (b := lit1 (S256.rowMajor (ix1 f))) ?_ ?_
  · pointwise []
  · exact congrArg lit1 (Fin.ext (Shape.rowMajor_val_one _))

/-- The directions: which columns look at the previous row. -/
theorem dirs : ∀ f : Fin 256, lit1 f = 0#32 ↔ (f.val < 32 ∨ 64 ≤ f.val ∧ f.val < 96 ∨ 128 ≤ f.val ∧ f.val < 192) := by decide +kernel

/-- The printed index maps. -/
theorem idx : ∀ t : Fin cfg0.N, win0_0.index t = ![t.val, 32] ∧ win0_1.index t = ![0, 32] ∧ win0_2.index t = ![0, 0] ∧ win0_3.index t = ![0, t.val, 0] :=
  (by decide +kernel : ∀ t : Fin grid0.N, _)

theorem rd0 (c : Dev nD) (t : Fin cfg0.N) (r : Fin 512) (f : Fin 256) :
    iblk m c 0 t (ix2 r f) = m ((c : Thread nD τ).loc main_arg0) (ix2 ⟨512 * t.val + r.val, by have := t.isLt; have : cfg0.N = 16 := N_0; omega⟩ ⟨8192 + f.val, by omega⟩) := by
  blk_point [iblk, V, idx t]

theorem rd1 (c : Dev nD) (t : Fin cfg0.N) (f : Fin 256) :
    iblk m c 1 t (ix2 0 f) = m ((c : Thread nD τ).loc main_arg1) (ix2 0 ⟨3072 + f.val, by omega⟩) := by
  have hc : (col ⟨8192 + f.val, by omega⟩).val = 3072 + f.val := by
    unfold col
    dsimp only
    split_ifs <;> omega
  refine Eq.trans ?_ ((hostmu_apply (m ((c : Thread nD τ).loc main_arg1)) ⟨8192 + f.val, by omega⟩ (by rw [hc]; omega)).trans ?_)
  · rw [← V_mu]
    blk_ext [iblk, idx t]
  · exact congrArg (fun q => m ((c : Thread nD τ).loc main_arg1) (ix2 0 q)) (Fin.ext hc)

theorem rd2 (c : Dev nD) (t : Fin cfg0.N) (f : Fin 256) : iblk m c 2 t (ix2 0 f) = lit1 f := by
  refine Eq.trans ?_ (dir_apply f)
  rw [← V_dir m c]
  blk_ext [iblk, idx t]

theorem out_eq (x0 : Vec Ideal S512x256 .f32) (x1 : Vec Ideal S1x256 .f32) (x2 : Vec Ideal S1x256 .i32) :
    out0_3 x0 x1 x2 = k0_pay1 x0 (k0_pay2 x0 x2 x1) := by
  unfold out0_3
  frame_out

theorem out_point (c : Dev nD) (t : Fin cfg0.N) :
    out0_3 (iblk m c 0 t) (iblk m c 1 t) (iblk m c 2 t) = k0_pay1 (iblk m c 0 t) (k0_pay2 (iblk m c 0 t) (iblk m c 2 t) (iblk m c 1 t)) := out_eq _ _ _

/-- The result array after the run is the closed form over the arguments. -/
theorem final (c : Dev nD) : (dats m 0 c).arrAt 3 cfg0.N = fun i : S1x8192x256.Idx =>
    small (fun r q => m ((c : Thread nD τ).loc main_arg0) (ix2 r q)) (fun q => m ((c : Thread nD τ).loc main_arg1) (ix2 0 q)) (i 1) (i 2) := by
  refine (dats m 0 c).arrAt_eq_of_covers 3 _ (by decide +kernel) fun t hf y => ?_
  blk_simp
  rw [after0_3, out_point m c t]
  obtain ⟨r, f, rfl⟩ : ∃ (r : Fin 512) (f : Fin 256), y = (ix3 0 r f : S1x512x256.Idx) :=
    ⟨y 1, y 2, by funext a; fin_cases a <;> first | rfl | exact Subsingleton.elim (α := Fin 1) _ _⟩
  have hN : t.val < 16 := lt_of_lt_of_eq t.isLt N_0
  have hemb : (win0_3.blk t).view.emb (ix3 0 r f) = (ix3 0 ⟨512 * t.val + r.val, by omega⟩ f : S1x8192x256.Idx) := by
    blk_ext [idx t]
  rw [hemb]
  refine (pay_apply _ _ _ r f).trans ?_
  show _ = small (fun r q => m ((c : Thread nD τ).loc main_arg0) (ix2 r q)) (fun q => m ((c : Thread nD τ).loc main_arg1) (ix2 0 q)) ⟨512 * t.val + r.val, by omega⟩ f
  simp only [rd0, rd1, rd2]
  unfold small mix
  have hr := r.isLt
  refine congrArg₂ (· + ·) rfl (congrArg₂ (· * ·) rfl (congrArg₂ (· - ·) ?_ rfl))
  refine if_congr (dirs f) ?_ ?_
  · by_cases h : r.val % 256 = 0
    · refine (if_pos h).trans (if_pos ?_).symm
      show (512 * t.val + r.val) % 256 = 0
      omega
    · refine (if_neg h).trans (Eq.trans ?_ (if_neg ?_).symm)
      · refine congrArg (fun q => m ((c : Thread nD τ).loc main_arg0) (ix2 q _)) (Fin.ext ?_)
        show 512 * t.val + (r.val + 512 - 1) % 512 = 512 * t.val + r.val - 1
        omega
      · show ¬ (512 * t.val + r.val) % 256 = 0
        omega
  · by_cases h : r.val % 256 = 255
    · refine (if_pos h).trans (if_pos ?_).symm
      show (512 * t.val + r.val) % 256 = 255
      omega
    · refine (if_neg h).trans (Eq.trans ?_ (if_neg ?_).symm)
      · refine congrArg (fun q => m ((c : Thread nD τ).loc main_arg0) (ix2 q _)) (Fin.ext ?_)
        show 512 * t.val + (r.val + 512 - 511) % 512 = (512 * t.val + r.val + 1) % 8192
        omega
      · show ¬ (512 * t.val + r.val) % 256 = 255
        omega

end Cert.ShiftSIdeal.Value.Sh

end
-- ==== Proof.ShiftSRef.lean ====
module

public import proofs.«01_k».proof.Defs
public import proofs.«01_k».proof.Proof.Gen.ShiftSRefIdeal.Read
public import proofs.«01_k».proof.Proof.ShiftMix
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ShiftSRefIdeal.Sh

open Cert.ShiftSRefIdeal Cert.ShiftSRefIdeal.Gen Cert.ShiftSRefIdeal.Read Cert.Shifted

variable (x0 : Vec Ideal S8192x8448 .f32) (x1 : Vec Ideal S1x3328 .f32)

/-- The padding is zero. -/
theorem zero_word : (FloatOps.sitofp FTy.f32 (0#32 : BitVec 32) : Ideal .f32) = 0 := by
  show (((0#32 : BitVec 32).toInt : ℝ) : EReal) = 0
  simp

/-- Column group 1. -/
theorem v13_at (a : Fin 32) (b : Fin 256) (f : Fin 64) : val_main_v13 (F := Ideal) x0 x1 (ix3 a b f)
    = mix (fun r => x0 (ix2 r ⟨8192 + f.val, by omega⟩)) (x1 (ix2 0 ⟨3072 + f.val, by omega⟩)) (f.val < 32) ⟨a.val * 256 + b.val, by omega⟩ := by
  pointwise [val_main_v13, val_main_v12, val_main_v11, val_main_v10, val_main_v9, val_main_v8, val_main_v7, val_main_v6, val_main_v5, val_main_v4, val_main_v3, val_main_v2, val_main_v1, val_main_v0, val_main_c, val_main_call0_v0, val_main_call1_v0, val_main_c_0, val_main_call2_v0, val_main_call3_v0, val_main_c_1, val_main_c_2, val_main_call4_v0, val_main_call5_v0, val_main_c_3, val_main_c_4]
  unfold mix
  refine congrArg₂ (· + ·) rfl (congrArg₂ (· * ·) rfl (congrArg₂ (· - ·) ?_ rfl))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- Column group 2. -/
theorem v27_at (a : Fin 32) (b : Fin 256) (f : Fin 64) : val_main_v27 (F := Ideal) x0 x1 (ix3 a b f)
    = mix (fun r => x0 (ix2 r ⟨8256 + f.val, by omega⟩)) (x1 (ix2 0 ⟨3136 + f.val, by omega⟩)) (f.val < 32) ⟨a.val * 256 + b.val, by omega⟩ := by
  pointwise [val_main_v27, val_main_v26, val_main_v25, val_main_v24, val_main_v23, val_main_v22, val_main_v21, val_main_v20, val_main_v19, val_main_v18, val_main_v17, val_main_v16, val_main_v15, val_main_v14, val_main_c, val_main_call0_v0, val_main_call1_v0, val_main_c_0, val_main_call2_v0, val_main_call3_v0, val_main_c_1, val_main_c_2, val_main_call4_v0, val_main_call5_v0, val_main_c_3, val_main_c_4]
  unfold mix
  refine congrArg₂ (· + ·) rfl (congrArg₂ (· * ·) rfl (congrArg₂ (· - ·) ?_ rfl))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- Column group 3. -/
theorem v41_at (a : Fin 32) (b : Fin 256) (f : Fin 128) : val_main_v41 (F := Ideal) x0 x1 (ix3 a b f)
    = mix (fun r => x0 (ix2 r ⟨8320 + f.val, by omega⟩)) (x1 (ix2 0 ⟨3200 + f.val, by omega⟩)) (f.val < 64) ⟨a.val * 256 + b.val, by omega⟩ := by
  pointwise [val_main_v41, val_main_v40, val_main_v39, val_main_v38, val_main_v37, val_main_v36, val_main_v35, val_main_v34, val_main_v33, val_main_v32, val_main_v31, val_main_v30, val_main_v29, val_main_v28, val_main_c, val_main_call0_v0, val_main_call1_v0, val_main_c_0, val_main_call2_v0, val_main_call3_v0, val_main_c_1, val_main_c_2, val_main_call4_v0, val_main_call5_v0, val_main_c_3, val_main_c_4]
  unfold mix
  refine congrArg₂ (· + ·) rfl (congrArg₂ (· * ·) rfl (congrArg₂ (· - ·) ?_ rfl))
  dsimp only
  split_ifs <;> first
    | (exfalso; omega)
    | exact zero_word
    | rfl
    | exact congrArg₂ (fun p q => x0 (ix2 p q)) (Fin.ext (by (try dsimp only) <;> omega)) (Fin.ext (by (try dsimp only) <;> omega))
    | exact Eq.trans (congrArg₂ (fun p q => x0 (ix2 p q)) (Fin.ext (by (try dsimp only) <;> omega)) (Fin.ext (by (try dsimp only) <;> omega))) (if_neg (by omega)).symm

/-- The result is the closed form. -/
theorem v43_at (R : Fin 8192) (f : Fin 256) : val_main_v43 (F := Ideal) x0 x1 (ix3 0 R f) = small (fun r q => x0 (ix2 r q)) (fun q => x1 (ix2 0 q)) R f := by
  have hR := R.isLt
  have hf := f.isLt
  unfold small
  rcases (by omega : f.val < 64 ∨ (64 ≤ f.val ∧ f.val < 128) ∨ 128 ≤ f.val) with h | h | h
  · refine Eq.trans ?_ ((v13_at x0 x1 ⟨R.val / 256, by omega⟩ ⟨R.val % 256, by omega⟩ ⟨f.val, by omega⟩).trans
      (mix_congr (fun r => congrArg (fun q => x0 (ix2 r q)) (Fin.ext (by (try dsimp only) <;> omega))) (congrArg (fun q => x1 (ix2 0 q)) (Fin.ext (by (try dsimp only) <;> omega))) (by (try dsimp only) <;> omega) (Fin.ext (by (try dsimp only) <;> omega))))
    pointwise [val_main_v43, val_main_v42]
    exact dif_pos h
  · refine Eq.trans ?_ ((v27_at x0 x1 ⟨R.val / 256, by omega⟩ ⟨R.val % 256, by omega⟩ ⟨f.val - 64, by omega⟩).trans
      (mix_congr (fun r => congrArg (fun q => x0 (ix2 r q)) (Fin.ext (by (try dsimp only) <;> omega))) (congrArg (fun q => x1 (ix2 0 q)) (Fin.ext (by (try dsimp only) <;> omega))) (by (try dsimp only) <;> omega) (Fin.ext (by (try dsimp only) <;> omega))))
    pointwise [val_main_v43, val_main_v42]
    exact (dif_neg (by omega)).trans (dif_pos (by omega))
  · refine Eq.trans ?_ ((v41_at x0 x1 ⟨R.val / 256, by omega⟩ ⟨R.val % 256, by omega⟩ ⟨f.val - 64 - 64, by omega⟩).trans
      (mix_congr (fun r => congrArg (fun q => x0 (ix2 r q)) (Fin.ext (by (try dsimp only) <;> omega))) (congrArg (fun q => x1 (ix2 0 q)) (Fin.ext (by (try dsimp only) <;> omega))) (by (try dsimp only) <;> omega) (Fin.ext (by (try dsimp only) <;> omega))))
    pointwise [val_main_v43, val_main_v42]
    exact (dif_neg (by omega)).trans (dif_neg (by omega))

theorem v43_eq : val_main_v43 (F := Ideal) x0 x1 = fun i : S1x8192x256.Idx => small (fun r q => x0 (ix2 r q)) (fun q => x1 (ix2 0 q)) (i 1) (i 2) := by
  funext i
  obtain ⟨R, f, rfl⟩ : ∃ (R : Fin 8192) (f : Fin 256), i = (ix3 0 R f : S1x8192x256.Idx) :=
    ⟨i 1, i 2, by funext a; fin_cases a <;> first | rfl | exact Subsingleton.elim (α := Fin 1) _ _⟩
  exact v43_at x0 x1 R f

end Cert.ShiftSRefIdeal.Sh

end
-- ==== Proof.ShiftSClaim.lean ====
module

public import proofs.«01_k».proof.Defs
public import proofs.«01_k».proof.Proof.ShiftSBlock
public import proofs.«01_k».proof.Proof.ShiftSRef
public import proofs.«01_k».proof.Proof.Gen.ShiftS.Frame
public import Idealize.ShloMosaic.Lib.Tactic
public import Idealize.ShloMosaic.Lib.Pipeline.ValueKit
public import Idealize.ShloMosaic.Lib.Pipeline.ReadBack
public import Idealize.ShloMosaic.Lib.ValueIdx
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.Proof.ShiftSClaims

/-- The kernel's run at words: terminates, arguments unchanged, counters zero. -/
theorem frame_kernel : Cert.quiescent_ShiftS := fun m g _ => Cert.ShiftS.Gen.frame m g

/-- The same at the ideal reading. -/
theorem frame_kernelIdeal : Cert.quiescent_ShiftSIdeal := fun m g _ => Cert.ShiftSIdeal.Gen.frame m g

/-- The reference's run: terminates, arguments unchanged, and there are no counters. -/
theorem frame_referenceIdeal : Cert.quiescent_ShiftSRefIdeal := fun m g _ =>
  (θ_run Cert.ShiftSRefIdeal.defs _ _).mono (fun r h => ⟨fun c => (h c).2, sem_eq_zero_of_no_sems (by decide) r.2⟩)
    (Cert.ShiftSRefIdeal.Value.run (F := Ideal) m g)

/-- The ideal pass rewrote nothing. -/
theorem preserves : Cert.preserves_ShiftS_ShiftSIdeal := trivial

/-- At the ideal reading the kernel's result and the reference's are the closed form of arguments that agree. -/
theorem algebraic : Cert.algebraic_ShiftSIdeal_ShiftSRefIdeal := by
  intro m ρ m' ρ' _ hag
  refine ⟨fun c => (Cert.ShiftSIdeal.Gen.dats m 0 c).arrAt 3 Cert.ShiftSIdeal.cfg0.N, ?_, ?_⟩
  · exact Cert.ShiftSIdeal.Value.run_blocks (F := Ideal) m ρ
  · refine (θ_run Cert.ShiftSRefIdeal.defs _ _).mono (fun _ h c => ⟨(h c).1.trans ?_, (h c).2⟩) (Cert.ShiftSRefIdeal.Value.run (F := Ideal) m' ρ')
    rw [Cert.ShiftSRefIdeal.Read.val_main_v43_eq, Cert.ShiftSRefIdeal.Sh.v43_eq]
    obtain ⟨h0, h1⟩ := hag c
    rw [h0, h1]
    exact (Cert.ShiftSIdeal.Value.Sh.final m c).symm

end Cert.Proof.ShiftSClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Wkv
public import proofs.«01_k».proof.Proof.Gen.Wkv.Skeleton
public import proofs.«01_k».proof.Proof.Gen.Wkv.Launch
public import proofs.«01_k».proof.Proof.Gen.Wkv.Points
public import proofs.«01_k».proof.Proof.Gen.Wkv.Frame
public import proofs.«01_k».proof.Proof.Gen.WkvIdeal
public import proofs.«01_k».proof.Proof.Gen.WkvIdeal.Skeleton
public import proofs.«01_k».proof.Proof.Gen.WkvIdeal.Launch
public import proofs.«01_k».proof.Proof.Gen.WkvIdeal.Points
public import proofs.«01_k».proof.Proof.Gen.WkvIdeal.Frame
public import proofs.«01_k».proof.Proof.Gen.WkvRefIdeal
public import proofs.«01_k».proof.Proof.Gen.KernelIdeal.Value
public import proofs.«01_k».proof.Proof.Gen.ReferenceIdeal.Read
public import proofs.«01_k».proof.Proof.Gen.WkvIdeal.Value
public import proofs.«01_k».proof.Proof.Gen.WkvRefIdeal.Run
public import proofs.«01_k».proof.Proof.Gen.MoeS
public import proofs.«01_k».proof.Proof.Gen.MoeS.Skeleton
public import proofs.«01_k».proof.Proof.Gen.MoeS.Launch
public import proofs.«01_k».proof.Proof.Gen.MoeS.Points
public import proofs.«01_k».proof.Proof.Gen.MoeS.Frame
public import proofs.«01_k».proof.Proof.Gen.MoeSIdeal
public import proofs.«01_k».proof.Proof.Gen.MoeSIdeal.Skeleton
public import proofs.«01_k».proof.Proof.Gen.MoeSIdeal.Launch
public import proofs.«01_k».proof.Proof.Gen.MoeSIdeal.Points
public import proofs.«01_k».proof.Proof.Gen.MoeSIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.MoeSRefIdeal
public import proofs.«01_k».proof.Proof.Gen.InProjRefIdeal
public import proofs.«01_k».proof.Proof.Gen.MoeSIdeal.Value
public import proofs.«01_k».proof.Proof.Gen.InProjIdeal.Value
public import proofs.«01_k».proof.Proof.Gen.MoeSRefIdeal.Read
public import proofs.«01_k».proof.Proof.Gen.InProjRefIdeal.Read
public import proofs.«01_k».proof.Proof.Gen.Modu
public import proofs.«01_k».proof.Proof.Gen.Modu.Skeleton
public import proofs.«01_k».proof.Proof.Gen.Modu.Launch
public import proofs.«01_k».proof.Proof.Gen.Modu.Points
public import proofs.«01_k».proof.Proof.Gen.Modu.Frame
public import proofs.«01_k».proof.Proof.Gen.ModuIdeal
public import proofs.«01_k».proof.Proof.Gen.ModuIdeal.Skeleton
public import proofs.«01_k».proof.Proof.Gen.ModuIdeal.Launch
public import proofs.«01_k».proof.Proof.Gen.ModuIdeal.Points
public import proofs.«01_k».proof.Proof.Gen.ModuIdeal.Frame
public import proofs.«01_k».proof.Proof.Gen.ModuIdeal.Value
public import proofs.«01_k».proof.Proof.Gen.ModuRefIdeal
public import proofs.«01_k».proof.Proof.Gen.ModuRefIdeal.Read
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftIdeal.Value
public import proofs.«01_k».proof.Proof.Gen.ShiftRefIdeal
public import proofs.«01_k».proof.Proof.Gen.ShiftRefIdeal.Read
public import proofs.«01_k».proof.Proof.Gen.ShiftS
public import proofs.«01_k».proof.Proof.Gen.ShiftS.Skeleton
public import proofs.«01_k».proof.Proof.Gen.ShiftS.Launch
public import proofs.«01_k».proof.Proof.Gen.ShiftS.Points
public import proofs.«01_k».proof.Proof.Gen.ShiftS.Frame
public import proofs.«01_k».proof.Proof.Gen.ShiftSIdeal
public import proofs.«01_k».proof.Proof.Gen.ShiftSIdeal.Skeleton
public import proofs.«01_k».proof.Proof.Gen.ShiftSIdeal.Launch
public import proofs.«01_k».proof.Proof.Gen.ShiftSIdeal.Points
public import proofs.«01_k».proof.Proof.Gen.ShiftSIdeal.Frame
public import proofs.«01_k».proof.Proof.Gen.ShiftSIdeal.Value
public import proofs.«01_k».proof.Proof.Gen.ShiftSRefIdeal
public import proofs.«01_k».proof.Proof.Gen.ShiftSRefIdeal.Read
public import proofs.«01_k».proof.Proof.Gen.Pre_finite_conditions
public import proofs.«01_k».proof.Proof.MoeClaim
public import proofs.«01_k».proof.Proof.WkvFrame
public import proofs.«01_k».proof.Proof.Gen.Pre_finite_arguments
public import proofs.«01_k».proof.Proof.WkvClaim
public import proofs.«01_k».proof.Proof.MoeSClaim
public import proofs.«01_k».proof.Proof.InProjClaim
public import proofs.«01_k».proof.Proof.ModuClaim
public import proofs.«01_k».proof.Proof.ShiftClaim
public import proofs.«01_k».proof.Proof.ShiftSClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Wkv.Gen.facts, Cert.WkvIdeal.Gen.facts,
    Cert.WkvRefIdeal.Gen.facts, Cert.MoeS.Gen.facts, Cert.MoeSIdeal.Gen.facts, Cert.MoeSRefIdeal.Gen.facts,
    Cert.InProj.Gen.facts, Cert.InProjIdeal.Gen.facts, Cert.InProjRefIdeal.Gen.facts,
    Cert.Modu.Gen.facts, Cert.ModuIdeal.Gen.facts, Cert.ModuRefIdeal.Gen.facts,
    Cert.Shift.Gen.facts, Cert.ShiftIdeal.Gen.facts, Cert.ShiftRefIdeal.Gen.facts,
    Cert.ShiftS.Gen.facts, Cert.ShiftSIdeal.Gen.facts, Cert.ShiftSRefIdeal.Gen.facts,
    Cert.Pre_finite_arguments.Gen.facts, Cert.Pre_finite_conditions.Gen.facts,
    MoeClaims.frame_kernel, MoeClaims.frame_kernelIdeal, MoeClaims.frame_referenceIdeal,
    WkvClaims.frame_wkv, WkvClaims.frame_wkvIdeal, WkvClaims.frame_wkvIdeal_pre, WkvClaims.frame_wkvRefIdeal, WkvClaims.frame_wkvRefIdeal_pre,
    MoeSClaims.frame_kernel, MoeSClaims.frame_kernelIdeal, MoeSClaims.frame_referenceIdeal,
    InProjClaims.frame_kernel, InProjClaims.frame_kernelIdeal, InProjClaims.frame_referenceIdeal,
    ModuClaims.frame_kernel, ModuClaims.frame_kernelIdeal, ModuClaims.frame_kernelIdeal_pre, ModuClaims.frame_referenceIdeal, ModuClaims.frame_referenceIdeal_pre,
    ShiftClaims.frame_kernel, ShiftClaims.frame_kernelIdeal, ShiftClaims.frame_referenceIdeal,
    ShiftSClaims.frame_kernel, ShiftSClaims.frame_kernelIdeal, ShiftSClaims.frame_referenceIdeal,
    MoeClaims.preserves, MoeClaims.algebraic, WkvClaims.preserves, WkvClaims.algebraic, MoeSClaims.preserves, MoeSClaims.algebraic,
    InProjClaims.preserves, InProjClaims.algebraic, ModuClaims.preserves, ModuClaims.algebraic,
    ShiftClaims.preserves, ShiftClaims.algebraic, ShiftSClaims.preserves, ShiftSClaims.algebraic⟩

end Cert.Proof

end
